-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_WinAttn (m : (ℓ : Loc Cert.WinAttn.nD Cert.WinAttn.τ Cert.WinAttn.sig) → Buf (Elt Bits) ℓ) : Prop :=
  True

def Pre_WinAttnIdeal (m : (ℓ : Loc Cert.WinAttnIdeal.nD Cert.WinAttnIdeal.τ Cert.WinAttnIdeal.sig) → Buf (Elt Ideal) ℓ) : Prop :=
  True

def Pre_WinAttnIdeal_win_finite [hPre_win_finite : Cert.Pre_win_finite.Facts] (m : (ℓ : Loc Cert.WinAttnIdeal.nD Cert.WinAttnIdeal.τ Cert.WinAttnIdeal.sig) → Buf (Elt Ideal) ℓ) : Prop :=
  ∀ c : Dev Cert.WinAttnIdeal.nD,
    (Cert.Pre_win_finite.fn (F := Ideal) (m ((c.tc : Thread Cert.WinAttnIdeal.nD Cert.WinAttnIdeal.τ).loc Cert.WinAttnIdeal.main_arg0)) (m ((c.tc : Thread Cert.WinAttnIdeal.nD Cert.WinAttnIdeal.τ).loc Cert.WinAttnIdeal.main_arg1)) (m ((c.tc : Thread Cert.WinAttnIdeal.nD Cert.WinAttnIdeal.τ).loc Cert.WinAttnIdeal.main_arg2)) (m ((c.tc : Thread Cert.WinAttnIdeal.nD Cert.WinAttnIdeal.τ).loc Cert.WinAttnIdeal.main_arg3))) = (fun _ => 1#1)

def Pre_WinReferenceIdeal (m : (ℓ : Loc Cert.WinReferenceIdeal.nD Cert.WinReferenceIdeal.τ Cert.WinReferenceIdeal.sig) → Buf (Elt Ideal) ℓ) : Prop :=
  True

def Pre_WinReferenceIdeal_win_finite [hPre_win_finite : Cert.Pre_win_finite.Facts] (m : (ℓ : Loc Cert.WinReferenceIdeal.nD Cert.WinReferenceIdeal.τ Cert.WinReferenceIdeal.sig) → Buf (Elt Ideal) ℓ) : Prop :=
  ∀ c : Dev Cert.WinReferenceIdeal.nD,
    (Cert.Pre_win_finite.fn (F := Ideal) (m ((c.tc : Thread Cert.WinReferenceIdeal.nD Cert.WinReferenceIdeal.τ).loc Cert.WinReferenceIdeal.main_arg0)) (m ((c.tc : Thread Cert.WinReferenceIdeal.nD Cert.WinReferenceIdeal.τ).loc Cert.WinReferenceIdeal.main_arg1)) (m ((c.tc : Thread Cert.WinReferenceIdeal.nD Cert.WinReferenceIdeal.τ).loc Cert.WinReferenceIdeal.main_arg2)) (m ((c.tc : Thread Cert.WinReferenceIdeal.nD Cert.WinReferenceIdeal.τ).loc Cert.WinReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6)
      ∧ r.2.mem ((c.tc : Thread Cert.OutReferenceIdeal.nD Cert.OutReferenceIdeal.τ).loc Cert.OutReferenceIdeal.main_arg7) = m ((c.tc : Thread Cert.OutReferenceIdeal.nD Cert.OutReferenceIdeal.τ).loc Cert.OutReferenceIdeal.main_arg7)
      ∧ r.2.mem ((c.tc : Thread Cert.OutReferenceIdeal.nD Cert.OutReferenceIdeal.τ).loc Cert.OutReferenceIdeal.main_arg8) = m ((c.tc : Thread Cert.OutReferenceIdeal.nD Cert.OutReferenceIdeal.τ).loc Cert.OutReferenceIdeal.main_arg8))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1)
      ∧ r.2.mem ((c.tc : Thread Cert.FinalNorm.nD Cert.FinalNorm.τ).loc Cert.FinalNorm.main_arg2) = m ((c.tc : Thread Cert.FinalNorm.nD Cert.FinalNorm.τ).loc Cert.FinalNorm.main_arg2))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1)
      ∧ r.2.mem ((c.tc : Thread Cert.FinalNormIdeal.nD Cert.FinalNormIdeal.τ).loc Cert.FinalNormIdeal.main_arg2) = m ((c.tc : Thread Cert.FinalNormIdeal.nD Cert.FinalNormIdeal.τ).loc Cert.FinalNormIdeal.main_arg2))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2))
      ∧ r.2.sem = fun _ => 0)

def quiescent_WinAttn [hWinAttn : Cert.WinAttn.Facts] : Prop :=
  ∀ (m : (ℓ : Loc Cert.WinAttn.nD Cert.WinAttn.τ Cert.WinAttn.sig) → Buf (Elt Bits) ℓ) (g : Dev Cert.WinAttn.nD → PrngReg), Pre_WinAttn m →
    θ_run (Cert.WinAttn.defs (F := Bits)) (onTc (τ := Cert.WinAttn.τ) (Cert.WinAttn.main (F := Bits))) ⟨m, fun _ => 0, g⟩ (fun r => (∀ c : Dev Cert.WinAttn.nD,
      r.2.mem ((c.tc : Thread Cert.WinAttn.nD Cert.WinAttn.τ).loc Cert.WinAttn.main_arg0) = m ((c.tc : Thread Cert.WinAttn.nD Cert.WinAttn.τ).loc Cert.WinAttn.main_arg0)
      ∧ r.2.mem ((c.tc : Thread Cert.WinAttn.nD Cert.WinAttn.τ).loc Cert.WinAttn.main_arg1) = m ((c.tc : Thread Cert.WinAttn.nD Cert.WinAttn.τ).loc Cert.WinAttn.main_arg1)
      ∧ r.2.mem ((c.tc : Thread Cert.WinAttn.nD Cert.WinAttn.τ).loc Cert.WinAttn.main_arg2) = m ((c.tc : Thread Cert.WinAttn.nD Cert.WinAttn.τ).loc Cert.WinAttn.main_arg2)
      ∧ r.2.mem ((c.tc : Thread Cert.WinAttn.nD Cert.WinAttn.τ).loc Cert.WinAttn.main_arg3) = m ((c.tc : Thread Cert.WinAttn.nD Cert.WinAttn.τ).loc Cert.WinAttn.main_arg3))
      ∧ r.2.sem = fun _ => 0)

def quiescent_WinAttnIdeal [hWinAttnIdeal : Cert.WinAttnIdeal.Facts] : Prop :=
  ∀ (m : (ℓ : Loc Cert.WinAttnIdeal.nD Cert.WinAttnIdeal.τ Cert.WinAttnIdeal.sig) → Buf (Elt Ideal) ℓ) (g : Dev Cert.WinAttnIdeal.nD → PrngReg), Pre_WinAttnIdeal m →
    θ_run (Cert.WinAttnIdeal.defs (F := Ideal)) (onTc (τ := Cert.WinAttnIdeal.τ) (Cert.WinAttnIdeal.main (F := Ideal))) ⟨m, fun _ => 0, g⟩ (fun r => (∀ c : Dev Cert.WinAttnIdeal.nD,
      r.2.mem ((c.tc : Thread Cert.WinAttnIdeal.nD Cert.WinAttnIdeal.τ).loc Cert.WinAttnIdeal.main_arg0) = m ((c.tc : Thread Cert.WinAttnIdeal.nD Cert.WinAttnIdeal.τ).loc Cert.WinAttnIdeal.main_arg0)
      ∧ r.2.mem ((c.tc : Thread Cert.WinAttnIdeal.nD Cert.WinAttnIdeal.τ).loc Cert.WinAttnIdeal.main_arg1) = m ((c.tc : Thread Cert.WinAttnIdeal.nD Cert.WinAttnIdeal.τ).loc Cert.WinAttnIdeal.main_arg1)
      ∧ r.2.mem ((c.tc : Thread Cert.WinAttnIdeal.nD Cert.WinAttnIdeal.τ).loc Cert.WinAttnIdeal.main_arg2) = m ((c.tc : Thread Cert.WinAttnIdeal.nD Cert.WinAttnIdeal.τ).loc Cert.WinAttnIdeal.main_arg2)
      ∧ r.2.mem ((c.tc : Thread Cert.WinAttnIdeal.nD Cert.WinAttnIdeal.τ).loc Cert.WinAttnIdeal.main_arg3) = m ((c.tc : Thread Cert.WinAttnIdeal.nD Cert.WinAttnIdeal.τ).loc Cert.WinAttnIdeal.main_arg3))
      ∧ r.2.sem = fun _ => 0)

def quiescent_WinAttnIdeal_pre_win_finite [hWinAttnIdeal : Cert.WinAttnIdeal.Facts] [hPre_win_finite : Cert.Pre_win_finite.Facts] : Prop :=
  ∀ (m : (ℓ : Loc Cert.WinAttnIdeal.nD Cert.WinAttnIdeal.τ Cert.WinAttnIdeal.sig) → Buf (Elt Ideal) ℓ) (g : Dev Cert.WinAttnIdeal.nD → PrngReg), Pre_WinAttnIdeal_win_finite m →
    θ_run (Cert.WinAttnIdeal.defs (F := Ideal)) (onTc (τ := Cert.WinAttnIdeal.τ) (Cert.WinAttnIdeal.main (F := Ideal))) ⟨m, fun _ => 0, g⟩ (fun r => (∀ c : Dev Cert.WinAttnIdeal.nD,
      r.2.mem ((c.tc : Thread Cert.WinAttnIdeal.nD Cert.WinAttnIdeal.τ).loc Cert.WinAttnIdeal.main_arg0) = m ((c.tc : Thread Cert.WinAttnIdeal.nD Cert.WinAttnIdeal.τ).loc Cert.WinAttnIdeal.main_arg0)
      ∧ r.2.mem ((c.tc : Thread Cert.WinAttnIdeal.nD Cert.WinAttnIdeal.τ).loc Cert.WinAttnIdeal.main_arg1) = m ((c.tc : Thread Cert.WinAttnIdeal.nD Cert.WinAttnIdeal.τ).loc Cert.WinAttnIdeal.main_arg1)
      ∧ r.2.mem ((c.tc : Thread Cert.WinAttnIdeal.nD Cert.WinAttnIdeal.τ).loc Cert.WinAttnIdeal.main_arg2) = m ((c.tc : Thread Cert.WinAttnIdeal.nD Cert.WinAttnIdeal.τ).loc Cert.WinAttnIdeal.main_arg2)
      ∧ r.2.mem ((c.tc : Thread Cert.WinAttnIdeal.nD Cert.WinAttnIdeal.τ).loc Cert.WinAttnIdeal.main_arg3) = m ((c.tc : Thread Cert.WinAttnIdeal.nD Cert.WinAttnIdeal.τ).loc Cert.WinAttnIdeal.main_arg3))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2)
      ∧ r.2.mem ((c.tc : Thread Cert.WinReferenceIdeal.nD Cert.WinReferenceIdeal.τ).loc Cert.WinReferenceIdeal.main_arg3) = m ((c.tc : Thread Cert.WinReferenceIdeal.nD Cert.WinReferenceIdeal.τ).loc Cert.WinReferenceIdeal.main_arg3))
      ∧ r.2.sem = fun _ => 0)

def quiescent_WinReferenceIdeal_pre_win_finite [hWinReferenceIdeal : Cert.WinReferenceIdeal.Facts] [hPre_win_finite : Cert.Pre_win_finite.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal_win_finite m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2)
      ∧ r.2.mem ((c.tc : Thread Cert.WinReferenceIdeal.nD Cert.WinReferenceIdeal.τ).loc Cert.WinReferenceIdeal.main_arg3) = m ((c.tc : Thread Cert.WinReferenceIdeal.nD Cert.WinReferenceIdeal.τ).loc Cert.WinReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_InProj_InProjIdeal : Prop :=
  True

def algebraic_InProjIdeal_InReferenceIdeal [hInProjIdeal : Cert.InProjIdeal.Facts] [hInReferenceIdeal : Cert.InReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InProjIdeal m →
    (∀ c : Dev Cert.InProjIdeal.nD,
      m' ((c.tc : Thread Cert.InReferenceIdeal.nD Cert.InReferenceIdeal.τ).loc Cert.InReferenceIdeal.main_arg0) = m ((c.tc : Thread Cert.InProjIdeal.nD Cert.InProjIdeal.τ).loc Cert.InProjIdeal.main_arg0)
      ∧ m' ((c.tc : Thread Cert.InReferenceIdeal.nD Cert.InReferenceIdeal.τ).loc Cert.InReferenceIdeal.main_arg1) = m ((c.tc : Thread Cert.InProjIdeal.nD Cert.InProjIdeal.τ).loc Cert.InProjIdeal.main_arg1)
      ∧ m' ((c.tc : Thread Cert.InReferenceIdeal.nD Cert.InReferenceIdeal.τ).loc Cert.InReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v45_0)) (v1 : (c : Dev Cert.InProjIdeal.nD) → Buf (Elt Ideal) ((c.tc : Thread Cert.InProjIdeal.nD Cert.InProjIdeal.τ).loc Cert.InProjIdeal.main_v45_1)) (v2 : (c : Dev Cert.InProjIdeal.nD) → Buf (Elt Ideal) ((c.tc : Thread Cert.InProjIdeal.nD Cert.InProjIdeal.τ).loc Cert.InProjIdeal.main_v45_2)) (v3 : (c : Dev Cert.InProjIdeal.nD) → Buf (Elt Ideal) ((c.tc : Thread Cert.InProjIdeal.nD Cert.InProjIdeal.τ).loc Cert.InProjIdeal.main_v45_3)) (v4 : (c : Dev Cert.InProjIdeal.nD) → Buf (Elt Ideal) ((c.tc : Thread Cert.InProjIdeal.nD Cert.InProjIdeal.τ).loc Cert.InProjIdeal.main_v45_4)) (v5 : (c : Dev Cert.InProjIdeal.nD) → Buf (Elt Ideal) ((c.tc : Thread Cert.InProjIdeal.nD Cert.InProjIdeal.τ).loc Cert.InProjIdeal.main_v45_5)) (v6 : (c : Dev Cert.InProjIdeal.nD) → Buf (Elt Ideal) ((c.tc : Thread Cert.InProjIdeal.nD Cert.InProjIdeal.τ).loc Cert.InProjIdeal.main_v45_6)) (v7 : (c : Dev Cert.InProjIdeal.nD) → Buf (Elt Ideal) ((c.tc : Thread Cert.InProjIdeal.nD Cert.InProjIdeal.τ).loc Cert.InProjIdeal.main_v45_7)) (v8 : (c : Dev Cert.InProjIdeal.nD) → Buf (Elt Ideal) ((c.tc : Thread Cert.InProjIdeal.nD Cert.InProjIdeal.τ).loc Cert.InProjIdeal.main_v45_8)) (v9 : (c : Dev Cert.InProjIdeal.nD) → Buf (Elt Ideal) ((c.tc : Thread Cert.InProjIdeal.nD Cert.InProjIdeal.τ).loc Cert.InProjIdeal.main_v45_9)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v45_0) = v0 c
          ∧ r.2.mem ((c.tc : Thread Cert.InProjIdeal.nD Cert.InProjIdeal.τ).loc Cert.InProjIdeal.main_v45_1) = v1 c
          ∧ r.2.mem ((c.tc : Thread Cert.InProjIdeal.nD Cert.InProjIdeal.τ).loc Cert.InProjIdeal.main_v45_2) = v2 c
          ∧ r.2.mem ((c.tc : Thread Cert.InProjIdeal.nD Cert.InProjIdeal.τ).loc Cert.InProjIdeal.main_v45_3) = v3 c
          ∧ r.2.mem ((c.tc : Thread Cert.InProjIdeal.nD Cert.InProjIdeal.τ).loc Cert.InProjIdeal.main_v45_4) = v4 c
          ∧ r.2.mem ((c.tc : Thread Cert.InProjIdeal.nD Cert.InProjIdeal.τ).loc Cert.InProjIdeal.main_v45_5) = v5 c
          ∧ r.2.mem ((c.tc : Thread Cert.InProjIdeal.nD Cert.InProjIdeal.τ).loc Cert.InProjIdeal.main_v45_6) = v6 c
          ∧ r.2.mem ((c.tc : Thread Cert.InProjIdeal.nD Cert.InProjIdeal.τ).loc Cert.InProjIdeal.main_v45_7) = v7 c
          ∧ r.2.mem ((c.tc : Thread Cert.InProjIdeal.nD Cert.InProjIdeal.τ).loc Cert.InProjIdeal.main_v45_8) = v8 c
          ∧ r.2.mem ((c.tc : Thread Cert.InProjIdeal.nD Cert.InProjIdeal.τ).loc Cert.InProjIdeal.main_v45_9) = v9 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v30) = v0 c
          ∧ r.2.mem ((c.tc : Thread Cert.InReferenceIdeal.nD Cert.InReferenceIdeal.τ).loc Cert.InReferenceIdeal.main_v31) = v1 c
          ∧ r.2.mem ((c.tc : Thread Cert.InReferenceIdeal.nD Cert.InReferenceIdeal.τ).loc Cert.InReferenceIdeal.main_v34) = v2 c
          ∧ r.2.mem ((c.tc : Thread Cert.InReferenceIdeal.nD Cert.InReferenceIdeal.τ).loc Cert.InReferenceIdeal.main_v35) = v3 c
          ∧ r.2.mem ((c.tc : Thread Cert.InReferenceIdeal.nD Cert.InReferenceIdeal.τ).loc Cert.InReferenceIdeal.main_v40) = v4 c
          ∧ r.2.mem ((c.tc : Thread Cert.InReferenceIdeal.nD Cert.InReferenceIdeal.τ).loc Cert.InReferenceIdeal.main_v45) = v5 c
          ∧ r.2.mem ((c.tc : Thread Cert.InReferenceIdeal.nD Cert.InReferenceIdeal.τ).loc Cert.InReferenceIdeal.main_v46) = v6 c
          ∧ r.2.mem ((c.tc : Thread Cert.InReferenceIdeal.nD Cert.InReferenceIdeal.τ).loc Cert.InReferenceIdeal.main_v48) = v7 c
          ∧ r.2.mem ((c.tc : Thread Cert.InReferenceIdeal.nD Cert.InReferenceIdeal.τ).loc Cert.InReferenceIdeal.main_v54) = v8 c
          ∧ r.2.mem ((c.tc : Thread Cert.InReferenceIdeal.nD Cert.InReferenceIdeal.τ).loc Cert.InReferenceIdeal.main_v60) = v9 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_MixOut_MixOutIdeal : Prop :=
  True

def algebraic_MixOutIdeal_OutReferenceIdeal [hMixOutIdeal : Cert.MixOutIdeal.Facts] [hOutReferenceIdeal : Cert.OutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_MixOutIdeal m →
    (∀ c : Dev Cert.MixOutIdeal.nD,
      m' ((c.tc : Thread Cert.OutReferenceIdeal.nD Cert.OutReferenceIdeal.τ).loc Cert.OutReferenceIdeal.main_arg0) = m ((c.tc : Thread Cert.MixOutIdeal.nD Cert.MixOutIdeal.τ).loc Cert.MixOutIdeal.main_arg0)
      ∧ m' ((c.tc : Thread Cert.OutReferenceIdeal.nD Cert.OutReferenceIdeal.τ).loc Cert.OutReferenceIdeal.main_arg1) = m ((c.tc : Thread Cert.MixOutIdeal.nD Cert.MixOutIdeal.τ).loc Cert.MixOutIdeal.main_arg1)
      ∧ m' ((c.tc : Thread Cert.OutReferenceIdeal.nD Cert.OutReferenceIdeal.τ).loc Cert.OutReferenceIdeal.main_arg2) = m ((c.tc : Thread Cert.MixOutIdeal.nD Cert.MixOutIdeal.τ).loc Cert.MixOutIdeal.main_arg2)
      ∧ m' ((c.tc : Thread Cert.OutReferenceIdeal.nD Cert.OutReferenceIdeal.τ).loc Cert.OutReferenceIdeal.main_arg3) = m ((c.tc : Thread Cert.MixOutIdeal.nD Cert.MixOutIdeal.τ).loc Cert.MixOutIdeal.main_arg3)
      ∧ m' ((c.tc : Thread Cert.OutReferenceIdeal.nD Cert.OutReferenceIdeal.τ).loc Cert.OutReferenceIdeal.main_arg4) = m ((c.tc : Thread Cert.MixOutIdeal.nD Cert.MixOutIdeal.τ).loc Cert.MixOutIdeal.main_arg4)
      ∧ m' ((c.tc : Thread Cert.OutReferenceIdeal.nD Cert.OutReferenceIdeal.τ).loc Cert.OutReferenceIdeal.main_arg5) = m ((c.tc : Thread Cert.MixOutIdeal.nD Cert.MixOutIdeal.τ).loc Cert.MixOutIdeal.main_arg5)
      ∧ m' ((c.tc : Thread Cert.OutReferenceIdeal.nD Cert.OutReferenceIdeal.τ).loc Cert.OutReferenceIdeal.main_arg6) = m ((c.tc : Thread Cert.MixOutIdeal.nD Cert.MixOutIdeal.τ).loc Cert.MixOutIdeal.main_arg6)
      ∧ m' ((c.tc : Thread Cert.OutReferenceIdeal.nD Cert.OutReferenceIdeal.τ).loc Cert.OutReferenceIdeal.main_arg7) = m ((c.tc : Thread Cert.MixOutIdeal.nD Cert.MixOutIdeal.τ).loc Cert.MixOutIdeal.main_arg7)
      ∧ m' ((c.tc : Thread Cert.OutReferenceIdeal.nD Cert.OutReferenceIdeal.τ).loc Cert.OutReferenceIdeal.main_arg8) = m ((c.tc : Thread Cert.MixOutIdeal.nD Cert.MixOutIdeal.τ).loc Cert.MixOutIdeal.main_arg8)) →
    ∃ (v0 : (c : Dev Cert.MixOutIdeal.nD) → Buf (Elt Ideal) ((c.tc : Thread Cert.MixOutIdeal.nD Cert.MixOutIdeal.τ).loc Cert.MixOutIdeal.main_v31_0)) (v1 : (c : Dev Cert.MixOutIdeal.nD) → Buf (Elt Ideal) ((c.tc : Thread Cert.MixOutIdeal.nD Cert.MixOutIdeal.τ).loc Cert.MixOutIdeal.main_v31_1)) (v2 : (c : Dev Cert.MixOutIdeal.nD) → Buf (Elt Ideal) ((c.tc : Thread Cert.MixOutIdeal.nD Cert.MixOutIdeal.τ).loc Cert.MixOutIdeal.main_v31_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v31_0) = v0 c
          ∧ r.2.mem ((c.tc : Thread Cert.MixOutIdeal.nD Cert.MixOutIdeal.τ).loc Cert.MixOutIdeal.main_v31_1) = v1 c
          ∧ r.2.mem ((c.tc : Thread Cert.MixOutIdeal.nD Cert.MixOutIdeal.τ).loc Cert.MixOutIdeal.main_v31_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v46) = v0 c
          ∧ r.2.mem ((c.tc : Thread Cert.OutReferenceIdeal.nD Cert.OutReferenceIdeal.τ).loc Cert.OutReferenceIdeal.main_v48) = v1 c
          ∧ r.2.mem ((c.tc : Thread Cert.OutReferenceIdeal.nD Cert.OutReferenceIdeal.τ).loc Cert.OutReferenceIdeal.main_v50) = v2 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5)
          ∧ r.2.mem ((c.tc : Thread Cert.OutReferenceIdeal.nD Cert.OutReferenceIdeal.τ).loc Cert.OutReferenceIdeal.main_arg6) = m' ((c.tc : Thread Cert.OutReferenceIdeal.nD Cert.OutReferenceIdeal.τ).loc Cert.OutReferenceIdeal.main_arg6)
          ∧ r.2.mem ((c.tc : Thread Cert.OutReferenceIdeal.nD Cert.OutReferenceIdeal.τ).loc Cert.OutReferenceIdeal.main_arg7) = m' ((c.tc : Thread Cert.OutReferenceIdeal.nD Cert.OutReferenceIdeal.τ).loc Cert.OutReferenceIdeal.main_arg7)
          ∧ r.2.mem ((c.tc : Thread Cert.OutReferenceIdeal.nD Cert.OutReferenceIdeal.τ).loc Cert.OutReferenceIdeal.main_arg8) = m' ((c.tc : Thread Cert.OutReferenceIdeal.nD Cert.OutReferenceIdeal.τ).loc Cert.OutReferenceIdeal.main_arg8))

def preserves_FinalNorm_FinalNormIdeal : Prop :=
  True

def algebraic_FinalNormIdeal_FinalReferenceIdeal [hFinalNormIdeal : Cert.FinalNormIdeal.Facts] [hFinalReferenceIdeal : Cert.FinalReferenceIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalNormIdeal m →
    (∀ c : Dev Cert.FinalNormIdeal.nD,
      m' ((c.tc : Thread Cert.FinalReferenceIdeal.nD Cert.FinalReferenceIdeal.τ).loc Cert.FinalReferenceIdeal.main_arg0) = m ((c.tc : Thread Cert.FinalNormIdeal.nD Cert.FinalNormIdeal.τ).loc Cert.FinalNormIdeal.main_arg0)
      ∧ m' ((c.tc : Thread Cert.FinalReferenceIdeal.nD Cert.FinalReferenceIdeal.τ).loc Cert.FinalReferenceIdeal.main_arg1) = m ((c.tc : Thread Cert.FinalNormIdeal.nD Cert.FinalNormIdeal.τ).loc Cert.FinalNormIdeal.main_arg1)
      ∧ m' ((c.tc : Thread Cert.FinalReferenceIdeal.nD Cert.FinalReferenceIdeal.τ).loc Cert.FinalReferenceIdeal.main_arg2) = m ((c.tc : Thread Cert.FinalNormIdeal.nD Cert.FinalNormIdeal.τ).loc Cert.FinalNormIdeal.main_arg2)) →
    ∃ (v0 : (c : Dev Cert.FinalNormIdeal.nD) → Buf (Elt Ideal) ((c.tc : Thread Cert.FinalNormIdeal.nD Cert.FinalNormIdeal.τ).loc Cert.FinalNormIdeal.main_v3)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v3) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1)
          ∧ r.2.mem ((c.tc : Thread Cert.FinalNormIdeal.nD Cert.FinalNormIdeal.τ).loc Cert.FinalNormIdeal.main_arg2) = m ((c.tc : Thread Cert.FinalNormIdeal.nD Cert.FinalNormIdeal.τ).loc Cert.FinalNormIdeal.main_arg2))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v14) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2))

def preserves_WinAttn_WinAttnIdeal : Prop :=
  True

def algebraic_WinAttnIdeal_WinReferenceIdeal_pre_win_finite [hWinAttnIdeal : Cert.WinAttnIdeal.Facts] [hWinReferenceIdeal : Cert.WinReferenceIdeal.Facts] [hPre_win_finite : Cert.Pre_win_finite.Facts] : Prop :=
  ∀ (m : (ℓ : Loc Cert.WinAttnIdeal.nD Cert.WinAttnIdeal.τ Cert.WinAttnIdeal.sig) → Buf (Elt Ideal) ℓ) (g : Dev Cert.WinAttnIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinAttnIdeal_win_finite m →
    (∀ c : Dev Cert.WinAttnIdeal.nD,
      m' ((c.tc : Thread Cert.WinReferenceIdeal.nD Cert.WinReferenceIdeal.τ).loc Cert.WinReferenceIdeal.main_arg0) = m ((c.tc : Thread Cert.WinAttnIdeal.nD Cert.WinAttnIdeal.τ).loc Cert.WinAttnIdeal.main_arg0)
      ∧ m' ((c.tc : Thread Cert.WinReferenceIdeal.nD Cert.WinReferenceIdeal.τ).loc Cert.WinReferenceIdeal.main_arg1) = m ((c.tc : Thread Cert.WinAttnIdeal.nD Cert.WinAttnIdeal.τ).loc Cert.WinAttnIdeal.main_arg1)
      ∧ m' ((c.tc : Thread Cert.WinReferenceIdeal.nD Cert.WinReferenceIdeal.τ).loc Cert.WinReferenceIdeal.main_arg2) = m ((c.tc : Thread Cert.WinAttnIdeal.nD Cert.WinAttnIdeal.τ).loc Cert.WinAttnIdeal.main_arg2)
      ∧ m' ((c.tc : Thread Cert.WinReferenceIdeal.nD Cert.WinReferenceIdeal.τ).loc Cert.WinReferenceIdeal.main_arg3) = m ((c.tc : Thread Cert.WinAttnIdeal.nD Cert.WinAttnIdeal.τ).loc Cert.WinAttnIdeal.main_arg3)) →
    ∃ (v0 : (c : Dev Cert.WinAttnIdeal.nD) → Buf (Elt Ideal) ((c.tc : Thread Cert.WinAttnIdeal.nD Cert.WinAttnIdeal.τ).loc Cert.WinAttnIdeal.main_v73)),
      θ_run (Cert.WinAttnIdeal.defs (F := Ideal)) (onTc (τ := Cert.WinAttnIdeal.τ) (Cert.WinAttnIdeal.main (F := Ideal))) ⟨m, fun _ => 0, g⟩ (fun r => ∀ c : Dev Cert.WinAttnIdeal.nD,
          r.2.mem ((c.tc : Thread Cert.WinAttnIdeal.nD Cert.WinAttnIdeal.τ).loc Cert.WinAttnIdeal.main_v73) = v0 c
          ∧ r.2.mem ((c.tc : Thread Cert.WinAttnIdeal.nD Cert.WinAttnIdeal.τ).loc Cert.WinAttnIdeal.main_arg0) = m ((c.tc : Thread Cert.WinAttnIdeal.nD Cert.WinAttnIdeal.τ).loc Cert.WinAttnIdeal.main_arg0)
          ∧ r.2.mem ((c.tc : Thread Cert.WinAttnIdeal.nD Cert.WinAttnIdeal.τ).loc Cert.WinAttnIdeal.main_arg1) = m ((c.tc : Thread Cert.WinAttnIdeal.nD Cert.WinAttnIdeal.τ).loc Cert.WinAttnIdeal.main_arg1)
          ∧ r.2.mem ((c.tc : Thread Cert.WinAttnIdeal.nD Cert.WinAttnIdeal.τ).loc Cert.WinAttnIdeal.main_arg2) = m ((c.tc : Thread Cert.WinAttnIdeal.nD Cert.WinAttnIdeal.τ).loc Cert.WinAttnIdeal.main_arg2)
          ∧ r.2.mem ((c.tc : Thread Cert.WinAttnIdeal.nD Cert.WinAttnIdeal.τ).loc Cert.WinAttnIdeal.main_arg3) = m ((c.tc : Thread Cert.WinAttnIdeal.nD Cert.WinAttnIdeal.τ).loc Cert.WinAttnIdeal.main_arg3))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v68) = v0 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1)
          ∧ r.2.mem ((c.tc : Thread Cert.WinReferenceIdeal.nD Cert.WinReferenceIdeal.τ).loc Cert.WinReferenceIdeal.main_arg2) = m' ((c.tc : Thread Cert.WinReferenceIdeal.nD Cert.WinReferenceIdeal.τ).loc Cert.WinReferenceIdeal.main_arg2)
          ∧ r.2.mem ((c.tc : Thread Cert.WinReferenceIdeal.nD Cert.WinReferenceIdeal.τ).loc Cert.WinReferenceIdeal.main_arg3) = m' ((c.tc : Thread Cert.WinReferenceIdeal.nD Cert.WinReferenceIdeal.τ).loc Cert.WinReferenceIdeal.main_arg3))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInReferenceIdeal : Cert.InReferenceIdeal.Facts) (hMixOut : Cert.MixOut.Facts) (hMixOutIdeal : Cert.MixOutIdeal.Facts) (hOutReferenceIdeal : Cert.OutReferenceIdeal.Facts) (hFinalNorm : Cert.FinalNorm.Facts) (hFinalNormIdeal : Cert.FinalNormIdeal.Facts) (hFinalReferenceIdeal : Cert.FinalReferenceIdeal.Facts) (hWinAttn : Cert.WinAttn.Facts) (hWinAttnIdeal : Cert.WinAttnIdeal.Facts) (hWinReferenceIdeal : Cert.WinReferenceIdeal.Facts) (hPre_finite : Cert.Pre_finite.Facts) (hPre_win_finite : Cert.Pre_win_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InReferenceIdeal (hInReferenceIdeal := hInReferenceIdeal)
    ∧ quiescent_MixOut (hMixOut := hMixOut)
    ∧ quiescent_MixOutIdeal (hMixOutIdeal := hMixOutIdeal)
    ∧ quiescent_OutReferenceIdeal (hOutReferenceIdeal := hOutReferenceIdeal)
    ∧ quiescent_FinalNorm (hFinalNorm := hFinalNorm)
    ∧ quiescent_FinalNormIdeal (hFinalNormIdeal := hFinalNormIdeal)
    ∧ quiescent_FinalReferenceIdeal (hFinalReferenceIdeal := hFinalReferenceIdeal)
    ∧ quiescent_WinAttn (hWinAttn := hWinAttn)
    ∧ quiescent_WinAttnIdeal (hWinAttnIdeal := hWinAttnIdeal)
    ∧ quiescent_WinAttnIdeal_pre_win_finite (hWinAttnIdeal := hWinAttnIdeal) (hPre_win_finite := hPre_win_finite)
    ∧ quiescent_WinReferenceIdeal (hWinReferenceIdeal := hWinReferenceIdeal)
    ∧ quiescent_WinReferenceIdeal_pre_win_finite (hWinReferenceIdeal := hWinReferenceIdeal) (hPre_win_finite := hPre_win_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InReferenceIdeal (hInProjIdeal := hInProjIdeal) (hInReferenceIdeal := hInReferenceIdeal)
    ∧ preserves_MixOut_MixOutIdeal
    ∧ algebraic_MixOutIdeal_OutReferenceIdeal (hMixOutIdeal := hMixOutIdeal) (hOutReferenceIdeal := hOutReferenceIdeal)
    ∧ preserves_FinalNorm_FinalNormIdeal
    ∧ algebraic_FinalNormIdeal_FinalReferenceIdeal (hFinalNormIdeal := hFinalNormIdeal) (hFinalReferenceIdeal := hFinalReferenceIdeal)
    ∧ preserves_WinAttn_WinAttnIdeal
    ∧ algebraic_WinAttnIdeal_WinReferenceIdeal_pre_win_finite (hWinAttnIdeal := hWinAttnIdeal) (hWinReferenceIdeal := hWinReferenceIdeal) (hPre_win_finite := hPre_win_finite)
-- ==== Pre_finite.lean ====
abbrev S16x2048x512 : Shape := ⟨3, ![16, 2048, 512]⟩
abbrev S32x12 : Shape := ⟨2, ![32, 12]⟩
abbrev S1x64 : Shape := ⟨2, ![1, 64]⟩
abbrev S1x128 : Shape := ⟨2, ![1, 128]⟩
abbrev S_ : Shape := ⟨0, ![]⟩
abbrev S32x4 : Shape := ⟨2, ![32, 4]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  slices_S32x12_S32x4_0_0 : S32x12.Slices ![0, 0] S32x4
  bcast_S_S32x4 : S_.BroadcastsInDim S32x4 (![] : Fin 0 → Fin S32x4.rank)
  reducesTo_S32x4_S_d0_1 : S32x4.ReducesTo [0, 1] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg7 : FVec F S1x64 .f32) (main_v29 : IVec S_ 1) (main_v33 : IVec S_ 1) : IVec S_ 1 :=
  let main_v34 : IVec S_ 1 := andi main_v29 main_v33
  let main_v35 : FVec F S1x64 .f32 := Host.absf main_arg7
  let main_cst_12 : FVec F S_ .f32 := constant S_ .f32 0x7F800000#32
  let main_v36 : FVec F S1x64 .f32 := broadcastInDim S1x64 ![] bcast_S_S1x64 main_cst_12
  let main_v37 : IVec S1x64 1 := cmpf .olt main_v35 main_v36
  let main_c_13 : IVec S_ 1 := constantI S_ 1 1#1
  let main_v38 : IVec S_ 1 := (fun x v => Host.reduce IntOp.andi x v reducesTo_S1x64_S_d0_1 h_S_) main_v37 main_c_13
  let main_v39 : IVec S_ 1 := andi main_v34 main_v38
  main_v39

def fn_part1 {F : FTy → Type} [FloatOps F] (main_arg4 : FVec F S1x64 .f32) (main_arg5 : FVec F S1x64 .f32) (main_arg6 : FVec F S1x64 .f32) (main_arg7 : FVec F S1x64 .f32) (main_v13 : IVec S_ 1) (main_v15 : FVec F S32x4 .f32) (main_v16 : FVec F S32x4 .f32) : IVec S_ 1 :=
  let main_v17 : IVec S32x4 1 := cmpf .olt main_v15 main_v16
  let main_c_5 : IVec S_ 1 := constantI S_ 1 1#1
  let main_v18 : IVec S_ 1 := (fun x v => Host.reduce IntOp.andi x v reducesTo_S32x4_S_d0_1 h_S_) main_v17 main_c_5
  let main_v19 : IVec S_ 1 := andi main_v13 main_v18
  let main_v20 : FVec F S1x64 .f32 := Host.absf main_arg4
  let main_cst_6 : FVec F S_ .f32 := constant S_ .f32 0x7F800000#32
  let main_v21 : FVec F S1x64 .f32 := broadcastInDim S1x64 ![] bcast_S_S1x64 main_cst_6
  let main_v22 : IVec S1x64 1 := cmpf .olt main_v20 main_v21
  let main_c_7 : IVec S_ 1 := constantI S_ 1 1#1
  let main_v23 : IVec S_ 1 := (fun x v => Host.reduce IntOp.andi x v reducesTo_S1x64_S_d0_1 h_S_) main_v22 main_c_7
  let main_v24 : IVec S_ 1 := andi main_v19 main_v23
  let main_v25 : FVec F S1x64 .f32 := Host.absf main_arg5
  let main_cst_8 : FVec F S_ .f32 := constant S_ .f32 0x7F800000#32
  let main_v26 : FVec F S1x64 .f32 := broadcastInDim S1x64 ![] bcast_S_S1x64 main_cst_8
  let main_v27 : IVec S1x64 1 := cmpf .olt main_v25 main_v26
  let main_c_9 : IVec S_ 1 := constantI S_ 1 1#1
  let main_v28 : IVec S_ 1 := (fun x v => Host.reduce IntOp.andi x v reducesTo_S1x64_S_d0_1 h_S_) main_v27 main_c_9
  let main_v29 : IVec S_ 1 := andi main_v24 main_v28
  let main_v30 : FVec F S1x64 .f32 := Host.absf main_arg6
  let main_cst_10 : FVec F S_ .f32 := constant S_ .f32 0x7F800000#32
  let main_v31 : FVec F S1x64 .f32 := broadcastInDim S1x64 ![] bcast_S_S1x64 main_cst_10
  let main_v32 : IVec S1x64 1 := cmpf .olt main_v30 main_v31
  let main_c_11 : IVec S_ 1 := constantI S_ 1 1#1
  let main_v33 : IVec S_ 1 := (fun x v => Host.reduce IntOp.andi x v reducesTo_S1x64_S_d0_1 h_S_) main_v32 main_c_11
  fn_part2 (F := F) main_arg7 main_v29 main_v33

def fn {F : FTy → Type} [FloatOps F] (main_arg0 : FVec F S16x2048x512 .f32) (main_arg1 : FVec F S16x2048x512 .f32) (main_arg2 : FVec F S16x2048x512 .f32) (main_arg3 : FVec F S32x12 .f32) (main_arg4 : FVec F S1x64 .f32) (main_arg5 : FVec F S1x64 .f32) (main_arg6 : FVec F S1x64 .f32) (main_arg7 : FVec F S1x64 .f32) (main_arg8 : FVec F S1x128 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x512 .f32 := Host.absf main_arg1
  let main_cst_0 : FVec F S_ .f32 := constant S_ .f32 0x7F800000#32
  let main_v5 : FVec F S16x2048x512 .f32 := broadcastInDim S16x2048x512 ![] bcast_S_S16x2048x512 main_cst_0
  let main_v6 : IVec S16x2048x512 1 := cmpf .olt main_v4 main_v5
  let main_c_1 : IVec S_ 1 := constantI S_ 1 1#1
  let main_v7 : IVec S_ 1 := (fun x v => Host.reduce IntOp.andi x v reducesTo_S16x2048x512_S_d0_1_2 h_S_) main_v6 main_c_1
  let main_v8 : IVec S_ 1 := andi main_v3 main_v7
  let main_v9 : FVec F S16x2048x512 .f32 := Host.absf main_arg2
  let main_cst_2 : FVec F S_ .f32 := constant S_ .f32 0x7F800000#32
  let main_v10 : FVec F S16x2048x512 .f32 := broadcastInDim S16x2048x512 ![] bcast_S_S16x2048x512 main_cst_2
  let main_v11 : IVec S16x2048x512 1 := cmpf .olt main_v9 main_v10
  let main_c_3 : IVec S_ 1 := constantI S_ 1 1#1
  let main_v12 : IVec S_ 1 := (fun x v => Host.reduce IntOp.andi x v reducesTo_S16x2048x512_S_d0_1_2 h_S_) main_v11 main_c_3
  let main_v13 : IVec S_ 1 := andi main_v8 main_v12
  let main_v14 : FVec F S32x4 .f32 := (extractStridedSlice S32x4 ![0, 0] · slices_S32x12_S32x4_0_0) main_arg3
  let main_v15 : FVec F S32x4 .f32 := Host.absf main_v14
  let main_cst_4 : FVec F S_ .f32 := constant S_ .f32 0x7F800000#32
  let main_v16 : FVec F S32x4 .f32 := broadcastInDim S32x4 ![] bcast_S_S32x4 main_cst_4
  fn_part1 (F := F) main_arg4 main_arg5 main_arg6 main_arg7 main_v13 main_v15 main_v16
-- ==== Pre_win_finite.lean ====
abbrev S16x2048x512 : Shape := ⟨3, ![16, 2048, 512]⟩
abbrev S16x2048x128 : Shape := ⟨3, ![16, 2048, 128]⟩
abbrev S32x12 : Shape := ⟨2, ![32, 12]⟩
abbrev S_ : Shape := ⟨0, ![]⟩
abbrev S32x8 : Shape := ⟨2, ![32, 8]⟩

class Facts : Prop where
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  bcast_S_S16x2048x128 : S_.BroadcastsInDim S16x2048x128 (![] : Fin 0 → Fin S16x2048x128.rank)
  reducesTo_S16x2048x128_S_d0_1_2 : S16x2048x128.ReducesTo [0, 1, 2] S_
  slices_S32x12_S32x8_0_4 : S32x12.Slices ![0, 4] S32x8
  bcast_S_S32x8 : S_.BroadcastsInDim S32x8 (![] : Fin 0 → Fin S32x8.rank)
  reducesTo_S32x8_S_d0_1 : S32x8.ReducesTo [0, 1] S_

variable [Facts]

def fn_part1 {F : FTy → Type} [FloatOps F] (main_v13 : IVec S_ 1) (main_v15 : FVec F S32x8 .f32) (main_v16 : FVec F S32x8 .f32) : IVec S_ 1 :=
  let main_v17 : IVec S32x8 1 := cmpf .olt main_v15 main_v16
  let main_c_5 : IVec S_ 1 := constantI S_ 1 1#1
  let main_v18 : IVec S_ 1 := (fun x v => Host.reduce IntOp.andi x v reducesTo_S32x8_S_d0_1 h_S_) main_v17 main_c_5
  let main_v19 : IVec S_ 1 := andi main_v13 main_v18
  main_v19

def fn {F : FTy → Type} [FloatOps F] (main_arg0 : FVec F S16x2048x512 .f32) (main_arg1 : FVec F S16x2048x128 .f32) (main_arg2 : FVec F S16x2048x128 .f32) (main_arg3 : FVec F S32x12 .f32) : IVec S_ 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_c : IVec S_ 1 := constantI S_ 1 1#1
  let main_v3 : IVec S_ 1 := (fun x v => Host.reduce IntOp.andi x v reducesTo_S16x2048x512_S_d0_1_2 h_S_) main_v2 main_c
  let main_v4 : FVec F S16x2048x128 .f32 := Host.absf main_arg1
  let main_cst_0 : FVec F S_ .f32 := constant S_ .f32 0x7F800000#32
  let main_v5 : FVec F S16x2048x128 .f32 := broadcastInDim S16x2048x128 ![] bcast_S_S16x2048x128 main_cst_0
  let main_v6 : IVec S16x2048x128 1 := cmpf .olt main_v4 main_v5
  let main_c_1 : IVec S_ 1 := constantI S_ 1 1#1
  let main_v7 : IVec S_ 1 := (fun x v => Host.reduce IntOp.andi x v reducesTo_S16x2048x128_S_d0_1_2 h_S_) main_v6 main_c_1
  let main_v8 : IVec S_ 1 := andi main_v3 main_v7
  let main_v9 : FVec F S16x2048x128 .f32 := Host.absf main_arg2
  let main_cst_2 : FVec F S_ .f32 := constant S_ .f32 0x7F800000#32
  let main_v10 : FVec F S16x2048x128 .f32 := broadcastInDim S16x2048x128 ![] bcast_S_S16x2048x128 main_cst_2
  let main_v11 : IVec S16x2048x128 1 := cmpf .olt main_v9 main_v10
  let main_c_3 : IVec S_ 1 := constantI S_ 1 1#1
  let main_v12 : IVec S_ 1 := (fun x v => Host.reduce IntOp.andi x v reducesTo_S16x2048x128_S_d0_1_2 h_S_) main_v11 main_c_3
  let main_v13 : IVec S_ 1 := andi main_v8 main_v12
  let main_v14 : FVec F S32x8 .f32 := (extractStridedSlice S32x8 ![0, 4] · slices_S32x12_S32x8_0_4) main_arg3
  let main_v15 : FVec F S32x8 .f32 := Host.absf main_v14
  let main_cst_4 : FVec F S_ .f32 := constant S_ .f32 0x7F800000#32
  let main_v16 : FVec F S32x8 .f32 := broadcastInDim S32x8 ![] bcast_S_S32x8 main_cst_4
  fn_part1 (F := F) main_v13 main_v15 main_v16
-- ==== Kernel.lean ====
abbrev S16x2048x512 : Shape := ⟨3, ![16, 2048, 512]⟩
abbrev S32x12 : Shape := ⟨2, ![32, 12]⟩
abbrev S1x64 : Shape := ⟨2, ![1, 64]⟩
abbrev S1x128 : Shape := ⟨2, ![1, 128]⟩
abbrev S2x512 : Shape := ⟨2, ![2, 512]⟩
abbrev S_ : Shape := ⟨0, ![]⟩
abbrev S8x128 : Shape := ⟨2, ![8, 128]⟩
abbrev S64 : Shape := ⟨1, ![64]⟩
abbrev S4x64 : Shape := ⟨2, ![4, 64]⟩
abbrev S1 : Shape := ⟨1, ![1]⟩
abbrev S2 : Shape := ⟨1, ![2]⟩
abbrev S32x4 : Shape := ⟨2, ![32, 4]⟩
abbrev S1x4 : Shape := ⟨2, ![1, 4]⟩
abbrev S4 : Shape := ⟨1, ![4]⟩
abbrev S2x512x1 : Shape := ⟨3, ![2, 512, 1]⟩
abbrev S2x512x4 : Shape := ⟨3, ![2, 512, 4]⟩
abbrev S4x2x512 : Shape := ⟨3, ![4, 2, 512]⟩
abbrev S1x4x1x2x1x512 : Shape := ⟨6, ![1, 4, 1, 2, 1, 512]⟩
abbrev S1x4x1x2x256x512 : Shape := ⟨6, ![1, 4, 1, 2, 256, 512]⟩
abbrev S4x2x131072 : Shape := ⟨3, ![4, 2, 131072]⟩
abbrev S4x2x130816 : Shape := ⟨3, ![4, 2, 130816]⟩
abbrev S4x2x256x511 : Shape := ⟨4, ![4, 2, 256, 511]⟩
abbrev S4x2x256x256 : Shape := ⟨4, ![4, 2, 256, 256]⟩
abbrev S2x1x1 : Shape := ⟨3, ![2, 1, 1]⟩
abbrev S256 : Shape := ⟨1, ![256]⟩
abbrev S1x256x1 : Shape := ⟨3, ![1, 256, 1]⟩
abbrev S2x256x1 : Shape := ⟨3, ![2, 256, 1]⟩
abbrev S1x1x256 : Shape := ⟨3, ![1, 1, 256]⟩
abbrev S2x256x256 : Shape := ⟨3, ![2, 256, 256]⟩
abbrev S1x2x256x256 : Shape := ⟨4, ![1, 2, 256, 256]⟩
abbrev S4x1x256x256 : Shape := ⟨4, ![4, 1, 256, 256]⟩
abbrev S4x256x256 : Shape := ⟨3, ![4, 256, 256]⟩
abbrev S4x256x512 : Shape := ⟨3, ![4, 256, 512]⟩
abbrev S4x1x256x512 : Shape := ⟨4, ![4, 1, 256, 512]⟩
abbrev S4x2x256x512 : Shape := ⟨4, ![4, 2, 256, 512]⟩
abbrev S32768x512 : Shape := ⟨2, ![32768, 512]⟩
abbrev S512x32768 : Shape := ⟨2, ![512, 32768]⟩
abbrev S128 : Shape := ⟨1, ![128]⟩
abbrev S1x256x128 : Shape := ⟨3, ![1, 256, 128]⟩
abbrev S128x2048 : Shape := ⟨2, ![128, 2048]⟩
abbrev S1x2048x128 : Shape := ⟨3, ![1, 2048, 128]⟩
abbrev S1x2x256x512 : Shape := ⟨4, ![1, 2, 256, 512]⟩
abbrev S256x128 : Shape := ⟨2, ![256, 128]⟩
abbrev S512x128 : Shape := ⟨2, ![512, 128]⟩
abbrev S1x512x128 : Shape := ⟨3, ![1, 512, 128]⟩
abbrev S128x512 : Shape := ⟨2, ![128, 512]⟩
abbrev S512x256 : Shape := ⟨2, ![512, 256]⟩
abbrev S512x512 : Shape := ⟨2, ![512, 512]⟩
abbrev S1x1x256x512 : Shape := ⟨4, ![1, 1, 256, 512]⟩
abbrev S256x512 : Shape := ⟨2, ![256, 512]⟩
abbrev S512 : Shape := ⟨1, ![512]⟩
abbrev S512x1 : Shape := ⟨2, ![512, 1]⟩
abbrev S128x256 : Shape := ⟨2, ![128, 256]⟩
abbrev S256x256 : Shape := ⟨2, ![256, 256]⟩
abbrev S1x1 : Shape := ⟨2, ![1, 1]⟩
abbrev S256x1 : Shape := ⟨2, ![256, 1]⟩

abbrev nBuf : Space → Nat
  | .hbm => 108
  | .vmem => 12
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S32x12, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x128, .f32⟩
  | .hbm, ⟨9, _⟩ => ⟨S2x512, .i32⟩
  | .hbm, ⟨10, _⟩ => ⟨S2x512, .i1⟩
  | .hbm, ⟨11, _⟩ => ⟨S_, .f32⟩
  | .hbm, ⟨12, _⟩ => ⟨S8x128, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S4x64, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S8x128, .f32⟩
  | .hbm, ⟨28, _⟩ => ⟨S32x4, .f32⟩
  | .hbm, ⟨29, _⟩ => ⟨S1x4, .f32⟩
  | .hbm, ⟨30, _⟩ => ⟨S4, .f32⟩
  | .hbm, ⟨31, _⟩ => ⟨S1x4, .f32⟩
  | .hbm, ⟨32, _⟩ => ⟨S32x4, .f32⟩
  | .hbm, ⟨33, _⟩ => ⟨S32x4, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S32x4, .f32⟩
  | .hbm, ⟨39, _⟩ => ⟨S32x4, .f32⟩
  | .hbm, ⟨40, _⟩ => ⟨S_, .i32⟩
  | .hbm, ⟨41, _⟩ => ⟨S2x512, .i32⟩
  | .hbm, ⟨42, _⟩ => ⟨S2x512, .i32⟩
  | .hbm, ⟨43, _⟩ => ⟨S2x512, .i32⟩
  | .hbm, ⟨44, _⟩ => ⟨S2x512x1, .i32⟩
  | .hbm, ⟨45, _⟩ => ⟨S2x512x4, .f32⟩
  | .hbm, ⟨46, _⟩ => ⟨S4x2x512, .f32⟩
  | .hbm, ⟨47, _⟩ => ⟨S1x4x1x2x1x512, .f32⟩
  | .hbm, ⟨48, _⟩ => ⟨S1x4x1x2x256x512, .f32⟩
  | .hbm, ⟨49, _⟩ => ⟨S4x2x131072, .f32⟩
  | .hbm, ⟨50, _⟩ => ⟨S4x2x130816, .f32⟩
  | .hbm, ⟨51, _⟩ => ⟨S4x2x256x511, .f32⟩
  | .hbm, ⟨52, _⟩ => ⟨S4x2x256x256, .f32⟩
  | .hbm, ⟨53, _⟩ => ⟨S2, .i32⟩
  | .hbm, ⟨54, _⟩ => ⟨S2x1x1, .i32⟩
  | .hbm, ⟨55, _⟩ => ⟨S_, .i32⟩
  | .hbm, ⟨56, _⟩ => ⟨S2x1x1, .i32⟩
  | .hbm, ⟨57, _⟩ => ⟨S2x1x1, .i32⟩
  | .hbm, ⟨58, _⟩ => ⟨S256, .i32⟩
  | .hbm, ⟨59, _⟩ => ⟨S1x256x1, .i32⟩
  | .hbm, ⟨60, _⟩ => ⟨S2x256x1, .i32⟩
  | .hbm, ⟨61, _⟩ => ⟨S2x256x1, .i32⟩
  | .hbm, ⟨62, _⟩ => ⟨S2x256x1, .i32⟩
  | .hbm, ⟨63, _⟩ => ⟨S256, .i32⟩
  | .hbm, ⟨64, _⟩ => ⟨S1x1x256, .i32⟩
  | .hbm, ⟨65, _⟩ => ⟨S2x256x256, .i32⟩
  | .hbm, ⟨66, _⟩ => ⟨S2x256x256, .i32⟩
  | .hbm, ⟨67, _⟩ => ⟨S2x256x256, .i32⟩
  | .hbm, ⟨68, _⟩ => ⟨S_, .i32⟩
  | .hbm, ⟨69, _⟩ => ⟨S2x256x256, .i32⟩
  | .hbm, ⟨70, _⟩ => ⟨S2x256x256, .i1⟩
  | .hbm, ⟨71, _⟩ => ⟨S1x2x256x256, .i1⟩
  | .hbm, ⟨72, _⟩ => ⟨S_, .f32⟩
  | .hbm, ⟨73, _⟩ => ⟨S_, .f32⟩
  | .hbm, ⟨74, _⟩ => ⟨S4x2x256x256, .i1⟩
  | .hbm, ⟨75, _⟩ => ⟨S4x2x256x256, .f32⟩
  | .hbm, ⟨76, _⟩ => ⟨S4x2x256x256, .f32⟩
  | .hbm, ⟨77, _⟩ => ⟨S4x1x256x256, .f32⟩
  | .hbm, ⟨78, _⟩ => ⟨S4x256x256, .f32⟩
  | .hbm, ⟨79, _⟩ => ⟨S4x1x256x256, .f32⟩
  | .hbm, ⟨80, _⟩ => ⟨S4x256x256, .f32⟩
  | .hbm, ⟨81, _⟩ => ⟨S_, .f32⟩
  | .hbm, ⟨82, _⟩ => ⟨S4x256x256, .f32⟩
  | .hbm, ⟨83, _⟩ => ⟨S4x256x512, .f32⟩
  | .hbm, ⟨84, _⟩ => ⟨S4x1x256x256, .f32⟩
  | .hbm, ⟨85, _⟩ => ⟨S4x256x256, .f32⟩
  | .hbm, ⟨86, _⟩ => ⟨S4x1x256x256, .f32⟩
  | .hbm, ⟨87, _⟩ => ⟨S4x256x256, .f32⟩
  | .hbm, ⟨88, _⟩ => ⟨S4x256x512, .f32⟩
  | .hbm, ⟨89, _⟩ => ⟨S4x1x256x512, .f32⟩
  | .hbm, ⟨90, _⟩ => ⟨S4x1x256x512, .f32⟩
  | .hbm, ⟨91, _⟩ => ⟨S4x2x256x512, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S16x2048x512, .f32⟩
  | .hbm, ⟨99, _⟩ => ⟨S16x2048x512, .f32⟩
  | .hbm, ⟨100, _⟩ => ⟨S16x2048x512, .bf16⟩
  | .hbm, ⟨101, _⟩ => ⟨S32768x512, .f32⟩
  | .hbm, ⟨102, _⟩ => ⟨S512x32768, .f32⟩
  | .hbm, ⟨103, _⟩ => ⟨S512x32768, .bf16⟩
  | .hbm, ⟨104, _⟩ => ⟨S16x2048x512, .bf16⟩
  | .hbm, ⟨105, _⟩ => ⟨S128, .f32⟩
  | .hbm, ⟨106, _⟩ => ⟨S1x128, .f32⟩
  | .hbm, ⟨107, _⟩ => ⟨S16x2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S128x2048, .bf16⟩
  | .local _ .vmem, ⟨3, _⟩ => ⟨S128x2048, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2x256x512, .f32⟩
  | .local _ .vmem, ⟨7, _⟩ => ⟨S1x2x256x512, .f32⟩
  | .local _ .vmem, ⟨8, _⟩ => ⟨S8x128, .f32⟩
  | .local _ .vmem, ⟨9, _⟩ => ⟨S1x128, .f32⟩
  | .local _ .vmem, ⟨10, _⟩ => ⟨S1x256x128, .bf16⟩
  | .local _ .vmem, ⟨11, _⟩ => ⟨S1x256x128, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_8 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_10 : Ref sig .tc := ⟨.hbm, 92, rfl⟩
abbrev main_v68 : Ref sig .tc := ⟨.hbm, 93, rfl⟩
abbrev main_cst_11 : Ref sig .tc := ⟨.hbm, 94, rfl⟩
abbrev main_v69 : Ref sig .tc := ⟨.hbm, 95, rfl⟩
abbrev main_cst_12 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![16, 4, 8], ![false, false, false]⟩

def k0_mult1 (i : grid0.Coords) : BitVec 32 :=
  let arg2 : BitVec 32 := BitVec.ofNat 32 (i 2).val
  let c1_i32 : BitVec 32 := 1#32
  let v9 : BitVec 32 := Scalar.subi arg2 c1_i32
  let c0_i32 : BitVec 32 := 0#32
  let v10 : BitVec 32 := Scalar.maxsi v9 c0_i32
  let c256_i32 : BitVec 32 := 256#32
  let v11 : BitVec 32 := Scalar.muli v10 c256_i32
  v11
def k0_off1 (i : grid0.Coords) : Fin 3 → Nat :=
  let c0_2 : Index := 0#32
  let arg2 : BitVec 32 := BitVec.ofNat 32 (i 2).val
  let c1_i32 : BitVec 32 := 1#32
  let v9 : BitVec 32 := Scalar.subi arg2 c1_i32
  let c0_i32 : BitVec 32 := 0#32
  let v10 : BitVec 32 := Scalar.maxsi v9 c0_i32
  let c256_i32 : BitVec 32 := 256#32
  let v11 : BitVec 32 := Scalar.muli v10 c256_i32
  let v12 : BitVec 32 := v11
  let v13 : Index := Scalar.indexCast v12
  let c0_3 : Index := 0#32
  ![0, v13.toNat, 0]
def k0_off2 (i : grid0.Coords) : Fin 2 → Nat :=
  let c0_4 : Index := 0#32
  let arg2 : BitVec 32 := BitVec.ofNat 32 (i 2).val
  let c1_i32 : BitVec 32 := 1#32
  let v9 : BitVec 32 := Scalar.subi arg2 c1_i32
  let c0_i32 : BitVec 32 := 0#32
  let v10 : BitVec 32 := Scalar.maxsi v9 c0_i32
  let c256_i32 : BitVec 32 := 256#32
  let v11 : BitVec 32 := Scalar.muli v10 c256_i32
  let v12 : BitVec 32 := v11
  let v16 : Index := Scalar.indexCast v12
  ![0, v16.toNat]
def k0_off3 (i : grid0.Coords) : Fin 4 → Nat :=
  let c0_8 : Index := 0#32
  let arg2 : BitVec 32 := BitVec.ofNat 32 (i 2).val
  let c1_i32_7 : BitVec 32 := 1#32
  let v22 : BitVec 32 := Scalar.minsi arg2 c1_i32_7
  let v23 : Index := Scalar.indexCast v22
  let c0_9 : Index := 0#32
  let c0_10 : Index := 0#32
  ![0, v23.toNat, 0, 0]
def k0_cond1 (i : grid0.Coords) : BitVec 1 :=
  let arg2 : BitVec 32 := BitVec.ofNat 32 (i 2).val
  let c1_i32_13 : BitVec 32 := 1#32
  let v35 : BitVec 32 := Scalar.subi arg2 c1_i32_13
  let c0_i32_14 : BitVec 32 := 0#32
  let v36 : BitVec 32 := Scalar.maxsi v35 c0_i32_14
  let c2_i32 : BitVec 32 := 2#32
  let c0_i32_15 : BitVec 32 := 0#32
  let v37 : BitVec 1 := Scalar.cmpi .eq c2_i32 c0_i32_15
  let c1_i32_16 : BitVec 32 := 1#32
  let v38 : BitVec 32 := Scalar.select v37 c1_i32_16 c2_i32
  let v39 : BitVec 32 := Scalar.remsi v36 v38
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let c0_i32_17 : BitVec 32 := 0#32
  let v40 : BitVec 1 := Scalar.cmpi .ne v39 c0_i32_17
  let v44 : BitVec 1 := Scalar.andi v43 v40
  let v45 : BitVec 32 := Scalar.addi v39 v38
  let v46 : BitVec 32 := Scalar.select v44 v45 v39
  let c1_i32_20 : BitVec 32 := 1#32
  let v47 : BitVec 1 := Scalar.cmpi .eq v46 c1_i32_20
  let v48 : BitVec 32 := Scalar.extui v47
  let c0_i32_21 : BitVec 32 := 0#32
  let v49 : BitVec 1 := Scalar.cmpi .ne v48 c0_i32_21
  v49

def k0_mult2 (i : grid0.Coords) : BitVec 32 :=
  let arg2 : BitVec 32 := BitVec.ofNat 32 (i 2).val
  let c1_i32_13 : BitVec 32 := 1#32
  let v35 : BitVec 32 := Scalar.subi arg2 c1_i32_13
  let c0_i32_14 : BitVec 32 := 0#32
  let v36 : BitVec 32 := Scalar.maxsi v35 c0_i32_14
  let c1_i32_47 : BitVec 32 := 1#32
  let v120 : BitVec 32 := Scalar.subi v36 c1_i32_47
  let c256_i32_48 : BitVec 32 := 256#32
  let v121 : BitVec 32 := Scalar.muli v120 c256_i32_48
  v121
def k0_off4 (i : grid0.Coords) : Fin 3 → Nat :=
  let c0_49 : Index := 0#32
  let arg2 : BitVec 32 := BitVec.ofNat 32 (i 2).val
  let c1_i32_13 : BitVec 32 := 1#32
  let v35 : BitVec 32 := Scalar.subi arg2 c1_i32_13
  let c0_i32_14 : BitVec 32 := 0#32
  let v36 : BitVec 32 := Scalar.maxsi v35 c0_i32_14
  let c1_i32_47 : BitVec 32 := 1#32
  let v120 : BitVec 32 := Scalar.subi v36 c1_i32_47
  let c256_i32_48 : BitVec 32 := 256#32
  let v121 : BitVec 32 := Scalar.muli v120 c256_i32_48
  let v122 : BitVec 32 := v121
  let v123 : Index := Scalar.indexCast v122
  let c0_50 : Index := 0#32
  ![0, v123.toNat, 0]
def k0_off5 (i : grid0.Coords) : Fin 2 → Nat :=
  let c0_51 : Index := 0#32
  let arg2 : BitVec 32 := BitVec.ofNat 32 (i 2).val
  let c1_i32_13 : BitVec 32 := 1#32
  let v35 : BitVec 32 := Scalar.subi arg2 c1_i32_13
  let c0_i32_14 : BitVec 32 := 0#32
  let v36 : BitVec 32 := Scalar.maxsi v35 c0_i32_14
  let c1_i32_47 : BitVec 32 := 1#32
  let v120 : BitVec 32 := Scalar.subi v36 c1_i32_47
  let c256_i32_48 : BitVec 32 := 256#32
  let v121 : BitVec 32 := Scalar.muli v120 c256_i32_48
  let v122 : BitVec 32 := v121
  let v126 : Index := Scalar.indexCast v122
  ![0, v126.toNat]
@[reducible] def k0_t1_loop (i : grid0.Coords) : Scf.Loop 32 :=
  let c0_i32_29 : BitVec 32 := 0#32
  let arg2 : BitVec 32 := BitVec.ofNat 32 (i 2).val
  let c1_i32_13 : BitVec 32 := 1#32
  let v35 : BitVec 32 := Scalar.subi arg2 c1_i32_13
  let c0_i32_14 : BitVec 32 := 0#32
  let v36 : BitVec 32 := Scalar.maxsi v35 c0_i32_14
  let c0_i32_23 : BitVec 32 := 0#32
  let v52 : BitVec 1 := Scalar.cmpi .sgt v36 c0_i32_23
  let v53 : BitVec 32 := Scalar.extui v52
  let c0_i32_24 : BitVec 32 := 0#32
  let v54 : BitVec 1 := Scalar.cmpi .slt v36 c0_i32_24
  let v55 : BitVec 32 := Scalar.extui v54
  let v56 : BitVec 32 := Scalar.subi v53 v55
  let c2_i32_22 : BitVec 32 := 2#32
  let c0_i32_25 : BitVec 32 := 0#32
  let v57 : BitVec 1 := Scalar.cmpi .sgt c2_i32_22 c0_i32_25
  let v58 : BitVec 32 := Scalar.extui v57
  let c0_i32_26 : BitVec 32 := 0#32
  let v59 : BitVec 1 := Scalar.cmpi .slt c2_i32_22 c0_i32_26
  let v60 : BitVec 32 := Scalar.extui v59
  let v61 : BitVec 32 := Scalar.subi v58 v60
  let v62 : BitVec 1 := Scalar.cmpi .ne v56 v61
  let v63 : BitVec 32 := Scalar.remsi v36 c2_i32_22
  let c0_i32_27 : BitVec 32 := 0#32
  let v64 : BitVec 1 := Scalar.cmpi .ne v63 c0_i32_27
  let v65 : BitVec 1 := Scalar.andi v62 v64
  let v51 : BitVec 32 := Scalar.divsi v36 c2_i32_22
  let c1_i32_28 : BitVec 32 := 1#32
  let v66 : BitVec 32 := Scalar.subi v51 c1_i32_28
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_31 : BitVec 32 := 1#32
  ⟨c0_i32_29, v72, c1_i32_31⟩
def k0_mult3 (i : grid0.Coords) (k0_t1 : Fin (k0_t1_loop i).trips) : BitVec 32 :=
  let c0_i32_29 : BitVec 32 := 0#32
  let c1_i32_31 : BitVec 32 := 1#32
  let arg10 : BitVec 32 := Scf.iv c0_i32_29 c1_i32_31 k0_t1
  let c2_i32_47 : BitVec 32 := 2#32
  let v120 : BitVec 32 := Scalar.muli arg10 c2_i32_47
  let c256_i32_48 : BitVec 32 := 256#32
  let v121 : BitVec 32 := Scalar.muli v120 c256_i32_48
  v121
def k0_off6 (i : grid0.Coords) (k0_t1 : Fin (k0_t1_loop i).trips) : Fin 3 → Nat :=
  let c0_49 : Index := 0#32
  let c0_i32_29 : BitVec 32 := 0#32
  let c1_i32_31 : BitVec 32 := 1#32
  let arg10 : BitVec 32 := Scf.iv c0_i32_29 c1_i32_31 k0_t1
  let c2_i32_47 : BitVec 32 := 2#32
  let v120 : BitVec 32 := Scalar.muli arg10 c2_i32_47
  let c256_i32_48 : BitVec 32 := 256#32
  let v121 : BitVec 32 := Scalar.muli v120 c256_i32_48
  let v122 : BitVec 32 := v121
  let v123 : Index := Scalar.indexCast v122
  let c0_50 : Index := 0#32
  ![0, v123.toNat, 0]
def k0_off7 (i : grid0.Coords) (k0_t1 : Fin (k0_t1_loop i).trips) : Fin 2 → Nat :=
  let c0_51 : Index := 0#32
  let c0_i32_29 : BitVec 32 := 0#32
  let c1_i32_31 : BitVec 32 := 1#32
  let arg10 : BitVec 32 := Scf.iv c0_i32_29 c1_i32_31 k0_t1
  let c2_i32_47 : BitVec 32 := 2#32
  let v120 : BitVec 32 := Scalar.muli arg10 c2_i32_47
  let c256_i32_48 : BitVec 32 := 256#32
  let v121 : BitVec 32 := Scalar.muli v120 c256_i32_48
  let v122 : BitVec 32 := v121
  let v126 : Index := Scalar.indexCast v122
  ![0, v126.toNat]
@[reducible] def k0_t2_loop (i : grid0.Coords) : Scf.Loop 32 :=
  let c0_i32_29 : BitVec 32 := 0#32
  let arg2 : BitVec 32 := BitVec.ofNat 32 (i 2).val
  let c1_i32_13 : BitVec 32 := 1#32
  let v35 : BitVec 32 := Scalar.subi arg2 c1_i32_13
  let c0_i32_14 : BitVec 32 := 0#32
  let v36 : BitVec 32 := Scalar.maxsi v35 c0_i32_14
  let c0_i32_23 : BitVec 32 := 0#32
  let v52 : BitVec 1 := Scalar.cmpi .sgt v36 c0_i32_23
  let v53 : BitVec 32 := Scalar.extui v52
  let c0_i32_24 : BitVec 32 := 0#32
  let v54 : BitVec 1 := Scalar.cmpi .slt v36 c0_i32_24
  let v55 : BitVec 32 := Scalar.extui v54
  let v56 : BitVec 32 := Scalar.subi v53 v55
  let c2_i32_22 : BitVec 32 := 2#32
  let c0_i32_25 : BitVec 32 := 0#32
  let v57 : BitVec 1 := Scalar.cmpi .sgt c2_i32_22 c0_i32_25
  let v58 : BitVec 32 := Scalar.extui v57
  let c0_i32_26 : BitVec 32 := 0#32
  let v59 : BitVec 1 := Scalar.cmpi .slt c2_i32_22 c0_i32_26
  let v60 : BitVec 32 := Scalar.extui v59
  let v61 : BitVec 32 := Scalar.subi v58 v60
  let v62 : BitVec 1 := Scalar.cmpi .ne v56 v61
  let v63 : BitVec 32 := Scalar.remsi v36 c2_i32_22
  let c0_i32_27 : BitVec 32 := 0#32
  let v64 : BitVec 1 := Scalar.cmpi .ne v63 c0_i32_27
  let v65 : BitVec 1 := Scalar.andi v62 v64
  let v51 : BitVec 32 := Scalar.divsi v36 c2_i32_22
  let c1_i32_28 : BitVec 32 := 1#32
  let v66 : BitVec 32 := Scalar.subi v51 c1_i32_28
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let v69 : BitVec 32 := Scalar.addi c0_i32_29 v68
  let c1_i32_32 : BitVec 32 := 1#32
  ⟨v72, v69, c1_i32_32⟩
def k0_mult4 (i : grid0.Coords) (k0_t2 : Fin (k0_t2_loop i).trips) : BitVec 32 :=
  let c0_i32_29 : BitVec 32 := 0#32
  let arg2 : BitVec 32 := BitVec.ofNat 32 (i 2).val
  let c1_i32_13 : BitVec 32 := 1#32
  let v35 : BitVec 32 := Scalar.subi arg2 c1_i32_13
  let c0_i32_14 : BitVec 32 := 0#32
  let v36 : BitVec 32 := Scalar.maxsi v35 c0_i32_14
  let c0_i32_23 : BitVec 32 := 0#32
  let v52 : BitVec 1 := Scalar.cmpi .sgt v36 c0_i32_23
  let v53 : BitVec 32 := Scalar.extui v52
  let c0_i32_24 : BitVec 32 := 0#32
  let v54 : BitVec 1 := Scalar.cmpi .slt v36 c0_i32_24
  let v55 : BitVec 32 := Scalar.extui v54
  let v56 : BitVec 32 := Scalar.subi v53 v55
  let c2_i32_22 : BitVec 32 := 2#32
  let c0_i32_25 : BitVec 32 := 0#32
  let v57 : BitVec 1 := Scalar.cmpi .sgt c2_i32_22 c0_i32_25
  let v58 : BitVec 32 := Scalar.extui v57
  let c0_i32_26 : BitVec 32 := 0#32
  let v59 : BitVec 1 := Scalar.cmpi .slt c2_i32_22 c0_i32_26
  let v60 : BitVec 32 := Scalar.extui v59
  let v61 : BitVec 32 := Scalar.subi v58 v60
  let v62 : BitVec 1 := Scalar.cmpi .ne v56 v61
  let v63 : BitVec 32 := Scalar.remsi v36 c2_i32_22
  let c0_i32_27 : BitVec 32 := 0#32
  let v64 : BitVec 1 := Scalar.cmpi .ne v63 c0_i32_27
  let v65 : BitVec 1 := Scalar.andi v62 v64
  let v51 : BitVec 32 := Scalar.divsi v36 c2_i32_22
  let c1_i32_28 : BitVec 32 := 1#32
  let v66 : BitVec 32 := Scalar.subi v51 c1_i32_28
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_32 : BitVec 32 := 1#32
  let arg10 : BitVec 32 := Scf.iv v72 c1_i32_32 k0_t2
  let c2_i32_47 : BitVec 32 := 2#32
  let v120 : BitVec 32 := Scalar.muli arg10 c2_i32_47
  let c256_i32_48 : BitVec 32 := 256#32
  let v121 : BitVec 32 := Scalar.muli v120 c256_i32_48
  v121
def k0_off8 (i : grid0.Coords) (k0_t2 : Fin (k0_t2_loop i).trips) : Fin 3 → Nat :=
  let c0_49 : Index := 0#32
  let c0_i32_29 : BitVec 32 := 0#32
  let arg2 : BitVec 32 := BitVec.ofNat 32 (i 2).val
  let c1_i32_13 : BitVec 32 := 1#32
  let v35 : BitVec 32 := Scalar.subi arg2 c1_i32_13
  let c0_i32_14 : BitVec 32 := 0#32
  let v36 : BitVec 32 := Scalar.maxsi v35 c0_i32_14
  let c0_i32_23 : BitVec 32 := 0#32
  let v52 : BitVec 1 := Scalar.cmpi .sgt v36 c0_i32_23
  let v53 : BitVec 32 := Scalar.extui v52
  let c0_i32_24 : BitVec 32 := 0#32
  let v54 : BitVec 1 := Scalar.cmpi .slt v36 c0_i32_24
  let v55 : BitVec 32 := Scalar.extui v54
  let v56 : BitVec 32 := Scalar.subi v53 v55
  let c2_i32_22 : BitVec 32 := 2#32
  let c0_i32_25 : BitVec 32 := 0#32
  let v57 : BitVec 1 := Scalar.cmpi .sgt c2_i32_22 c0_i32_25
  let v58 : BitVec 32 := Scalar.extui v57
  let c0_i32_26 : BitVec 32 := 0#32
  let v59 : BitVec 1 := Scalar.cmpi .slt c2_i32_22 c0_i32_26
  let v60 : BitVec 32 := Scalar.extui v59
  let v61 : BitVec 32 := Scalar.subi v58 v60
  let v62 : BitVec 1 := Scalar.cmpi .ne v56 v61
  let v63 : BitVec 32 := Scalar.remsi v36 c2_i32_22
  let c0_i32_27 : BitVec 32 := 0#32
  let v64 : BitVec 1 := Scalar.cmpi .ne v63 c0_i32_27
  let v65 : BitVec 1 := Scalar.andi v62 v64
  let v51 : BitVec 32 := Scalar.divsi v36 c2_i32_22
  let c1_i32_28 : BitVec 32 := 1#32
  let v66 : BitVec 32 := Scalar.subi v51 c1_i32_28
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_32 : BitVec 32 := 1#32
  let arg10 : BitVec 32 := Scf.iv v72 c1_i32_32 k0_t2
  let c2_i32_47 : BitVec 32 := 2#32
  let v120 : BitVec 32 := Scalar.muli arg10 c2_i32_47
  let c256_i32_48 : BitVec 32 := 256#32
  let v121 : BitVec 32 := Scalar.muli v120 c256_i32_48
  let v122 : BitVec 32 := v121
  let v123 : Index := Scalar.indexCast v122
  let c0_50 : Index := 0#32
  ![0, v123.toNat, 0]
def k0_off9 (i : grid0.Coords) (k0_t2 : Fin (k0_t2_loop i).trips) : Fin 2 → Nat :=
  let c0_51 : Index := 0#32
  let c0_i32_29 : BitVec 32 := 0#32
  let arg2 : BitVec 32 := BitVec.ofNat 32 (i 2).val
  let c1_i32_13 : BitVec 32 := 1#32
  let v35 : BitVec 32 := Scalar.subi arg2 c1_i32_13
  let c0_i32_14 : BitVec 32 := 0#32
  let v36 : BitVec 32 := Scalar.maxsi v35 c0_i32_14
  let c0_i32_23 : BitVec 32 := 0#32
  let v52 : BitVec 1 := Scalar.cmpi .sgt v36 c0_i32_23
  let v53 : BitVec 32 := Scalar.extui v52
  let c0_i32_24 : BitVec 32 := 0#32
  let v54 : BitVec 1 := Scalar.cmpi .slt v36 c0_i32_24
  let v55 : BitVec 32 := Scalar.extui v54
  let v56 : BitVec 32 := Scalar.subi v53 v55
  let c2_i32_22 : BitVec 32 := 2#32
  let c0_i32_25 : BitVec 32 := 0#32
  let v57 : BitVec 1 := Scalar.cmpi .sgt c2_i32_22 c0_i32_25
  let v58 : BitVec 32 := Scalar.extui v57
  let c0_i32_26 : BitVec 32 := 0#32
  let v59 : BitVec 1 := Scalar.cmpi .slt c2_i32_22 c0_i32_26
  let v60 : BitVec 32 := Scalar.extui v59
  let v61 : BitVec 32 := Scalar.subi v58 v60
  let v62 : BitVec 1 := Scalar.cmpi .ne v56 v61
  let v63 : BitVec 32 := Scalar.remsi v36 c2_i32_22
  let c0_i32_27 : BitVec 32 := 0#32
  let v64 : BitVec 1 := Scalar.cmpi .ne v63 c0_i32_27
  let v65 : BitVec 1 := Scalar.andi v62 v64
  let v51 : BitVec 32 := Scalar.divsi v36 c2_i32_22
  let c1_i32_28 : BitVec 32 := 1#32
  let v66 : BitVec 32 := Scalar.subi v51 c1_i32_28
  let v67 : BitVec 32 := Scalar.select v65 v66 v51
  let v68 : BitVec 32 := Scalar.subi v67 c0_i32_29
  let c1_i32_30 : BitVec 32 := 1#32
  let v70 : BitVec 32 := Scalar.divsi v68 c1_i32_30
  let v71 : BitVec 32 := Scalar.muli v70 c1_i32_30
  let v72 : BitVec 32 := Scalar.addi c0_i32_29 v71
  let c1_i32_32 : BitVec 32 := 1#32
  let arg10 : BitVec 32 := Scf.iv v72 c1_i32_32 k0_t2
  let c2_i32_47 : BitVec 32 := 2#32
  let v120 : BitVec 32 := Scalar.muli arg10 c2_i32_47
  let c256_i32_48 : BitVec 32 := 256#32
  let v121 : BitVec 32 := Scalar.muli v120 c256_i32_48
  let v122 : BitVec 32 := v121
  let v126 : Index := Scalar.indexCast v122
  ![0, v126.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S16x2048x512 : Shape := ⟨3, ![16, 2048, 512]⟩
abbrev S32x12 : Shape := ⟨2, ![32, 12]⟩
abbrev S1x64 : Shape := ⟨2, ![1, 64]⟩
abbrev S1x128 : Shape := ⟨2, ![1, 128]⟩
abbrev S16x2048x4x2x64 : Shape := ⟨5, ![16, 2048, 4, 2, 64]⟩
abbrev S16x2048x4x128 : Shape := ⟨4, ![16, 2048, 4, 128]⟩
abbrev S32x4 : Shape := ⟨2, ![32, 4]⟩
abbrev S64 : Shape := ⟨1, ![64]⟩
abbrev S128 : Shape := ⟨1, ![128]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x4 : Shape := ⟨3, ![2048, 2048, 4]⟩
abbrev S4x2048x2048 : Shape := ⟨3, ![4, 2048, 2048]⟩
abbrev S16x4x2x2048x2048 : Shape := ⟨5, ![16, 4, 2, 2048, 2048]⟩
abbrev S1x4x1x2048x2048 : Shape := ⟨5, ![1, 4, 1, 2048, 2048]⟩
abbrev S1x1x1x2048x2048 : Shape := ⟨5, ![1, 1, 1, 2048, 2048]⟩
abbrev S16x4x2x2048 : Shape := ⟨4, ![16, 4, 2, 2048]⟩
abbrev S16x4x2x2048x1 : Shape := ⟨5, ![16, 4, 2, 2048, 1]⟩
abbrev S16x4x1x2048x2048 : Shape := ⟨5, ![16, 4, 1, 2048, 2048]⟩
abbrev S16x4x2048x2048 : Shape := ⟨4, ![16, 4, 2048, 2048]⟩
abbrev S16x4x128x2048 : Shape := ⟨4, ![16, 4, 128, 2048]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩

abbrev nBuf : Space → Nat
  | .hbm => 134
  | .vmem => 0
  | .smem => 0
  | _ => 0

abbrev hbmTy0_0 (i : Nat) : BufTy := match i % 128 with
  | 0 => ⟨S16x2048x512, .f32⟩
  | 1 => ⟨S16x2048x512, .f32⟩
  | 2 => ⟨S16x2048x512, .f32⟩
  | 3 => ⟨S32x12, .f32⟩
  | 4 => ⟨S1x64, .f32⟩
  | 5 => ⟨S1x64, .f32⟩
  | 6 => ⟨S1x64, .f32⟩
  | 7 => ⟨S1x64, .f32⟩
  | 8 => ⟨S1x128, .f32⟩
  | 9 => ⟨S16x2048x4x2x64, .f32⟩
  | 10 => ⟨S16x2048x4x2x64, .f32⟩
  | 11 => ⟨S16x2048x4x128, .f32⟩
  | 12 => ⟨S32x4, .f32⟩
  | 13 => ⟨S64, .f32⟩
  | 14 => ⟨S64, .f32⟩
  | 15 => ⟨S64, .f32⟩
  | 16 => ⟨S64, .f32⟩
  | 17 => ⟨S128, .f32⟩
  | 18 => ⟨S64, .f32⟩
  | 19 => ⟨S_, .f32⟩
  | 20 => ⟨S_, .f32⟩
  | 21 => ⟨S_, .f32⟩
  | 22 => ⟨S64, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S2048, .i32⟩
  | 30 => ⟨S2048x1, .i32⟩
  | 31 => ⟨S1x2048, .i32⟩
  | 32 => ⟨S2048x2048, .i32⟩
  | 33 => ⟨S2048x2048, .i32⟩
  | 34 => ⟨S2048x2048, .i32⟩
  | 35 => ⟨S_, .i32⟩
  | 36 => ⟨S2048x2048, .i32⟩
  | 37 => ⟨S2048x2048, .i32⟩
  | 38 => ⟨S_, .i32⟩
  | 39 => ⟨S2048x2048, .i32⟩
  | 40 => ⟨S2048x2048, .i32⟩
  | 41 => ⟨S2048x2048, .f32⟩
  | 42 => ⟨S_, .f32⟩
  | 43 => ⟨S2048x2048, .f32⟩
  | 44 => ⟨S2048x2048, .f32⟩
  | 45 => ⟨S2048x2048, .f32⟩
  | 46 => ⟨S_, .f32⟩
  | 47 => ⟨S_, .f32⟩
  | 48 => ⟨S2048x2048, .f32⟩
  | 49 => ⟨S2048x2048, .f32⟩
  | 50 => ⟨S_, .f32⟩
  | 51 => ⟨S2048x2048, .f32⟩
  | 52 => ⟨S2048x2048, .f32⟩
  | 53 => ⟨S2048x2048, .i32⟩
  | 54 => ⟨S_, .i32⟩
  | 55 => ⟨S2048x2048, .i32⟩
  | 56 => ⟨S2048x2048, .i32⟩
  | 57 => ⟨S_, .i32⟩
  | 58 => ⟨S2048x2048, .i32⟩
  | 59 => ⟨S2048x2048, .i32⟩
  | 60 => ⟨S_, .i32⟩
  | 61 => ⟨S2048x2048, .i32⟩
  | 62 => ⟨S2048x2048, .i1⟩
  | 63 => ⟨S2048x2048, .i32⟩
  | 64 => ⟨S_, .i32⟩
  | 65 => ⟨S2048x2048, .i32⟩
  | 66 => ⟨S2048x2048, .i1⟩
  | 67 => ⟨S_, .i32⟩
  | 68 => ⟨S2048x2048, .i32⟩
  | 69 => ⟨S2048x2048, .i32⟩
  | 70 => ⟨S2048x2048, .i32⟩
  | 71 => ⟨S2048x2048x1, .i32⟩
  | 72 => ⟨S2048x2048x4, .f32⟩
  | 73 => ⟨S4x2048x2048, .f32⟩
  | 74 => ⟨S16x4x2x2048x2048, .f32⟩
  | 75 => ⟨S_, .f32⟩
  | 76 => ⟨S16x4x2x2048x2048, .f32⟩
  | 77 => ⟨S16x4x2x2048x2048, .f32⟩
  | 78 => ⟨S1x4x1x2048x2048, .f32⟩
  | 79 => ⟨S16x4x2x2048x2048, .f32⟩
  | 80 => ⟨S16x4x2x2048x2048, .f32⟩
  | 81 => ⟨S_, .i32⟩
  | 82 => ⟨S2048x2048, .i32⟩
  | 83 => ⟨S2048x2048, .i1⟩
  | 84 => ⟨S1x1x1x2048x2048, .i1⟩
  | 85 => ⟨S_, .f32⟩
  | 86 => ⟨S_, .f32⟩
  | 87 => ⟨S16x4x2x2048x2048, .i1⟩
  | 88 => ⟨S16x4x2x2048x2048, .f32⟩
  | 89 => ⟨S16x4x2x2048x2048, .f32⟩
  | 90 => ⟨S_, .f32⟩
  | 91 => ⟨S16x4x2x2048, .f32⟩
  | 92 => ⟨S_, .f32⟩
  | 93 => ⟨S16x4x2x2048, .f32⟩
  | 94 => ⟨S16x4x2x2048, .f32⟩
  | 95 => ⟨S16x4x2x2048x1, .f32⟩
  | 96 => ⟨S16x4x2x2048x2048, .f32⟩
  | 97 => ⟨S16x4x2x2048x2048, .f32⟩
  | 98 => ⟨S16x4x2x2048x2048, .f32⟩
  | 99 => ⟨S_, .f32⟩
  | 100 => ⟨S16x4x2x2048, .f32⟩
  | 101 => ⟨S16x4x2x2048x1, .f32⟩
  | 102 => ⟨S16x4x2x2048x2048, .f32⟩
  | 103 => ⟨S16x4x2x2048x2048, .f32⟩
  | 104 => ⟨S16x4x1x2048x2048, .f32⟩
  | 105 => ⟨S16x4x2048x2048, .f32⟩
  | 106 => ⟨S16x4x1x2048x2048, .f32⟩
  | 107 => ⟨S16x4x2048x2048, .f32⟩
  | 108 => ⟨S16x4x2048x2048, .f32⟩
  | 109 => ⟨S16x4x2048x2048, .f32⟩
  | 110 => ⟨S16x4x2048x2048, .f32⟩
  | 111 => ⟨S16x4x128x2048, .f32⟩
  | 112 => ⟨S16x2048x4x128, .f32⟩
  | 113 => ⟨S16x2048x4x128, .f32⟩
  | 114 => ⟨S_, .f32⟩
  | 115 => ⟨S16x2048x4, .f32⟩
  | 116 => ⟨S16x2048x4x1, .f32⟩
  | 117 => ⟨S_, .f32⟩
  | 118 => ⟨S16x2048x4x1, .f32⟩
  | 119 => ⟨S16x2048x4x1, .f32⟩
  | 120 => ⟨S_, .f32⟩
  | 121 => ⟨S16x2048x4x1, .f32⟩
  | 122 => ⟨S16x2048x4x1, .f32⟩
  | 123 => ⟨S16x2048x4x1, .f32⟩
  | 124 => ⟨S16x2048x4x128, .f32⟩
  | 125 => ⟨S16x2048x4x128, .f32⟩
  | 126 => ⟨S1x1x1x128, .f32⟩
  | 127 => ⟨S16x2048x4x128, .f32⟩
  | _ => ⟨S16x2048x512, .f32⟩

abbrev hbmTy0_1 (i : Nat) : BufTy := match i % 128 with
  | 0 => ⟨S16x2048x4x128, .f32⟩
  | 1 => ⟨S_, .f32⟩
  | 2 => ⟨S16x2048x4x128, .f32⟩
  | 3 => ⟨S16x2048x4x128, .f32⟩
  | 4 => ⟨S16x2048x512, .f32⟩
  | 5 => ⟨S16x2048x512, .bf16⟩
  | _ => ⟨S16x2048x512, .f32⟩

abbrev hbmTy (i : Nat) : BufTy := match i / 128 with
  | 0 => hbmTy0_0 i
  | 1 => hbmTy0_1 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v61 : Ref sig .tc := ⟨.hbm, 89, rfl⟩
abbrev main_cst_14 : Ref sig .tc := ⟨.hbm, 90, rfl⟩
abbrev main_v62 : Ref sig .tc := ⟨.hbm, 91, rfl⟩
abbrev main_cst_15 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_17 : Ref sig .tc := ⟨.hbm, 114, rfl⟩
abbrev main_v83 : Ref sig .tc := ⟨.hbm, 115, rfl⟩
abbrev main_v84 : Ref sig .tc := ⟨.hbm, 116, rfl⟩
abbrev main_cst_18 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_20 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]
-- ==== InProj.lean ====
abbrev S16x2048x1024 : Shape := ⟨3, ![16, 2048, 1024]⟩
abbrev S1x1024x2840 : Shape := ⟨3, ![1, 1024, 2840]⟩
abbrev S1x1024 : Shape := ⟨2, ![1, 1024]⟩
abbrev S32768x1024 : Shape := ⟨2, ![32768, 1024]⟩
abbrev S1024 : Shape := ⟨1, ![1024]⟩
abbrev S1024x2840 : Shape := ⟨2, ![1024, 2840]⟩
abbrev S1024x24 : Shape := ⟨2, ![1024, 24]⟩
abbrev S_ : Shape := ⟨0, ![]⟩
abbrev S1024x128 : Shape := ⟨2, ![1024, 128]⟩
abbrev S1024x512 : Shape := ⟨2, ![1024, 512]⟩
abbrev S1024x64 : Shape := ⟨2, ![1024, 64]⟩
abbrev S1024x256 : Shape := ⟨2, ![1024, 256]⟩
abbrev S1024x2432 : Shape := ⟨2, ![1024, 2432]⟩
abbrev S1024x1024 : Shape := ⟨2, ![1024, 1024]⟩
abbrev S32768x512 : Shape := ⟨2, ![32768, 512]⟩
abbrev S32768x256 : Shape := ⟨2, ![32768, 256]⟩
abbrev S32768x128 : Shape := ⟨2, ![32768, 128]⟩
abbrev S512x32768 : Shape := ⟨2, ![512, 32768]⟩
abbrev S256x32768 : Shape := ⟨2, ![256, 32768]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S256x512 : Shape := ⟨2, ![256, 512]⟩
abbrev S512 : Shape := ⟨1, ![512]⟩
abbrev S512x1 : Shape := ⟨2, ![512, 1]⟩
abbrev S256x1024 : Shape := ⟨2, ![256, 1024]⟩

abbrev nBuf : Space → Nat
  | .hbm => 62
  | .vmem => 25
  | .smem => 0
  | _ => 0

abbrev bufTy : (tb : Table) → Fin (tcTables nBuf tb) → BufTy
  | .hbm, ⟨0, _⟩ => ⟨S16x2048x1024, .f32⟩
  | .hbm, ⟨1, _⟩ => ⟨S1x1024x2840, .f32⟩
  | .hbm, ⟨2, _⟩ => ⟨S1x1024, .f32⟩
  | .hbm, ⟨3, _⟩ => ⟨S32768x1024, .f32⟩
  | .hbm, ⟨4, _⟩ => ⟨S1024, .f32⟩
  | .hbm, ⟨5, _⟩ => ⟨S1024x2840, .f32⟩
  | .hbm, ⟨6, _⟩ => ⟨S1024x24, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S1024x128, .f32⟩
  | .hbm, ⟨20, _⟩ => ⟨S1024x128, .f32⟩
  | .hbm, ⟨21, _⟩ => ⟨S1024x128, .f32⟩
  | .hbm, ⟨22, _⟩ => ⟨S1024x64, .f32⟩
  | .hbm, ⟨23, _⟩ => ⟨S1024x64, .f32⟩
  | .hbm, ⟨24, _⟩ => ⟨S1024x64, .f32⟩
  | .hbm, ⟨25, _⟩ => ⟨S1024x64, .f32⟩
  | .hbm, ⟨26, _⟩ => ⟨S1024x256, .f32⟩
  | .hbm, ⟨27, _⟩ => ⟨S1024x128, .f32⟩
  | .hbm, ⟨28, _⟩ => ⟨S1024x64, .f32⟩
  | .hbm, ⟨29, _⟩ => ⟨S1024x64, .f32⟩
  | .hbm, ⟨30, _⟩ => ⟨S1024x64, .f32⟩
  | .hbm, ⟨31, _⟩ => ⟨S1024x64, .f32⟩
  | .hbm, ⟨32, _⟩ => ⟨S1024x256, .f32⟩
  | .hbm, ⟨33, _⟩ => ⟨S1024x512, .f32⟩
  | .hbm, ⟨34, _⟩ => ⟨S1024x128, .f32⟩
  | .hbm, ⟨35, _⟩ => ⟨S1024x64, .f32⟩
  | .hbm, ⟨36, _⟩ => ⟨S1024x64, .f32⟩
  | .hbm, ⟨37, _⟩ => ⟨S1024x64, .f32⟩
  | .hbm, ⟨38, _⟩ => ⟨S1024x64, .f32⟩
  | .hbm, ⟨39, _⟩ => ⟨S1024x256, .f32⟩
  | .hbm, ⟨40, _⟩ => ⟨S1024x128, .f32⟩
  | .hbm, ⟨41, _⟩ => ⟨S1024x64, .f32⟩
  | .hbm, ⟨42, _⟩ => ⟨S1024x64, .f32⟩
  | .hbm, ⟨43, _⟩ => ⟨S1024x64, .f32⟩
  | .hbm, ⟨44, _⟩ => ⟨S1024x64, .f32⟩
  | .hbm, ⟨45, _⟩ => ⟨S1024x256, .f32⟩
  | .hbm, ⟨46, _⟩ => ⟨S1024x2432, .f32⟩
  | .hbm, ⟨47, _⟩ => ⟨S1024x2432, .bf16⟩
  | .hbm, ⟨48, _⟩ => ⟨S1024x1024, .f32⟩
  | .hbm, ⟨49, _⟩ => ⟨S1024x1024, .f32⟩
  | .hbm, ⟨50, _⟩ => ⟨S1024x1024, .bf16⟩
  | .hbm, ⟨51, _⟩ => ⟨S1x1024, .f32⟩
  | .hbm, ⟨52, _⟩ => ⟨S32768x512, .bf16⟩
  | .hbm, ⟨53, _⟩ => ⟨S32768x512, .bf16⟩
  | .hbm, ⟨54, _⟩ => ⟨S32768x512, .bf16⟩
  | .hbm, ⟨55, _⟩ => ⟨S32768x256, .f32⟩
  | .hbm, ⟨56, _⟩ => ⟨S32768x256, .bf16⟩
  | .hbm, ⟨57, _⟩ => ⟨S32768x256, .bf16⟩
  | .hbm, ⟨58, _⟩ => ⟨S32768x128, .f32⟩
  | .hbm, ⟨59, _⟩ => ⟨S512x32768, .bf16⟩
  | .hbm, ⟨60, _⟩ => ⟨S256x32768, .bf16⟩
  | .hbm, ⟨61, _⟩ => ⟨S256x32768, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S1024x1024, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x256, .f32⟩
  | .local _ .vmem, ⟨12, _⟩ => ⟨S512x256, .f32⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x128, .f32⟩
  | .local _ .vmem, ⟨18, _⟩ => ⟨S512x128, .f32⟩
  | .local _ .vmem, ⟨19, _⟩ => ⟨S512x512, .bf16⟩
  | .local _ .vmem, ⟨20, _⟩ => ⟨S512x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45_0 : Ref sig .tc := ⟨.hbm, 52, rfl⟩
abbrev main_v45_1 : Ref sig .tc := ⟨.hbm, 53, rfl⟩
abbrev main_v45_2 : Ref sig .tc := ⟨.hbm, 54, rfl⟩
abbrev main_v45_3 : Ref sig .tc := ⟨.hbm, 55, rfl⟩
abbrev main_v45_4 : Ref sig .tc := ⟨.hbm, 56, rfl⟩
abbrev main_v45_5 : Ref sig .tc := ⟨.hbm, 57, rfl⟩
abbrev main_v45_6 : Ref sig .tc := ⟨.hbm, 58, rfl⟩
abbrev main_v45_7 : Ref sig .tc := ⟨.hbm, 59, rfl⟩
abbrev main_v45_8 : Ref sig .tc := ⟨.hbm, 60, rfl⟩
abbrev main_v45_9 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InReferenceIdeal.lean ====
abbrev S16x2048x1024 : Shape := ⟨3, ![16, 2048, 1024]⟩
abbrev S1x1024x2840 : Shape := ⟨3, ![1, 1024, 2840]⟩
abbrev S1x1024 : Shape := ⟨2, ![1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x2840 : Shape := ⟨2, ![1024, 2840]⟩
abbrev S16x2048x2840 : Shape := ⟨3, ![16, 2048, 2840]⟩
abbrev S32768x2840 : Shape := ⟨2, ![32768, 2840]⟩
abbrev S32768x512 : Shape := ⟨2, ![32768, 512]⟩
abbrev S32768x128 : Shape := ⟨2, ![32768, 128]⟩
abbrev S32768x24 : Shape := ⟨2, ![32768, 24]⟩
abbrev S32768x256 : Shape := ⟨2, ![32768, 256]⟩
abbrev S32768x2x64 : Shape := ⟨3, ![32768, 2, 64]⟩
abbrev S32768x2x2x64 : Shape := ⟨4, ![32768, 2, 2, 64]⟩
abbrev S32768x4x64 : Shape := ⟨3, ![32768, 4, 64]⟩
abbrev S512x32768 : Shape := ⟨2, ![512, 32768]⟩
abbrev S256x32768 : Shape := ⟨2, ![256, 32768]⟩

abbrev nBuf : Space → Nat
  | .hbm => 71
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1x1024x2840, .f32⟩
  | .hbm, ⟨2, _⟩ => ⟨S1x1024, .f32⟩
  | .hbm, ⟨3, _⟩ => ⟨S1024, .f32⟩
  | .hbm, ⟨4, _⟩ => ⟨S16x2048x1024, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x1024, .f32⟩
  | .hbm, ⟨16, _⟩ => ⟨S16x2048x1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S1024x2840, .f32⟩
  | .hbm, ⟨21, _⟩ => ⟨S16x2048x2840, .f32⟩
  | .hbm, ⟨22, _⟩ => ⟨S32768x2840, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x128, .f32⟩
  | .hbm, ⟨28, _⟩ => ⟨S32768x128, .f32⟩
  | .hbm, ⟨29, _⟩ => ⟨S32768x128, .f32⟩
  | .hbm, ⟨30, _⟩ => ⟨S32768x128, .f32⟩
  | .hbm, ⟨31, _⟩ => ⟨S32768x128, .f32⟩
  | .hbm, ⟨32, _⟩ => ⟨S32768x128, .f32⟩
  | .hbm, ⟨33, _⟩ => ⟨S32768x24, .f32⟩
  | .hbm, ⟨34, _⟩ => ⟨S_, .f32⟩
  | .hbm, ⟨35, _⟩ => ⟨S32768x512, .f32⟩
  | .hbm, ⟨36, _⟩ => ⟨S32768x512, .f32⟩
  | .hbm, ⟨37, _⟩ => ⟨S32768x512, .bf16⟩
  | .hbm, ⟨38, _⟩ => ⟨S32768x512, .bf16⟩
  | .hbm, ⟨39, _⟩ => ⟨S_, .f32⟩
  | .hbm, ⟨40, _⟩ => ⟨S32768x512, .f32⟩
  | .hbm, ⟨41, _⟩ => ⟨S32768x512, .f32⟩
  | .hbm, ⟨42, _⟩ => ⟨S32768x512, .bf16⟩
  | .hbm, ⟨43, _⟩ => ⟨S32768x256, .f32⟩
  | .hbm, ⟨44, _⟩ => ⟨S32768x2x64, .f32⟩
  | .hbm, ⟨45, _⟩ => ⟨S32768x2x2x64, .f32⟩
  | .hbm, ⟨46, _⟩ => ⟨S32768x4x64, .f32⟩
  | .hbm, ⟨47, _⟩ => ⟨S32768x256, .f32⟩
  | .hbm, ⟨48, _⟩ => ⟨S32768x256, .bf16⟩
  | .hbm, ⟨49, _⟩ => ⟨S32768x2x64, .f32⟩
  | .hbm, ⟨50, _⟩ => ⟨S32768x2x2x64, .f32⟩
  | .hbm, ⟨51, _⟩ => ⟨S32768x4x64, .f32⟩
  | .hbm, ⟨52, _⟩ => ⟨S32768x256, .f32⟩
  | .hbm, ⟨53, _⟩ => ⟨S32768x256, .bf16⟩
  | .hbm, ⟨54, _⟩ => ⟨S_, .i32⟩
  | .hbm, ⟨55, _⟩ => ⟨S_, .f32⟩
  | .hbm, ⟨56, _⟩ => ⟨S32768x128, .f32⟩
  | .hbm, ⟨57, _⟩ => ⟨S512x32768, .f32⟩
  | .hbm, ⟨58, _⟩ => ⟨S512x32768, .bf16⟩
  | .hbm, ⟨59, _⟩ => ⟨S32768x2x64, .f32⟩
  | .hbm, ⟨60, _⟩ => ⟨S32768x2x2x64, .f32⟩
  | .hbm, ⟨61, _⟩ => ⟨S32768x4x64, .f32⟩
  | .hbm, ⟨62, _⟩ => ⟨S32768x256, .f32⟩
  | .hbm, ⟨63, _⟩ => ⟨S256x32768, .f32⟩
  | .hbm, ⟨64, _⟩ => ⟨S256x32768, .bf16⟩
  | .hbm, ⟨65, _⟩ => ⟨S32768x2x64, .f32⟩
  | .hbm, ⟨66, _⟩ => ⟨S32768x2x2x64, .f32⟩
  | .hbm, ⟨67, _⟩ => ⟨S32768x4x64, .f32⟩
  | .hbm, ⟨68, _⟩ => ⟨S32768x256, .f32⟩
  | .hbm, ⟨69, _⟩ => ⟨S256x32768, .f32⟩
  | .hbm, ⟨70, _⟩ => ⟨S256x32768, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_c : Ref sig .tc := ⟨.hbm, 54, rfl⟩
abbrev main_call0_v0 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩

abbrev nD : Nat := 1
abbrev τ : Topo := Topo.v7x

variable {F : FTy → Type} [FloatOps F]
-- ==== MixOut.lean ====
abbrev S16x2048x1024 : Shape := ⟨3, ![16, 2048, 1024]⟩
abbrev S16x2048x512 : Shape := ⟨3, ![16, 2048, 512]⟩
abbrev S16x2048x24 : Shape := ⟨3, ![16, 2048, 24]⟩
abbrev S1x1024x1024 : Shape := ⟨3, ![1, 1024, 1024]⟩
abbrev S1x1024 : Shape := ⟨2, ![1, 1024]⟩
abbrev S1x1024x2048 : Shape := ⟨3, ![1, 1024, 2048]⟩
abbrev S32768x24 : Shape := ⟨2, ![32768, 24]⟩
abbrev S_ : Shape := ⟨0, ![]⟩
abbrev S32768x128 : Shape := ⟨2, ![32768, 128]⟩
abbrev S32768x1024 : Shape := ⟨2, ![32768, 1024]⟩
abbrev S32768x512 : Shape := ⟨2, ![32768, 512]⟩
abbrev S3 : Shape := ⟨1, ![3]⟩
abbrev S3x1x1x1 : Shape := ⟨4, ![3, 1, 1, 1]⟩
abbrev S128 : Shape := ⟨1, ![128]⟩
abbrev S1x128x1x1 : Shape := ⟨4, ![1, 128, 1, 1]⟩
abbrev S8 : Shape := ⟨1, ![8]⟩
abbrev S1x1x8x1 : Shape := ⟨4, ![1, 1, 8, 1]⟩
abbrev S3x1x8x1 : Shape := ⟨4, ![3, 1, 8, 1]⟩
abbrev S3x128x8x1 : Shape := ⟨4, ![3, 128, 8, 1]⟩
abbrev S3x128x8x64 : Shape := ⟨4, ![3, 128, 8, 64]⟩
abbrev S3x128x512 : Shape := ⟨3, ![3, 128, 512]⟩
abbrev S1024x1024 : Shape := ⟨2, ![1024, 1024]⟩
abbrev S1024 : Shape := ⟨1, ![1024]⟩
abbrev S1024x2048 : Shape := ⟨2, ![1024, 2048]⟩
abbrev S32768x2048 : Shape := ⟨2, ![32768, 2048]⟩
abbrev S512x1024 : Shape := ⟨2, ![512, 1024]⟩
abbrev S512x512 : Shape := ⟨2, ![512, 512]⟩
abbrev S512x128 : Shape := ⟨2, ![512, 128]⟩
abbrev S512x2048 : Shape := ⟨2, ![512, 2048]⟩
abbrev S1x128x512 : Shape := ⟨3, ![1, 128, 512]⟩
abbrev S128x512 : Shape := ⟨2, ![128, 512]⟩
abbrev S512 : Shape := ⟨1, ![512]⟩
abbrev S512x1 : Shape := ⟨2, ![512, 1]⟩

abbrev nBuf : Space → Nat
  | .hbm => 46
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S16x2048x512, .bf16⟩
  | .hbm, ⟨4, _⟩ => ⟨S16x2048x512, .bf16⟩
  | .hbm, ⟨5, _⟩ => ⟨S16x2048x24, .f32⟩
  | .hbm, ⟨6, _⟩ => ⟨S1x1024x1024, .f32⟩
  | .hbm, ⟨7, _⟩ => ⟨S1x1024, .f32⟩
  | .hbm, ⟨8, _⟩ => ⟨S1x1024x2048, .f32⟩
  | .hbm, ⟨9, _⟩ => ⟨S32768x24, .f32⟩
  | .hbm, ⟨10, _⟩ => ⟨S_, .i32⟩
  | .hbm, ⟨11, _⟩ => ⟨S_, .f32⟩
  | .hbm, ⟨12, _⟩ => ⟨S32768x128, .f32⟩
  | .hbm, ⟨13, _⟩ => ⟨S32768x1024, .f32⟩
  | .hbm, ⟨14, _⟩ => ⟨S32768x512, .bf16⟩
  | .hbm, ⟨15, _⟩ => ⟨S32768x512, .bf16⟩
  | .hbm, ⟨16, _⟩ => ⟨S32768x512, .bf16⟩
  | .hbm, ⟨17, _⟩ => ⟨S32768x512, .bf16⟩
  | .hbm, ⟨18, _⟩ => ⟨S3, .i32⟩
  | .hbm, ⟨19, _⟩ => ⟨S3x1x1x1, .i32⟩
  | .hbm, ⟨20, _⟩ => ⟨S128, .i32⟩
  | .hbm, ⟨21, _⟩ => ⟨S1x128x1x1, .i32⟩
  | .hbm, ⟨22, _⟩ => ⟨S8, .i32⟩
  | .hbm, ⟨23, _⟩ => ⟨S1x1x8x1, .i32⟩
  | .hbm, ⟨24, _⟩ => ⟨S_, .i32⟩
  | .hbm, ⟨25, _⟩ => ⟨S1x1x8x1, .i32⟩
  | .hbm, ⟨26, _⟩ => ⟨S1x1x8x1, .i32⟩
  | .hbm, ⟨27, _⟩ => ⟨S3x1x8x1, .i32⟩
  | .hbm, ⟨28, _⟩ => ⟨S3x1x8x1, .i32⟩
  | .hbm, ⟨29, _⟩ => ⟨S3x1x8x1, .i32⟩
  | .hbm, ⟨30, _⟩ => ⟨S3x128x8x1, .i32⟩
  | .hbm, ⟨31, _⟩ => ⟨S3x128x8x1, .i32⟩
  | .hbm, ⟨32, _⟩ => ⟨S3x128x8x1, .i1⟩
  | .hbm, ⟨33, _⟩ => ⟨S3x128x8x1, .f32⟩
  | .hbm, ⟨34, _⟩ => ⟨S3x128x8x64, .f32⟩
  | .hbm, ⟨35, _⟩ => ⟨S3x128x512, .f32⟩
  | .hbm, ⟨36, _⟩ => ⟨S3x128x512, .bf16⟩
  | .hbm, ⟨37, _⟩ => ⟨S1024x1024, .f32⟩
  | .hbm, ⟨38, _⟩ => ⟨S1024x1024, .bf16⟩
  | .hbm, ⟨39, _⟩ => ⟨S1024, .f32⟩
  | .hbm, ⟨40, _⟩ => ⟨S1024x2048, .f32⟩
  | .hbm, ⟨41, _⟩ => ⟨S1024x2048, .bf16⟩
  | .hbm, ⟨42, _⟩ => ⟨S1x1024, .f32⟩
  | .hbm, ⟨43, _⟩ => ⟨S32768x1024, .f32⟩
  | .hbm, ⟨44, _⟩ => ⟨S32768x1024, .bf16⟩
  | .hbm, ⟨45, _⟩ => ⟨S32768x2048, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x128, .f32⟩
  | .local _ .vmem, ⟨11, _⟩ => ⟨S512x128, .f32⟩
  | .local _ .vmem, ⟨12, _⟩ => ⟨S3x128x512, .bf16⟩
  | .local _ .vmem, ⟨13, _⟩ => ⟨S1024x1024, .bf16⟩
  | .local _ .vmem, ⟨14, _⟩ => ⟨S1x1024, .f32⟩
  | .local _ .vmem, ⟨15, _⟩ => ⟨S1024x2048, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S512x2048, .bf16⟩
  | .local _ .vmem, ⟨21, _⟩ => ⟨S512x2048, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev main_v31_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== OutReferenceIdeal.lean ====
abbrev S16x2048x1024 : Shape := ⟨3, ![16, 2048, 1024]⟩
abbrev S16x2048x512 : Shape := ⟨3, ![16, 2048, 512]⟩
abbrev S16x2048x24 : Shape := ⟨3, ![16, 2048, 24]⟩
abbrev S1x1024x1024 : Shape := ⟨3, ![1, 1024, 1024]⟩
abbrev S1x1024 : Shape := ⟨2, ![1, 1024]⟩
abbrev S1x1024x2048 : Shape := ⟨3, ![1, 1024, 2048]⟩
abbrev S_ : Shape := ⟨0, ![]⟩
abbrev S16x2048x2x4x3 : Shape := ⟨5, ![16, 2048, 2, 4, 3]⟩
abbrev S16x2048x2x4x1 : Shape := ⟨5, ![16, 2048, 2, 4, 1]⟩
abbrev S16x2048x2x4x64 : Shape := ⟨5, ![16, 2048, 2, 4, 64]⟩
abbrev S1024x1024 : Shape := ⟨2, ![1024, 1024]⟩
abbrev S1024 : Shape := ⟨1, ![1024]⟩
abbrev S16x2048 : Shape := ⟨2, ![16, 2048]⟩
abbrev S16x2048x1 : Shape := ⟨3, ![16, 2048, 1]⟩
abbrev S1x1x1024 : Shape := ⟨3, ![1, 1, 1024]⟩
abbrev S1024x2048 : Shape := ⟨2, ![1024, 2048]⟩
abbrev S16x2048x2048 : Shape := ⟨3, ![16, 2048, 2048]⟩
abbrev S32768x1024 : Shape := ⟨2, ![32768, 1024]⟩
abbrev S32768x2048 : Shape := ⟨2, ![32768, 2048]⟩

abbrev nBuf : Space → Nat
  | .hbm => 65
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S16x2048x512, .bf16⟩
  | .hbm, ⟨3, _⟩ => ⟨S16x2048x512, .bf16⟩
  | .hbm, ⟨4, _⟩ => ⟨S16x2048x512, .bf16⟩
  | .hbm, ⟨5, _⟩ => ⟨S16x2048x24, .f32⟩
  | .hbm, ⟨6, _⟩ => ⟨S1x1024x1024, .f32⟩
  | .hbm, ⟨7, _⟩ => ⟨S1x1024, .f32⟩
  | .hbm, ⟨8, _⟩ => ⟨S1x1024x2048, .f32⟩
  | .hbm, ⟨9, _⟩ => ⟨S16x2048x24, .f32⟩
  | .hbm, ⟨10, _⟩ => ⟨S16x2048x24, .f32⟩
  | .hbm, ⟨11, _⟩ => ⟨S_, .f32⟩
  | .hbm, ⟨12, _⟩ => ⟨S16x2048x24, .f32⟩
  | .hbm, ⟨13, _⟩ => ⟨S16x2048x24, .f32⟩
  | .hbm, ⟨14, _⟩ => ⟨S_, .f32⟩
  | .hbm, ⟨15, _⟩ => ⟨S16x2048x24, .f32⟩
  | .hbm, ⟨16, _⟩ => ⟨S16x2048x24, .f32⟩
  | .hbm, ⟨17, _⟩ => ⟨S16x2048x2x4x3, .f32⟩
  | .hbm, ⟨18, _⟩ => ⟨S16x2048x2x4x1, .f32⟩
  | .hbm, ⟨19, _⟩ => ⟨S16x2048x512, .f32⟩
  | .hbm, ⟨20, _⟩ => ⟨S16x2048x2x4x64, .f32⟩
  | .hbm, ⟨21, _⟩ => ⟨S16x2048x2x4x64, .f32⟩
  | .hbm, ⟨22, _⟩ => ⟨S16x2048x2x4x64, .f32⟩
  | .hbm, ⟨23, _⟩ => ⟨S16x2048x2x4x1, .f32⟩
  | .hbm, ⟨24, _⟩ => ⟨S16x2048x512, .f32⟩
  | .hbm, ⟨25, _⟩ => ⟨S16x2048x2x4x64, .f32⟩
  | .hbm, ⟨26, _⟩ => ⟨S16x2048x2x4x64, .f32⟩
  | .hbm, ⟨27, _⟩ => ⟨S16x2048x2x4x64, .f32⟩
  | .hbm, ⟨28, _⟩ => ⟨S16x2048x2x4x64, .f32⟩
  | .hbm, ⟨29, _⟩ => ⟨S16x2048x2x4x1, .f32⟩
  | .hbm, ⟨30, _⟩ => ⟨S16x2048x512, .f32⟩
  | .hbm, ⟨31, _⟩ => ⟨S16x2048x2x4x64, .f32⟩
  | .hbm, ⟨32, _⟩ => ⟨S16x2048x2x4x64, .f32⟩
  | .hbm, ⟨33, _⟩ => ⟨S16x2048x2x4x64, .f32⟩
  | .hbm, ⟨34, _⟩ => ⟨S16x2048x2x4x64, .f32⟩
  | .hbm, ⟨35, _⟩ => ⟨S16x2048x512, .f32⟩
  | .hbm, ⟨36, _⟩ => ⟨S16x2048x512, .f32⟩
  | .hbm, ⟨37, _⟩ => ⟨S16x2048x1024, .f32⟩
  | .hbm, ⟨38, _⟩ => ⟨S1024x1024, .f32⟩
  | .hbm, ⟨39, _⟩ => ⟨S16x2048x1024, .f32⟩
  | .hbm, ⟨40, _⟩ => ⟨S16x2048x1024, .f32⟩
  | .hbm, ⟨41, _⟩ => ⟨S1024, .f32⟩
  | .hbm, ⟨42, _⟩ => ⟨S16x2048x1024, .f32⟩
  | .hbm, ⟨43, _⟩ => ⟨S_, .f32⟩
  | .hbm, ⟨44, _⟩ => ⟨S16x2048, .f32⟩
  | .hbm, ⟨45, _⟩ => ⟨S16x2048x1, .f32⟩
  | .hbm, ⟨46, _⟩ => ⟨S_, .f32⟩
  | .hbm, ⟨47, _⟩ => ⟨S16x2048x1, .f32⟩
  | .hbm, ⟨48, _⟩ => ⟨S16x2048x1, .f32⟩
  | .hbm, ⟨49, _⟩ => ⟨S_, .f32⟩
  | .hbm, ⟨50, _⟩ => ⟨S16x2048x1, .f32⟩
  | .hbm, ⟨51, _⟩ => ⟨S16x2048x1, .f32⟩
  | .hbm, ⟨52, _⟩ => ⟨S16x2048x1, .f32⟩
  | .hbm, ⟨53, _⟩ => ⟨S16x2048x1024, .f32⟩
  | .hbm, ⟨54, _⟩ => ⟨S16x2048x1024, .f32⟩
  | .hbm, ⟨55, _⟩ => ⟨S1x1x1024, .f32⟩
  | .hbm, ⟨56, _⟩ => ⟨S16x2048x1024, .f32⟩
  | .hbm, ⟨57, _⟩ => ⟨S16x2048x1024, .f32⟩
  | .hbm, ⟨58, _⟩ => ⟨S1024x2048, .f32⟩
  | .hbm, ⟨59, _⟩ => ⟨S16x2048x2048, .f32⟩
  | .hbm, ⟨60, _⟩ => ⟨S32768x1024, .f32⟩
  | .hbm, ⟨61, _⟩ => ⟨S32768x1024, .f32⟩
  | .hbm, ⟨62, _⟩ => ⟨S32768x1024, .bf16⟩
  | .hbm, ⟨63, _⟩ => ⟨S32768x2048, .f32⟩
  | .hbm, ⟨64, _⟩ => ⟨S32768x2048, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_1 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== FinalNorm.lean ====
abbrev S16x2048x1024 : Shape := ⟨3, ![16, 2048, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024, .f32⟩
  | .hbm, ⟨3, _⟩ => ⟨S32768x1024, .f32⟩
  | .hbm, ⟨4, _⟩ => ⟨S32768x1024, .f32⟩
  | .hbm, ⟨5, _⟩ => ⟨S1x1024, .f32⟩
  | .hbm, ⟨6, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FinalReferenceIdeal.lean ====
abbrev S16x2048x1024 : Shape := ⟨3, ![16, 2048, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S32768x1024 : Shape := ⟨2, ![32768, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024, .f32⟩
  | .hbm, ⟨3, _⟩ => ⟨S16x2048x1024, .f32⟩
  | .hbm, ⟨4, _⟩ => ⟨S16x2048x1024, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x1024, .f32⟩
  | .hbm, ⟨16, _⟩ => ⟨S16x2048x1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== WinAttn.lean ====
abbrev S16x2048x512 : Shape := ⟨3, ![16, 2048, 512]⟩
abbrev S16x2048x128 : Shape := ⟨3, ![16, 2048, 128]⟩
abbrev S32x12 : Shape := ⟨2, ![32, 12]⟩
abbrev S3x512 : Shape := ⟨2, ![3, 512]⟩
abbrev S4 : Shape := ⟨1, ![4]⟩
abbrev S32x8 : Shape := ⟨2, ![32, 8]⟩
abbrev S1x8 : Shape := ⟨2, ![1, 8]⟩
abbrev S8 : Shape := ⟨1, ![8]⟩
abbrev S_ : Shape := ⟨0, ![]⟩
abbrev S3x512x1 : Shape := ⟨3, ![3, 512, 1]⟩
abbrev S3x512x8 : Shape := ⟨3, ![3, 512, 8]⟩
abbrev S8x3x512 : Shape := ⟨3, ![8, 3, 512]⟩
abbrev S1x8x1x3x1x512 : Shape := ⟨6, ![1, 8, 1, 3, 1, 512]⟩
abbrev S1x8x1x3x256x512 : Shape := ⟨6, ![1, 8, 1, 3, 256, 512]⟩
abbrev S8x3x131072 : Shape := ⟨3, ![8, 3, 131072]⟩
abbrev S8x3x130816 : Shape := ⟨3, ![8, 3, 130816]⟩
abbrev S8x3x256x511 : Shape := ⟨4, ![8, 3, 256, 511]⟩
abbrev S8x3x256x256 : Shape := ⟨4, ![8, 3, 256, 256]⟩
abbrev S3 : Shape := ⟨1, ![3]⟩
abbrev S3x1x1 : Shape := ⟨3, ![3, 1, 1]⟩
abbrev S256 : Shape := ⟨1, ![256]⟩
abbrev S1x256x1 : Shape := ⟨3, ![1, 256, 1]⟩
abbrev S3x256x1 : Shape := ⟨3, ![3, 256, 1]⟩
abbrev S1x1x256 : Shape := ⟨3, ![1, 1, 256]⟩
abbrev S3x256x256 : Shape := ⟨3, ![3, 256, 256]⟩
abbrev S1x3x256x256 : Shape := ⟨4, ![1, 3, 256, 256]⟩
abbrev S2x4x3x256x256 : Shape := ⟨5, ![2, 4, 3, 256, 256]⟩
abbrev S4x1 : Shape := ⟨2, ![4, 1]⟩
abbrev S2x3x4x256x256 : Shape := ⟨5, ![2, 3, 4, 256, 256]⟩
abbrev S2x3x1024x256 : Shape := ⟨4, ![2, 3, 1024, 256]⟩
abbrev S2x1024x3x256 : Shape := ⟨4, ![2, 1024, 3, 256]⟩
abbrev S2x1024x768 : Shape := ⟨3, ![2, 1024, 768]⟩
abbrev S16x2048x64 : Shape := ⟨3, ![16, 2048, 64]⟩
abbrev S16x2048x256 : Shape := ⟨3, ![16, 2048, 256]⟩
abbrev S32768x256 : Shape := ⟨2, ![32768, 256]⟩
abbrev S256x32768 : Shape := ⟨2, ![256, 32768]⟩
abbrev S1x256x256 : Shape := ⟨3, ![1, 256, 256]⟩
abbrev S128x2048 : Shape := ⟨2, ![128, 2048]⟩
abbrev S1x2048x128 : Shape := ⟨3, ![1, 2048, 128]⟩
abbrev S1x1024x768 : Shape := ⟨3, ![1, 1024, 768]⟩
abbrev S256x256 : Shape := ⟨2, ![256, 256]⟩
abbrev S256x128 : Shape := ⟨2, ![256, 128]⟩
abbrev S1024x128 : Shape := ⟨2, ![1024, 128]⟩
abbrev S128x256 : Shape := ⟨2, ![128, 256]⟩
abbrev S1024x256 : Shape := ⟨2, ![1024, 256]⟩
abbrev S1x256x128 : Shape := ⟨3, ![1, 256, 128]⟩
abbrev S1024x768 : Shape := ⟨2, ![1024, 768]⟩
abbrev S768x128 : Shape := ⟨2, ![768, 128]⟩
abbrev S1024 : Shape := ⟨1, ![1024]⟩
abbrev S1024x1 : Shape := ⟨2, ![1024, 1]⟩
abbrev S512x768 : Shape := ⟨2, ![512, 768]⟩
abbrev S512x128 : Shape := ⟨2, ![512, 128]⟩

abbrev nBuf : Space → Nat
  | .hbm => 96
  | .vmem => 10
  | .smem => 0
  | _ => 0

abbrev bufTy : (tb : Table) → Fin (tcTables nBuf tb) → BufTy
  | .hbm, ⟨0, _⟩ => ⟨S16x2048x512, .f32⟩
  | .hbm, ⟨1, _⟩ => ⟨S16x2048x128, .f32⟩
  | .hbm, ⟨2, _⟩ => ⟨S16x2048x128, .f32⟩
  | .hbm, ⟨3, _⟩ => ⟨S32x12, .f32⟩
  | .hbm, ⟨4, _⟩ => ⟨S3x512, .i32⟩
  | .hbm, ⟨5, _⟩ => ⟨S3x512, .i1⟩
  | .hbm, ⟨6, _⟩ => ⟨S4, .i32⟩
  | .hbm, ⟨7, _⟩ => ⟨S4, .i1⟩
  | .hbm, ⟨8, _⟩ => ⟨S32x8, .f32⟩
  | .hbm, ⟨9, _⟩ => ⟨S1x8, .f32⟩
  | .hbm, ⟨10, _⟩ => ⟨S8, .f32⟩
  | .hbm, ⟨11, _⟩ => ⟨S1x8, .f32⟩
  | .hbm, ⟨12, _⟩ => ⟨S32x8, .f32⟩
  | .hbm, ⟨13, _⟩ => ⟨S32x8, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S32x8, .f32⟩
  | .hbm, ⟨19, _⟩ => ⟨S32x8, .f32⟩
  | .hbm, ⟨20, _⟩ => ⟨S_, .i32⟩
  | .hbm, ⟨21, _⟩ => ⟨S3x512, .i32⟩
  | .hbm, ⟨22, _⟩ => ⟨S3x512, .i32⟩
  | .hbm, ⟨23, _⟩ => ⟨S3x512, .i32⟩
  | .hbm, ⟨24, _⟩ => ⟨S3x512x1, .i32⟩
  | .hbm, ⟨25, _⟩ => ⟨S3x512x8, .f32⟩
  | .hbm, ⟨26, _⟩ => ⟨S8x3x512, .f32⟩
  | .hbm, ⟨27, _⟩ => ⟨S1x8x1x3x1x512, .f32⟩
  | .hbm, ⟨28, _⟩ => ⟨S1x8x1x3x256x512, .f32⟩
  | .hbm, ⟨29, _⟩ => ⟨S8x3x131072, .f32⟩
  | .hbm, ⟨30, _⟩ => ⟨S8x3x130816, .f32⟩
  | .hbm, ⟨31, _⟩ => ⟨S8x3x256x511, .f32⟩
  | .hbm, ⟨32, _⟩ => ⟨S8x3x256x256, .f32⟩
  | .hbm, ⟨33, _⟩ => ⟨S3, .i32⟩
  | .hbm, ⟨34, _⟩ => ⟨S3x1x1, .i32⟩
  | .hbm, ⟨35, _⟩ => ⟨S_, .i32⟩
  | .hbm, ⟨36, _⟩ => ⟨S3x1x1, .i32⟩
  | .hbm, ⟨37, _⟩ => ⟨S3x1x1, .i32⟩
  | .hbm, ⟨38, _⟩ => ⟨S256, .i32⟩
  | .hbm, ⟨39, _⟩ => ⟨S1x256x1, .i32⟩
  | .hbm, ⟨40, _⟩ => ⟨S3x256x1, .i32⟩
  | .hbm, ⟨41, _⟩ => ⟨S3x256x1, .i32⟩
  | .hbm, ⟨42, _⟩ => ⟨S3x256x1, .i32⟩
  | .hbm, ⟨43, _⟩ => ⟨S256, .i32⟩
  | .hbm, ⟨44, _⟩ => ⟨S1x1x256, .i32⟩
  | .hbm, ⟨45, _⟩ => ⟨S3x256x256, .i32⟩
  | .hbm, ⟨46, _⟩ => ⟨S3x256x256, .i32⟩
  | .hbm, ⟨47, _⟩ => ⟨S3x256x256, .i32⟩
  | .hbm, ⟨48, _⟩ => ⟨S_, .i32⟩
  | .hbm, ⟨49, _⟩ => ⟨S3x256x256, .i32⟩
  | .hbm, ⟨50, _⟩ => ⟨S3x256x256, .i1⟩
  | .hbm, ⟨51, _⟩ => ⟨S_, .i32⟩
  | .hbm, ⟨52, _⟩ => ⟨S3x256x256, .i32⟩
  | .hbm, ⟨53, _⟩ => ⟨S3x256x256, .i1⟩
  | .hbm, ⟨54, _⟩ => ⟨S3x256x256, .i1⟩
  | .hbm, ⟨55, _⟩ => ⟨S1x3x256x256, .i1⟩
  | .hbm, ⟨56, _⟩ => ⟨S_, .f32⟩
  | .hbm, ⟨57, _⟩ => ⟨S_, .f32⟩
  | .hbm, ⟨58, _⟩ => ⟨S8x3x256x256, .i1⟩
  | .hbm, ⟨59, _⟩ => ⟨S8x3x256x256, .f32⟩
  | .hbm, ⟨60, _⟩ => ⟨S8x3x256x256, .f32⟩
  | .hbm, ⟨61, _⟩ => ⟨S2x4x3x256x256, .f32⟩
  | .hbm, ⟨62, _⟩ => ⟨S_, .i32⟩
  | .hbm, ⟨63, _⟩ => ⟨S4, .i32⟩
  | .hbm, ⟨64, _⟩ => ⟨S4, .i32⟩
  | .hbm, ⟨65, _⟩ => ⟨S4, .i32⟩
  | .hbm, ⟨66, _⟩ => ⟨S4x1, .i32⟩
  | .hbm, ⟨67, _⟩ => ⟨S2x4x3x256x256, .f32⟩
  | .hbm, ⟨68, _⟩ => ⟨S2x3x4x256x256, .f32⟩
  | .hbm, ⟨69, _⟩ => ⟨S2x3x1024x256, .f32⟩
  | .hbm, ⟨70, _⟩ => ⟨S2x1024x3x256, .f32⟩
  | .hbm, ⟨71, _⟩ => ⟨S2x1024x768, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S16x2048x512, .f32⟩
  | .hbm, ⟨79, _⟩ => ⟨S16x2048x512, .f32⟩
  | .hbm, ⟨80, _⟩ => ⟨S16x2048x512, .bf16⟩
  | .hbm, ⟨81, _⟩ => ⟨S16x2048x64, .f32⟩
  | .hbm, ⟨82, _⟩ => ⟨S16x2048x64, .f32⟩
  | .hbm, ⟨83, _⟩ => ⟨S16x2048x64, .f32⟩
  | .hbm, ⟨84, _⟩ => ⟨S16x2048x64, .f32⟩
  | .hbm, ⟨85, _⟩ => ⟨S16x2048x256, .f32⟩
  | .hbm, ⟨86, _⟩ => ⟨S32768x256, .f32⟩
  | .hbm, ⟨87, _⟩ => ⟨S256x32768, .f32⟩
  | .hbm, ⟨88, _⟩ => ⟨S256x32768, .bf16⟩
  | .hbm, ⟨89, _⟩ => ⟨S16x2048x64, .f32⟩
  | .hbm, ⟨90, _⟩ => ⟨S16x2048x64, .f32⟩
  | .hbm, ⟨91, _⟩ => ⟨S16x2048x64, .f32⟩
  | .hbm, ⟨92, _⟩ => ⟨S16x2048x64, .f32⟩
  | .hbm, ⟨93, _⟩ => ⟨S16x2048x256, .f32⟩
  | .hbm, ⟨94, _⟩ => ⟨S16x2048x256, .bf16⟩
  | .hbm, ⟨95, _⟩ => ⟨S16x2048x512, .bf16⟩
  | .local _ .vmem, ⟨0, _⟩ => ⟨S1x256x256, .bf16⟩
  | .local _ .vmem, ⟨1, _⟩ => ⟨S1x256x256, .bf16⟩
  | .local _ .vmem, ⟨2, _⟩ => ⟨S128x2048, .bf16⟩
  | .local _ .vmem, ⟨3, _⟩ => ⟨S128x2048, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x1024x768, .f32⟩
  | .local _ .vmem, ⟨7, _⟩ => ⟨S1x1024x768, .f32⟩
  | .local _ .vmem, ⟨8, _⟩ => ⟨S1x256x256, .bf16⟩
  | .local _ .vmem, ⟨9, _⟩ => ⟨S1x256x256, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_10 : Ref sig .tc := ⟨.hbm, 72, rfl⟩
abbrev main_v53 : Ref sig .tc := ⟨.hbm, 73, rfl⟩
abbrev main_cst_11 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 8], ![false, false, false]⟩

def k0_mult1 (i : grid0.Coords) : BitVec 32 :=
  let arg2 : BitVec 32 := BitVec.ofNat 32 (i 2).val
  let c0_i32 : BitVec 32 := 0#32
  let v29 : BitVec 32 := Scalar.subi arg2 c0_i32
  let c0_i32_10 : BitVec 32 := 0#32
  let v30 : BitVec 32 := Scalar.maxsi v29 c0_i32_10
  let c256_i32 : BitVec 32 := 256#32
  let v31 : BitVec 32 := Scalar.muli v30 c256_i32
  v31
def k0_off1 (i : grid0.Coords) (c0_i32 : BitVec 32) : Fin 2 → Nat :=
  let c0_11 : Index := 0#32
  let arg2 : BitVec 32 := BitVec.ofNat 32 (i 2).val
  let v29 : BitVec 32 := Scalar.subi arg2 c0_i32
  let c0_i32_10 : BitVec 32 := 0#32
  let v30 : BitVec 32 := Scalar.maxsi v29 c0_i32_10
  let c256_i32 : BitVec 32 := 256#32
  let v31 : BitVec 32 := Scalar.muli v30 c256_i32
  let v32 : BitVec 32 := v31
  let v33 : Index := Scalar.indexCast v32
  ![0, v33.toNat]
def k0_off2 (i : grid0.Coords) (c0_i32 : BitVec 32) : Fin 3 → Nat :=
  let c0_13 : Index := 0#32
  let arg2 : BitVec 32 := BitVec.ofNat 32 (i 2).val
  let v29 : BitVec 32 := Scalar.subi arg2 c0_i32
  let c0_i32_10 : BitVec 32 := 0#32
  let v30 : BitVec 32 := Scalar.maxsi v29 c0_i32_10
  let c256_i32 : BitVec 32 := 256#32
  let v31 : BitVec 32 := Scalar.muli v30 c256_i32
  let v32 : BitVec 32 := v31
  let v37 : Index := Scalar.indexCast v32
  let c0_14 : Index := 0#32
  ![0, v37.toNat, 0]
def k0_mult2 (i : grid0.Coords) : BitVec 32 :=
  let arg2 : BitVec 32 := BitVec.ofNat 32 (i 2).val
  let c1_i32 : BitVec 32 := 1#32
  let v46 : BitVec 32 := Scalar.subi arg2 c1_i32
  let c0_i32_17 : BitVec 32 := 0#32
  let v47 : BitVec 32 := Scalar.maxsi v46 c0_i32_17
  let c256_i32_18 : BitVec 32 := 256#32
  let v48 : BitVec 32 := Scalar.muli v47 c256_i32_18
  v48
def k0_mult3 (i : grid0.Coords) : BitVec 32 :=
  let arg2 : BitVec 32 := BitVec.ofNat 32 (i 2).val
  let c2_i32 : BitVec 32 := 2#32
  let v67 : BitVec 32 := Scalar.subi arg2 c2_i32
  let c0_i32_28 : BitVec 32 := 0#32
  let v68 : BitVec 32 := Scalar.maxsi v67 c0_i32_28
  let c256_i32_29 : BitVec 32 := 256#32
  let v69 : BitVec 32 := Scalar.muli v68 c256_i32_29
  v69
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== WinReferenceIdeal.lean ====
abbrev S16x2048x512 : Shape := ⟨3, ![16, 2048, 512]⟩
abbrev S16x2048x128 : Shape := ⟨3, ![16, 2048, 128]⟩
abbrev S32x12 : Shape := ⟨2, ![32, 12]⟩
abbrev S16x2048x2x4x64 : Shape := ⟨5, ![16, 2048, 2, 4, 64]⟩
abbrev S16x2048x2x64 : Shape := ⟨4, ![16, 2048, 2, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S32x8 : Shape := ⟨2, ![32, 8]⟩
abbrev S32x2x4 : Shape := ⟨3, ![32, 2, 4]⟩
abbrev S_ : Shape := ⟨0, ![]⟩
abbrev S2048x2048x1 : Shape := ⟨3, ![2048, 2048, 1]⟩
abbrev S2048x2048x2x4 : Shape := ⟨4, ![2048, 2048, 2, 4]⟩
abbrev S2x4x2048x2048 : Shape := ⟨4, ![2, 4, 2048, 2048]⟩
abbrev S16x2x2048x2048x4 : Shape := ⟨5, ![16, 2, 2048, 2048, 4]⟩
abbrev S16x2x4x2048x2048 : Shape := ⟨5, ![16, 2, 4, 2048, 2048]⟩
abbrev S1x2x4x2048x2048 : Shape := ⟨5, ![1, 2, 4, 2048, 2048]⟩
abbrev S1x1x1x2048x2048 : Shape := ⟨5, ![1, 1, 1, 2048, 2048]⟩
abbrev S16x2x4x2048 : Shape := ⟨4, ![16, 2, 4, 2048]⟩
abbrev S16x2x4x2048x1 : Shape := ⟨5, ![16, 2, 4, 2048, 1]⟩
abbrev S16x2x64x4x2048 : Shape := ⟨5, ![16, 2, 64, 4, 2048]⟩

abbrev nBuf : Space → Nat
  | .hbm => 93
  | .vmem => 0
  | .smem => 0
  | _ => 0

abbrev bufTy : (tb : Table) → Fin (tcTables nBuf tb) → BufTy
  | .hbm, ⟨0, _⟩ => ⟨S16x2048x512, .f32⟩
  | .hbm, ⟨1, _⟩ => ⟨S16x2048x128, .f32⟩
  | .hbm, ⟨2, _⟩ => ⟨S16x2048x128, .f32⟩
  | .hbm, ⟨3, _⟩ => ⟨S32x12, .f32⟩
  | .hbm, ⟨4, _⟩ => ⟨S16x2048x2x4x64, .f32⟩
  | .hbm, ⟨5, _⟩ => ⟨S16x2048x2x64, .f32⟩
  | .hbm, ⟨6, _⟩ => ⟨S16x2048x2x64, .f32⟩
  | .hbm, ⟨7, _⟩ => ⟨S2048, .i32⟩
  | .hbm, ⟨8, _⟩ => ⟨S2048x1, .i32⟩
  | .hbm, ⟨9, _⟩ => ⟨S1x2048, .i32⟩
  | .hbm, ⟨10, _⟩ => ⟨S2048x2048, .i32⟩
  | .hbm, ⟨11, _⟩ => ⟨S2048x2048, .i32⟩
  | .hbm, ⟨12, _⟩ => ⟨S2048x2048, .i32⟩
  | .hbm, ⟨13, _⟩ => ⟨S32x8, .f32⟩
  | .hbm, ⟨14, _⟩ => ⟨S32x2x4, .f32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S_, .i32⟩
  | .hbm, ⟨19, _⟩ => ⟨S2048x2048, .i32⟩
  | .hbm, ⟨20, _⟩ => ⟨S2048x2048, .i32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .i32⟩
  | .hbm, ⟨34, _⟩ => ⟨S_, .i32⟩
  | .hbm, ⟨35, _⟩ => ⟨S2048x2048, .i32⟩
  | .hbm, ⟨36, _⟩ => ⟨S2048x2048, .i32⟩
  | .hbm, ⟨37, _⟩ => ⟨S_, .i32⟩
  | .hbm, ⟨38, _⟩ => ⟨S2048x2048, .i32⟩
  | .hbm, ⟨39, _⟩ => ⟨S2048x2048, .i32⟩
  | .hbm, ⟨40, _⟩ => ⟨S_, .i32⟩
  | .hbm, ⟨41, _⟩ => ⟨S2048x2048, .i32⟩
  | .hbm, ⟨42, _⟩ => ⟨S2048x2048, .i1⟩
  | .hbm, ⟨43, _⟩ => ⟨S2048x2048, .i32⟩
  | .hbm, ⟨44, _⟩ => ⟨S_, .i32⟩
  | .hbm, ⟨45, _⟩ => ⟨S2048x2048, .i32⟩
  | .hbm, ⟨46, _⟩ => ⟨S2048x2048, .i1⟩
  | .hbm, ⟨47, _⟩ => ⟨S_, .i32⟩
  | .hbm, ⟨48, _⟩ => ⟨S2048x2048, .i32⟩
  | .hbm, ⟨49, _⟩ => ⟨S2048x2048, .i32⟩
  | .hbm, ⟨50, _⟩ => ⟨S2048x2048, .i32⟩
  | .hbm, ⟨51, _⟩ => ⟨S2048x2048x1, .i32⟩
  | .hbm, ⟨52, _⟩ => ⟨S2048x2048x2x4, .f32⟩
  | .hbm, ⟨53, _⟩ => ⟨S2x4x2048x2048, .f32⟩
  | .hbm, ⟨54, _⟩ => ⟨S16x2x2048x2048x4, .f32⟩
  | .hbm, ⟨55, _⟩ => ⟨S16x2x4x2048x2048, .f32⟩
  | .hbm, ⟨56, _⟩ => ⟨S_, .f32⟩
  | .hbm, ⟨57, _⟩ => ⟨S16x2x4x2048x2048, .f32⟩
  | .hbm, ⟨58, _⟩ => ⟨S16x2x4x2048x2048, .f32⟩
  | .hbm, ⟨59, _⟩ => ⟨S1x2x4x2048x2048, .f32⟩
  | .hbm, ⟨60, _⟩ => ⟨S16x2x4x2048x2048, .f32⟩
  | .hbm, ⟨61, _⟩ => ⟨S16x2x4x2048x2048, .f32⟩
  | .hbm, ⟨62, _⟩ => ⟨S_, .i32⟩
  | .hbm, ⟨63, _⟩ => ⟨S2048x2048, .i32⟩
  | .hbm, ⟨64, _⟩ => ⟨S2048x2048, .i1⟩
  | .hbm, ⟨65, _⟩ => ⟨S_, .i32⟩
  | .hbm, ⟨66, _⟩ => ⟨S2048x2048, .i32⟩
  | .hbm, ⟨67, _⟩ => ⟨S2048x2048, .i1⟩
  | .hbm, ⟨68, _⟩ => ⟨S2048x2048, .i1⟩
  | .hbm, ⟨69, _⟩ => ⟨S1x1x1x2048x2048, .i1⟩
  | .hbm, ⟨70, _⟩ => ⟨S_, .f32⟩
  | .hbm, ⟨71, _⟩ => ⟨S_, .f32⟩
  | .hbm, ⟨72, _⟩ => ⟨S16x2x4x2048x2048, .i1⟩
  | .hbm, ⟨73, _⟩ => ⟨S16x2x4x2048x2048, .f32⟩
  | .hbm, ⟨74, _⟩ => ⟨S16x2x4x2048x2048, .f32⟩
  | .hbm, ⟨75, _⟩ => ⟨S_, .f32⟩
  | .hbm, ⟨76, _⟩ => ⟨S16x2x4x2048, .f32⟩
  | .hbm, ⟨77, _⟩ => ⟨S_, .f32⟩
  | .hbm, ⟨78, _⟩ => ⟨S16x2x4x2048, .f32⟩
  | .hbm, ⟨79, _⟩ => ⟨S16x2x4x2048, .f32⟩
  | .hbm, ⟨80, _⟩ => ⟨S16x2x4x2048x1, .f32⟩
  | .hbm, ⟨81, _⟩ => ⟨S16x2x4x2048x2048, .f32⟩
  | .hbm, ⟨82, _⟩ => ⟨S16x2x4x2048x2048, .f32⟩
  | .hbm, ⟨83, _⟩ => ⟨S16x2x4x2048x2048, .f32⟩
  | .hbm, ⟨84, _⟩ => ⟨S_, .f32⟩
  | .hbm, ⟨85, _⟩ => ⟨S16x2x4x2048, .f32⟩
  | .hbm, ⟨86, _⟩ => ⟨S16x2x4x2048x1, .f32⟩
  | .hbm, ⟨87, _⟩ => ⟨S16x2x4x2048x2048, .f32⟩
  | .hbm, ⟨88, _⟩ => ⟨S16x2x4x2048x2048, .f32⟩
  | .hbm, ⟨89, _⟩ => ⟨S16x2x64x4x2048, .f32⟩
  | .hbm, ⟨90, _⟩ => ⟨S16x2048x2x4x64, .f32⟩
  | .hbm, ⟨91, _⟩ => ⟨S16x2048x512, .f32⟩
  | .hbm, ⟨92, _⟩ => ⟨S16x2048x512, .bf16⟩
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_c_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_6 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_9 : Ref sig .tc := ⟨.hbm, 62, rfl⟩
abbrev main_v47 : Ref sig .tc := ⟨.hbm, 63, rfl⟩
abbrev main_v48 : Ref sig .tc := ⟨.hbm, 64, rfl⟩
abbrev main_c_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_14 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩

abbrev nD : Nat := 1
abbrev τ : Topo := Topo.v7x

variable {F : FTy → Type} [FloatOps F]
-- ==== Proof.Run.lean ====
/-
  The run of the attention kernel over any float instance.

  One grid point works on one block of 256 queries of one head of one batch row. The body first attends to the (up to)
  two key blocks near the diagonal, then, when the number of the remaining key blocks is odd, to one of them alone, then
  to the others two at a time in a counted loop. `outBlk` names the block it stores, as a function of the blocks of its
  six operands; `run_main` is the run of the whole program with the result array at these blocks.
-/
module

public import proofs.«01_k».proof.Proof.Gen.KernelIdeal.Frame
public import proofs.«01_k».proof.Proof.Gen.KernelIdeal.Loops
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The block a grid point stores -/

/-- The carried pair: each row's running maximum, and its weighted sums. -/
abbrev Carry (F : FTy → Type) [FloatOps F] : Type := FVec F S512x1 .f32 × FVec F S512x256 .f32

abbrev rQ : Rect S1x256x128 := Rect.unit (s := S1x256x128) ![0, 0, 0] S1x256x128.size inb_S1x256x128_S1x256x128_0_0_0
abbrev rLam : Rect S8x128 := Rect.unit (s := S8x128) ![0, 0] S8x128.size inb_S8x128_S8x128_0_0
abbrev rG : Rect S1x128 := Rect.unit (s := S1x128) ![0, 0] S1x128.size inb_S1x128_S1x128_0_0
abbrev rV1 (i : grid0.Coords) : Rect S1x2048x128 := Rect.unit (s := S1x2048x128) (k0_off1 i) S1x512x128.size (k0_off1_inb i)
abbrev rK1 (i : grid0.Coords) : Rect S128x2048 := Rect.unit (s := S128x2048) (k0_off2 i) S128x512.size (k0_off2_inb i)
abbrev rB (i : grid0.Coords) : Rect S1x2x256x512 := Rect.unit (s := S1x2x256x512) (k0_off3 i) S1x1x256x512.size (k0_off3_inb i)
abbrev rV2 (i : grid0.Coords) (h : k0_cond1 i = 1#1) : Rect S1x2048x128 :=
  Rect.unit (s := S1x2048x128) (k0_off4 i) S1x256x128.size (k0_off4_inb i h)
abbrev rK2 (i : grid0.Coords) (h : k0_cond1 i = 1#1) : Rect S128x2048 :=
  Rect.unit (s := S128x2048) (k0_off5 i) S128x256.size (k0_off5_inb i h)
abbrev rV3 (i : grid0.Coords) (k : Fin (k0_t1_loop i).trips) : Rect S1x2048x128 :=
  Rect.unit (s := S1x2048x128) (k0_off6 i k) S1x512x128.size (k0_off6_inb i k)
abbrev rK3 (i : grid0.Coords) (k : Fin (k0_t1_loop i).trips) : Rect S128x2048 :=
  Rect.unit (s := S128x2048) (k0_off7 i k) S128x512.size (k0_off7_inb i k)

/-- The pair after the near key blocks. -/
def first (i : grid0.Coords) (x0 : Vec F S1x256x128 .bf16) (x1 : Vec F S128x2048 .bf16) (x2 : Vec F S1x2048x128 .bf16)
    (x3 : Vec F S1x2x256x512 .f32) : Carry F :=
  (k0_pay3 (View.ld x0 rQ) (View.ld x1 (rK1 i)) (View.ld x3 (rB i)),
    k0_pay4 (View.ld x0 rQ) (View.ld x2 (rV1 i)) (View.ld x1 (rK1 i)) (View.ld x3 (rB i)))

/-- The pair after the single far key block, where there is one. -/
def odd (i : grid0.Coords) (q : FVec F S512x128 .bf16) (x1 : Vec F S128x2048 .bf16) (x2 : Vec F S1x2048x128 .bf16)
    (acc : Carry F) : Carry F :=
  if h : k0_cond1 i = 1#1 then
    (k0_pay6 q acc.1 (View.ld x1 (rK2 i h)), k0_pay7 q acc.1 acc.2 (View.ld x2 (rV2 i h)) (View.ld x1 (rK2 i h)))
  else acc

/-- One trip over a pair of far key blocks. -/
def pair (i : grid0.Coords) (q : FVec F S512x128 .bf16) (x1 : Vec F S128x2048 .bf16) (x2 : Vec F S1x2048x128 .bf16)
    (k : Fin (k0_t1_loop i).trips) (acc : Carry F) : Carry F :=
  (k0_pay9 q acc.1 (View.ld x1 (rK3 i k)), k0_pay10 q acc.1 acc.2 (View.ld x2 (rV3 i k)) (View.ld x1 (rK3 i k)))

/-- The pair before trip `n`. -/
def pairs (i : grid0.Coords) (q : FVec F S512x128 .bf16) (x1 : Vec F S128x2048 .bf16) (x2 : Vec F S1x2048x128 .bf16)
    (acc : Carry F) : ℕ → Carry F
  | 0 => acc
  | n + 1 => if h : n < (k0_t1_loop i).trips then pair i q x1 x2 ⟨n, h⟩ (pairs i q x1 x2 acc n) else pairs i q x1 x2 acc n

/-- The pair after all the key blocks. -/
def final (i : grid0.Coords) (x0 : Vec F S1x256x128 .bf16) (x1 : Vec F S128x2048 .bf16) (x2 : Vec F S1x2048x128 .bf16)
    (x3 : Vec F S1x2x256x512 .f32) : Carry F :=
  pairs i (k0_pay1 (View.ld x0 rQ)) x1 x2 (odd i (k0_pay1 (View.ld x0 rQ)) x1 x2 (first i x0 x1 x2 x3)) (k0_t1_loop i).trips

/-- The stored block. -/
def outBlk (i : grid0.Coords) (x0 : Vec F S1x256x128 .bf16) (x1 : Vec F S128x2048 .bf16) (x2 : Vec F S1x2048x128 .bf16)
    (x3 : Vec F S1x2x256x512 .f32) (x4 : Vec F S8x128 .f32) (x5 : Vec F S1x128 .f32) : Vec F S1x256x128 .bf16 :=
  View.canon [⟨rQ, k0_pay16 (k0_pay14 (final i x0 x1 x2 x3).2) (k0_pay15 (final i x0 x1 x2 x3).2)
    (View.ld x4 rLam) (View.ld x5 rG)⟩]

theorem cover (p0 : Vec F S1x256x128 .bf16) (y : S1x256x128.Idx) :
    ∃ pc ∈ ([⟨rQ, p0⟩] : List (View.Piece (Elt F) S1x256x128 .bf16)), y ∈ pc.1.set :=
  View.cover_of_tiled [⟨rQ, p0⟩] S1x256x128.size (by rfl) y

/-- A load through a view is the load from the contents read through it. -/
theorem readAt_eq_ld {κ : Kind} {sp : Space} {s : Shape} {e : EltTy} (a : View sig κ sp s e) (r : Rect s)
    (f : BufTy.Contents (Elt F) a.ty) :
    View.readAt (Elt F) a r.toLoadRect f = View.ld (View.read (Elt F) a f) r := rfl

/-! ## The counted loops -/

/-- What one trip of the loop yields. -/
theorem trip_eq (𝒱 : Variants) (c : Dev nD) (bd : Option 𝒱.V) (i : grid0.Coords) (arg3 : Memref sig .tc .vmem S1x256x128 .bf16) (harg3 : arg3.IsWhole) (arg4 : Memref sig .tc .vmem S128x2048 .bf16) (harg4 : arg4.IsWhole) (arg5 : Memref sig .tc .vmem S1x2048x128 .bf16) (harg5 : arg5.IsWhole) (arg6 : Memref sig .tc .vmem S1x2x256x512 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x256x128 .bf16) (harg9 : arg9.IsWhole)
    (v8 : FVec F S512x128 .bf16) (v29 : FVec F S512x1 .f32) (v34 : FVec F S512x256 .f32) (v35 : BitVec 32) (c0_i32_14 : BitVec 32)
    (f1 : BufTy.Contents (Elt F) arg4.view.ty) (f2 : BufTy.Contents (Elt F) arg5.view.ty) (k : Fin (k0_t1_loop i).trips) (acc : Carry F) :
    tripR_k0_t1 (F := F) 𝒱 c bd i arg3 harg3 arg4 harg4 arg5 harg5 arg6 harg6 arg7 harg7 arg8 harg8 arg9 harg9 v8 v29 v34 v35 c0_i32_14 f1 f2 k acc
      = pair i v8 (arg4.view.read (Elt F) f1) (arg5.view.read (Elt F) f2) k acc := by
  unfold tripR_k0_t1 trip_k0_t1
  rfl

/-- The carried pair before trip `n` of the loop. -/
theorem st_eq (𝒱 : Variants) (c : Dev nD) (bd : Option 𝒱.V) (i : grid0.Coords) (arg3 : Memref sig .tc .vmem S1x256x128 .bf16) (harg3 : arg3.IsWhole) (arg4 : Memref sig .tc .vmem S128x2048 .bf16) (harg4 : arg4.IsWhole) (arg5 : Memref sig .tc .vmem S1x2048x128 .bf16) (harg5 : arg5.IsWhole) (arg6 : Memref sig .tc .vmem S1x2x256x512 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x256x128 .bf16) (harg9 : arg9.IsWhole)
    (v8 : FVec F S512x128 .bf16) (v29 : FVec F S512x1 .f32) (v34 : FVec F S512x256 .f32) (v35 : BitVec 32) (c0_i32_14 : BitVec 32)
    (f1 : BufTy.Contents (Elt F) arg4.view.ty) (f2 : BufTy.Contents (Elt F) arg5.view.ty) (acc : Carry F) : ∀ n, n ≤ (k0_t1_loop i).trips →
    st_k0_t1 (F := F) 𝒱 c bd i arg3 harg3 arg4 harg4 arg5 harg5 arg6 harg6 arg7 harg7 arg8 harg8 arg9 harg9 v8 v29 v34 v35 c0_i32_14 f1 f2 acc n
      = pairs i v8 (arg4.view.read (Elt F) f1) (arg5.view.read (Elt F) f2) acc n
  | 0, _ => rfl
  | n + 1, h => by
    rw [st_k0_t1_succ (F := F) 𝒱 c bd i arg3 harg3 arg4 harg4 arg5 harg5 arg6 harg6 arg7 harg7 arg8 harg8 arg9 harg9 _ v29 v34 v35 c0_i32_14 f1 f2 acc ⟨n, h⟩,
      trip_eq, st_eq 𝒱 c bd i arg3 harg3 arg4 harg4 arg5 harg5 arg6 harg6 arg7 harg7 arg8 harg8 arg9 harg9 v8 v29 v34 v35 c0_i32_14 f1 f2 acc n (Nat.le_of_succ_le h)]
    rw [pairs, dif_pos (Nat.lt_of_succ_le h)]

/-- The second loop has no trip. -/
theorem st2_eq (𝒱 : Variants) (c : Dev nD) (bd : Option 𝒱.V) (i : grid0.Coords) (arg3 : Memref sig .tc .vmem S1x256x128 .bf16) (harg3 : arg3.IsWhole) (arg4 : Memref sig .tc .vmem S128x2048 .bf16) (harg4 : arg4.IsWhole) (arg5 : Memref sig .tc .vmem S1x2048x128 .bf16) (harg5 : arg5.IsWhole) (arg6 : Memref sig .tc .vmem S1x2x256x512 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x256x128 .bf16) (harg9 : arg9.IsWhole)
    (v8 : FVec F S512x128 .bf16) (v29 : FVec F S512x1 .f32) (v34 : FVec F S512x256 .f32) (v35 : BitVec 32) (c0_i32_14 : BitVec 32)
    (f1 : BufTy.Contents (Elt F) arg4.view.ty) (f2 : BufTy.Contents (Elt F) arg5.view.ty) (acc : Carry F) :
    st_k0_t2 (F := F) 𝒱 c bd i arg3 harg3 arg4 harg4 arg5 harg5 arg6 harg6 arg7 harg7 arg8 harg8 arg9 harg9 v8 v29 v34 v35 c0_i32_14 f1 f2 acc (Scf.trips (k0_t2_loop i).lb (k0_t2_loop i).ub (k0_t2_loop i).st) = acc := by
  rw [show Scf.trips (k0_t2_loop i).lb (k0_t2_loop i).ub (k0_t2_loop i).st = 0 from Nat.le_zero.mp (k0_t2_abs i).2.1, st_k0_t2_zero]

/-! ## The body's triple -/

set_option maxHeartbeats 1000000 in
theorem sound_kernel (c : Dev nD) (E : Set ℕ) (i : grid0.Coords) (arg3 : Memref sig .tc .vmem S1x256x128 .bf16) (harg3 : arg3.IsWhole) (arg4 : Memref sig .tc .vmem S128x2048 .bf16) (harg4 : arg4.IsWhole) (arg5 : Memref sig .tc .vmem S1x2048x128 .bf16) (harg5 : arg5.IsWhole) (arg6 : Memref sig .tc .vmem S1x2x256x512 .f32) (harg6 : arg6.IsWhole) (arg7 : Memref sig .tc .vmem S8x128 .f32) (harg7 : arg7.IsWhole) (arg8 : Memref sig .tc .vmem S1x128 .f32) (harg8 : arg8.IsWhole) (arg9 : Memref sig .tc .vmem S1x256x128 .bf16) (harg9 : arg9.IsWhole)
    (x0 : Vec F S1x256x128 .bf16) (x1 : Vec F S128x2048 .bf16) (x2 : Vec F S1x2048x128 .bf16) (x3 : Vec F S1x2x256x512 .f32) (x4 : Vec F S8x128 .f32) (x5 : Vec F S1x128 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outBlk i x0 x1 x2 x3 x4 x5)) -∗ K ⟨⟩))
      ⊢ wp frame (wpE (defs₀ (F := F)) Variants.none c none) E (cc0_diff_attn i arg3 harg3 arg4 harg4 arg5 harg5 arg6 harg6 arg7 harg7 arg8 harg8 arg9 harg9) K := by
  simp only [cc0_diff_attn_eq_skeleton]; unfold cc0_diff_attn_skel
  simp only [k0_part3_eq_skeleton]; unfold k0_part3_skel
  simp only [k0_part1_eq_skeleton, k0_part2_eq_skeleton]
  unfold owns
  by_cases h : k0_cond1 i = 1#1
  · iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    subst hf0 hf1 hf2 hf3 hf4 hf5
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    refine (View.read_writes_eq_canon _ _ _ (cover _)).trans ?_
    sl_unfold_run_names
    rw [st2_eq]
    rw [st_eq _ _ _ _ _ _ _ _ _ _ _ _ _ _ _ _ _ _ _ _ _ _ _ _ _ _ _ le_rfl]
    unfold outBlk final odd first
    rw [dif_pos h]
    simp only [readAt_eq_ld]
  · iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    subst hf0 hf1 hf2 hf3 hf4 hf5
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    refine (View.read_writes_eq_canon _ _ _ (cover _)).trans ?_
    sl_unfold_run_names
    rw [st2_eq]
    rw [st_eq _ _ _ _ _ _ _ _ _ _ _ _ _ _ _ _ _ _ _ _ _ _ _ _ _ _ _ le_rfl]
    unfold outBlk final odd
    rw [dif_neg h]
    rfl

/-! ## The pipeline's proof data -/

variable (m : (ℓ : Loc nD τ sig) → Buf (Elt F) ℓ) (ρ : Dev nD → PrngReg)

/-- Each operand's buffer keeps its block at every point; the result's is left at `outBlk` of the operands' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (grid0.coords t) (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk (grid0.coords t) (iblk m c 0 t) (iblk m c 1 t) (iblk m c 2 t) (iblk m c 3 t) (iblk m c 4 t) (iblk m c 5 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution ends, with the arrays at what the proof data say and every semaphore at zero. -/
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every execution ends with the arrays at what the proof data say. -/
theorem run_main : θ_run defs (onTc (τ := τ) (main (F := F))) (s₀ m ρ) (Pipeline.FramePost cfgs (dats m) 0 (V m)) :=
  (θ_run defs _ _).mono (fun _ h => h.1) (run_quiescent m ρ)

/-- The arguments end unchanged, and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiescent m ρ))

end Cert.KernelIdeal.Attn

end
-- ==== Proof.RunBits.lean ====
/-
  The kernel as printed and the kernel as idealized have the same text: their body tables and their entry points are
  equal, over any floats. So a run of the one is a run of the other.
-/
module

public import proofs.«01_k».proof.Proof.Gen.Kernel
public import proofs.«01_k».proof.Proof.Run

@[expose] public section

set_option maxRecDepth 16384

noncomputable section

namespace Cert.Kernel.Attn

open Idealize.ShloMosaic Idealize.SL.Sem

variable {F : FTy → Type} [FloatOps F]

theorem body_same : @Cert.Kernel.cc0_diff_attn F _ _ = @Cert.KernelIdeal.cc0_diff_attn F _ _ := rfl

set_option maxHeartbeats 1000000 in
theorem bodies_same : @Cert.Kernel.defs₀ F _ _ = @Cert.KernelIdeal.defs₀ F _ _ := by
  unfold Cert.Kernel.defs₀ Cert.KernelIdeal.defs₀
  congr 1
  funext l
  obtain ⟨l, hl⟩ := l
  cases l with
  | zero =>
    funext ⟨t, s⟩
    rw [body_same]
    rfl
  | succ l => exact absurd hl (Nat.not_lt.2 (Nat.le_add_left _ _))

theorem defs_same : @Cert.Kernel.defs F _ _ = @Cert.KernelIdeal.defs F _ _ :=
  congrArg (Pipeline.defs Cert.KernelIdeal.pcfgs) bodies_same

set_option maxHeartbeats 1000000 in
theorem main_same : @Cert.Kernel.main F _ _ = @Cert.KernelIdeal.main F _ _ := rfl

/-- The arguments end unchanged, and every semaphore at zero. -/
theorem frame_main (m : (ℓ : Loc nD τ sig) → Buf (Elt F) ℓ) (ρ : Dev nD → PrngReg) :
    θ_run (Cert.Kernel.defs (F := F)) (onTc (τ := τ) (Cert.Kernel.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  rw [defs_same, main_same]
  exact Cert.KernelIdeal.Attn.frame_main m ρ

end Cert.Kernel.Attn

end
-- ==== Proof.Reals.lean ====
/-
  Arithmetic of the ideal values where they are real numbers: sums of real values, the exponentials and the quotient of
  reals, and the maximum of finitely many values none of which is +∞.
-/
module

public import Idealize.ShloMosaic.PureOps.Ideal.Laws
public import Idealize.ShloMosaic.Lib.IdealHost
public import Idealize.ShloMosaic.Lib.ValueIdx

@[expose] public section

noncomputable section

namespace Cert.Attn

open Idealize.ShloMosaic

/-- A finite sum of reals, taken among the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The power of two of a real. -/
theorem exp2_coe (r : ℝ) : Ideal.exp2 (r : EReal) = (((2 : ℝ) ^ r : ℝ) : EReal) := rfl
/-- The exponential of a real. -/
theorem exp_coe (r : ℝ) : Ideal.exp (r : EReal) = ((Real.exp r : ℝ) : EReal) := rfl
/-- The power of two of −∞ is zero. -/
theorem exp2_bot : Ideal.exp2 ⊥ = ((0 : ℝ) : EReal) := rfl
/-- The exponential of −∞ is zero. -/
theorem exp_bot : Ideal.exp ⊥ = ((0 : ℝ) : EReal) := rfl

/-- A quotient of reals by a nonzero real. -/
theorem div_coe {x y : ℝ} (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The maximum, from −∞, of finitely many values is real where none is +∞ and one is real. -/
theorem fold_max_real {n : ℕ} (f : Fin n → EReal) (ht : ∀ i, f i ≠ ⊤) (hb : ∃ i, f i ≠ ⊥) :
    ∃ m : ℝ, (Finset.univ : Finset (Fin n)).fold max ⊥ f = (m : EReal) := by
  have h1 : (Finset.univ : Finset (Fin n)).fold max ⊥ f ≠ ⊤ := by
    apply ne_of_lt
    rw [Finset.fold_max_lt]
    exact ⟨bot_lt_top, fun i _ => lt_top_iff_ne_top.2 (ht i)⟩
  have h2 : (Finset.univ : Finset (Fin n)).fold max ⊥ f ≠ ⊥ := by
    obtain ⟨i, hi⟩ := hb
    apply ne_of_gt
    rw [Finset.lt_fold_max]
    exact Or.inr ⟨i, Finset.mem_univ i, bot_lt_iff_ne_bot.2 hi⟩
  exact ⟨_, (EReal.coe_toReal h1 h2).symm⟩

/-- The pattern of −∞. -/
theorem ofBits_neg_inf : Ideal.ofBits .f32 0xFF800000#32 = ⊥ := by
  simp [Ideal.ofBits, Ideal.ieee]

/-- The greater of two reals is real. -/
theorem max_coe (a b : ℝ) : max (a : EReal) (b : EReal) = ((max a b : ℝ) : EReal) := (EReal.coe_strictMono.monotone.map_max).symm

end Cert.Attn

end
-- ==== Proof.Block.lean ====
/-
  What one grid point computes, at the ideal values. A row of the carried pair is `Holds acc S`: the row's maximum is
  some real `m`, and its sums are `2 ^ (-m)` times the unscaled sums `S`. The first tile establishes it, and a tile of
  256 or of 512 keys adds to `S` the tile's own terms `2 ^ score * value`.
-/
module

public import proofs.«01_k».proof.Proof.Gen.KernelIdeal.Skeleton
public import proofs.«01_k».proof.Proof.Reals
public import Idealize.ShloMosaic.Lib.MatmulPlain
public import Idealize.ShloMosaic.Lib.Pipeline.Value

@[expose] public section

set_option maxRecDepth 16384

noncomputable section

namespace Cert.KernelIdeal.Attn

open Cert.KernelIdeal Cert.KernelIdeal.Gen Cert.Attn
open Idealize.ShloMosaic Idealize.ShloMosaic.ValueIdx

/-! ## The layout operations of the body, at an index -/

/-- Two blocks of `n` rows, one above the other. -/
theorem rows_concat {α : Type} {n m w : ℕ} (hm : m = n + n)
    (x y : (⟨2, ![n, w]⟩ : Shape).Idx → α)
    (h : Shape.Concatenates [(⟨2, ![n, w]⟩ : Shape), ⟨2, ![n, w]⟩] (⟨2, ![m, w]⟩ : Shape) 0) (r : Fin m) (c : Fin w) (hn : 0 < n) :
    concatenate (⟨2, ![m, w]⟩ : Shape) 0 [⟨⟨2, ![n, w]⟩, x⟩, ⟨⟨2, ![n, w]⟩, y⟩] h (ix2 r c)
      = if r.val < n then x (ix2 ⟨r.val % n, Nat.mod_lt _ hn⟩ c) else y (ix2 ⟨r.val % n, Nat.mod_lt _ hn⟩ c) := by
  have hr := r.isLt
  by_cases hlt : r.val < n
  · rw [if_pos hlt]
    refine concatenate_pair_apply_left (t := ⟨2, ![m, w]⟩) 0 x y h (ix2 r c) rfl (ix2 ⟨r.val % n, Nat.mod_lt _ hn⟩ c) fun b => ?_
    match b with
    | ⟨0, _⟩ => exact Nat.mod_eq_of_lt hlt
    | ⟨1, _⟩ => rfl
  · rw [if_neg hlt]
    have hmod : r.val % n = r.val - n := by
      rw [Nat.mod_eq_sub_mod (by omega), Nat.mod_eq_of_lt (by omega)]
    refine concatenate_apply_piece (t := ⟨2, ![m, w]⟩) 0 [⟨⟨2, ![n, w]⟩, x⟩, ⟨⟨2, ![n, w]⟩, y⟩] h (ix2 r c) 1 (by simp) _ y rfl rfl n
      (by simp) (ix2 ⟨r.val % n, Nat.mod_lt _ hn⟩ c) (fun b hb => ?_) ?_
    · match b with
      | ⟨0, _⟩ => exact absurd rfl hb
      | ⟨1, _⟩ => rfl
    · show n + r.val % n = r.val
      omega

/-- The values of a tile, with a block of ones beside them. -/
theorem cols_concat {α : Type} {n : ℕ} (x y : (⟨2, ![n, 128]⟩ : Shape).Idx → α)
    (h : Shape.Concatenates [(⟨2, ![n, 128]⟩ : Shape), ⟨2, ![n, 128]⟩] (⟨2, ![n, 256]⟩ : Shape) 1) (r : Fin n) (c : Fin 256) :
    concatenate (⟨2, ![n, 256]⟩ : Shape) 1 [⟨⟨2, ![n, 128]⟩, x⟩, ⟨⟨2, ![n, 128]⟩, y⟩] h (ix2 r c)
      = if c.val < 128 then x (ix2 r ⟨c.val % 128, Nat.mod_lt _ (by decide)⟩) else y (ix2 r ⟨c.val % 128, Nat.mod_lt _ (by decide)⟩) := by
  have hr := c.isLt
  by_cases hlt : c.val < 128
  · rw [if_pos hlt]
    refine concatenate_pair_apply_left (t := ⟨2, ![n, 256]⟩) 1 x y h (ix2 r c) rfl (ix2 r ⟨c.val % 128, Nat.mod_lt _ (by decide)⟩) fun b => ?_
    match b with
    | ⟨0, _⟩ => rfl
    | ⟨1, _⟩ => exact Nat.mod_eq_of_lt hlt
  · rw [if_neg hlt]
    refine concatenate_apply_piece (t := ⟨2, ![n, 256]⟩) 1 [⟨⟨2, ![n, 128]⟩, x⟩, ⟨⟨2, ![n, 128]⟩, y⟩] h (ix2 r c) 1 (by simp) _ y rfl rfl 128
      (by simp) (ix2 r ⟨c.val % 128, Nat.mod_lt _ (by decide)⟩) (fun b hb => ?_) ?_
    · match b with
      | ⟨0, _⟩ => rfl
      | ⟨1, _⟩ => exact absurd rfl hb
    · show 128 + c.val % 128 = c.val
      omega

/-- A column of `n` values read as an `n × 1` array. -/
theorem col_cast {α : Type} {n : ℕ} (x : (⟨1, ![n]⟩ : Shape).Idx → α) (h : (⟨1, ![n]⟩ : Shape).ShapeCasts ⟨2, ![n, 1]⟩) (r : Fin n) :
    shapeCast ⟨2, ![n, 1]⟩ x h (ix2 r 0) = x (ix1 r) := by
  refine shapeCast_apply _ _ _ _ ?_
  rw [Shape.rowMajor_val_one, Shape.rowMajor_val_two]
  show r.val = r.val * 1 + 0
  omega

/-- A block with a leading unit axis read without it. -/
theorem drop_lead {α : Type} {n w : ℕ} (x : (⟨3, ![1, n, w]⟩ : Shape).Idx → α)
    (h : (⟨3, ![1, n, w]⟩ : Shape).ShapeCasts ⟨2, ![n, w]⟩) (r : Fin n) (c : Fin w) :
    shapeCast ⟨2, ![n, w]⟩ x h (ix2 r c) = x (ix3 0 r c) := by
  refine shapeCast_apply _ _ _ _ ?_
  rw [Shape.rowMajor_val_three, Shape.rowMajor_val_two]
  show (0 * n + r.val) * w + c.val = r.val * w + c.val
  simp

/-- A column broadcast along its rows. -/
theorem col_broadcast {α : Type} {n w : ℕ} (hn : n ≠ 1) (x : (⟨2, ![n, 1]⟩ : Shape).Idx → α)
    (h : (⟨2, ![n, 1]⟩ : Shape).Broadcasts ⟨2, ![n, w]⟩) (r : Fin n) (c : Fin w) :
    broadcastTo ⟨2, ![n, w]⟩ x h (ix2 r c) = x (ix2 r 0) := by
  refine broadcastTo_apply _ _ _ _ fun a => ?_
  match a with
  | ⟨0, _⟩ => exact (if_neg hn).symm
  | ⟨1, _⟩ => rfl

/-! ## The queries, split by their half -/

/-- Whether row `r` of the split queries keeps lane `d`. -/
def keeps (r : Fin 512) (d : Fin 128) : Prop := r.val < 256 ↔ d.val < 64

instance (r : Fin 512) (d : Fin 128) : Decidable (keeps r d) := by unfold keeps; infer_instance

/-- The query row that row `r` of the split queries is made of. -/
def row (r : Fin 512) : Fin 256 := ⟨r.val % 256, Nat.mod_lt _ (by decide)⟩

theorem lane_lt (d : Fin 128) : IntOp.cmpi .slt (BitVec.ofNat 32 d.val) 64#32 = if d.val < 64 then 1#1 else 0#1 := by
  revert d; decide +kernel

theorem pay1_apply (v0 : Vec Ideal S1x256x128 .bf16) (r : Fin 512) (d : Fin 128) :
    k0_pay1 v0 (ix2 r d) = if keeps r d then v0 (ix3 0 (row r) d) else 0 := by
  unfold k0_pay1
  have hc : ∀ t : Fin 256, (cmpi .slt (iota .tc S256x128 32 [1] iota_S256x128_d1_w32) (broadcast S256x128 64#32) : IVec S256x128 1) (ix2 t d)
      = if d.val < 64 then 1#1 else 0#1 := fun t => by
      refine Eq.trans ?_ (lane_lt d)
      exact congrArg (IntOp.cmpi .slt · 64#32) (iota_single_apply .tc S256x128 32 1 _ (ix2 t d))
  have h0 : (Scalar.ofBits .bf16 0x0000#16 : Ideal .bf16) = 0 := Ideal.ofBits_zero_bf16
  refine (rows_concat (m := 512) (n := 256) (w := 128) rfl _ _ _ r d (by decide)).trans ?_
  rw [select_apply, select_apply, hc, broadcast_apply, h0]
  unfold keeps
  have e : shapeCast S256x128 v0 shapeCasts_S1x256x128_S256x128 (ix2 ⟨r.val % 256, Nat.mod_lt _ (by decide)⟩ d) = v0 (ix3 0 (row r) d) :=
    drop_lead _ _ _ _
  rw [e]
  by_cases h1 : r.val < 256 <;> by_cases h2 : d.val < 64 <;> simp [h1, h2, select_one, select_zero]

/-! ## The carried pair -/

/-- A row's maximum is real, and its sums are the unscaled sums `S` by the maximum's power. -/
def Holds (acc : FVec Ideal S512x1 .f32 × FVec Ideal S512x256 .f32) (S : Fin 512 → Fin 256 → ℝ) : Prop :=
  ∀ r : Fin 512, ∃ m : ℝ, acc.1 (ix2 r 0) = ((m : ℝ) : EReal) ∧ ∀ e : Fin 256, acc.2 (ix2 r e) = (((2 : ℝ) ^ (-m) * S r e : ℝ) : EReal)

/-- A key's value at column `e`: its own below 128, one beside. -/
def wide {n : ℕ} (v : Fin n → Fin 128 → ℝ) (c : Fin n) (e : Fin 256) : ℝ :=
  if e.val < 128 then v c ⟨e.val % 128, Nat.mod_lt _ (by decide)⟩ else 1

/-- The tile of values with the ones beside it. -/
theorem wide_apply {n : ℕ} (v : FVec Ideal (⟨3, ![1, n, 128]⟩ : Shape) .bf16) (V : Fin n → Fin 128 → ℝ)
    (hv : ∀ c e, v (ix3 0 c e) = ((V c e : ℝ) : EReal)) (hs : (⟨3, ![1, n, 128]⟩ : Shape).ShapeCasts ⟨2, ![n, 128]⟩)
    (h : Shape.Concatenates [(⟨2, ![n, 128]⟩ : Shape), ⟨2, ![n, 128]⟩] (⟨2, ![n, 256]⟩ : Shape) 1) (c : Fin n) (e : Fin 256) :
    concatenate (⟨2, ![n, 256]⟩ : Shape) 1 [⟨⟨2, ![n, 128]⟩, shapeCast ⟨2, ![n, 128]⟩ v hs⟩,
      ⟨⟨2, ![n, 128]⟩, broadcast ⟨2, ![n, 128]⟩ (Scalar.ofBits .bf16 0x3F80#16 : Ideal .bf16)⟩] h (ix2 c e) = ((wide V c e : ℝ) : EReal) := by
  rw [cols_concat]
  unfold wide
  have h1 : (Scalar.ofBits .bf16 0x3F80#16 : Ideal .bf16) = ((1 : ℝ) : EReal) := Ideal.ofBits_one_bf16
  split
  · rw [drop_lead, hv]
  · rw [broadcast_apply, h1]

/-- Scores of real queries against real keys. -/
theorem score_real {n : ℕ} (q : FVec Ideal S512x128 .bf16) (k : FVec Ideal (⟨2, ![128, n]⟩ : Shape) .bf16) (Q : Fin 512 → Fin 128 → ℝ)
    (K : Fin 128 → Fin n → ℝ) (hq : ∀ r d, q (ix2 r d) = ((Q r d : ℝ) : EReal)) (hk : ∀ d c, k (ix2 d c) = ((K d c : ℝ) : EReal))
    (r : Fin 512) (c : Fin n) :
    ∑ d : Fin 128, q (ix2 r d) * k (ix2 d c) = ((∑ d, Q r d * K d c : ℝ) : EReal) := by
  rw [← coe_sum]
  refine Finset.sum_congr rfl fun d _ => ?_
  rw [hq, hk, EReal.coe_mul]

/-- The weights of a tile, some masked, over its values. -/
theorem weigh {n : ℕ} (m : ℝ) (p : Fin n → EReal) (ok : Fin n → Prop) [DecidablePred ok] (s : Fin n → ℝ) (w : Fin n → EReal) (W : Fin n → ℝ)
    (hp : ∀ c, p c = if ok c then ((s c : ℝ) : EReal) else ⊥) (hw : ∀ c, w c = ((W c : ℝ) : EReal)) :
    ∑ c, Ideal.exp2 (p c - (m : EReal)) * w c = (((2 : ℝ) ^ (-m) * ∑ c, (if ok c then (2 : ℝ) ^ s c else 0) * W c : ℝ) : EReal) := by
  rw [Finset.mul_sum, ← coe_sum]
  refine Finset.sum_congr rfl fun c _ => ?_
  rw [hp, hw]
  split
  · rw [← EReal.coe_sub, exp2_coe, ← EReal.coe_mul, sub_eq_add_neg, Real.rpow_add two_pos]
    congr 1; ring
  · rw [EReal.bot_sub, exp2_bot, ← EReal.coe_mul]
    congr 1; ring

/-- The scores of the first tile: the products with the keys, and the bias. -/
theorem pay2_apply (v0 : Vec Ideal S1x256x128 .bf16) (v17 : Vec Ideal S128x512 .bf16) (v24 : Vec Ideal S1x1x256x512 .f32)
    (r c : Fin 512) :
    k0_pay2 v0 v17 v24 (ix2 r c) = (∑ d : Fin 128, k0_pay1 v0 (ix2 r d) * v17 (ix2 d c)) + v24 (ix4 0 0 (row r) c) := by
  unfold k0_pay2
  rw [shapeCast_self]
  refine congrArg₂ (· + ·) ?_ ?_
  · refine (Ideal.matmul_plain_apply none (k0_pay1 v0) v17 _ r c).trans ?_
    rw [constant_apply, Ideal.ofBits_zero_f32, zero_add]
  · refine (rows_concat (m := 512) (n := 256) (w := 512) rfl _ _ _ r c (by decide)).trans ?_
    rw [ite_self]
    refine shapeCast_apply _ _ _ _ ?_
    rw [Shape.rowMajor_val_four, Shape.rowMajor_val_two]
    show ((0 * 1 + 0) * 256 + r.val % 256) * 512 + c.val = r.val % 256 * 512 + c.val
    omega

/-- The scores of a pair of far tiles. -/
theorem pay8_apply (q : FVec Ideal S512x128 .bf16) (k : Vec Ideal S128x512 .bf16) (r c : Fin 512) :
    k0_pay8 q k (ix2 r c) = ∑ d : Fin 128, q (ix2 r d) * k (ix2 d c) := by
  unfold k0_pay8
  rw [shapeCast_self]
  refine (Ideal.matmul_plain_apply none q k _ r c).trans ?_
  rw [constant_apply, Ideal.ofBits_zero_f32, zero_add]

/-- The scores of one far tile. -/
theorem pay5_apply (q : FVec Ideal S512x128 .bf16) (k : Vec Ideal S128x256 .bf16) (r : Fin 512) (c : Fin 256) :
    k0_pay5 q k (ix2 r c) = ∑ d : Fin 128, q (ix2 r d) * k (ix2 d c) := by
  unfold k0_pay5
  rw [shapeCast_self]
  refine (Ideal.matmul_plain_apply none q k _ r c).trans ?_
  rw [constant_apply, Ideal.ofBits_zero_f32, zero_add]

/-- A row's maximum. -/
theorem rowmax_apply {n : ℕ} (x : FVec Ideal (⟨2, ![512, n]⟩ : Shape) .f32) (h : (⟨2, ![512, n]⟩ : Shape).Reduces [1] S512)
    (hc : S512.ShapeCasts S512x1) (r : Fin 512) :
    shapeCast S512x1 (multiReduction .maximumf [1] S512 x 0xFF800000#32 h (.inl rfl) rfl) hc (ix2 r 0)
      = (Finset.univ : Finset (Fin n)).fold max ⊥ fun c => x (ix2 r c) := by
  refine (col_cast _ _ r).trans ?_
  refine (Ideal.multiReduction_maximumf_single x _ h (.inl rfl) rfl (ix1 r)).trans ?_
  refine (congrArg (fun b => (Finset.univ : Finset (Fin n)).fold max b (x ∘ h.lift (ix1 r))) ofBits_neg_inf).trans ?_
  refine congrArg (fun f => (Finset.univ : Finset (Fin n)).fold max ⊥ f) (funext fun c => congrArg x ?_)
  funext a
  match a with
  | ⟨0, _⟩ => rfl
  | ⟨1, _⟩ => rfl

/-- The first tile establishes the carried pair. -/
theorem first_holds (v0 : Vec Ideal S1x256x128 .bf16) (v14 : Vec Ideal S1x512x128 .bf16) (v17 : Vec Ideal S128x512 .bf16)
    (v24 : Vec Ideal S1x1x256x512 .f32) (Q : Fin 512 → Fin 128 → ℝ) (K : Fin 128 → Fin 512 → ℝ) (V : Fin 512 → Fin 128 → ℝ)
    (ok : Fin 256 → Fin 512 → Prop) [∀ t, DecidablePred (ok t)] (B : Fin 256 → Fin 512 → ℝ)
    (hq : ∀ r d, k0_pay1 v0 (ix2 r d) = ((Q r d : ℝ) : EReal)) (hk : ∀ d c, v17 (ix2 d c) = ((K d c : ℝ) : EReal))
    (hv : ∀ c e, v14 (ix3 0 c e) = ((V c e : ℝ) : EReal))
    (hb : ∀ t c, v24 (ix4 0 0 t c) = if ok t c then ((B t c : ℝ) : EReal) else ⊥) (hok : ∀ t, ∃ c, ok t c) :
    Holds (k0_pay3 v0 v17 v24, k0_pay4 v0 v14 v17 v24)
      (fun r e => ∑ c, (if ok (row r) c then (2 : ℝ) ^ ((∑ d, Q r d * K d c) + B (row r) c) else 0) * wide V c e) := by
  intro r
  have hp : ∀ c, k0_pay2 v0 v17 v24 (ix2 r c) = if ok (row r) c then (((∑ d, Q r d * K d c) + B (row r) c : ℝ) : EReal) else ⊥ := by
    intro c
    rw [pay2_apply, score_real _ _ Q K hq hk, hb]
    split
    · rw [EReal.coe_add]
    · exact EReal.add_bot _
  obtain ⟨m, hm⟩ := fold_max_real (fun c => k0_pay2 v0 v17 v24 (ix2 r c))
    (fun c => by rw [hp]; split; exacts [EReal.coe_ne_top _, bot_ne_top])
    (by obtain ⟨c, hc⟩ := hok (row r); exact ⟨c, by rw [hp, if_pos hc]; exact EReal.coe_ne_bot _⟩)
  have h3 : k0_pay3 v0 v17 v24 (ix2 r 0) = (m : EReal) :=
    (rowmax_apply (k0_pay2 v0 v17 v24) reduces_S512x512_S512 shapeCasts_S512_S512x1 r).trans hm
  refine ⟨m, ?_, fun e => ?_⟩
  · dsimp only
    exact h3
  dsimp only
  rw [← weigh m (fun c => k0_pay2 v0 v17 v24 (ix2 r c)) (ok (row r)) _ _ (fun c => wide V c e) hp
    (fun c => wide_apply (n := 512) v14 V hv shapeCasts_S1x512x128_S512x128 concatenates_S512x128_S512x128_S512x256_d1 c e)]
  unfold k0_pay4
  refine (Ideal.matmul_plain_apply (M := 512) (K := 512) (N := 256) none _ _ _ r e).trans ?_
  rw [constant_apply, Ideal.ofBits_zero_f32, zero_add]
  refine Finset.sum_congr rfl fun c _ => congrArg (· * _) (congrArg Ideal.exp2 (congrArg (k0_pay2 v0 v17 v24 (ix2 r c) - ·) ?_))
  exact (col_broadcast (by decide) (k0_pay3 v0 v17 v24) _ r c).trans h3

/-- The rescaled sums of a row plus a tile's own. -/
theorem rescale {n : ℕ} (m m' A : ℝ) (p : Fin n → EReal) (s : Fin n → ℝ) (w : Fin n → EReal) (W : Fin n → ℝ)
    (hp : ∀ c, p c = ((s c : ℝ) : EReal)) (hw : ∀ c, w c = ((W c : ℝ) : EReal)) :
    Ideal.exp2 ((m : EReal) - (m' : EReal)) * (((2 : ℝ) ^ (-m) * A : ℝ) : EReal) + ∑ c, Ideal.exp2 (p c - (m' : EReal)) * w c
      = (((2 : ℝ) ^ (-m') * (A + ∑ c, (2 : ℝ) ^ s c * W c) : ℝ) : EReal) := by
  rw [weigh m' p (fun _ => True) s w W (fun c => by rw [if_pos trivial, hp]) hw, ← EReal.coe_sub, exp2_coe, ← EReal.coe_mul, ← EReal.coe_add]
  simp only [if_true]
  congr 1
  rw [mul_add, ← mul_assoc, ← Real.rpow_add two_pos]
  congr 3; ring

/-- A pair of far tiles adds its 512 keys. -/
theorem pair_holds (q : FVec Ideal S512x128 .bf16) (acc : FVec Ideal S512x1 .f32 × FVec Ideal S512x256 .f32) (v : Vec Ideal S1x512x128 .bf16)
    (k : Vec Ideal S128x512 .bf16) (Q : Fin 512 → Fin 128 → ℝ) (K : Fin 128 → Fin 512 → ℝ) (V : Fin 512 → Fin 128 → ℝ)
    (S : Fin 512 → Fin 256 → ℝ) (hq : ∀ r d, q (ix2 r d) = ((Q r d : ℝ) : EReal)) (hk : ∀ d c, k (ix2 d c) = ((K d c : ℝ) : EReal))
    (hv : ∀ c e, v (ix3 0 c e) = ((V c e : ℝ) : EReal)) (hS : Holds acc S) :
    Holds (k0_pay9 q acc.1 k, k0_pay10 q acc.1 acc.2 v k)
      (fun r e => S r e + ∑ c, (2 : ℝ) ^ (∑ d, Q r d * K d c) * wide V c e) := by
  intro r
  obtain ⟨m, hm, hs⟩ := hS r
  have hp : ∀ c, k0_pay8 q k (ix2 r c) = ((∑ d, Q r d * K d c : ℝ) : EReal) := fun c => by rw [pay8_apply, score_real _ _ Q K hq hk]
  obtain ⟨m₁, h₁⟩ := fold_max_real (fun c => k0_pay8 q k (ix2 r c)) (fun c => by rw [hp]; exact EReal.coe_ne_top _)
    ⟨0, by rw [hp]; exact EReal.coe_ne_bot _⟩
  have h9 : k0_pay9 q acc.1 k (ix2 r 0) = ((max m m₁ : ℝ) : EReal) := by
    rw [← max_coe, ← hm, ← h₁]
    exact congrArg (max (acc.1 (ix2 r 0))) (rowmax_apply (k0_pay8 q k) reduces_S512x512_S512 shapeCasts_S512_S512x1 r)
  refine ⟨max m m₁, h9, fun e => ?_⟩
  rw [← rescale m (max m m₁) (S r e) (fun c => k0_pay8 q k (ix2 r c)) _ _ (fun c => wide V c e) hp
    (fun c => wide_apply (n := 512) v V hv shapeCasts_S1x512x128_S512x128 concatenates_S512x128_S512x128_S512x256_d1 c e)]
  unfold k0_pay10
  refine congrArg₂ (· + ·) ?_ ?_
  · refine congrArg₂ (· * ·) ?_ (hs e)
    refine (col_broadcast (by decide) _ _ r e).trans ?_
    exact congrArg Ideal.exp2 (congrArg₂ (· - ·) hm h9)
  · refine (Ideal.matmul_plain_apply (M := 512) (K := 512) (N := 256) none _ _ _ r e).trans ?_
    rw [constant_apply, Ideal.ofBits_zero_f32, zero_add]
    refine Finset.sum_congr rfl fun c _ => congrArg (· * _) (congrArg Ideal.exp2 (congrArg (k0_pay8 q k (ix2 r c) - ·) ?_))
    exact (col_broadcast (by decide) (k0_pay9 q acc.1 k) _ r c).trans h9

/-- One far tile adds its 256 keys. -/
theorem odd_holds (q : FVec Ideal S512x128 .bf16) (acc : FVec Ideal S512x1 .f32 × FVec Ideal S512x256 .f32) (v : Vec Ideal S1x256x128 .bf16)
    (k : Vec Ideal S128x256 .bf16) (Q : Fin 512 → Fin 128 → ℝ) (K : Fin 128 → Fin 256 → ℝ) (V : Fin 256 → Fin 128 → ℝ)
    (S : Fin 512 → Fin 256 → ℝ) (hq : ∀ r d, q (ix2 r d) = ((Q r d : ℝ) : EReal)) (hk : ∀ d c, k (ix2 d c) = ((K d c : ℝ) : EReal))
    (hv : ∀ c e, v (ix3 0 c e) = ((V c e : ℝ) : EReal)) (hS : Holds acc S) :
    Holds (k0_pay6 q acc.1 k, k0_pay7 q acc.1 acc.2 v k)
      (fun r e => S r e + ∑ c, (2 : ℝ) ^ (∑ d, Q r d * K d c) * wide V c e) := by
  intro r
  obtain ⟨m, hm, hs⟩ := hS r
  have hp : ∀ c, k0_pay5 q k (ix2 r c) = ((∑ d, Q r d * K d c : ℝ) : EReal) := fun c => by rw [pay5_apply, score_real _ _ Q K hq hk]
  obtain ⟨m₁, h₁⟩ := fold_max_real (fun c => k0_pay5 q k (ix2 r c)) (fun c => by rw [hp]; exact EReal.coe_ne_top _)
    ⟨0, by rw [hp]; exact EReal.coe_ne_bot _⟩
  have h9 : k0_pay6 q acc.1 k (ix2 r 0) = ((max m m₁ : ℝ) : EReal) := by
    rw [← max_coe, ← hm, ← h₁]
    exact congrArg (max (acc.1 (ix2 r 0))) (rowmax_apply (k0_pay5 q k) reduces_S512x256_S512 shapeCasts_S512_S512x1 r)
  refine ⟨max m m₁, h9, fun e => ?_⟩
  rw [← rescale m (max m m₁) (S r e) (fun c => k0_pay5 q k (ix2 r c)) _ _ (fun c => wide V c e) hp
    (fun c => wide_apply (n := 256) v V hv shapeCasts_S1x256x128_S256x128 concatenates_S256x128_S256x128_S256x256_d1 c e)]
  unfold k0_pay7
  refine congrArg₂ (· + ·) ?_ ?_
  · refine congrArg₂ (· * ·) ?_ (hs e)
    refine (col_broadcast (by decide) _ _ r e).trans ?_
    exact congrArg Ideal.exp2 (congrArg₂ (· - ·) hm h9)
  · refine (Ideal.matmul_plain_apply (M := 512) (K := 256) (N := 256) none _ _ _ r e).trans ?_
    rw [constant_apply, Ideal.ofBits_zero_f32, zero_add]
    refine Finset.sum_congr rfl fun c _ => congrArg (· * _) (congrArg Ideal.exp2 (congrArg (k0_pay5 q k (ix2 r c) - ·) ?_))
    exact (col_broadcast (by decide) (k0_pay6 q acc.1 k) _ r c).trans h9

end Cert.KernelIdeal.Attn

end
-- ==== Proof.Final.lean ====
/-
  The carried pair after all the key blocks of a grid point, at the ideal values: every row's sums are, up to the factor
  of the row's maximum, the sums over all 2048 keys of `2 ^ score * value`, where a key behind the query's position
  weighs nothing. The near tile covers the last (up to) two blocks of 256 keys, the far tiles the blocks before them.
-/
module

public import proofs.«01_k».proof.Proof.Run
public import proofs.«01_k».proof.Proof.Block
public import Idealize.ShloMosaic.Lib.Pipeline.ValueKit.Tiles

@[expose] public section

set_option maxRecDepth 16384

noncomputable section

namespace Cert.KernelIdeal.Attn

open Cert.KernelIdeal Cert.KernelIdeal.Gen Cert.Attn
open Idealize.ShloMosaic Idealize.ShloMosaic.ValueIdx

/-! ## The offsets of a grid point's loads -/

/-- The number of key blocks before the near tile. -/
def far (i : grid0.Coords) : ℕ := (i 2).val - 1

theorem far_add (i : grid0.Coords) : far i + min (i 2).val 1 = (i 2).val := by unfold far; omega

theorem far_lt (i : grid0.Coords) : far i < 7 := by
  have h : (i 2).val < 8 := (i 2).isLt
  unfold far; omega

/-- A grid point whose block of queries is `n`. -/
def pt (n : Fin 8) : grid0.Coords := fun a => match a with
  | ⟨0, _⟩ => (⟨0, by decide⟩ : Fin 16)
  | ⟨1, _⟩ => (⟨0, by decide⟩ : Fin 4)
  | ⟨2, _⟩ => n

theorem off1_eq (i : grid0.Coords) : k0_off1 i = ![0, 256 * far i, 0] := by
  have h : ∀ n : Fin 8, k0_off1 (pt n) = ![0, 256 * far (pt n), 0] := by decide +kernel
  exact h (i 2)

theorem off2_eq (i : grid0.Coords) : k0_off2 i = ![0, 256 * far i] := by
  have h : ∀ n : Fin 8, k0_off2 (pt n) = ![0, 256 * far (pt n)] := by decide +kernel
  exact h (i 2)

theorem off3_eq (i : grid0.Coords) : k0_off3 i = ![0, min (i 2).val 1, 0, 0] := by
  have h : ∀ n : Fin 8, k0_off3 (pt n) = ![0, min n.val 1, 0, 0] := by decide +kernel
  exact h (i 2)

theorem off4_eq (i : grid0.Coords) (hc : k0_cond1 i = 1#1) : k0_off4 i = ![0, 256 * (far i - 1), 0] := by
  have h : ∀ n : Fin 8, k0_cond1 (pt n) = 1#1 → k0_off4 (pt n) = ![0, 256 * (far (pt n) - 1), 0] := by decide +kernel
  exact h (i 2) hc

theorem off5_eq (i : grid0.Coords) (hc : k0_cond1 i = 1#1) : k0_off5 i = ![0, 256 * (far i - 1)] := by
  have h : ∀ n : Fin 8, k0_cond1 (pt n) = 1#1 → k0_off5 (pt n) = ![0, 256 * (far (pt n) - 1)] := by decide +kernel
  exact h (i 2) hc

theorem cond1_iff (i : grid0.Coords) : k0_cond1 i = 1#1 ↔ far i % 2 = 1 := by
  have h : ∀ n : Fin 8, k0_cond1 (pt n) = 1#1 ↔ far (pt n) % 2 = 1 := by decide +kernel
  exact h (i 2)

theorem trips_eq (i : grid0.Coords) : (k0_t1_loop i).trips = far i / 2 := by
  have h : ∀ n : Fin 8, (k0_t1_loop (pt n)).trips = far (pt n) / 2 := by decide +kernel
  exact h (i 2)

theorem off6_eq (i : grid0.Coords) (k : Fin (k0_t1_loop i).trips) : k0_off6 i k = ![0, 512 * k.val, 0] := by
  have h : ∀ n : Fin 8, ∀ k : Fin (k0_t1_loop (pt n)).trips, k0_off6 (pt n) k = ![0, 512 * k.val, 0] := by decide +kernel
  exact h (i 2) k

theorem off7_eq (i : grid0.Coords) (k : Fin (k0_t1_loop i).trips) : k0_off7 i k = ![0, 512 * k.val] := by
  have h : ∀ n : Fin 8, ∀ k : Fin (k0_t1_loop (pt n)).trips, k0_off7 (pt n) k = ![0, 512 * k.val] := by decide +kernel
  exact h (i 2) k

/-! ## Loads at an index -/

theorem ld_keys {n a : ℕ} (x1 : Vec Ideal S128x2048 .bf16) (K : Fin 128 → ℕ → ℝ)
    (hk : ∀ d (j : Fin 2048), x1 (ix2 d j) = ((K d j.val : ℝ) : EReal)) (off : Fin 2 → ℕ) (ho : off = ![0, a])
    (inb : ∀ b, off b + (![128, n] : Fin 2 → ℕ) b ≤ S128x2048.size b) (d : Fin 128) (c : Fin n) :
    View.ld (Val := Elt Ideal) (e' := .bf16) x1 (Rect.unit (s := S128x2048) off (![128, n] : Fin 2 → ℕ) inb) (ix2 d c) = ((K d (a + c.val) : ℝ) : EReal) := by
  subst ho
  have hl : a + c.val < 2048 := by
    have h1 := inb 1
    have h2 := c.isLt
    change a + n ≤ 2048 at h1
    omega
  refine (View.ld_unit_apply_of x1 _ _ inb (ix2 d c) (ix2 d ⟨a + c.val, hl⟩) fun b => ?_).trans (hk d ⟨a + c.val, hl⟩)
  match b with
  | ⟨0, _⟩ => exact (Nat.zero_add _).symm
  | ⟨1, _⟩ => rfl

theorem ld_values {n a : ℕ} (x2 : Vec Ideal S1x2048x128 .bf16) (V : ℕ → Fin 128 → ℝ)
    (hv : ∀ (j : Fin 2048) e, x2 (ix3 0 j e) = ((V j.val e : ℝ) : EReal)) (off : Fin 3 → ℕ) (ho : off = ![0, a, 0])
    (inb : ∀ b, off b + (![1, n, 128] : Fin 3 → ℕ) b ≤ S1x2048x128.size b) (c : Fin n) (e : Fin 128) :
    View.ld (Val := Elt Ideal) (e' := .bf16) x2 (Rect.unit (s := S1x2048x128) off (![1, n, 128] : Fin 3 → ℕ) inb) (ix3 0 c e) = ((V (a + c.val) e : ℝ) : EReal) := by
  subst ho
  have hl : a + c.val < 2048 := by
    have h1 := inb 1
    have h2 := c.isLt
    change a + n ≤ 2048 at h1
    omega
  refine (View.ld_unit_apply_of x2 _ _ inb (ix3 0 c e) (ix3 0 ⟨a + c.val, hl⟩ e) fun b => ?_).trans (hv ⟨a + c.val, hl⟩ e)
  match b with
  | ⟨0, _⟩ => rfl
  | ⟨1, _⟩ => rfl
  | ⟨2, _⟩ => exact (Nat.zero_add _).symm

/-! ## The sums over the keys -/

/-- A key's value at column `e`: its own below 128, one beside. -/
def wideAt (V : ℕ → Fin 128 → ℝ) (j : ℕ) (e : Fin 256) : ℝ :=
  if e.val < 128 then V j ⟨e.val % 128, Nat.mod_lt _ (by decide)⟩ else 1

/-- The weight of key `j` in row `r`, whose query stands at position `p`. -/
def weight (Q : Fin 512 → Fin 128 → ℝ) (K : Fin 128 → ℕ → ℝ) (B : Fin 256 → ℕ → ℝ) (p : ℕ) (r : Fin 512) (j : ℕ) : ℝ :=
  if j ≤ p then (2 : ℝ) ^ ((∑ d, Q r d * K d j) + B (row r) j) else 0

/-- The position of row `r`'s query. -/
def pos (i : grid0.Coords) (r : Fin 512) : ℕ := 256 * (i 2).val + (row r).val

/-- What one grid point is given: real queries, keys, values, and bias tiles. -/
structure Given (i : grid0.Coords) (x0 : Vec Ideal S1x256x128 .bf16) (x1 : Vec Ideal S128x2048 .bf16)
    (x2 : Vec Ideal S1x2048x128 .bf16) (x3 : Vec Ideal S1x2x256x512 .f32)
    (Q : Fin 256 → Fin 128 → ℝ) (K : Fin 128 → ℕ → ℝ) (V : ℕ → Fin 128 → ℝ) (B : Fin 256 → ℕ → ℝ) : Prop where
  hq : ∀ t d, x0 (ix3 0 t d) = ((Q t d : ℝ) : EReal)
  hk : ∀ d (j : Fin 2048), x1 (ix2 d j) = ((K d j.val : ℝ) : EReal)
  hv : ∀ (j : Fin 2048) e, x2 (ix3 0 j e) = ((V j.val e : ℝ) : EReal)
  hb : ∀ (a : Fin 2) (t : Fin 256) (c : Fin 512), a.val = min (i 2).val 1 →
    x3 (ix4 0 a t c) = if c.val ≤ a.val * 256 + t.val then ((B t (256 * far i + c.val) : ℝ) : EReal) else ⊥
  hB : ∀ t j, j < 256 * far i → B t j = 0

/-- The split queries. -/
def split (Q : Fin 256 → Fin 128 → ℝ) (r : Fin 512) (d : Fin 128) : ℝ := if keeps r d then Q (row r) d else 0

section
variable {i : grid0.Coords} {x0 : Vec Ideal S1x256x128 .bf16} {x1 : Vec Ideal S128x2048 .bf16} {x2 : Vec Ideal S1x2048x128 .bf16}
  {x3 : Vec Ideal S1x2x256x512 .f32} {Q : Fin 256 → Fin 128 → ℝ} {K : Fin 128 → ℕ → ℝ} {V : ℕ → Fin 128 → ℝ} {B : Fin 256 → ℕ → ℝ}

/-- One key's contribution to a row's sum at column `e`. -/
def term (i : grid0.Coords) (Q : Fin 256 → Fin 128 → ℝ) (K : Fin 128 → ℕ → ℝ) (V : ℕ → Fin 128 → ℝ) (B : Fin 256 → ℕ → ℝ)
    (r : Fin 512) (e : Fin 256) (j : ℕ) : ℝ := weight (split Q) K B (pos i r) r j * wideAt V j e

theorem split_apply (g : Given i x0 x1 x2 x3 Q K V B) (r : Fin 512) (d : Fin 128) :
    k0_pay1 (View.ld x0 rQ) (ix2 r d) = ((split Q r d : ℝ) : EReal) := by
  rw [View.ld_unit_zero (by funext a; fin_cases a <;> rfl), pay1_apply, g.hq]
  unfold split
  split
  · rfl
  · exact EReal.coe_zero.symm

/-- A far key's contribution: every far key is before the query, and has no bias. -/
theorem term_far (g : Given i x0 x1 x2 x3 Q K V B) (r : Fin 512) (e : Fin 256) (j : ℕ) (hj : j < 256 * far i) :
    term i Q K V B r e j = (2 : ℝ) ^ (∑ d, split Q r d * K d j) * wideAt V j e := by
  have hp : j ≤ pos i r := by unfold pos; unfold far at hj; omega
  rw [term, weight, if_pos hp, g.hB _ _ hj, add_zero]

/-- The pair after the near keys. -/
theorem first_sum (g : Given i x0 x1 x2 x3 Q K V B) :
    Holds (first i x0 x1 x2 x3) fun r e => ∑ c ∈ Finset.range 512, term i Q K V B r e (256 * far i + c) := by
  have hf := far_add i
  have h := first_holds (View.ld x0 rQ) (View.ld x2 (rV1 i)) (View.ld x1 (rK1 i)) (View.ld x3 (rB i)) (split Q)
    (fun d c => K d (256 * far i + c.val)) (fun c => V (256 * far i + c.val)) (fun t c => c.val ≤ min (i 2).val 1 * 256 + t.val)
    (fun t c => B t (256 * far i + c.val)) (split_apply g) (ld_keys x1 K g.hk _ (off2_eq i) _) (ld_values x2 V g.hv _ (off1_eq i) _)
    (fun t c => by
      have hm : min (i 2).val 1 < 2 := by omega
      refine (View.ld_unit_apply_of x3 _ _ _ (ix4 0 0 t c) (ix4 0 ⟨min (i 2).val 1, hm⟩ t c) fun b => ?_).trans (g.hb ⟨_, hm⟩ t c rfl)
      match b with
      | ⟨0, _⟩ => exact (congrFun (off3_eq i) 0).symm
      | ⟨1, _⟩ => exact (congrFun (off3_eq i) 1).symm
      | ⟨2, _⟩ => exact (Nat.zero_add _).symm.trans (congrArg (· + t.val) (congrFun (off3_eq i) 2).symm)
      | ⟨3, _⟩ => exact (Nat.zero_add _).symm.trans (congrArg (· + c.val) (congrFun (off3_eq i) 3).symm))
    (fun t => ⟨0, Nat.zero_le _⟩)
  refine cast (congrArg (Holds (first i x0 x1 x2 x3)) ?_) h
  funext r e
  rw [Finset.sum_range]
  refine Finset.sum_congr rfl fun c _ => ?_
  have hc : c.val ≤ min (i 2).val 1 * 256 + (row r).val ↔ 256 * far i + c.val ≤ pos i r := by unfold pos; omega
  unfold term weight
  simp only [hc]
  rfl

/-- The pair after the single far block. -/
theorem odd_sum (g : Given i x0 x1 x2 x3 Q K V B) (acc : Carry Ideal) (S : Fin 512 → Fin 256 → ℝ) (hS : Holds acc S) :
    Holds (odd i (k0_pay1 (View.ld x0 rQ)) x1 x2 acc) fun r e =>
      S r e + ∑ c ∈ Finset.range (256 * (far i % 2)), term i Q K V B r e (512 * (far i / 2) + c) := by
  unfold odd
  by_cases hc : k0_cond1 i = 1#1
  · rw [dif_pos hc]
    have h2 := (cond1_iff i).mp hc
    have h := odd_holds (k0_pay1 (View.ld x0 rQ)) acc (View.ld x2 (rV2 i hc)) (View.ld x1 (rK2 i hc)) (split Q)
      (fun d c => K d (256 * (far i - 1) + c.val)) (fun c => V (256 * (far i - 1) + c.val)) S (split_apply g)
      (ld_keys x1 K g.hk _ (off5_eq i hc) _) (ld_values x2 V g.hv _ (off4_eq i hc) _) hS
    refine cast (congrArg (Holds _) ?_) h
    funext r e
    rw [h2, Finset.sum_range]
    refine congrArg (S r e + ·) (Finset.sum_congr rfl fun c _ => ?_)
    have e1 : 512 * (far i / 2) = 256 * (far i - 1) := by omega
    have hl : c.val < 256 := c.isLt
    rw [e1, term_far g _ _ _ (by omega)]
    rfl
  · rw [dif_neg hc]
    have h2 : far i % 2 = 0 := by
      have := mt (cond1_iff i).mpr hc
      omega
    refine cast (congrArg (Holds _) ?_) hS
    funext r e
    rw [h2, Nat.mul_zero, Finset.sum_range_zero, add_zero]

/-- The pair before trip `n` of the loop over the pairs of far blocks. -/
theorem pairs_sum (g : Given i x0 x1 x2 x3 Q K V B) (acc : Carry Ideal) (S : Fin 512 → Fin 256 → ℝ) (hS : Holds acc S) :
    ∀ n, n ≤ far i / 2 → Holds (pairs i (k0_pay1 (View.ld x0 rQ)) x1 x2 acc n) fun r e =>
      S r e + ∑ j ∈ Finset.range (512 * n), term i Q K V B r e j
  | 0, _ => by
    refine cast (congrArg (Holds _) ?_) hS
    funext r e
    rw [Nat.mul_zero, Finset.sum_range_zero, add_zero]
  | n + 1, hn => by
    have ht : n < (k0_t1_loop i).trips := by rw [trips_eq]; omega
    rw [pairs, dif_pos ht]
    have h := pair_holds (k0_pay1 (View.ld x0 rQ)) _ (View.ld x2 (rV3 i ⟨n, ht⟩)) (View.ld x1 (rK3 i ⟨n, ht⟩)) (split Q)
      (fun d c => K d (512 * n + c.val)) (fun c => V (512 * n + c.val)) _ (split_apply g)
      (ld_keys x1 K g.hk _ (off7_eq i ⟨n, ht⟩) _) (ld_values x2 V g.hv _ (off6_eq i ⟨n, ht⟩) _) (pairs_sum g acc S hS n (by omega))
    refine cast (congrArg (Holds _) ?_) h
    funext r e
    rw [Nat.mul_succ, Finset.sum_range_add, ← add_assoc]
    refine congrArg₂ (· + ·) rfl ?_
    rw [Finset.sum_range]
    refine Finset.sum_congr rfl fun c _ => ?_
    have hl : c.val < 512 := c.isLt
    rw [term_far g _ _ _ (by omega)]
    rfl

theorem sum_tiles (f : ℕ → ℝ) (a b c d : ℕ) {n : ℕ} (h : a + b + c + d = n) :
    ∑ j ∈ Finset.range n, f j = ∑ j ∈ Finset.range a, f j + ∑ j ∈ Finset.range b, f (a + j)
      + ∑ j ∈ Finset.range c, f (a + b + j) + ∑ j ∈ Finset.range d, f (a + b + c + j) := by
  rw [← h, Finset.sum_range_add, Finset.sum_range_add, Finset.sum_range_add]

/-- The pair after all the keys. -/
theorem final_sum (g : Given i x0 x1 x2 x3 Q K V B) :
    Holds (final i x0 x1 x2 x3) fun r e => ∑ j ∈ Finset.range 2048, term i Q K V B r e j := by
  have h := pairs_sum g _ _ (odd_sum g _ _ (first_sum g)) (k0_t1_loop i).trips (by rw [trips_eq])
  refine cast (congrArg (Holds _) ?_) h
  funext r e
  have hf := far_add i
  have hl := far_lt i
  have hi : (i 2).val < 8 := (i 2).isLt
  rw [trips_eq]
  have e2 : 512 * (far i / 2) + 256 * (far i % 2) = 256 * far i := by omega
  rw [sum_tiles (term i Q K V B r e) (512 * (far i / 2)) (256 * (far i % 2)) 512 (2048 - (256 * far i + 512)) (n := 2048) (by omega), e2]
  have hz : ∑ x ∈ Finset.range (2048 - (256 * far i + 512)), term i Q K V B r e (256 * far i + 512 + x) = 0 := by
    refine Finset.sum_eq_zero fun x _ => ?_
    have hr : (row r).val < 256 := (row r).isLt
    rw [term, weight, if_neg (by unfold pos; omega), zero_mul]
  rw [hz]
  ring

end

end Cert.KernelIdeal.Attn

end
-- ==== Proof.Output.lean ====
/-
  The block a grid point stores, at an index, at the ideal values: the difference of the two attentions, normalised.
-/
module

public import proofs.«01_k».proof.Proof.Final

@[expose] public section

set_option maxRecDepth 16384

noncomputable section

namespace Cert.Attn

open Idealize.ShloMosaic

/-- A head's row `o`, scaled to root mean square one (up to the epsilon), times the weights `g` and 0.8. -/
def normed (o g : Fin 128 → EReal) (e : Fin 128) : EReal :=
  o e * Ideal.rsqrt (Ideal.div (∑ l, o l * o l) (Ideal.ofBits .f32 0x43000000#32) + Ideal.ofBits .f32 0x358637BD#32) * g e
    * Ideal.ofBits .f32 0x3F4CCCCD#32

/-- The factor of the second attention, from the two inner products of the lambda vectors. -/
def lam (s₁ s₂ : EReal) : EReal := Ideal.exp s₁ - Ideal.exp s₂ + Ideal.ofBits .f32 0x3E4CCCCD#32

end Cert.Attn

namespace Cert.KernelIdeal.Attn

open Cert.KernelIdeal Cert.KernelIdeal.Gen Cert.Attn
open Idealize.ShloMosaic Idealize.ShloMosaic.ValueIdx

/-! ## Layout operations at an index -/

theorem rows_sum {n : ℕ} (x : FVec Ideal (⟨2, ![n, 128]⟩ : Shape) .f32) (h : (⟨2, ![n, 128]⟩ : Shape).Reduces [1] ⟨1, ![n]⟩)
    (hc : (⟨1, ![n]⟩ : Shape).ShapeCasts ⟨2, ![n, 1]⟩) (r : Fin n) :
    shapeCast ⟨2, ![n, 1]⟩ (multiReduction .add [1] (⟨1, ![n]⟩ : Shape) x 0x00000000#32 h (.inl rfl) rfl) hc (ix2 r 0)
      = ∑ c : Fin 128, x (ix2 r c) := by
  refine (col_cast _ _ r).trans ?_
  refine (Ideal.multiReduction_add_single x _ h (.inl rfl) rfl (ix1 r)).trans ?_
  refine Finset.sum_congr rfl fun c _ => congrArg x ?_
  funext a
  match a with
  | ⟨0, _⟩ => rfl
  | ⟨1, _⟩ => rfl

theorem slice_apply {α : Type} {n w m v a b : ℕ} (x : (⟨2, ![n, w]⟩ : Shape).Idx → α)
    (h : (⟨2, ![n, w]⟩ : Shape).Slices ![a, b] ⟨2, ![m, v]⟩) (r : Fin m) (c : Fin v) (r' : Fin n) (c' : Fin w)
    (hr : r'.val = a + r.val) (hc : c'.val = b + c.val) :
    extractStridedSlice ⟨2, ![m, v]⟩ ![a, b] x h (ix2 r c) = x (ix2 r' c') := by
  refine extractStridedSlice_apply _ _ _ _ _ fun k => ?_
  match k with
  | ⟨0, _⟩ => exact hr
  | ⟨1, _⟩ => exact hc

theorem add_lead {α : Type} {n w : ℕ} (x : (⟨2, ![n, w]⟩ : Shape).Idx → α)
    (h : (⟨2, ![n, w]⟩ : Shape).ShapeCasts ⟨3, ![1, n, w]⟩) (r : Fin n) (c : Fin w) :
    shapeCast ⟨3, ![1, n, w]⟩ x h (ix3 0 r c) = x (ix2 r c) := by
  refine shapeCast_apply _ _ _ _ ?_
  rw [Shape.rowMajor_val_three, Shape.rowMajor_val_two]
  show r.val * w + c.val = (0 * n + r.val) * w + c.val
  simp

theorem row_broadcast {α : Type} {n : ℕ} (x : (⟨2, ![1, 128]⟩ : Shape).Idx → α)
    (h : (⟨2, ![1, 128]⟩ : Shape).Broadcasts ⟨2, ![n, 128]⟩) (r : Fin n) (c : Fin 128) :
    broadcastTo ⟨2, ![n, 128]⟩ x h (ix2 r c) = x (ix2 0 c) := by
  refine broadcastTo_apply _ _ _ _ fun a => ?_
  match a with
  | ⟨0, _⟩ => rfl
  | ⟨1, _⟩ => exact (if_neg (show ¬(128 : ℕ) = 1 by decide)).symm

theorem cell_broadcast {α : Type} {n w : ℕ} (x : (⟨2, ![1, 1]⟩ : Shape).Idx → α)
    (h : (⟨2, ![1, 1]⟩ : Shape).Broadcasts ⟨2, ![n, w]⟩) (r : Fin n) (c : Fin w) :
    broadcastTo ⟨2, ![n, w]⟩ x h (ix2 r c) = x (ix2 0 0) := by
  refine broadcastTo_apply _ _ _ _ fun a => ?_
  match a with
  | ⟨0, _⟩ => rfl
  | ⟨1, _⟩ => rfl

/-! ## The stored block -/

/-- The row of the split queries that row `t` makes for half `s`. -/
def half (s : Fin 2) (t : Fin 256) : Fin 512 := ⟨s.val * 256 + t.val, by omega⟩

/-- A quotient of the carried sums. -/
def quot (f : FVec Ideal S512x256 .f32) (s : Fin 2) (t : Fin 256) (e : Fin 128) : EReal :=
  Ideal.div (f (ix2 (half s t) ⟨e.val, by omega⟩)) (f (ix2 (half s t) ⟨128 + e.val, by omega⟩))

/-- The factor as the kernel computes it, from the table of the lambda vectors. -/
def lamOf (x4 : Vec Ideal S8x128 .f32) : EReal :=
  lam (∑ l : Fin 128, x4 (ix2 0 l) * x4 (ix2 1 l)) (∑ l : Fin 128, x4 (ix2 2 l) * x4 (ix2 3 l))

theorem pay16_apply (f : FVec Ideal S512x256 .f32) (x4 : Vec Ideal S8x128 .f32) (x5 : Vec Ideal S1x128 .f32) (t : Fin 256) (e : Fin 128) :
    k0_pay16 (k0_pay14 f) (k0_pay15 f) x4 x5 (ix3 0 t e)
      = normed (fun l => quot f 0 t l - lamOf x4 * quot f 1 t l) (fun l => x5 (ix2 0 l)) e := by
  have hq : ∀ (s : Fin 2) (l : Fin 128), divf (k0_pay14 f) (k0_pay15 f) (ix2 (half s t) l) = quot f s t l := fun s l =>
    congrArg₂ Ideal.div (slice_apply f slices_S512x256_o0_0_S512x128 (half s t) l (half s t) ⟨l.val, by omega⟩ (Nat.zero_add _).symm (Nat.zero_add _).symm)
      (slice_apply f slices_S512x256_o0_128_S512x128 (half s t) l (half s t) ⟨128 + l.val, by omega⟩ (Nat.zero_add _).symm rfl)
  unfold k0_pay16
  rw [shapeCast_self, shapeCast_self]
  generalize divf (k0_pay14 f) (k0_pay15 f) = v77 at hq ⊢
  have hs : ∀ (a b : ℕ) (ha : a < 8) (hb : b < 8) (h1 : S8x128.Slices ![a, 0] S1x128) (h2 : S8x128.Slices ![b, 0] S1x128),
      shapeCast S1x1 (multiReduction (F := Ideal) .add [1] S1 (mulf (extractStridedSlice S1x128 ![a, 0] x4 h1) (extractStridedSlice S1x128 ![b, 0] x4 h2))
        0x00000000#32 reduces_S1x128_S1 (.inl rfl) rfl) shapeCasts_S1_S1x1 (ix2 0 0) = ∑ l : Fin 128, x4 (ix2 ⟨a, ha⟩ l) * x4 (ix2 ⟨b, hb⟩ l) := by
    intro a b ha hb h1 h2
    refine (rows_sum _ _ _ _).trans (Finset.sum_congr rfl fun l _ => ?_)
    exact congrArg₂ (· * ·) (slice_apply x4 h1 0 l ⟨a, ha⟩ l rfl (Nat.zero_add _).symm) (slice_apply x4 h2 0 l ⟨b, hb⟩ l rfl (Nat.zero_add _).symm)
  dsimp only
  refine (add_lead _ _ t e).trans ?_
  have ho : ∀ (x : FVec Ideal S1x1 .f32), x (ix2 0 0) = lamOf x4 → ∀ l : Fin 128,
      subf (extractStridedSlice S256x128 ![0, 0] v77 slices_S512x128_o0_0_S256x128)
        (mulf (broadcastTo S256x128 x broadcasts_S1x1_S256x128) (extractStridedSlice S256x128 ![256, 0] v77 slices_S512x128_o256_0_S256x128)) (ix2 t l)
      = quot f 0 t l - lamOf x4 * quot f 1 t l := by
    intro x hx l
    refine congrArg₂ (· - ·) ?_ (congrArg₂ (· * ·) ?_ ?_)
    · exact (slice_apply v77 _ t l (half 0 t) l rfl (Nat.zero_add _).symm).trans (hq 0 l)
    · exact (cell_broadcast x _ t l).trans hx
    · exact (slice_apply v77 _ t l (half 1 t) l rfl (Nat.zero_add _).symm).trans (hq 1 l)
  have hl : addf (subf (exp (shapeCast S1x1 (multiReduction (F := Ideal) .add [1] S1 (mulf (extractStridedSlice S1x128 ![0, 0] x4 slices_S8x128_o0_0_S1x128)
        (extractStridedSlice S1x128 ![1, 0] x4 slices_S8x128_o1_0_S1x128)) 0x00000000#32 reduces_S1x128_S1 (.inl rfl) rfl) shapeCasts_S1_S1x1))
      (exp (shapeCast S1x1 (multiReduction (F := Ideal) .add [1] S1 (mulf (extractStridedSlice S1x128 ![2, 0] x4 slices_S8x128_o2_0_S1x128)
        (extractStridedSlice S1x128 ![3, 0] x4 slices_S8x128_o3_0_S1x128)) 0x00000000#32 reduces_S1x128_S1 (.inl rfl) rfl) shapeCasts_S1_S1x1)))
      (broadcast S1x1 (Scalar.ofBits (F := Ideal) .f32 0x3E4CCCCD#32)) (ix2 0 0) = lamOf x4 := by
    refine congrArg (· + Ideal.ofBits .f32 0x3E4CCCCD#32) (congrArg₂ (fun a b => Ideal.exp a - Ideal.exp b) ?_ ?_)
    · exact hs 0 1 (by decide) (by decide) _ _
    · exact hs 2 3 (by decide) (by decide) _ _
  replace ho := ho _ hl
  generalize subf (extractStridedSlice S256x128 ![0, 0] v77 slices_S512x128_o0_0_S256x128) _ = o at ho ⊢
  unfold normed
  refine congrArg (· * Ideal.ofBits .f32 0x3F4CCCCD#32) (congrArg₂ (· * ·) (congrArg₂ (· * ·) (ho e) ?_) ?_)
  · refine (col_broadcast (by decide) _ _ t e).trans ?_
    refine congrArg (fun a => Ideal.rsqrt (Ideal.div a (Ideal.ofBits .f32 0x43000000#32) + Ideal.ofBits .f32 0x358637BD#32)) ?_
    refine (rows_sum _ _ _ t).trans (Finset.sum_congr rfl fun l _ => ?_)
    exact congrArg₂ (· * ·) (ho l) (ho l)
  · exact row_broadcast x5 _ t e

/-! ## The two attentions -/

/-- Row `r`'s attention at column `e`. -/
def attn (i : grid0.Coords) (Q : Fin 256 → Fin 128 → ℝ) (K : Fin 128 → ℕ → ℝ) (V : ℕ → Fin 128 → ℝ) (B : Fin 256 → ℕ → ℝ)
    (r : Fin 512) (e : Fin 128) : ℝ :=
  (∑ j ∈ Finset.range 2048, weight (split Q) K B (pos i r) r j * V j e) / ∑ j ∈ Finset.range 2048, weight (split Q) K B (pos i r) r j

section
variable {i : grid0.Coords} {x0 : Vec Ideal S1x256x128 .bf16} {x1 : Vec Ideal S128x2048 .bf16} {x2 : Vec Ideal S1x2048x128 .bf16}
  {x3 : Vec Ideal S1x2x256x512 .f32} {Q : Fin 256 → Fin 128 → ℝ} {K : Fin 128 → ℕ → ℝ} {V : ℕ → Fin 128 → ℝ} {B : Fin 256 → ℕ → ℝ}

theorem weight_nonneg (Q : Fin 512 → Fin 128 → ℝ) (K : Fin 128 → ℕ → ℝ) (B : Fin 256 → ℕ → ℝ) (p : ℕ) (r : Fin 512) (j : ℕ) :
    0 ≤ weight Q K B p r j := by
  unfold weight
  split
  · exact (Real.rpow_pos_of_pos two_pos _).le
  · exact le_rfl

theorem weight_sum_pos (Q : Fin 512 → Fin 128 → ℝ) (K : Fin 128 → ℕ → ℝ) (B : Fin 256 → ℕ → ℝ) (p : ℕ) (r : Fin 512) :
    0 < ∑ j ∈ Finset.range 2048, weight Q K B p r j := by
  refine Finset.sum_pos' (fun j _ => weight_nonneg Q K B p r j) ⟨0, Finset.mem_range.mpr (by decide), ?_⟩
  rw [weight, if_pos (Nat.zero_le _)]
  exact Real.rpow_pos_of_pos two_pos _

theorem quot_eq (g : Given i x0 x1 x2 x3 Q K V B) (s : Fin 2) (t : Fin 256) (e : Fin 128) :
    quot (final i x0 x1 x2 x3).2 s t e = ((attn i Q K V B (half s t) e : ℝ) : EReal) := by
  obtain ⟨m, -, h⟩ := final_sum g (half s t)
  have hp := weight_sum_pos (split Q) K B (pos i (half s t)) (half s t)
  have h2 : (0 : ℝ) < 2 ^ (-m) := Real.rpow_pos_of_pos two_pos _
  have h1 : ∑ j ∈ Finset.range 2048, term i Q K V B (half s t) ⟨e.val, by omega⟩ j
      = ∑ j ∈ Finset.range 2048, weight (split Q) K B (pos i (half s t)) (half s t) j * V j e := by
    refine Finset.sum_congr rfl fun j _ => ?_
    unfold term wideAt
    rw [if_pos e.isLt]
    exact congrArg (fun l => weight (split Q) K B (pos i (half s t)) (half s t) j * V j l) (Fin.ext (Nat.mod_eq_of_lt e.isLt))
  have h0 : ∑ j ∈ Finset.range 2048, term i Q K V B (half s t) ⟨128 + e.val, by omega⟩ j
      = ∑ j ∈ Finset.range 2048, weight (split Q) K B (pos i (half s t)) (half s t) j := by
    refine Finset.sum_congr rfl fun j _ => ?_
    unfold term wideAt
    rw [if_neg (by simp), mul_one]
  unfold quot
  rw [h, h]
  dsimp only
  rw [h1, h0, div_coe (mul_pos h2 hp).ne', mul_div_mul_left _ _ h2.ne']
  rfl

/-- The stored block at an index. -/
theorem outBlk_apply (g : Given i x0 x1 x2 x3 Q K V B) (x4 : Vec Ideal S8x128 .f32) (x5 : Vec Ideal S1x128 .f32) (t : Fin 256) (e : Fin 128) :
    outBlk i x0 x1 x2 x3 x4 x5 (ix3 0 t e)
      = normed (fun l => ((attn i Q K V B (half 0 t) l : ℝ) : EReal) - lamOf x4 * ((attn i Q K V B (half 1 t) l : ℝ) : EReal))
          (fun l => x5 (ix2 0 l)) e := by
  unfold outBlk
  rw [View.canon_unit_zero (by funext a; fin_cases a <;> rfl), View.ld_unit_zero (by funext a; fin_cases a <;> rfl),
    View.ld_unit_zero (by funext a; fin_cases a <;> rfl), pay16_apply]
  simp only [quot_eq g]

end

end Cert.KernelIdeal.Attn

end
-- ==== Proof.HostTerms.lean ====
/-
  What the program prepares for the kernel, as functions of its arguments: the bias tiles, the table of the lambda
  vectors, the scaled queries, the transposed keys, and the weights of the norm.
-/
module

public import proofs.«01_k».proof.Proof.Output
public import proofs.«01_k».proof.Proof.Gen.KernelIdeal.Frame
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.SL.Sem
open Idealize.ShloMosaic (Ideal)

/-! ## The bias tiles -/

/-- The reciprocal of the logarithm of two. -/
def invLog2 : FVec Ideal S_ .f32 := Host.divf (constant S_ .f32 0x3F800000#32) (Host.log (constant S_ .f32 0x40000000#32))

/-- The four heads' biases less the last bucket's, scaled. -/
def scaled (x : FVec Ideal S32x12 .f32) : FVec Ideal S32x4 .f32 :=
  mulf (subf (extractStridedSlice S32x4 ![0, 0] x slices_S32x12_S32x4_0_0)
      (broadcastInDim S32x4 ![0, 1] bcast_S1x4_S32x4_0_1 (broadcastInDim S1x4 ![1] bcast_S4_S1x4_1
        (shapeCast S4 (extractStridedSlice S1x4 ![31, 0] (extractStridedSlice S32x4 ![0, 0] x slices_S32x12_S32x4_0_0) slices_S32x4_S1x4_31_0)
          shapeCasts_S1x4_S4))))
    (broadcastInDim S32x4 ![] bcast_S_S32x4 invLog2)

/-- The bucket numbers along the two first rows of tiles. -/
def bucketRow : IVec S2x512x1 32 :=
  broadcastInDim S2x512x1 ![0, 1] bcast_S2x512_S2x512x1_0_1 (select (constantI S2x512 1 0#1)
    (addi (fun i => lit0 (S2x512.rowMajor i)) (broadcastInDim S2x512 ![] bcast_S_S2x512 (constantI S_ 32 32#32)))
    (fun i => lit0 (S2x512.rowMajor i)))

/-- The biases along the two first rows, head by head. -/
def biasRow (x : FVec Ideal S32x12 .f32) : FVec Ideal S4x2x512 .f32 :=
  transpose S4x2x512 [2, 0, 1] (Host.gather gather_S32x4_S2x512x1_S2x512x4_2_0_n_n_0_2_14 (scaled x) bucketRow)
    transposes_S2x512x4_S4x2x512_2_0_1

/-- The rows laid out one after the other, each a step further right. -/
def shifted (y : FVec Ideal S4x2x512 .f32) : FVec Ideal S4x2x256x256 .f32 :=
  extractStridedSlice S4x2x256x256 ![0, 0, 0, 0]
    (shapeCast S4x2x256x511
      (extractStridedSlice S4x2x130816 ![0, 0, 0]
        (shapeCast S4x2x131072
          (broadcastInDim S1x4x1x2x256x512 ![0, 1, 2, 3, 4, 5] bcast_S1x4x1x2x1x512_S1x4x1x2x256x512_0_1_2_3_4_5
            (shapeCast S1x4x1x2x1x512 y shapeCasts_S4x2x512_S1x4x1x2x1x512))
          shapeCasts_S1x4x1x2x256x512_S4x2x131072)
        slices_S4x2x131072_S4x2x130816_0_0_0)
      shapeCasts_S4x2x130816_S4x2x256x511)
    slices_S4x2x256x511_S4x2x256x256_0_0_0_0

/-- Which keys of the two tiles are not behind the query. -/
def seen : IVec S2x256x256 1 :=
  cmpi .sge
    (subi
      (broadcastInDim S2x256x256 ![0, 1, 2] bcast_S2x256x1_S2x256x256_0_1_2
        (addi
          (broadcastInDim S2x256x1 ![0, 1, 2] bcast_S2x1x1_S2x256x1_0_1_2
            (muli (broadcastInDim S2x1x1 ![0] bcast_S2_S2x1x1_0 (iotaInDim S2 32 0))
              (broadcastInDim S2x1x1 ![] bcast_S_S2x1x1 (constantI S_ 32 256#32))))
          (broadcastInDim S2x256x1 ![0, 1, 2] bcast_S1x256x1_S2x256x1_0_1_2
            (broadcastInDim S1x256x1 ![1] bcast_S256_S1x256x1_1 (iotaInDim S256 32 0)))))
      (broadcastInDim S2x256x256 ![0, 1, 2] bcast_S1x1x256_S2x256x256_0_1_2
        (broadcastInDim S1x1x256 ![2] bcast_S256_S1x1x256_2 (iotaInDim S256 32 0))))
    (broadcastInDim S2x256x256 ![] bcast_S_S2x256x256 (constantI S_ 32 0#32))

/-- The two tiles, with the keys behind the query masked. -/
def masked (y : FVec Ideal S4x2x512 .f32) : FVec Ideal S4x2x256x256 .f32 :=
  select (broadcastInDim S4x2x256x256 ![0, 1, 2, 3] bcast_S1x2x256x256_S4x2x256x256_0_1_2_3
      (broadcastInDim S1x2x256x256 ![1, 2, 3] bcast_S2x256x256_S1x2x256x256_1_2_3 seen))
    (shifted y) (broadcastInDim S4x2x256x256 ![] bcast_S_S4x2x256x256 (constant S_ .f32 0xFF800000#32))

/-- One of the two tiles. -/
def tile0 (z : FVec Ideal S4x2x256x256 .f32) : FVec Ideal S4x256x256 .f32 :=
  shapeCast S4x256x256 (extractStridedSlice S4x1x256x256 ![0, 0, 0, 0] z slices_S4x2x256x256_S4x1x256x256_0_0_0_0) shapeCasts_S4x1x256x256_S4x256x256
def tile1 (z : FVec Ideal S4x2x256x256 .f32) : FVec Ideal S4x256x256 .f32 :=
  shapeCast S4x256x256 (extractStridedSlice S4x1x256x256 ![0, 1, 0, 0] z slices_S4x2x256x256_S4x1x256x256_0_1_0_0) shapeCasts_S4x1x256x256_S4x256x256

/-- The tiles as the kernel is given them: the diagonal one and a masked one for the first block of queries, and the
    one before the diagonal and the diagonal one for the others. -/
def tiles (z : FVec Ideal S4x2x256x256 .f32) : FVec Ideal S4x2x256x512 .f32 :=
  concatenate S4x2x256x512 1
    [⟨S4x1x256x512, broadcastInDim S4x1x256x512 ![0, 2, 3] bcast_S4x256x512_S4x1x256x512_0_2_3
        (concatenate S4x256x512 2 [⟨S4x256x256, tile0 z⟩,
          ⟨S4x256x256, (broadcastInDim S4x256x256 ![] bcast_S_S4x256x256 (constant S_ .f32 0xFF800000#32) : FVec Ideal S4x256x256 .f32)⟩]
          concatenates_S4x256x256_S4x256x256_S4x256x512_d2)⟩,
      ⟨S4x1x256x512, broadcastInDim S4x1x256x512 ![0, 2, 3] bcast_S4x256x512_S4x1x256x512_0_2_3
        (concatenate S4x256x512 2 [⟨S4x256x256, tile1 z⟩, ⟨S4x256x256, tile0 z⟩] concatenates_S4x256x256_S4x256x256_S4x256x512_d2)⟩]
    concatenates_S4x1x256x512_S4x1x256x512_S4x2x256x512_d1

/-! ## The lambda vectors -/

/-- A vector laid out as a row. -/
def asRow (x : FVec Ideal S1x64 .f32) : FVec Ideal S1x64 .f32 := broadcastInDim S1x64 ![1] bcast_S64_S1x64_1 (shapeCast S64 x shapeCasts_S1x64_S64)

/-- The four vectors, one above the other. -/
def vectors (x4 x5 x6 x7 : FVec Ideal S1x64 .f32) : FVec Ideal S4x64 .f32 :=
  concatenate S4x64 0 [⟨S1x64, asRow x4⟩, ⟨S1x64, asRow x5⟩, ⟨S1x64, asRow x6⟩, ⟨S1x64, asRow x7⟩] concatenates_S1x64_S1x64_S1x64_S1x64_S4x64_d0

/-- The start of the table's corner. -/
def origin : IVec S2 32 :=
  concatenate S2 0 [⟨S1, broadcastInDim S1 ![] bcast_S_S1 (constantI S_ 32 0#32)⟩, ⟨S1, broadcastInDim S1 ![] bcast_S_S1 (constantI S_ 32 0#32)⟩]
    concatenates_S1_S1_S2_d0

/-- The vectors at the corner of a table of zeros. -/
def lamTable (x4 x5 x6 x7 : FVec Ideal S1x64 .f32) : FVec Ideal S8x128 .f32 :=
  Host.scatter scatter_S8x128_S2_S4x64_01_n_01_0 (fun _ b => b) (broadcastInDim S8x128 ![] bcast_S_S8x128 (constant S_ .f32 0x00000000#32)) origin
    (vectors x4 x5 x6 x7)

/-! ## Queries, keys, values, weights -/

def queries (x : FVec Ideal S16x2048x512 .f32) : FVec Ideal S16x2048x512 .bf16 :=
  truncf .bf16 (mulf x (broadcastInDim S16x2048x512 ![] bcast_S_S16x2048x512 (mulf (constant S_ .f32 0x3E000000#32) invLog2))) bitsLt_bf16_f32

def keysT (x : FVec Ideal S16x2048x512 .f32) : FVec Ideal S512x32768 .bf16 :=
  truncf .bf16 (transpose S512x32768 [1, 0] (shapeCast S32768x512 x shapeCasts_S16x2048x512_S32768x512) transposes_S32768x512_S512x32768_1_0) bitsLt_bf16_f32

def values (x : FVec Ideal S16x2048x512 .f32) : FVec Ideal S16x2048x512 .bf16 := truncf .bf16 x bitsLt_bf16_f32

def gain (x : FVec Ideal S1x128 .f32) : FVec Ideal S1x128 .f32 := shapeCast S1x128 (shapeCast S128 x shapeCasts_S1x128_S128) shapeCasts_S128_S1x128

/-! ## The contents of the kernel's operands -/

variable (m : (ℓ : Loc nD τ sig) → Buf (Elt Ideal) ℓ) (c : Dev nD)

set_option maxHeartbeats 8000000 in
theorem V_v73 : V m c main_v73 = queries (m ((c : Thread nD τ).loc main_arg0)) := by
  show StableHlo.after (List.flatten [hostOps0, hostOps0_1, hostOps0_2]) (fun b => m (c, b)) (Proc.tc.devRef main_v73) = _
  simp only [hostOps0, hostOps0_1, hostOps0_2, List.flatten_cons, List.flatten_nil, List.append_nil, List.cons_append, List.nil_append]
  after_results_simp
  rfl

set_option maxHeartbeats 8000000 in
theorem V_v76 : V m c main_v76 = keysT (m ((c : Thread nD τ).loc main_arg1)) := by
  show StableHlo.after (List.flatten [hostOps0, hostOps0_1, hostOps0_2]) (fun b => m (c, b)) (Proc.tc.devRef main_v76) = _
  simp only [hostOps0, hostOps0_1, hostOps0_2, List.flatten_cons, List.flatten_nil, List.append_nil, List.cons_append, List.nil_append]
  after_results_simp
  rfl

set_option maxHeartbeats 8000000 in
theorem V_v77 : V m c main_v77 = values (m ((c : Thread nD τ).loc main_arg2)) := by
  show StableHlo.after (List.flatten [hostOps0, hostOps0_1, hostOps0_2]) (fun b => m (c, b)) (Proc.tc.devRef main_v77) = _
  simp only [hostOps0, hostOps0_1, hostOps0_2, List.flatten_cons, List.flatten_nil, List.append_nil, List.cons_append, List.nil_append]
  after_results_simp
  rfl

set_option maxHeartbeats 8000000 in
theorem V_v79 : V m c main_v79 = gain (m ((c : Thread nD τ).loc main_arg8)) := by
  show StableHlo.after (List.flatten [hostOps0, hostOps0_1, hostOps0_2]) (fun b => m (c, b)) (Proc.tc.devRef main_v79) = _
  simp only [hostOps0, hostOps0_1, hostOps0_2, List.flatten_cons, List.flatten_nil, List.append_nil, List.cons_append, List.nil_append]
  after_results_simp
  rfl

set_option maxHeartbeats 16000000 in
theorem V_v67 : V m c main_v67 = tiles (masked (biasRow (m ((c : Thread nD τ).loc main_arg3)))) := by
  show StableHlo.after (List.flatten [hostOps0, hostOps0_1, hostOps0_2]) (fun b => m (c, b)) (Proc.tc.devRef main_v67) = _
  simp only [hostOps0, hostOps0_1, hostOps0_2, List.flatten_cons, List.flatten_nil, List.append_nil, List.cons_append, List.nil_append]
  after_results_simp
  after_results_loop
  rfl

end Cert.KernelIdeal.Attn

end
-- ==== Proof.Take.lean ====
/-
  Rows of a table taken at an array of row numbers, and a small table written at the corner of a larger one, read at an
  index.
-/
module

public import Idealize.ShloMosaic.Lib.ValueIdxCore
public import Idealize.ShloMosaic.Lib.ValueIdx
public import Idealize.ShloMosaic.Lib.Routing.OpsSet

@[expose] public section

noncomputable section

namespace Cert.Attn

open Idealize.ShloMosaic Idealize.ShloMosaic.ValueIdx

/-- The dimension numbers of rows taken from a table `[N, M]` at row numbers `[R, C, 1]`. -/
abbrev rowsDims (N M R C : ℕ) (wf : GatherDims.WF ⟨2, ![N, M]⟩ ⟨3, ![R, C, 1]⟩ ⟨3, ![R, C, M]⟩ [2] [0] [] [0] [] 2 ![1, M]) :
    GatherDims ⟨2, ![N, M]⟩ ⟨3, ![R, C, 1]⟩ ⟨3, ![R, C, M]⟩ where
  offsetDims := [2]
  collapsedSliceDims := [0]
  operandBatchingDims := []
  startIndicesBatchingDims := []
  startIndexMap := [0]
  indexVectorDim := 2
  sliceSizes := ![1, M]
  wf := wf

/-- A taken row at an index: the table's row at the row number, read signed and clamped into the table. -/
theorem take_rows_apply {α : Type} {N M R C : ℕ} (hN : 0 < N)
    (wf : GatherDims.WF ⟨2, ![N, M]⟩ ⟨3, ![R, C, 1]⟩ ⟨3, ![R, C, M]⟩ [2] [0] [] [0] [] 2 ![1, M])
    (x : (⟨2, ![N, M]⟩ : Shape).Idx → α) (idx : IVec ⟨3, ![R, C, 1]⟩ 32) (r : Fin R) (c : Fin C) (h : Fin M) :
    Host.gather (rowsDims N M R C wf) x idx (ix3 r c h)
      = x (ix2 ⟨min (idx (ix3 r c 0)).toInt.toNat (N - 1), by omega⟩ h) := by
  unfold Host.gather
  refine congrArg x (funext fun a => Fin.ext ?_)
  show (rowsDims N M R C wf).start (ix3 r c h) idx a + (rowsDims N M R C wf).batchCoord (ix3 r c h) a
    + (rowsDims N M R C wf).offCoord (ix3 r c h) a = _
  rw [GatherDims.batchCoord_eq_zero _ _ _ List.not_mem_nil, Nat.add_zero]
  match a with
  | ⟨0, _⟩ =>
    have hm : (0 : Fin 2) ∈ (rowsDims N M R C wf).startIndexMap := List.mem_singleton.mpr rfl
    have e : (rowsDims N M R C wf).offCoord (ix3 r c h) (0 : Fin 2) = 0 :=
      GatherDims.offCoord_eq_zero _ _ _ (fun h => ((GatherDims.mem_sKept _ _).mp h).1 (List.mem_singleton.mpr rfl))
    show (rowsDims N M R C wf).start (ix3 r c h) idx (0 : Fin 2) + (rowsDims N M R C wf).offCoord (ix3 r c h) (0 : Fin 2) = _
    rw [e, Nat.add_zero]
    unfold GatherDims.start
    rw [dif_pos hm]
    have hsi : (rowsDims N M R C wf).siIdx (ix3 r c h) ⟨List.idxOf (0 : Fin 2) (rowsDims N M R C wf).startIndexMap,
        List.idxOf_lt_length_iff.2 hm⟩ = ix3 r c 0 := by
      funext b; refine Fin.ext ?_
      match b with
      | ⟨0, _⟩ => rfl
      | ⟨1, _⟩ => rfl
      | ⟨2, _⟩ => rfl
    rw [hsi]
    rfl
  | ⟨1, _⟩ =>
    have hm : (1 : Fin 2) ∉ (rowsDims N M R C wf).startIndexMap := fun h =>
      absurd (congrArg Fin.val (List.mem_singleton.mp h)) Nat.one_ne_zero
    show (rowsDims N M R C wf).start (ix3 r c h) idx (1 : Fin 2) + (rowsDims N M R C wf).offCoord (ix3 r c h) (1 : Fin 2) = _
    unfold GatherDims.start
    rw [dif_neg hm, Nat.zero_add]
    rfl

/-- The dimension numbers of a table `[n, w]` written into a table `[N, W]` from one pair of start indices. -/
abbrev cornerDims (N W n w : ℕ) (wf : ScatterDims.WF ⟨2, ![N, W]⟩ ⟨1, ![2]⟩ ⟨2, ![n, w]⟩ [0, 1] [] [0, 1] 0) :
    ScatterDims ⟨2, ![N, W]⟩ ⟨1, ![2]⟩ ⟨2, ![n, w]⟩ where
  updateWindowDims := [0, 1]
  insertedWindowDims := []
  scatterDimsToOperandDims := [0, 1]
  indexVectorDim := 0
  wf := wf

theorem corner_lands {N W n w : ℕ} (hn : n ≤ N) (hw : w ≤ W)
    (wf : ScatterDims.WF ⟨2, ![N, W]⟩ ⟨1, ![2]⟩ ⟨2, ![n, w]⟩ [0, 1] [] [0, 1] 0) (r : Fin n) (c : Fin w) :
    (cornerDims N W n w wf).resultIdx? (ix2 r c) (fun _ => 0#32) = some (ix2 ⟨r.val, by omega⟩ ⟨c.val, by omega⟩) := by
  have hs : ∀ a, (cornerDims N W n w wf).start (ix2 r c) (fun _ => 0#32) a = 0 := by
    intro a
    unfold ScatterDims.start
    split <;> rfl
  have h0 : (cornerDims N W n w wf).window (ix2 r c) (0 : Fin 2) = r.val := rfl
  have h1 : (cornerDims N W n w wf).window (ix2 r c) (1 : Fin 2) = c.val := rfl
  unfold ScatterDims.resultIdx?
  rw [dif_pos]
  · refine congrArg some (funext fun a => Fin.ext ?_)
    match a with
    | ⟨0, _⟩ =>
      show ((cornerDims N W n w wf).start (ix2 r c) (fun _ => 0#32) (0 : Fin 2) + (cornerDims N W n w wf).window (ix2 r c) (0 : Fin 2)).toNat = r.val
      rw [hs, h0]; simp
    | ⟨1, _⟩ =>
      show ((cornerDims N W n w wf).start (ix2 r c) (fun _ => 0#32) (1 : Fin 2) + (cornerDims N W n w wf).window (ix2 r c) (1 : Fin 2)).toNat = c.val
      rw [hs, h1]; simp
  · intro a
    have hr := r.isLt
    have hc := c.isLt
    rw [hs]
    match a with
    | ⟨0, _⟩ =>
      show (0 : ℤ) ≤ 0 + ((cornerDims N W n w wf).window (ix2 r c) (0 : Fin 2) : ℤ) ∧ (0 : ℤ) + ((cornerDims N W n w wf).window (ix2 r c) (0 : Fin 2) : ℤ) < (N : ℤ)
      rw [h0]; omega
    | ⟨1, _⟩ =>
      show (0 : ℤ) ≤ 0 + ((cornerDims N W n w wf).window (ix2 r c) (1 : Fin 2) : ℤ) ∧ (0 : ℤ) + ((cornerDims N W n w wf).window (ix2 r c) (1 : Fin 2) : ℤ) < (W : ℤ)
      rw [h1]; omega

/-- A table with a smaller one written at its corner, at an index. -/
theorem corner_apply {α : Type} {N W n w : ℕ} (hn : n ≤ N) (hw : w ≤ W)
    (wf : ScatterDims.WF ⟨2, ![N, W]⟩ ⟨1, ![2]⟩ ⟨2, ![n, w]⟩ [0, 1] [] [0, 1] 0) (x : (⟨2, ![N, W]⟩ : Shape).Idx → α)
    (u : (⟨2, ![n, w]⟩ : Shape).Idx → α) (r : Fin N) (c : Fin W) :
    Host.scatter (cornerDims N W n w wf) (fun _ b => b) x (fun _ => 0#32) u (ix2 r c)
      = if h : r.val < n ∧ c.val < w then u (ix2 ⟨r.val, h.1⟩ ⟨c.val, h.2⟩) else x (ix2 r c) := by
  have hl : ∀ k : (⟨2, ![n, w]⟩ : Shape).Idx, (cornerDims N W n w wf).resultIdx? k (fun _ => 0#32) = some (ix2 r c) →
      ∃ (r' : Fin n) (c' : Fin w), k = ix2 r' c' ∧ r'.val = r.val ∧ c'.val = c.val := by
    intro k hk
    obtain ⟨r', c', rfl⟩ : ∃ (r' : Fin n) (c' : Fin w), k = ix2 r' c' := ⟨k 0, k 1, eq_ix2 k⟩
    rw [corner_lands hn hw] at hk
    have h := Option.some.inj hk
    exact ⟨r', c', rfl, congrArg Fin.val (congrFun h 0), congrArg Fin.val (congrFun h 1)⟩
  split
  · rename_i h
    refine Routing.scatter_set_hit _ x _ u _ _ (fun k hk => ?_) (ix2 ⟨r.val, h.1⟩ ⟨c.val, h.2⟩) (corner_lands hn hw wf _ _)
    obtain ⟨r', c', rfl, hr, hc⟩ := hl k hk
    exact congrArg₂ (fun a b => u (ix2 a b)) (Fin.ext hr) (Fin.ext hc)
  · rename_i h
    refine Routing.scatter_set_miss _ x _ u _ fun k hk => h ?_
    obtain ⟨r', c', rfl, hr, hc⟩ := hl k hk
    have := r'.isLt
    have := c'.isLt
    omega

end Cert.Attn

end
-- ==== Proof.HostLam.lean ====
/-
  The table of the lambda vectors, and the two products of vectors the kernel reads from it.
-/
module

public import proofs.«01_k».proof.Proof.HostTerms
public import proofs.«01_k».proof.Proof.Take

@[expose] public section

set_option maxRecDepth 16384

noncomputable section

namespace Cert.KernelIdeal.Attn

open Cert.KernelIdeal Cert.KernelIdeal.Gen Cert.Attn
open Idealize.ShloMosaic Idealize.ShloMosaic.ValueIdx Idealize.ShloMosaic.TcCoe Idealize.SL.Sem
open Idealize.ShloMosaic (Ideal)

set_option maxHeartbeats 2000000 in
/-- The contents of the kernel's table. -/
theorem V_v13 (m : (ℓ : Loc nD τ sig) → Buf (Elt Ideal) ℓ) (c : Dev nD) : V m c main_v13
    = lamTable (m ((c : Thread nD τ).loc main_arg4)) (m ((c : Thread nD τ).loc main_arg5)) (m ((c : Thread nD τ).loc main_arg6))
      (m ((c : Thread nD τ).loc main_arg7)) := by
  show StableHlo.after (List.flatten [hostOps0, hostOps0_1, hostOps0_2]) (fun b => m (c, b)) (Proc.tc.devRef main_v13) = _
  simp only [hostOps0, hostOps0_1, hostOps0_2, List.flatten_cons, List.flatten_nil, List.append_nil, List.cons_append, List.nil_append]
  simp only [StableHlo.after_cons, StableHlo.after_nil]
  after_results_steps
  after_results_loop
  rfl

theorem asRow_apply (x : FVec Ideal S1x64 .f32) (l : Fin 64) : asRow x (ix2 0 l) = x (ix2 0 l) := by
  unfold asRow
  rw [broadcastInDim_apply _ _ _ _ (ix1 l) (fun b => by match b with | ⟨0, _⟩ => rfl),
    shapeCast_apply _ _ _ (ix2 0 l) (by
      rw [Shape.rowMajor_val_two, Shape.rowMajor_val_one]
      show 0 * 64 + l.val = l.val
      omega)]

theorem origin_eq : origin = fun _ => 0#32 := by
  funext j
  obtain ⟨a, rfl⟩ : ∃ a : Fin 2, j = ix1 a := ⟨j 0, eq_ix1 j⟩
  unfold origin
  match a with
  | ⟨0, _⟩ =>
    refine concatenate_pair_apply_left (t := S2) (s₁ := S1) (s₂ := S1) 0 _ _ concatenates_S1_S1_S2_d0 (ix1 (n := 2) 0) rfl (ix1 (n := 1) 0) fun b => ?_
    match b with | ⟨0, _⟩ => rfl
  | ⟨1, _⟩ =>
    refine concatenate_pair_apply_right (t := S2) (s₁ := S1) (s₂ := S1) 0 _ _ concatenates_S1_S1_S2_d0 (ix1 (n := 2) 1) rfl rfl (ix1 (n := 1) 0)
      (fun b hb => ?_) rfl
    match b with | ⟨0, _⟩ => exact absurd rfl hb

/-- The rows of the four vectors. -/
theorem vectors_apply (x4 x5 x6 x7 : FVec Ideal S1x64 .f32) (k : Fin 4) (l : Fin 64) :
    vectors x4 x5 x6 x7 (ix2 k l) = ![x4, x5, x6, x7] k (ix2 0 l) := by
  unfold vectors
  match k with
  | ⟨0, _⟩ =>
    refine (concatenate_apply_piece (t := S4x64) 0
      [⟨S1x64, asRow x4⟩, ⟨S1x64, asRow x5⟩, ⟨S1x64, asRow x6⟩, ⟨S1x64, asRow x7⟩] concatenates_S1x64_S1x64_S1x64_S1x64_S4x64_d0 (ix2 0 l)
      0 (by simp) S1x64 (asRow x4) rfl rfl 0 rfl (ix2 0 l) (fun b hb => ?_) rfl).trans (asRow_apply x4 l)
    match b with | ⟨0, _⟩ => exact absurd rfl hb | ⟨1, _⟩ => rfl
  | ⟨1, _⟩ =>
    refine (concatenate_apply_piece (t := S4x64) 0
      [⟨S1x64, asRow x4⟩, ⟨S1x64, asRow x5⟩, ⟨S1x64, asRow x6⟩, ⟨S1x64, asRow x7⟩] concatenates_S1x64_S1x64_S1x64_S1x64_S4x64_d0 (ix2 1 l)
      1 (by simp) S1x64 (asRow x5) rfl rfl 1 rfl (ix2 0 l) (fun b hb => ?_) rfl).trans (asRow_apply x5 l)
    match b with | ⟨0, _⟩ => exact absurd rfl hb | ⟨1, _⟩ => rfl
  | ⟨2, _⟩ =>
    refine (concatenate_apply_piece (t := S4x64) 0
      [⟨S1x64, asRow x4⟩, ⟨S1x64, asRow x5⟩, ⟨S1x64, asRow x6⟩, ⟨S1x64, asRow x7⟩] concatenates_S1x64_S1x64_S1x64_S1x64_S4x64_d0 (ix2 2 l)
      2 (by simp) S1x64 (asRow x6) rfl rfl 2 rfl (ix2 0 l) (fun b hb => ?_) rfl).trans (asRow_apply x6 l)
    match b with | ⟨0, _⟩ => exact absurd rfl hb | ⟨1, _⟩ => rfl
  | ⟨3, _⟩ =>
    refine (concatenate_apply_piece (t := S4x64) 0
      [⟨S1x64, asRow x4⟩, ⟨S1x64, asRow x5⟩, ⟨S1x64, asRow x6⟩, ⟨S1x64, asRow x7⟩] concatenates_S1x64_S1x64_S1x64_S1x64_S4x64_d0 (ix2 3 l)
      3 (by simp) S1x64 (asRow x7) rfl rfl 3 rfl (ix2 0 l) (fun b hb => ?_) rfl).trans (asRow_apply x7 l)
    match b with | ⟨0, _⟩ => exact absurd rfl hb | ⟨1, _⟩ => rfl

/-- The table at an index of its first four rows. -/
theorem lamTable_apply (x4 x5 x6 x7 : FVec Ideal S1x64 .f32) (k : Fin 4) (l : Fin 128) :
    lamTable x4 x5 x6 x7 (ix2 ⟨k.val, by omega⟩ l) = if h : l.val < 64 then ![x4, x5, x6, x7] k (ix2 0 ⟨l.val, h⟩) else 0 := by
  unfold lamTable
  rw [origin_eq]
  refine (corner_apply (N := 8) (W := 128) (n := 4) (w := 64) (by decide) (by decide) scatter_S8x128_S2_S4x64_01_n_01_0.wf _ _
    ⟨k.val, by omega⟩ l).trans ?_
  by_cases h : l.val < 64
  · rw [dif_pos ⟨k.isLt, h⟩, dif_pos h, vectors_apply]
  · rw [dif_neg (fun hh => h hh.2), dif_neg h]
    exact Ideal.ofBits_zero_f32

/-- A sum over the table's lanes of products that vanish from lane 64 on. -/
theorem lanes_sum (f g : Fin 64 → EReal) :
    (∑ l : Fin 128, (if h : l.val < 64 then f ⟨l.val, h⟩ else 0) * (if h : l.val < 64 then g ⟨l.val, h⟩ else 0)) = ∑ l : Fin 64, f l * g l := by
  have := Fin.sum_univ_add (a := 64) (b := 64)
    (fun l : Fin 128 => (if h : l.val < 64 then f ⟨l.val, h⟩ else 0) * (if h : l.val < 64 then g ⟨l.val, h⟩ else 0))
  refine this.trans ((congrArg₂ (· + ·) (Finset.sum_congr rfl fun l _ => ?_) (Finset.sum_eq_zero fun l _ => ?_)).trans (add_zero _))
  · show (if h : l.val < 64 then f ⟨l.val, h⟩ else 0) * (if h : l.val < 64 then g ⟨l.val, h⟩ else 0) = _
    rw [dif_pos l.isLt, dif_pos l.isLt]
  · rw [dif_neg (by show ¬ 64 + l.val < 64; omega), zero_mul]

/-- The lambda the kernel computes from the table. -/
theorem lamOf_table (x4 x5 x6 x7 : FVec Ideal S1x64 .f32) : lamOf (lamTable x4 x5 x6 x7)
    = lam (∑ l : Fin 64, x4 (ix2 0 l) * x5 (ix2 0 l)) (∑ l : Fin 64, x6 (ix2 0 l) * x7 (ix2 0 l)) := by
  unfold lamOf
  refine congrArg₂ lam ?_ ?_
  · refine (Finset.sum_congr rfl fun l _ => ?_).trans (lanes_sum (fun l => x4 (ix2 0 l)) fun l => x5 (ix2 0 l))
    exact congrArg₂ (· * ·) (lamTable_apply x4 x5 x6 x7 0 l) (lamTable_apply x4 x5 x6 x7 1 l)
  · refine (Finset.sum_congr rfl fun l _ => ?_).trans (lanes_sum (fun l => x6 (ix2 0 l)) fun l => x7 (ix2 0 l))
    exact congrArg₂ (· * ·) (lamTable_apply x4 x5 x6 x7 2 l) (lamTable_apply x4 x5 x6 x7 3 l)

end Cert.KernelIdeal.Attn

end
-- ==== Proof.Bucket.lean ====
/-
  The buckets of the relative distances. A distance below 16 is its own bucket; a longer one's is found on a logarithmic
  scale that reaches 128 in sixteen steps, and the last bucket holds all the others. Here the scale is compared in whole
  numbers: the distance `n` is past step `k` when `8 ^ k * 16 ^ 16 ≤ n ^ 16`.
-/
module

public import Idealize.ShloMosaic.Lib.ValueIdx
public import proofs.«01_k».proof.KernelIdeal

@[expose] public section

set_option maxRecDepth 16384

noncomputable section

namespace Cert.Attn

open Idealize.ShloMosaic

/-- The number of steps of the scale that distance `n` is past. -/
def steps (n : ℕ) : ℕ := (List.range 15).countP fun k => decide (8 ^ (k + 1) * 16 ^ 16 ≤ n ^ 16)

/-- The bucket of distance `n`. -/
def bucket (n : ℕ) : ℕ := if n < 16 then n else min 31 (16 + steps n)

theorem bucket_lt (n : ℕ) : bucket n < 32 := by
  unfold bucket
  split <;> omega

theorem steps_mono {a b : ℕ} (h : a ≤ b) : steps a ≤ steps b := by
  unfold steps
  refine List.countP_mono_left fun k _ hk => ?_
  rw [decide_eq_true_iff] at hk ⊢
  exact hk.trans (Nat.pow_le_pow_left h 16)

/-- All the distances from 113 on are in the last bucket. -/
theorem bucket_far (n : ℕ) (h : 128 ≤ n) : bucket n = 31 := by
  have h1 : steps 128 = 15 := by decide +kernel
  have h2 := steps_mono h
  unfold bucket
  rw [if_neg (by omega)]
  omega

/-- A difference of two small numbers compared with zero. -/
theorem sub_sge_zero (n c : ℕ) (hn : n < 2 ^ 30) (hc : c < 2 ^ 30) :
    IntOp.cmpi .sge (BitVec.ofNat 32 n - BitVec.ofNat 32 c) 0#32 = if c ≤ n then 1#1 else 0#1 := by
  have e : (BitVec.ofNat 32 n - BitVec.ofNat 32 c).toInt = (n : ℤ) - c := by
    rw [BitVec.toInt_eq_toNat_cond, BitVec.toNat_sub, BitVec.toNat_ofNat, BitVec.toNat_ofNat]
    omega
  have e2 : BitVec.sle 0#32 (BitVec.ofNat 32 n - BitVec.ofNat 32 c) = decide (c ≤ n) := by
    rw [BitVec.sle, e]
    refine decide_eq_decide.mpr ?_
    show (0 : ℤ) ≤ (n : ℤ) - c ↔ c ≤ n
    omega
  show BitVec.ofBool (BitVec.sle 0#32 (BitVec.ofNat 32 n - BitVec.ofNat 32 c)) = _
  rw [e2]
  by_cases h : c ≤ n
  · rw [if_pos h, decide_eq_true h]; rfl
  · rw [if_neg h, decide_eq_false h]; rfl

end Cert.Attn

namespace Cert.KernelIdeal.Attn

open Cert.KernelIdeal Cert.Attn

/-- The table's first row holds the buckets of the distances in the diagonal tile. -/
theorem table0 (p : Fin 512) (h : (512 - p.val) % 512 < 256) : lit0 ⟨p.val, by omega⟩ = BitVec.ofNat 32 (bucket ((512 - p.val) % 512)) := by
  revert p
  decide +kernel

/-- Its second row those of the tile before it. -/
theorem table1 (p : Fin 512) (h : p.val ≠ 256) : lit0 ⟨512 + p.val, by omega⟩ = BitVec.ofNat 32 (bucket ((768 - p.val) % 512)) := by
  revert p
  decide +kernel

end Cert.KernelIdeal.Attn

end
-- ==== Proof.HostBias.lean ====
/-
  The bias tiles the program prepares, read at an index: behind the query −∞, otherwise the scaled bias of the distance's
  bucket.
-/
module

public import proofs.«01_k».proof.Proof.HostTerms
public import proofs.«01_k».proof.Proof.Bucket
public import proofs.«01_k».proof.Proof.Take
public import proofs.«01_k».proof.Proof.Reals
public import Idealize.ShloMosaic.Lib.ValueIdxRank6

@[expose] public section

set_option maxRecDepth 16384

noncomputable section

namespace Cert.KernelIdeal.Attn

open Cert.KernelIdeal Cert.KernelIdeal.Gen Cert.Attn
open Idealize.ShloMosaic Idealize.ShloMosaic.ValueIdx Idealize.SL.Sem
open Idealize.ShloMosaic (Ideal)

/-- The bucket numbers at an index. -/
theorem bucketRow_apply (a : Fin 2) (p : Fin 512) : bucketRow (ix3 a p 0) = lit0 ⟨a.val * 512 + p.val, by omega⟩ := by
  have e : bucketRow (ix3 a p 0) = lit0 (S2x512.rowMajor (ix2 a p)) := by
    unfold bucketRow
    rw [broadcastInDim_apply _ _ _ _ (ix2 a p) (fun b => by match b with | ⟨0, _⟩ => rfl | ⟨1, _⟩ => rfl)]
    rfl
  rw [e]
  exact congrArg lit0 (Fin.ext (Shape.rowMajor_val_two _))

/-- The bias along the two rows at an index. -/
theorem biasRow_apply (x : FVec Ideal S32x12 .f32) (h : Fin 4) (a : Fin 2) (p : Fin 512) :
    biasRow x (ix3 h a p) = scaled x (ix2 ⟨min (bucketRow (ix3 a p 0)).toInt.toNat 31, by omega⟩ h) := by
  unfold biasRow
  rw [transpose_apply _ _ _ _ (ix3 a p h) (fun b => by match b with | ⟨0, _⟩ => rfl | ⟨1, _⟩ => rfl | ⟨2, _⟩ => rfl)]
  exact take_rows_apply (N := 32) (M := 4) (R := 2) (C := 512) (by decide) gather_S32x4_S2x512x1_S2x512x4_2_0_n_n_0_2_14.wf _ _ a p h

/-- The rows laid out at an index: row `t` begins `t` to the left. -/
theorem shifted_apply (y : FVec Ideal S4x2x512 .f32) (h : Fin 4) (a : Fin 2) (t c : Fin 256) :
    shifted y (ix4 h a t c) = y (ix3 h a ⟨(t.val * 511 + c.val) % 512, by omega⟩) := by
  unfold shifted
  rw [extractStridedSlice_apply _ _ _ _ (ix4 h a t ⟨c.val, by omega⟩) (fun b => by
      match b with
      | ⟨0, _⟩ => exact (Nat.zero_add _).symm
      | ⟨1, _⟩ => exact (Nat.zero_add _).symm
      | ⟨2, _⟩ => exact (Nat.zero_add _).symm
      | ⟨3, _⟩ => exact (Nat.zero_add _).symm),
    shapeCast_apply _ _ _ (ix3 h a ⟨t.val * 511 + c.val, by omega⟩) (by
      rw [Shape.rowMajor_val_three, Shape.rowMajor_val_four]
      show (h.val * 2 + a.val) * 130816 + (t.val * 511 + c.val) = ((h.val * 2 + a.val) * 256 + t.val) * 511 + c.val
      omega),
    extractStridedSlice_apply _ _ _ _ (ix3 h a ⟨t.val * 511 + c.val, by omega⟩) (fun b => by
      match b with
      | ⟨0, _⟩ => exact (Nat.zero_add _).symm
      | ⟨1, _⟩ => exact (Nat.zero_add _).symm
      | ⟨2, _⟩ => exact (Nat.zero_add _).symm),
    shapeCast_apply _ _ _ (ix6 0 h 0 a ⟨(t.val * 511 + c.val) / 512, by omega⟩ ⟨(t.val * 511 + c.val) % 512, by omega⟩) (by
      rw [Shape.rowMajor_val_three, Shape.rowMajor_val_six]
      show ((((0 * 4 + h.val) * 1 + 0) * 2 + a.val) * 256 + (t.val * 511 + c.val) / 512) * 512 + (t.val * 511 + c.val) % 512
        = (h.val * 2 + a.val) * 131072 + (t.val * 511 + c.val)
      omega),
    broadcastInDim_apply _ _ _ _ (ix6 0 h 0 a 0 ⟨(t.val * 511 + c.val) % 512, by omega⟩) (fun b => by
      match b with
      | ⟨0, _⟩ => rfl
      | ⟨1, _⟩ => rfl
      | ⟨2, _⟩ => rfl
      | ⟨3, _⟩ => rfl
      | ⟨4, _⟩ => rfl
      | ⟨5, _⟩ => rfl),
    shapeCast_apply _ _ _ (ix3 h a ⟨(t.val * 511 + c.val) % 512, by omega⟩) (by
      rw [Shape.rowMajor_val_three, Shape.rowMajor_val_six]
      show (h.val * 2 + a.val) * 512 + (t.val * 511 + c.val) % 512
        = ((((0 * 4 + h.val) * 1 + 0) * 2 + a.val) * 1 + 0) * 512 + (t.val * 511 + c.val) % 512
      omega)]

/-- Which keys are not behind the query, at an index. -/
theorem seen_apply (a : Fin 2) (t c : Fin 256) : seen (ix3 a t c) = if c.val ≤ a.val * 256 + t.val then 1#1 else 0#1 := by
  have e : seen (ix3 a t c) = IntOp.cmpi .sge (BitVec.ofNat 32 a.val * 256#32 + BitVec.ofNat 32 t.val - BitVec.ofNat 32 c.val) 0#32 := rfl
  rw [e, ← BitVec.ofNat_mul, ← BitVec.ofNat_add]
  exact sub_sge_zero _ _ (by omega) (by omega)

/-- The clamped number of a bucket. -/
theorem clamp_bucket (n : ℕ) : min (BitVec.ofNat 32 (bucket n)).toInt.toNat 31 = bucket n := by
  have h := bucket_lt n
  have : (BitVec.ofNat 32 (bucket n)).toInt = bucket n := by
    rw [BitVec.toInt_eq_toNat_cond, BitVec.toNat_ofNat]
    omega
  rw [this]
  omega

/-- A tile at an index. -/
theorem masked_apply (x : FVec Ideal S32x12 .f32) (h : Fin 4) (a : Fin 2) (t c : Fin 256) :
    masked (biasRow x) (ix4 h a t c) = if c.val ≤ a.val * 256 + t.val
      then scaled x (ix2 ⟨bucket (a.val * 256 + t.val - c.val), bucket_lt _⟩ h) else ⊥ := by
  have e : masked (biasRow x) (ix4 h a t c) = if seen (ix3 a t c) = 1#1 then shifted (biasRow x) (ix4 h a t c) else Ideal.ofBits .f32 0xFF800000#32 := by
    unfold masked
    rw [select_apply, broadcastInDim_apply _ _ _ _ (ix4 0 a t c) (fun b => by
        match b with | ⟨0, _⟩ => rfl | ⟨1, _⟩ => rfl | ⟨2, _⟩ => rfl | ⟨3, _⟩ => rfl),
      broadcastInDim_apply _ _ _ _ (ix3 a t c) (fun b => by match b with | ⟨0, _⟩ => rfl | ⟨1, _⟩ => rfl | ⟨2, _⟩ => rfl)]
    rfl
  rw [e, seen_apply, shifted_apply, biasRow_apply, ofBits_neg_inf]
  by_cases hc : c.val ≤ a.val * 256 + t.val
  · rw [if_pos hc, if_pos rfl, if_pos hc]
    refine congrArg (fun b => scaled x (ix2 b h)) (Fin.ext ?_)
    show min (bucketRow (ix3 a ⟨(t.val * 511 + c.val) % 512, by omega⟩ 0)).toInt.toNat 31 = _
    rw [bucketRow_apply]
    have ht := t.isLt
    have hc' := c.isLt
    have key : lit0 ⟨a.val * 512 + (t.val * 511 + c.val) % 512, by omega⟩ = BitVec.ofNat 32 (bucket (a.val * 256 + t.val - c.val)) := by
      have ha := a.isLt
      rcases Nat.lt_or_ge a.val 1 with h0 | h0
      · have h1 : (512 - (t.val * 511 + c.val) % 512) % 512 = a.val * 256 + t.val - c.val := by omega
        have := table0 ⟨(t.val * 511 + c.val) % 512, by omega⟩ (by show (512 - (t.val * 511 + c.val) % 512) % 512 < 256; omega)
        refine (congrArg lit0 (Fin.ext ?_)).trans (this.trans (congrArg (fun n => BitVec.ofNat 32 (bucket n)) h1))
        show a.val * 512 + (t.val * 511 + c.val) % 512 = (t.val * 511 + c.val) % 512
        omega
      · have h1 : (768 - (t.val * 511 + c.val) % 512) % 512 = a.val * 256 + t.val - c.val := by omega
        have := table1 ⟨(t.val * 511 + c.val) % 512, by omega⟩ (by show (t.val * 511 + c.val) % 512 ≠ 256; omega)
        refine (congrArg lit0 (Fin.ext ?_)).trans (this.trans (congrArg (fun n => BitVec.ofNat 32 (bucket n)) h1))
        show a.val * 512 + (t.val * 511 + c.val) % 512 = 512 + (t.val * 511 + c.val) % 512
        omega
    refine Eq.trans ?_ (clamp_bucket (a.val * 256 + t.val - c.val))
    exact congrArg (fun b : BitVec 32 => min b.toInt.toNat 31) key
  · rw [if_neg hc, if_neg (by decide), if_neg hc]

theorem tile0_apply (z : FVec Ideal S4x2x256x256 .f32) (h : Fin 4) (t c : Fin 256) : tile0 z (ix3 h t c) = z (ix4 h 0 t c) := by
  unfold tile0
  rw [shapeCast_apply _ _ _ (ix4 h 0 t c) (by
      rw [Shape.rowMajor_val_three, Shape.rowMajor_val_four]
      show ((h.val * 1 + 0) * 256 + t.val) * 256 + c.val = (h.val * 256 + t.val) * 256 + c.val
      omega),
    extractStridedSlice_apply _ _ _ _ (ix4 h 0 t c) (fun b => by
      match b with
      | ⟨0, _⟩ => exact (Nat.zero_add _).symm
      | ⟨1, _⟩ => rfl
      | ⟨2, _⟩ => exact (Nat.zero_add _).symm
      | ⟨3, _⟩ => exact (Nat.zero_add _).symm)]

theorem tile1_apply (z : FVec Ideal S4x2x256x256 .f32) (h : Fin 4) (t c : Fin 256) : tile1 z (ix3 h t c) = z (ix4 h 1 t c) := by
  unfold tile1
  rw [shapeCast_apply _ _ _ (ix4 h 0 t c) (by
      rw [Shape.rowMajor_val_three, Shape.rowMajor_val_four]
      show ((h.val * 1 + 0) * 256 + t.val) * 256 + c.val = (h.val * 256 + t.val) * 256 + c.val
      omega),
    extractStridedSlice_apply _ _ _ _ (ix4 h 1 t c) (fun b => by
      match b with
      | ⟨0, _⟩ => exact (Nat.zero_add _).symm
      | ⟨1, _⟩ => rfl
      | ⟨2, _⟩ => exact (Nat.zero_add _).symm
      | ⟨3, _⟩ => exact (Nat.zero_add _).symm)]

/-- Two square tiles side by side, at an index. -/
theorem beside_apply (u v : FVec Ideal S4x256x256 .f32) (h : Fin 4) (t : Fin 256) (c : Fin 512) :
    concatenate S4x256x512 2 [⟨S4x256x256, u⟩, ⟨S4x256x256, v⟩] concatenates_S4x256x256_S4x256x256_S4x256x512_d2 (ix3 h t c)
      = if hc : c.val < 256 then u (ix3 h t ⟨c.val, hc⟩) else v (ix3 h t ⟨c.val - 256, by omega⟩) := by
  split
  · rename_i hc
    refine concatenate_pair_apply_left (t := S4x256x512) 2 u v concatenates_S4x256x256_S4x256x256_S4x256x512_d2 (ix3 h t c) rfl
      (ix3 h t ⟨c.val, hc⟩) fun b => ?_
    match b with | ⟨0, _⟩ => rfl | ⟨1, _⟩ => rfl | ⟨2, _⟩ => rfl
  · rename_i hc
    refine concatenate_pair_apply_right (t := S4x256x512) 2 u v concatenates_S4x256x256_S4x256x256_S4x256x512_d2 (ix3 h t c) rfl rfl
      (ix3 h t ⟨c.val - 256, by omega⟩) (fun b hb => ?_) ?_
    · match b with | ⟨0, _⟩ => rfl | ⟨1, _⟩ => rfl | ⟨2, _⟩ => exact absurd rfl hb
    · show c.val - 256 + 256 = c.val
      omega

/-- Two rows of tiles one after the other, at an index. -/
theorem stack_apply (u v : FVec Ideal S4x1x256x512 .f32) (h : Fin 4) (a : Fin 2) (t : Fin 256) (c : Fin 512) :
    concatenate S4x2x256x512 1 [⟨S4x1x256x512, u⟩, ⟨S4x1x256x512, v⟩] concatenates_S4x1x256x512_S4x1x256x512_S4x2x256x512_d1 (ix4 h a t c)
      = if a.val < 1 then u (ix4 h 0 t c) else v (ix4 h 0 t c) := by
  have ha := a.isLt
  split
  · rename_i h0
    refine concatenate_pair_apply_left (t := S4x2x256x512) 1 u v concatenates_S4x1x256x512_S4x1x256x512_S4x2x256x512_d1 (ix4 h a t c) rfl
      (ix4 h 0 t c) fun b => ?_
    match b with
    | ⟨0, _⟩ => rfl
    | ⟨1, _⟩ => show 0 = a.val; omega
    | ⟨2, _⟩ => rfl
    | ⟨3, _⟩ => rfl
  · rename_i h0
    refine concatenate_pair_apply_right (t := S4x2x256x512) 1 u v concatenates_S4x1x256x512_S4x1x256x512_S4x2x256x512_d1 (ix4 h a t c) rfl rfl
      (ix4 h 0 t c) (fun b hb => ?_) ?_
    · match b with | ⟨0, _⟩ => rfl | ⟨1, _⟩ => exact absurd rfl hb | ⟨2, _⟩ => rfl | ⟨3, _⟩ => rfl
    · show 0 + 1 = a.val
      omega

/-- The tiles at an index. -/
theorem tiles_apply (x : FVec Ideal S32x12 .f32) (h : Fin 4) (a : Fin 2) (t : Fin 256) (c : Fin 512) :
    tiles (masked (biasRow x)) (ix4 h a t c) = if c.val ≤ a.val * 256 + t.val
      then scaled x (ix2 ⟨bucket (a.val * 256 + t.val - c.val), bucket_lt _⟩ h) else ⊥ := by
  have ha := a.isLt
  have ht := t.isLt
  unfold tiles
  rw [stack_apply]
  split
  · rename_i h0
    have ea : a = 0 := Fin.ext (by show a.val = 0; omega)
    subst ea
    rw [broadcastInDim_apply _ _ _ _ (ix3 h t c) (fun b => by match b with | ⟨0, _⟩ => rfl | ⟨1, _⟩ => rfl | ⟨2, _⟩ => rfl), beside_apply]
    split
    · rename_i hc
      rw [tile0_apply, masked_apply]
    · rename_i hc
      rw [if_neg (by show ¬ c.val ≤ 0 * 256 + t.val; omega)]
      exact ofBits_neg_inf
  · rename_i h0
    have ea : a = 1 := Fin.ext (by show a.val = 1; omega)
    subst ea
    rw [broadcastInDim_apply _ _ _ _ (ix3 h t c) (fun b => by match b with | ⟨0, _⟩ => rfl | ⟨1, _⟩ => rfl | ⟨2, _⟩ => rfl), beside_apply]
    split
    · rename_i hc
      rw [tile1_apply, masked_apply]
    · rename_i hc
      rw [tile0_apply, masked_apply]
      have e1 : ((0 : Fin 2).val * 256 + t.val) = t.val := by show 0 * 256 + t.val = t.val; omega
      have e2 : ((1 : Fin 2).val * 256 + t.val) = 256 + t.val := by show 1 * 256 + t.val = 256 + t.val; omega
      by_cases h2 : c.val ≤ 256 + t.val
      · rw [if_pos (by show c.val - 256 ≤ 0 * 256 + t.val; omega), if_pos (by rw [e2]; exact h2)]
        refine congrArg (fun b => scaled x (ix2 b h)) (Fin.ext (congrArg bucket ?_))
        show 0 * 256 + t.val - (c.val - 256) = 1 * 256 + t.val - c.val
        omega
      · rw [if_neg (by show ¬ c.val - 256 ≤ 0 * 256 + t.val; omega), if_neg (by rw [e2]; exact h2)]

end Cert.KernelIdeal.Attn

end
-- ==== Proof.Pre.lean ====
/-
  What the precondition says: every element of the queries, keys, values, of the four heads' biases and of the lambda
  vectors is a real number.
-/
module

public import Idealize.ShloMosaic.Lib.ValueIdx
public import Idealize.ShloMosaic.PureOps.Reduce
public import proofs.«01_k».proof.Pre_finite
public import proofs.«01_k».proof.Proof.Output

@[expose] public section

set_option maxRecDepth 16384

noncomputable section

namespace Cert.Attn

open Idealize.ShloMosaic Idealize.ShloMosaic.ValueIdx
open Idealize.ShloMosaic (Ideal)

/-- A bit and another are both one where their conjunction is. -/
theorem and_one (a b : BitVec 1) : IntOp.andi a b = 1#1 → a = 1#1 ∧ b = 1#1 := by revert a b; decide

/-- A list of bits whose conjunction is one holds only ones. -/
theorem foldl_ones {ι : Type*} (x : ι → BitVec 1) (l : List ι) (a : BitVec 1) (h : l.foldl (fun r i => IntOp.andi r (x i)) a = 1#1) :
    a = 1#1 ∧ ∀ i ∈ l, x i = 1#1 := by
  induction l generalizing a with
  | nil => exact ⟨h, fun i hi => absurd hi List.not_mem_nil⟩
  | cons b l ih =>
    obtain ⟨h1, h2⟩ := ih _ h
    obtain ⟨h3, h4⟩ := and_one _ _ h1
    refine ⟨h3, fun i hi => ?_⟩
    rcases List.mem_cons.mp hi with rfl | hi
    · exact h4
    · exact h2 i hi

/-- An array of bits whose conjunction is one holds only ones. -/
theorem reduce_ones {s t u : Shape} {axes : List (Fin s.rank)} (x : s.Idx → BitVec 1) (init : u.Idx → BitVec 1) (h : s.ReducesTo axes t)
    (hu : 0 < u.numel) (ht : t.rank = 0) (j : t.Idx) (hj : Host.reduce IntOp.andi x init h hu j = 1#1) (i : s.Idx) : x i = 1#1 := by
  rw [Host.reduce_eq_foldl] at hj
  refine (foldl_ones x _ _ hj).2 i (List.mem_filter.mpr ⟨List.mem_map.mpr ⟨s.rowMajor i, List.mem_finRange _, s.rowMajor.symm_apply_apply i⟩, ?_⟩)
  exact decide_eq_true (funext fun b => absurd b.isLt (by omega))

/-- A value whose magnitude is below +∞ is a real. -/
theorem real_of_abs_lt (x : EReal) (h : FloatOps.cmpf (F := Ideal) (φ := .f32) .olt (FloatOps.hostAbsf (F := Ideal) (φ := .f32) x) (Ideal.ofBits .f32 0x7F800000#32) = 1#1) :
    ((x.toReal : ℝ) : EReal) = x := by
  have ht : Ideal.ofBits .f32 0x7F800000#32 = ⊤ := by simp [Ideal.ofBits, Ideal.ieee]
  rw [ht] at h
  induction x with
  | bot => exact absurd h (by simp [FloatOps.cmpf, FloatOps.hostAbsf, Ideal.cmp])
  | top => exact absurd h (by simp [FloatOps.cmpf, FloatOps.hostAbsf, Ideal.cmp])
  | coe r => rfl

/-- The arrays are real where they are read. -/
structure Reals (x0 x1 x2 : FVec Ideal (⟨3, ![16, 2048, 512]⟩ : Shape) .f32) (x3 : FVec Ideal (⟨2, ![32, 12]⟩ : Shape) .f32)
    (x4 x5 x6 x7 : FVec Ideal (⟨2, ![1, 64]⟩ : Shape) .f32) : Prop where
  h0 : ∀ i, (((x0 i).toReal : ℝ) : EReal) = x0 i
  h1 : ∀ i, (((x1 i).toReal : ℝ) : EReal) = x1 i
  h2 : ∀ i, (((x2 i).toReal : ℝ) : EReal) = x2 i
  h3 : ∀ (b : Fin 32) (h : Fin 4), (((x3 (ix2 b ⟨h.val, by omega⟩)).toReal : ℝ) : EReal) = x3 (ix2 b ⟨h.val, by omega⟩)
  h4 : ∀ i, (((x4 i).toReal : ℝ) : EReal) = x4 i
  h5 : ∀ i, (((x5 i).toReal : ℝ) : EReal) = x5 i
  h6 : ∀ i, (((x6 i).toReal : ℝ) : EReal) = x6 i
  h7 : ∀ i, (((x7 i).toReal : ℝ) : EReal) = x7 i

open Cert.Pre_finite in
/-- The precondition gives real arrays. -/
theorem reals_of_pre [Cert.Pre_finite.Facts] (x0 x1 x2 : FVec Ideal S16x2048x512 .f32) (x3 : FVec Ideal S32x12 .f32)
    (x4 x5 x6 x7 : FVec Ideal S1x64 .f32) (x8 : FVec Ideal S1x128 .f32)
    (h : Cert.Pre_finite.fn (F := Ideal) x0 x1 x2 x3 x4 x5 x6 x7 x8 = fun _ => 1#1) : Reals x0 x1 x2 x3 x4 x5 x6 x7 := by
  have e := congrFun h ix0
  unfold fn fn_part1 fn_part2 at e
  dsimp only at e
  obtain ⟨e, e7⟩ := and_one _ _ e
  obtain ⟨e, e6⟩ := and_one _ _ e
  obtain ⟨e, e5⟩ := and_one _ _ e
  obtain ⟨e, e4⟩ := and_one _ _ e
  obtain ⟨e, e3⟩ := and_one _ _ e
  obtain ⟨e, e2⟩ := and_one _ _ e
  obtain ⟨e0, e1⟩ := and_one _ _ e
  refine ⟨fun i => ?_, fun i => ?_, fun i => ?_, fun b h => ?_, fun i => ?_, fun i => ?_, fun i => ?_, fun i => ?_⟩
  · exact real_of_abs_lt _ (reduce_ones _ _ _ _ rfl _ e0 i)
  · exact real_of_abs_lt _ (reduce_ones _ _ _ _ rfl _ e1 i)
  · exact real_of_abs_lt _ (reduce_ones _ _ _ _ rfl _ e2 i)
  · have e := real_of_abs_lt _ (reduce_ones _ _ _ _ rfl _ e3 (ix2 b h))
    rwa [extractStridedSlice_apply _ _ _ _ (ix2 b ⟨h.val, by omega⟩) (fun a => by
      match a with
      | ⟨0, _⟩ => exact (Nat.zero_add _).symm
      | ⟨1, _⟩ => exact (Nat.zero_add _).symm)] at e
  · exact real_of_abs_lt _ (reduce_ones _ _ _ _ rfl _ e4 i)
  · exact real_of_abs_lt _ (reduce_ones _ _ _ _ rfl _ e5 i)
  · exact real_of_abs_lt _ (reduce_ones _ _ _ _ rfl _ e6 i)
  · exact real_of_abs_lt _ (reduce_ones _ _ _ _ rfl _ e7 i)

end Cert.Attn

end
-- ==== Proof.Spec.lean ====
/-
  The attention both programs compute, written over the real parts of the arguments: each head's two attentions over the
  keys up to the query, the second subtracted `lam` times from the first, and the normalised result.
-/
module

public import proofs.«01_k».proof.Proof.Output
public import proofs.«01_k».proof.Proof.Bucket

@[expose] public section

set_option maxRecDepth 16384

noncomputable section

namespace Cert.Attn

open Idealize.ShloMosaic Idealize.ShloMosaic.ValueIdx
open Idealize.ShloMosaic (Ideal)

/-- Queries, keys or values: 16 batch rows, 2048 positions, 512 channels. -/
abbrev Arr : Type := FVec Ideal (⟨3, ![16, 2048, 512]⟩ : Shape) .f32
/-- The table of biases. -/
abbrev Tab : Type := FVec Ideal (⟨2, ![32, 12]⟩ : Shape) .f32
/-- One of the lambda vectors. -/
abbrev Row : Type := FVec Ideal (⟨2, ![1, 64]⟩ : Shape) .f32

/-- The channel of head `h`'s attention `c` at `d`. -/
def chan (h : Fin 4) (c : Fin 2) (d : Fin 64) : Fin 512 := ⟨h.val * 128 + c.val * 64 + d.val, by omega⟩
/-- The channel of head `h`'s value at `e`. -/
def vchan (h : Fin 4) (e : Fin 128) : Fin 512 := ⟨h.val * 128 + e.val, by omega⟩

/-- Head `h`'s bias of bucket `b`. -/
def bias (x3 : Tab) (h : Fin 4) (b : Fin 32) : ℝ := (x3 (ix2 b ⟨h.val, by omega⟩)).toReal

/-- The score of key `j` for the query at `p`. -/
def score (x0 x1 : Arr) (x3 : Tab) (b : Fin 16) (h : Fin 4) (c : Fin 2) (p j : Fin 2048) : ℝ :=
  (∑ d : Fin 64, (x0 (ix3 b p (chan h c d))).toReal * (x1 (ix3 b j (chan h c d))).toReal) * (1 / 8)
    + bias x3 h ⟨bucket (p.val - j.val), bucket_lt _⟩

/-- Its weight: none behind the query. -/
def wt (x0 x1 : Arr) (x3 : Tab) (b : Fin 16) (h : Fin 4) (c : Fin 2) (p j : Fin 2048) : ℝ :=
  if j.val ≤ p.val then Real.exp (score x0 x1 x3 b h c p j) else 0

/-- The attention: the values' mean by weight. -/
def soft (x0 x1 x2 : Arr) (x3 : Tab) (b : Fin 16) (h : Fin 4) (c : Fin 2) (p : Fin 2048) (e : Fin 128) : ℝ :=
  (∑ j, wt x0 x1 x3 b h c p j * (x2 (ix3 b j (vchan h e))).toReal) / ∑ j, wt x0 x1 x3 b h c p j

/-- The result of head `h` at position `p`. -/
def spec (x0 x1 x2 : Arr) (x3 : Tab) (x4 x5 x6 x7 : Row) (x8 : FVec Ideal (⟨2, ![1, 128]⟩ : Shape) .f32)
    (b : Fin 16) (p : Fin 2048) (h : Fin 4) (e : Fin 128) : EReal :=
  normed (fun l => ((soft x0 x1 x2 x3 b h 0 p l : ℝ) : EReal)
      - lam (∑ l : Fin 64, x4 (ix2 0 l) * x5 (ix2 0 l)) (∑ l : Fin 64, x6 (ix2 0 l) * x7 (ix2 0 l))
        * ((soft x0 x1 x2 x3 b h 1 p l : ℝ) : EReal))
    (fun l => x8 (ix2 0 l)) e

theorem wt_nonneg (x0 x1 : Arr) (x3 : Tab) (b : Fin 16) (h : Fin 4) (c : Fin 2) (p j : Fin 2048) : 0 ≤ wt x0 x1 x3 b h c p j := by
  unfold wt
  split
  · exact (Real.exp_pos _).le
  · exact le_rfl

/-- The query's own key weighs something. -/
theorem wt_sum_pos (x0 x1 : Arr) (x3 : Tab) (b : Fin 16) (h : Fin 4) (c : Fin 2) (p : Fin 2048) : 0 < ∑ j, wt x0 x1 x3 b h c p j := by
  refine Finset.sum_pos' (fun j _ => wt_nonneg x0 x1 x3 b h c p j) ⟨p, Finset.mem_univ _, ?_⟩
  unfold wt
  rw [if_pos le_rfl]
  exact Real.exp_pos _

end Cert.Attn

end
-- ==== Proof.Same.lean ====
/-
  The kernel's attention, with its powers of two, scaled scores and biases less the last bucket's, is the attention of the
  specification: each weight differs by one factor, the same for all the keys of a head.
-/
module

public import proofs.«01_k».proof.Proof.Spec

@[expose] public section

set_option maxRecDepth 16384

noncomputable section

namespace Cert.KernelIdeal.Attn

open Cert.KernelIdeal Cert.KernelIdeal.Gen Cert.Attn
open Idealize.ShloMosaic Idealize.ShloMosaic.ValueIdx
open Idealize.ShloMosaic (Ideal)

/-- The position of query `t` of block `n`. -/
def at_ (n : Fin 8) (t : Fin 256) : Fin 2048 := ⟨256 * n.val + t.val, by omega⟩

/-- The scaled queries of a block, -/
def qOf (x0 : Arr) (b : Fin 16) (h : Fin 4) (n : Fin 8) (t : Fin 256) (d : Fin 128) : ℝ :=
  (x0 (ix3 b (at_ n t) (vchan h d))).toReal * (1 / 8 * (1 / Real.log 2))
/-- the keys, -/
def kOf (x1 : Arr) (b : Fin 16) (h : Fin 4) (d : Fin 128) (j : ℕ) : ℝ :=
  if hj : j < 2048 then (x1 (ix3 b ⟨j, hj⟩ (vchan h d))).toReal else 0
/-- the values, -/
def vOf (x2 : Arr) (b : Fin 16) (h : Fin 4) (j : ℕ) (e : Fin 128) : ℝ :=
  if hj : j < 2048 then (x2 (ix3 b ⟨j, hj⟩ (vchan h e))).toReal else 0
/-- and the scaled biases. -/
def bOf (x3 : Tab) (h : Fin 4) (n : Fin 8) (t : Fin 256) (j : ℕ) : ℝ :=
  (bias x3 h ⟨bucket (256 * n.val + t.val - j), bucket_lt _⟩ - bias x3 h 31) * (1 / Real.log 2)

/-- The biases of the far keys vanish. -/
theorem bOf_far (x3 : Tab) (h : Fin 4) (n : Fin 8) (t : Fin 256) (j : ℕ) (hj : j < 256 * (n.val - 1)) : bOf x3 h n t j = 0 := by
  unfold bOf
  have e : (⟨bucket (256 * n.val + t.val - j), bucket_lt _⟩ : Fin 32) = 31 := Fin.ext (bucket_far _ (by omega))
  rw [e, sub_self, zero_mul]

/-- A sum over 128 lanes of which one half counts. -/
theorem half_sum (f : Fin 128 → ℝ) (g : Fin 64 → ℝ) (c : Fin 2) (h1 : ∀ d : Fin 64, f ⟨c.val * 64 + d.val, by omega⟩ = g d)
    (h0 : ∀ d : Fin 128, d.val / 64 ≠ c.val → f d = 0) : ∑ d, f d = ∑ d, g d := by
  have e : ∑ d, f d = (∑ d : Fin 64, f (Fin.castAdd 64 d)) + ∑ d : Fin 64, f (Fin.natAdd 64 d) := Fin.sum_univ_add (a := 64) (b := 64) f
  rw [e]
  have hc := c.isLt
  rcases Nat.lt_or_ge c.val 1 with h | h
  · rw [Finset.sum_eq_zero (s := Finset.univ) (f := fun d : Fin 64 => f (Fin.natAdd 64 d)) (fun d _ => h0 _ (by
        show (64 + d.val) / 64 ≠ c.val
        omega)), add_zero]
    refine Finset.sum_congr rfl fun d _ => (congrArg f (Fin.ext ?_)).trans (h1 d)
    show d.val = c.val * 64 + d.val
    omega
  · rw [Finset.sum_eq_zero (s := Finset.univ) (f := fun d : Fin 64 => f (Fin.castAdd 64 d)) (fun d _ => h0 _ (by
        show d.val / 64 ≠ c.val
        have := d.isLt
        omega)), zero_add]
    refine Finset.sum_congr rfl fun d _ => (congrArg f (Fin.ext ?_)).trans (h1 d)
    show 64 + d.val = c.val * 64 + d.val
    omega

/-- A sum over the lanes that a row keeps. -/
theorem kept_sum (c : Fin 2) (t : Fin 256) (Q K : Fin 128 → ℝ) :
    (∑ d : Fin 128, (if keeps (half c t) d then Q d else 0) * K d)
      = ∑ d : Fin 64, Q ⟨c.val * 64 + d.val, by omega⟩ * K ⟨c.val * 64 + d.val, by omega⟩ := by
  have hc := c.isLt
  have ht := t.isLt
  refine half_sum _ _ c (fun d => ?_) fun d hd => ?_
  · have hk : keeps (half c t) ⟨c.val * 64 + d.val, by omega⟩ := by
      show c.val * 256 + t.val < 256 ↔ c.val * 64 + d.val < 64
      omega
    rw [if_pos hk]
  · have hk : ¬ keeps (half c t) d := by
      show ¬ (c.val * 256 + t.val < 256 ↔ d.val < 64)
      have := d.isLt
      omega
    rw [if_neg hk, zero_mul]

theorem row_half (c : Fin 2) (t : Fin 256) : row (half c t) = t := Fin.ext (by show (c.val * 256 + t.val) % 256 = t.val; omega)

/-- A weight of the kernel is the specification's, up to the head's factor. -/
theorem weight_eq (x0 x1 : Arr) (x3 : Tab) (b : Fin 16) (h : Fin 4) (n : Fin 8) (c : Fin 2) (t : Fin 256) (j : Fin 2048) :
    weight (split (qOf x0 b h n)) (kOf x1 b h) (bOf x3 h n) (256 * n.val + t.val) (half c t) j.val
      = wt x0 x1 x3 b h c (at_ n t) j * Real.exp (-bias x3 h 31) := by
  unfold weight wt
  by_cases hj : j.val ≤ 256 * n.val + t.val
  · rw [if_pos hj, if_pos (show j.val ≤ (at_ n t).val from hj), ← Real.exp_add, Real.rpow_def_of_pos two_pos]
    refine congrArg Real.exp ?_
    have hl : Real.log 2 ≠ 0 := (Real.log_pos one_lt_two).ne'
    have hs : (∑ d : Fin 128, split (qOf x0 b h n) (half c t) d * kOf x1 b h d j.val)
        = (∑ d : Fin 64, (x0 (ix3 b (at_ n t) (chan h c d))).toReal * (x1 (ix3 b j (chan h c d))).toReal) * (1 / 8 * (1 / Real.log 2)) := by
      refine (kept_sum c t (fun d => qOf x0 b h n (row (half c t)) d) (fun d => kOf x1 b h d j.val)).trans ?_
      rw [Finset.sum_mul]
      refine Finset.sum_congr rfl fun d _ => ?_
      have e : vchan h ⟨c.val * 64 + d.val, by omega⟩ = chan h c d := Fin.ext (Nat.add_assoc _ _ _).symm
      unfold qOf kOf
      rw [dif_pos j.isLt, row_half, e]
      ring
    rw [hs, row_half]
    unfold score bOf
    show Real.log 2 * (_ + (bias x3 h ⟨bucket (256 * n.val + t.val - j.val), _⟩ - bias x3 h 31) * (1 / Real.log 2))
      = _ + bias x3 h ⟨bucket (256 * n.val + t.val - j.val), _⟩ + -bias x3 h 31
    field_simp
    ring
  · rw [if_neg hj, if_neg (show ¬ j.val ≤ (at_ n t).val from hj), zero_mul]

/-- The kernel's attention is the specification's. -/
theorem attn_eq (i : grid0.Coords) (x0 x1 x2 : Arr) (x3 : Tab) (b : Fin 16) (h : Fin 4) (n : Fin 8) (hn : (i 2).val = n.val) (c : Fin 2)
    (t : Fin 256) (e : Fin 128) :
    attn i (qOf x0 b h n) (kOf x1 b h) (vOf x2 b h) (bOf x3 h n) (half c t) e = soft x0 x1 x2 x3 b h c (at_ n t) e := by
  have hp : pos i (half c t) = 256 * n.val + t.val := by
    unfold pos
    rw [row_half, hn]
  have hE : Real.exp (-bias x3 h 31) ≠ 0 := (Real.exp_pos _).ne'
  unfold attn soft
  rw [hp, Finset.sum_range, Finset.sum_range]
  have e1 : (∑ j : Fin 2048, weight (split (qOf x0 b h n)) (kOf x1 b h) (bOf x3 h n) (256 * n.val + t.val) (half c t) j.val)
      = (∑ j, wt x0 x1 x3 b h c (at_ n t) j) * Real.exp (-bias x3 h 31) := by
    rw [Finset.sum_mul]
    exact Finset.sum_congr rfl fun j _ => weight_eq x0 x1 x3 b h n c t j
  have e2 : (∑ j : Fin 2048, weight (split (qOf x0 b h n)) (kOf x1 b h) (bOf x3 h n) (256 * n.val + t.val) (half c t) j.val * vOf x2 b h j.val e)
      = (∑ j, wt x0 x1 x3 b h c (at_ n t) j * (x2 (ix3 b j (vchan h e))).toReal) * Real.exp (-bias x3 h 31) := by
    rw [Finset.sum_mul]
    refine Finset.sum_congr rfl fun j _ => ?_
    rw [weight_eq]
    unfold vOf
    rw [dif_pos j.isLt]
    ring
  rw [e1, e2, mul_div_mul_right _ _ hE]

end Cert.KernelIdeal.Attn

end
-- ==== Proof.HostArgs.lean ====
/-
  The operands the program prepares, read at an index, where the arguments are real.
-/
module

public import proofs.«01_k».proof.Proof.HostBias
public import proofs.«01_k».proof.Proof.HostLam
public import proofs.«01_k».proof.Proof.Pre
public import proofs.«01_k».proof.Proof.Same

@[expose] public section

set_option maxRecDepth 16384

noncomputable section

namespace Cert.KernelIdeal.Attn

open Cert.KernelIdeal Cert.KernelIdeal.Gen Cert.Attn
open Idealize.ShloMosaic Idealize.ShloMosaic.ValueIdx Idealize.SL.Sem
open Idealize.ShloMosaic (Ideal)

theorem ofBits_two : Ideal.ofBits .f32 0x40000000#32 = ((2 : ℝ) : EReal) := by
  simp [Ideal.ofBits, Ideal.ieee]
  rw [← EReal.coe_mul]
  norm_num

theorem ofBits_eighth : Ideal.ofBits .f32 0x3E000000#32 = ((1 / 8 : ℝ) : EReal) := by
  simp [Ideal.ofBits, Ideal.ieee]
  rw [← EReal.coe_mul]
  norm_num

/-- The reciprocal of the logarithm of two. -/
theorem invLog2_apply (i : S_.Idx) : invLog2 i = ((1 / Real.log 2 : ℝ) : EReal) := by
  show Ideal.div (Ideal.ofBits .f32 0x3F800000#32) (Ideal.log (Ideal.ofBits .f32 0x40000000#32)) = _
  rw [Ideal.ofBits_one_f32, ofBits_two]
  have h : Ideal.log ((2 : ℝ) : EReal) = ((Real.log 2 : ℝ) : EReal) := by
    show (if (2 : ℝ) ≤ 0 then (⊥ : EReal) else ((Real.log 2 : ℝ) : EReal)) = _
    exact if_neg (by norm_num)
  rw [h]
  exact div_coe (x := 1) (Real.log_pos one_lt_two).ne'

theorem scaled_apply (x : FVec Ideal S32x12 .f32) (hx : ∀ (b : Fin 32) (h : Fin 4), (((x (ix2 b ⟨h.val, by omega⟩)).toReal : ℝ) : EReal) = x (ix2 b ⟨h.val, by omega⟩))
    (b : Fin 32) (h : Fin 4) : scaled x (ix2 b h) = (((bias x h b - bias x h 31) * (1 / Real.log 2) : ℝ) : EReal) := by
  have e1 : ∀ (b : Fin 32), extractStridedSlice S32x4 ![0, 0] x slices_S32x12_S32x4_0_0 (ix2 b h) = ((bias x h b : ℝ) : EReal) := fun b => by
    rw [extractStridedSlice_apply _ _ _ _ (ix2 b ⟨h.val, by omega⟩) (fun a => by
      match a with
      | ⟨0, _⟩ => exact (Nat.zero_add _).symm
      | ⟨1, _⟩ => exact (Nat.zero_add _).symm)]
    exact (hx b h).symm
  have e2 : broadcastInDim S32x4 ![0, 1] bcast_S1x4_S32x4_0_1 (broadcastInDim S1x4 ![1] bcast_S4_S1x4_1
        (shapeCast S4 (extractStridedSlice S1x4 ![31, 0] (extractStridedSlice S32x4 ![0, 0] x slices_S32x12_S32x4_0_0) slices_S32x4_S1x4_31_0)
          shapeCasts_S1x4_S4)) (ix2 b h) = ((bias x h 31 : ℝ) : EReal) := by
    rw [broadcastInDim_apply _ _ _ _ (ix2 0 h) (fun a => by match a with | ⟨0, _⟩ => rfl | ⟨1, _⟩ => rfl),
      broadcastInDim_apply _ _ _ _ (ix1 h) (fun a => by match a with | ⟨0, _⟩ => rfl),
      shapeCast_apply _ _ _ (ix2 0 h) (by
        rw [Shape.rowMajor_val_two, Shape.rowMajor_val_one]
        show 0 * 4 + h.val = h.val
        omega),
      extractStridedSlice_apply _ _ _ _ (ix2 31 h) (fun a => by
        match a with
        | ⟨0, _⟩ => rfl
        | ⟨1, _⟩ => exact (Nat.zero_add _).symm)]
    exact e1 31
  have e3 : scaled x (ix2 b h) = (extractStridedSlice S32x4 ![0, 0] x slices_S32x12_S32x4_0_0 (ix2 b h)
      - broadcastInDim S32x4 ![0, 1] bcast_S1x4_S32x4_0_1 (broadcastInDim S1x4 ![1] bcast_S4_S1x4_1
        (shapeCast S4 (extractStridedSlice S1x4 ![31, 0] (extractStridedSlice S32x4 ![0, 0] x slices_S32x12_S32x4_0_0) slices_S32x4_S1x4_31_0)
          shapeCasts_S1x4_S4)) (ix2 b h)) * invLog2 ix0 := by
    unfold scaled
    rfl
  rw [e3, e1, e2, invLog2_apply, ← EReal.coe_sub, ← EReal.coe_mul]

/-- The bias tiles at an index. -/
theorem tiles_real (x : FVec Ideal S32x12 .f32) (hx : ∀ (b : Fin 32) (h : Fin 4), (((x (ix2 b ⟨h.val, by omega⟩)).toReal : ℝ) : EReal) = x (ix2 b ⟨h.val, by omega⟩))
    (h : Fin 4) (n : Fin 8) (a : Fin 2) (ha : a.val = min n.val 1) (t : Fin 256) (c : Fin 512) :
    tiles (masked (biasRow x)) (ix4 h a t c) = if c.val ≤ a.val * 256 + t.val then ((bOf x h n t (256 * (n.val - 1) + c.val) : ℝ) : EReal) else ⊥ := by
  rw [tiles_apply]
  split
  · rename_i hc
    rw [scaled_apply x hx]
    have e : a.val * 256 + t.val - c.val = 256 * n.val + t.val - (256 * (n.val - 1) + c.val) := by omega
    unfold bOf
    have e2 : (⟨bucket (a.val * 256 + t.val - c.val), bucket_lt _⟩ : Fin 32)
        = ⟨bucket (256 * n.val + t.val - (256 * (n.val - 1) + c.val)), bucket_lt _⟩ := Fin.ext (congrArg bucket e)
    rw [e2]
  · rfl

/-- The scaled queries at an index. -/
theorem queries_apply (x : FVec Ideal S16x2048x512 .f32) (hx : ∀ i, (((x i).toReal : ℝ) : EReal) = x i) (i : S16x2048x512.Idx) :
    queries x i = (((x i).toReal * (1 / 8 * (1 / Real.log 2)) : ℝ) : EReal) := by
  have e : queries x i = x i * (Ideal.ofBits .f32 0x3E000000#32 * invLog2 ix0) := by
    unfold queries
    rw [truncf_apply, mulf_apply, broadcastInDim_apply _ _ _ _ ix0 (fun a => a.elim0)]
    rfl
  rw [e, invLog2_apply, ofBits_eighth, ← EReal.coe_mul, EReal.coe_mul (x i).toReal, hx]

/-- The transposed keys at an index. -/
theorem keysT_apply (x : FVec Ideal S16x2048x512 .f32) (l : Fin 512) (b : Fin 16) (j : Fin 2048) :
    keysT x (ix2 l ⟨b.val * 2048 + j.val, by omega⟩) = x (ix3 b j l) := by
  unfold keysT
  rw [truncf_apply, transpose_apply _ _ _ _ (ix2 ⟨b.val * 2048 + j.val, by omega⟩ l) (fun a => by match a with | ⟨0, _⟩ => rfl | ⟨1, _⟩ => rfl),
    shapeCast_apply _ _ _ (ix3 b j l) (by
      rw [Shape.rowMajor_val_three, Shape.rowMajor_val_two]
      rfl)]

/-- The weights of the norm at an index. -/
theorem gain_apply (x : FVec Ideal S1x128 .f32) (l : Fin 128) : gain x (ix2 0 l) = x (ix2 0 l) := by
  unfold gain
  rw [shapeCast_apply _ _ _ (ix1 l) (by
      rw [Shape.rowMajor_val_two, Shape.rowMajor_val_one]
      show l.val = 0 * 128 + l.val
      omega),
    shapeCast_apply _ _ _ (ix2 0 l) (by
      rw [Shape.rowMajor_val_two, Shape.rowMajor_val_one]
      show 0 * 128 + l.val = l.val
      omega)]

end Cert.KernelIdeal.Attn

end
-- ==== Proof.Array.lean ====
/-
  The array the kernel leaves: at every index the specification.
-/
module

public import proofs.«01_k».proof.Proof.HostArgs
public import Idealize.ShloMosaic.Lib.Pipeline.ValueKit.Geometry

@[expose] public section

set_option maxRecDepth 16384

noncomputable section

namespace Cert.KernelIdeal.Attn

open Cert.KernelIdeal Cert.KernelIdeal.Gen Cert.Attn
open Idealize.ShloMosaic Idealize.ShloMosaic.TcCoe Idealize.ShloMosaic.ValueIdx Idealize.SL.Sem
open Idealize.ShloMosaic (Ideal)

/-! ## Which block each grid point reads and writes -/

theorem index0 : ∀ t : Fin cfg0.N, win0_0.index t = ![(grid0.coords t 0).val, (grid0.coords t 2).val, (grid0.coords t 1).val] :=
  (by decide +kernel : ∀ t : Fin grid0.N, _)
theorem index1 : ∀ t : Fin cfg0.N, win0_1.index t = ![(grid0.coords t 1).val, (grid0.coords t 0).val] :=
  (by decide +kernel : ∀ t : Fin grid0.N, _)
theorem index2 : ∀ t : Fin cfg0.N, win0_2.index t = ![(grid0.coords t 0).val, 0, (grid0.coords t 1).val] :=
  (by decide +kernel : ∀ t : Fin grid0.N, _)
theorem index3 : ∀ t : Fin cfg0.N, win0_3.index t = ![(grid0.coords t 1).val, 0, 0, 0] :=
  (by decide +kernel : ∀ t : Fin grid0.N, _)
theorem index4 : ∀ t : Fin cfg0.N, win0_4.index t = ![0, 0] :=
  (by decide +kernel : ∀ t : Fin grid0.N, _)
theorem index5 : ∀ t : Fin cfg0.N, win0_5.index t = ![0, 0] :=
  (by decide +kernel : ∀ t : Fin grid0.N, _)
theorem index6 : ∀ t : Fin cfg0.N, win0_6.index t = ![(grid0.coords t 0).val, (grid0.coords t 2).val, (grid0.coords t 1).val] :=
  (by decide +kernel : ∀ t : Fin grid0.N, _)

variable (m : (ℓ : Loc nD τ sig) → Buf (Elt Ideal) ℓ) (c : Dev nD)

/-! ## The operands' blocks at an index -/

theorem blk0 (t : Fin cfg0.N) (b : Fin 16) (h : Fin 4) (n : Fin 8) (hb : (grid0.coords t 0).val = b.val) (hh : (grid0.coords t 1).val = h.val)
    (hn : (grid0.coords t 2).val = n.val) (r : Fin 256) (d : Fin 128) :
    iblk m c 0 t (ix3 0 r d) = V m c main_v73 (ix3 b (at_ n r) (vchan h d)) := by
  show V m c main_v73 ((win0_0.blk t).view.emb (ix3 0 r d)) = _
  refine congrArg (V m c main_v73) (funext fun a => Fin.ext ?_)
  match a with
  | ⟨0, _⟩ => blk_simp [index0]; rw [hb]
  | ⟨1, _⟩ => blk_simp [index0]; rw [hn]; show n.val * 256 + r.val = 256 * n.val + r.val; omega
  | ⟨2, _⟩ => blk_simp [index0]; rw [hh]; show h.val * 128 + d.val = h.val * 128 + d.val; omega

theorem blk1 (t : Fin cfg0.N) (b : Fin 16) (h : Fin 4) (hb : (grid0.coords t 0).val = b.val) (hh : (grid0.coords t 1).val = h.val)
    (d : Fin 128) (j : Fin 2048) :
    iblk m c 1 t (ix2 d j) = V m c main_v76 (ix2 (vchan h d) ⟨b.val * 2048 + j.val, by omega⟩) := by
  show V m c main_v76 ((win0_1.blk t).view.emb (ix2 d j)) = _
  refine congrArg (V m c main_v76) (funext fun a => Fin.ext ?_)
  match a with
  | ⟨0, _⟩ => blk_simp [index1]; rw [hh]; show h.val * 128 + d.val = h.val * 128 + d.val; omega
  | ⟨1, _⟩ => blk_simp [index1]; rw [hb]

theorem blk2 (t : Fin cfg0.N) (b : Fin 16) (h : Fin 4) (hb : (grid0.coords t 0).val = b.val) (hh : (grid0.coords t 1).val = h.val)
    (j : Fin 2048) (e : Fin 128) :
    iblk m c 2 t (ix3 0 j e) = V m c main_v77 (ix3 b j (vchan h e)) := by
  show V m c main_v77 ((win0_2.blk t).view.emb (ix3 0 j e)) = _
  refine congrArg (V m c main_v77) (funext fun a => Fin.ext ?_)
  match a with
  | ⟨0, _⟩ => blk_simp [index2]; rw [hb]
  | ⟨1, _⟩ => blk_simp [index2]
  | ⟨2, _⟩ => blk_simp [index2]; rw [hh]; show h.val * 128 + e.val = h.val * 128 + e.val; omega

theorem blk3 (t : Fin cfg0.N) (h : Fin 4) (hh : (grid0.coords t 1).val = h.val) (a : Fin 2) (r : Fin 256) (j : Fin 512) :
    iblk m c 3 t (ix4 0 a r j) = V m c main_v67 (ix4 h a r j) := by
  show V m c main_v67 ((win0_3.blk t).view.emb (ix4 0 a r j)) = _
  refine congrArg (V m c main_v67) (funext fun x => Fin.ext ?_)
  match x with
  | ⟨0, _⟩ => blk_simp [index3]; rw [hh]
  | ⟨1, _⟩ => blk_simp [index3]
  | ⟨2, _⟩ => blk_simp [index3]
  | ⟨3, _⟩ => blk_simp [index3]

theorem blk4 (t : Fin cfg0.N) : iblk m c 4 t = V m c main_v13 := by
  funext y
  show V m c main_v13 ((win0_4.blk t).view.emb y) = _
  refine congrArg (V m c main_v13) (funext fun x => Fin.ext ?_)
  match x with
  | ⟨0, _⟩ => blk_simp [index4]
  | ⟨1, _⟩ => blk_simp [index4]

theorem blk5 (t : Fin cfg0.N) : iblk m c 5 t = V m c main_v79 := by
  funext y
  show V m c main_v79 ((win0_5.blk t).view.emb y) = _
  refine congrArg (V m c main_v79) (funext fun x => Fin.ext ?_)
  match x with
  | ⟨0, _⟩ => blk_simp [index5]
  | ⟨1, _⟩ => blk_simp [index5]

/-! ## The result -/

variable (x0 x1 x2 : Arr) (x3 : Tab) (x4 x5 x6 x7 : Row) (x8 : FVec Ideal (⟨2, ![1, 128]⟩ : Shape) .f32)

/-- The arrays of a grid point, as real numbers. -/
theorem given (hR : Reals x0 x1 x2 x3 x4 x5 x6 x7) (h0 : V m c main_v73 = queries x0) (h1 : V m c main_v76 = keysT x1)
    (h2 : V m c main_v77 = values x2) (h3 : V m c main_v67 = tiles (masked (biasRow x3)))
    (t : Fin cfg0.N) (b : Fin 16) (h : Fin 4) (n : Fin 8) (hb : (grid0.coords t 0).val = b.val) (hh : (grid0.coords t 1).val = h.val)
    (hn : (grid0.coords t 2).val = n.val) :
    Given (grid0.coords t) (iblk m c 0 t) (iblk m c 1 t) (iblk m c 2 t) (iblk m c 3 t) (qOf x0 b h n) (kOf x1 b h) (vOf x2 b h) (bOf x3 h n) where
  hq r d := by
    rw [blk0 m c t b h n hb hh hn, h0, queries_apply x0 hR.h0]
    rfl
  hk d j := by
    rw [blk1 m c t b h hb hh, h1, keysT_apply, ← hR.h1]
    unfold kOf
    rw [dif_pos j.isLt]
  hv j e := by
    rw [blk2 m c t b h hb hh, h2]
    unfold vOf
    rw [dif_pos j.isLt]
    exact (hR.h2 _).symm
  hb a r j ha := by
    rw [blk3 m c t h hh, h3, tiles_real x3 hR.h3 h n a (by rw [ha, hn]) r j]
    unfold far
    rw [hn]
  hB r j hj := bOf_far x3 h n r j (by
    unfold far at hj
    rw [hn] at hj
    exact hj)

/-- The specification, at the indices of the result. -/
def specAt (i : (⟨3, ![16, 2048, 512]⟩ : Shape).Idx) : EReal :=
  spec x0 x1 x2 x3 x4 x5 x6 x7 x8 (i 0) (i 1) ⟨(i 2).val / 128, by have : (i 2).val < 512 := (i 2).isLt; omega⟩
    ⟨(i 2).val % 128, Nat.mod_lt _ (by norm_num)⟩

/-- The kernel's result. -/
theorem result_eq (hR : Reals x0 x1 x2 x3 x4 x5 x6 x7) (h0 : V m c main_v73 = queries x0) (h1 : V m c main_v76 = keysT x1)
    (h2 : V m c main_v77 = values x2) (h3 : V m c main_v67 = tiles (masked (biasRow x3))) (h4 : V m c main_v13 = lamTable x4 x5 x6 x7)
    (h5 : V m c main_v79 = gain x8) : (dats m 0 c).arrAt 6 cfg0.N = specAt x0 x1 x2 x3 x4 x5 x6 x7 x8 := by
  refine (dats m 0 c).arrAt_eq_of_covers 6 _ (by decide +kernel) fun t hf y => ?_
  blk_simp
  rw [after0_6]
  obtain ⟨u, r, e, rfl⟩ : ∃ (u : Fin 1) (r : Fin 256) (e : Fin 128), y = ix3 u r e := ⟨y 0, y 1, y 2, eq_ix3 y⟩
  obtain rfl : u = 0 := Subsingleton.elim _ _
  have hb : (grid0.coords t 0).val < 16 := (grid0.coords t 0).isLt
  have hh : (grid0.coords t 1).val < 4 := (grid0.coords t 1).isLt
  have hn : (grid0.coords t 2).val < 8 := (grid0.coords t 2).isLt
  have g := given m c x0 x1 x2 x3 x4 x5 x6 x7 hR h0 h1 h2 h3 t ⟨_, hb⟩ ⟨_, hh⟩ ⟨_, hn⟩ rfl rfl rfl
  rw [outBlk_apply g, blk4, blk5, h4, h5, lamOf_table]
  have e6 : (win0_6.blk t).view.emb (ix3 0 r e) = ix3 ⟨_, hb⟩ (at_ ⟨_, hn⟩ r) (vchan ⟨_, hh⟩ e) := by
    funext a
    refine Fin.ext ?_
    match a with
    | ⟨0, _⟩ => blk_simp [index6]
    | ⟨1, _⟩ => blk_simp [index6]; show (grid0.coords t 2).val * 256 + r.val = 256 * (grid0.coords t 2).val + r.val; omega
    | ⟨2, _⟩ => blk_simp [index6]; show (grid0.coords t 1).val * 128 + e.val = (grid0.coords t 1).val * 128 + e.val; omega
  rw [e6]
  have eh : ((vchan ⟨_, hh⟩ e).val / 128) = (grid0.coords t 1).val := by
    show ((grid0.coords t 1).val * 128 + e.val) / 128 = _
    omega
  have ee : ((vchan ⟨_, hh⟩ e).val % 128) = e.val := by
    show ((grid0.coords t 1).val * 128 + e.val) % 128 = _
    omega
  have es : specAt x0 x1 x2 x3 x4 x5 x6 x7 x8 (ix3 ⟨_, hb⟩ (at_ ⟨_, hn⟩ r) (vchan ⟨_, hh⟩ e))
      = spec x0 x1 x2 x3 x4 x5 x6 x7 x8 ⟨_, hb⟩ (at_ ⟨_, hn⟩ r) ⟨_, hh⟩ e :=
    congrArg₂ (spec x0 x1 x2 x3 x4 x5 x6 x7 x8 ⟨_, hb⟩ (at_ ⟨_, hn⟩ r)) (Fin.ext eh) (Fin.ext ee)
  rw [es]
  unfold spec
  simp only [attn_eq (grid0.coords t) x0 x1 x2 x3 ⟨_, hb⟩ ⟨_, hh⟩ ⟨_, hn⟩ rfl, gain_apply]

end Cert.KernelIdeal.Attn

end
-- ==== Proof.RefBucket.lean ====
/-
  The buckets as the reference finds them, by a logarithm, are the buckets found in whole numbers.
-/
module

public import proofs.«01_k».proof.Proof.Bucket
public import proofs.«01_k».proof.Proof.Reals
public import proofs.«01_k».proof.Proof.Gen.ReferenceIdeal.Read
public import Mathlib.Analysis.SpecialFunctions.Log.Basic

@[expose] public section

set_option maxRecDepth 16384

noncomputable section

namespace Cert.ReferenceIdeal.Attn

open Cert.ReferenceIdeal Cert.ReferenceIdeal.Gen Cert.ReferenceIdeal.Read Cert.Attn
open Idealize.ShloMosaic Idealize.ShloMosaic.ValueIdx
open Idealize.ShloMosaic (Ideal)

/-! ## The steps of the scale -/

/-- How many of the first fifteen steps are at most `k`. -/
theorem count_steps (k : ℕ) : ((List.range 15).countP fun a => decide (a + 1 ≤ k)) = min 15 k := by
  rcases Nat.lt_or_ge k 15 with h | h
  · interval_cases k <;> rfl
  · rw [min_eq_left h, List.countP_eq_length.mpr (fun a ha => by
      rw [List.mem_range] at ha
      exact decide_eq_true (by omega))]
    rfl

/-- The distance on the logarithmic scale. -/
def scale (n : ℕ) : ℝ := Real.log ((n : ℝ) / 16) / Real.log 8 * 16

theorem scale_nonneg (n : ℕ) (hn : 16 ≤ n) : 0 ≤ scale n := by
  have h1 : (1 : ℝ) ≤ (n : ℝ) / 16 := by
    rw [le_div_iff₀ (by norm_num)]
    exact_mod_cast (by omega : 1 * 16 ≤ n)
  unfold scale
  exact mul_nonneg (div_nonneg (Real.log_nonneg h1) (Real.log_nonneg (by norm_num))) (by norm_num)

/-- Being past a step, in whole numbers and on the scale. -/
theorem past_iff (n k : ℕ) (hn : 16 ≤ n) : 8 ^ k * 16 ^ 16 ≤ n ^ 16 ↔ (k : ℝ) ≤ scale n := by
  have h0 : (0 : ℝ) < (n : ℝ) / 16 := by
    have : (0 : ℝ) < n := by exact_mod_cast (by omega : 0 < n)
    positivity
  have h8 : (0 : ℝ) < Real.log 8 := Real.log_pos (by norm_num)
  have e1 : (k : ℝ) ≤ scale n ↔ (k : ℝ) * Real.log 8 ≤ 16 * Real.log ((n : ℝ) / 16) := by
    unfold scale
    rw [div_mul_eq_mul_div, le_div_iff₀ h8, mul_comm (Real.log _) 16]
  have e2 : (16 : ℝ) * Real.log ((n : ℝ) / 16) = Real.log (((n : ℝ) / 16) ^ 16) := by
    rw [Real.log_pow]
    norm_num
  have e3 : (k : ℝ) * Real.log 8 = Real.log ((8 : ℝ) ^ k) := by rw [Real.log_pow]
  rw [e1, e2, e3, Real.log_le_log_iff (by positivity) (by positivity), div_pow, le_div_iff₀ (by positivity)]
  exact_mod_cast Iff.rfl

/-- The steps are those of the scale, up to fifteen. -/
theorem steps_eq (n : ℕ) (hn : 16 ≤ n) : steps n = min 15 ⌊scale n⌋₊ := by
  rw [← count_steps]
  unfold steps
  refine List.countP_congr fun k _ => ?_
  rw [decide_eq_true_iff, decide_eq_true_iff, past_iff n (k + 1) hn, Nat.le_floor_iff (scale_nonneg n hn)]

/-- The scale of the distances that occur. -/
theorem scale_le (n : ℕ) (hn : 16 ≤ n) (h : n < 2048) : scale n < 48 := by
  have h1 : ¬ (48 : ℝ) ≤ scale n := by
    have := (past_iff n 48 hn).not
    push_cast at this
    rw [← this]
    have h2 : n ^ 16 ≤ 2048 ^ 16 := Nat.pow_le_pow_left h.le 16
    have h3 : (2048 : ℕ) ^ 16 < 8 ^ 48 * 16 ^ 16 := by norm_num
    omega
  exact not_le.mp h1

/-! ## Small words -/

theorem toInt_small (n : ℕ) (h : n < 2 ^ 30) : (BitVec.ofNat 32 n).toInt = n := by
  rw [BitVec.toInt_eq_toNat_cond, BitVec.toNat_ofNat]
  omega

theorem slt_small (a b : ℕ) (ha : a < 2 ^ 30) (hb : b < 2 ^ 30) : (BitVec.ofNat 32 a).slt (BitVec.ofNat 32 b) = decide (a < b) := by
  rw [BitVec.slt, toInt_small a ha, toInt_small b hb]
  exact decide_eq_decide.mpr Nat.cast_lt

theorem maxsi_small (a b : ℕ) (ha : a < 2 ^ 30) (hb : b < 2 ^ 30) :
    IntOp.maxsi (BitVec.ofNat 32 a) (BitVec.ofNat 32 b) = BitVec.ofNat 32 (max a b) := by
  unfold IntOp.maxsi
  rw [slt_small b a hb ha]
  by_cases h : b < a
  · rw [decide_eq_true h, if_pos rfl, max_eq_left h.le]
  · rw [decide_eq_false h, if_neg (by decide), max_eq_right (by omega)]

theorem minsi_small (a b : ℕ) (ha : a < 2 ^ 30) (hb : b < 2 ^ 30) :
    IntOp.minsi (BitVec.ofNat 32 a) (BitVec.ofNat 32 b) = BitVec.ofNat 32 (min a b) := by
  unfold IntOp.minsi
  rw [slt_small a b ha hb]
  by_cases h : a < b
  · rw [decide_eq_true h, if_pos rfl, min_eq_left h.le]
  · rw [decide_eq_false h, if_neg (by decide), min_eq_right (by omega)]

/-- The distance back, which is zero for the keys ahead. -/
theorem dist_small (p j : ℕ) (hp : p < 2 ^ 30) (hj : j < 2 ^ 30) :
    IntOp.maxsi (IntOp.subi (BitVec.ofNat 32 p) (BitVec.ofNat 32 j)) 0#32 = BitVec.ofNat 32 (p - j) := by
  have e : (BitVec.ofNat 32 p - BitVec.ofNat 32 j).toInt = (p : ℤ) - j := by
    rw [BitVec.toInt_eq_toNat_cond, BitVec.toNat_sub, BitVec.toNat_ofNat, BitVec.toNat_ofNat]
    omega
  show (if BitVec.slt 0#32 (BitVec.ofNat 32 p - BitVec.ofNat 32 j) then BitVec.ofNat 32 p - BitVec.ofNat 32 j else 0#32) = _
  have e2 : BitVec.slt 0#32 (BitVec.ofNat 32 p - BitVec.ofNat 32 j) = decide (j < p) := by
    rw [BitVec.slt, e]
    refine decide_eq_decide.mpr ?_
    show (0 : ℤ) < (p : ℤ) - j ↔ j < p
    omega
  rw [e2]
  by_cases h : j < p
  · rw [decide_eq_true h, if_pos rfl]
    refine BitVec.eq_of_toNat_eq ?_
    rw [BitVec.toNat_sub, BitVec.toNat_ofNat, BitVec.toNat_ofNat, BitVec.toNat_ofNat]
    omega
  · rw [decide_eq_false h, if_neg (by decide)]
    have : p - j = 0 := by omega
    rw [this]

/-! ## The logarithm's bucket -/

theorem ofBits_sixteen : Ideal.ofBits .f32 0x41800000#32 = ((16 : ℝ) : EReal) := by
  simp [Ideal.ofBits, Ideal.ieee]
  rw [← EReal.coe_mul]
  norm_num

theorem ofBits_eight : Ideal.ofBits .f32 0x41000000#32 = ((8 : ℝ) : EReal) := by
  simp [Ideal.ofBits, Ideal.ieee]
  rw [← EReal.coe_mul]
  norm_num

theorem log_coe (r : ℝ) (hr : 0 < r) : Ideal.log (r : EReal) = ((Real.log r : ℝ) : EReal) := by
  show (if r ≤ 0 then (⊥ : EReal) else ((Real.log r : ℝ) : EReal)) = _
  exact if_neg (by linarith)

/-- The word of the scale. -/
theorem scale_word (n : ℕ) (hn : 16 ≤ n) (h : n < 2048) :
    Ideal.fptosi 32 (Ideal.div (Ideal.log (Ideal.div (((BitVec.ofNat 32 n).toInt : ℝ) : EReal) (Ideal.ofBits .f32 0x41800000#32)))
      (Ideal.log (Ideal.ofBits .f32 0x41000000#32)) * Ideal.ofBits .f32 0x41800000#32) = BitVec.ofNat 32 ⌊scale n⌋₊ := by
  have h0 : (0 : ℝ) < (n : ℝ) / 16 := by
    have : (0 : ℝ) < n := by exact_mod_cast (by omega : 0 < n)
    positivity
  rw [ofBits_sixteen, ofBits_eight, toInt_small n (by omega), div_coe (by norm_num), log_coe 8 (by norm_num)]
  push_cast
  rw [log_coe _ h0, div_coe (Real.log_pos (by norm_num : (1 : ℝ) < 8)).ne', ← EReal.coe_mul]
  have hs := scale_nonneg n hn
  have hf : ⌊scale n⌋₊ < 48 := (Nat.floor_lt hs).mpr (by exact_mod_cast scale_le n hn h)
  have e : Ideal.toIntClamped (-(2 ^ (32 - 1) : Nat)) ((2 ^ (32 - 1) : Nat) - 1) ((scale n : ℝ) : EReal) = (⌊scale n⌋₊ : ℤ) := by
    rw [Ideal.toIntClamped_coe, if_pos hs, ← Int.natCast_floor_eq_floor hs]
    norm_num
    omega
  show BitVec.ofInt 32 (Ideal.toIntClamped (-(2 ^ (32 - 1) : Nat)) ((2 ^ (32 - 1) : Nat) - 1) ((scale n : ℝ) : EReal)) = _
  rw [e]
  exact BitVec.ofInt_natCast 32 _

/-- The bucket's word, from the distance's. -/
theorem bucket_word (n : ℕ) (h : n < 2048) :
    Scalar.select (IntOp.cmpi .slt (BitVec.ofNat 32 n) 16#32) (BitVec.ofNat 32 n)
      (IntOp.minsi (IntOp.addi 16#32 (Ideal.fptosi 32 (Ideal.div (Ideal.log (Ideal.div (((IntOp.maxsi (BitVec.ofNat 32 n) 1#32).toInt : ℝ) : EReal)
        (Ideal.ofBits .f32 0x41800000#32))) (Ideal.log (Ideal.ofBits .f32 0x41000000#32)) * Ideal.ofBits .f32 0x41800000#32))) 31#32)
      = BitVec.ofNat 32 (bucket n) := by
  have ec : IntOp.cmpi .slt (BitVec.ofNat 32 n) 16#32 = BitVec.ofBool (decide (n < 16)) :=
    congrArg BitVec.ofBool (slt_small n 16 (by omega) (by norm_num))
  rw [ec]
  unfold Scalar.select bucket
  by_cases h16 : n < 16
  · rw [decide_eq_true h16, if_pos (by decide), if_pos h16]
  · rw [decide_eq_false h16, if_neg (by decide), if_neg h16]
    have em : IntOp.maxsi (BitVec.ofNat 32 n) 1#32 = BitVec.ofNat 32 n :=
      (maxsi_small n 1 (by omega) (by norm_num)).trans (by rw [max_eq_left (by omega)])
    rw [em, scale_word n (by omega) h, steps_eq n (by omega)]
    have hf : ⌊scale n⌋₊ < 48 := (Nat.floor_lt (scale_nonneg n (by omega))).mpr (by exact_mod_cast scale_le n (by omega) h)
    have ea : IntOp.addi 16#32 (BitVec.ofNat 32 ⌊scale n⌋₊) = BitVec.ofNat 32 (16 + ⌊scale n⌋₊) := (BitVec.ofNat_add 16 _).symm
    rw [ea]
    refine (minsi_small _ 31 (by omega) (by norm_num)).trans (congrArg (BitVec.ofNat 32) ?_)
    omega

/-! ## In the program -/

/-- The bucket of a query and a key. -/
theorem v48_apply (p j : Fin 2048) : val_main_v48 (F := Ideal) (ix2 p j) = BitVec.ofNat 32 (bucket (p.val - j.val)) := by
  have h24 : val_main_v24 (F := Ideal) (ix2 p j) = BitVec.ofNat 32 (p.val - j.val) := by
    rw [val_main_v24_apply, val_main_v22_apply, val_main_v20_apply, val_main_v21_apply, val_main_v18_apply, val_main_v19_apply,
      val_main_v17_apply, val_main_v17_apply, val_main_v23_apply, val_main_c_apply]
    exact dist_small p.val j.val (by omega) (by omega)
  have h43 : val_main_v43 (F := Ideal) (ix2 p j) = BitVec.ofNat 32 (bucket (p.val - j.val)) := by
    rw [val_main_v43_apply, val_main_v42_apply, val_main_v41_apply, val_main_c_8_apply, val_main_v40_apply, val_main_v39_apply,
      val_main_c_7_apply, val_main_v38_apply, val_main_v37_apply, val_main_c_6_apply, val_main_v36_apply, val_main_v35_apply,
      val_main_v34_apply, val_main_cst_5_apply, val_main_v33_apply, val_main_v32_apply, val_main_v31_apply, val_main_cst_4_apply,
      val_main_v30_apply, val_main_v29_apply, val_main_v28_apply, val_main_cst_3_apply, val_main_v27_apply, val_main_v26_apply,
      val_main_v25_apply, val_main_c_2_apply, h24]
    exact bucket_word _ (by omega)
  have hb := bucket_lt (p.val - j.val)
  rw [val_main_v48_apply, val_main_v45_apply, val_main_v44_apply, val_main_c_9_apply, h43]
  have ec : IntOp.cmpi .slt (BitVec.ofNat 32 (bucket (p.val - j.val))) 0#32 = BitVec.ofBool (decide (bucket (p.val - j.val) < 0)) :=
    congrArg BitVec.ofBool (slt_small _ 0 (by omega) (by norm_num))
  rw [ec, decide_eq_false (by omega)]
  exact if_neg (by decide)

/-- Whether a key is not ahead of its query. -/
theorem v59_apply (p j : Fin 2048) : val_main_v59 (F := Ideal) (ix2 p j) = if j.val ≤ p.val then 1#1 else 0#1 := by
  rw [val_main_v59_apply, val_main_v22_apply, val_main_v20_apply, val_main_v21_apply, val_main_v18_apply, val_main_v19_apply,
    val_main_v17_apply, val_main_v17_apply, val_main_v58_apply, val_main_c_12_apply]
  exact sub_sge_zero p.val j.val (by omega) (by omega)

end Cert.ReferenceIdeal.Attn

end
-- ==== Proof.RefScore.lean ====
/-
  The reference's scores and weights, at an index, where the arguments are real.
-/
module

public import proofs.«01_k».proof.Proof.RefBucket
public import proofs.«01_k».proof.Proof.Take
public import proofs.«01_k».proof.Proof.Pre
public import proofs.«01_k».proof.Proof.Spec
public import Idealize.ShloMosaic.PureOps.Reduce

@[expose] public section

set_option maxRecDepth 16384

noncomputable section

namespace Cert.ReferenceIdeal.Attn

open Cert.ReferenceIdeal Cert.ReferenceIdeal.Gen Cert.ReferenceIdeal.Read Cert.Attn
open Idealize.ShloMosaic Idealize.ShloMosaic.ValueIdx
open Idealize.ShloMosaic (Ideal)

theorem ofBits_eighth : Ideal.ofBits .f32 0x3E000000#32 = ((1 / 8 : ℝ) : EReal) := by
  simp [Ideal.ofBits, Ideal.ieee]
  rw [← EReal.coe_mul]
  norm_num

/-! ## The bias -/

/-- The gathered biases. -/
theorem v50_apply (x3 : Tab) (p j : Fin 2048) (h : Fin 4) :
    val_main_v50 (F := Ideal) x3 (ix3 p j h) = x3 (ix2 ⟨bucket (p.val - j.val), bucket_lt _⟩ ⟨h.val, by omega⟩) := by
  have e : val_main_v49 (F := Ideal) (ix3 p j 0) = BitVec.ofNat 32 (bucket (p.val - j.val)) := by
    rw [val_main_v49_apply]
    refine Eq.trans (congrArg _ ?_) (v48_apply p j)
    funext a
    match a with
    | ⟨0, _⟩ => rfl
    | ⟨1, _⟩ => rfl
  have hb := bucket_lt (p.val - j.val)
  refine (take_rows_apply (by norm_num : 0 < 32) gather_S32x4_S2048x2048x1_S2048x2048x4_2_0_n_n_0_2_14.wf (val_main_v3 (F := Ideal) x3)
    (val_main_v49 (F := Ideal)) p j h).trans ?_
  rw [val_main_v3_apply]
  refine congrArg x3 (funext fun a => Fin.ext ?_)
  match a with
  | ⟨0, _⟩ =>
    show min (val_main_v49 (F := Ideal) (ix3 p j 0)).toInt.toNat (32 - 1) = bucket (p.val - j.val)
    rw [e, toInt_small _ (by omega), Int.toNat_natCast]
    omega
  | ⟨1, _⟩ => rfl

theorem v56_apply (x3 : Tab) (b : Fin 16) (h : Fin 4) (c : Fin 2) (p j : Fin 2048) :
    val_main_v56 (F := Ideal) x3 (ix5 b h c p j) = x3 (ix2 ⟨bucket (p.val - j.val), bucket_lt _⟩ ⟨h.val, by omega⟩) := by
  rw [val_main_v56_apply, val_main_v55_apply, val_main_v51_apply]
  refine Eq.trans (congrArg _ ?_) (v50_apply x3 p j h)
  funext a
  match a with
  | ⟨0, _⟩ => rfl
  | ⟨1, _⟩ => rfl
  | ⟨2, _⟩ => rfl

/-! ## The products -/

theorem v0_apply (x0 : Arr) (b : Fin 16) (p : Fin 2048) (h : Fin 4) (c : Fin 2) (d : Fin 64) :
    val_main_v0 (F := Ideal) x0 (ix5 b p h c d) = x0 (ix3 b p (chan h c d)) := by
  rw [val_main_v0_apply]
  refine congrArg x0 (funext fun a => Fin.ext ?_)
  match a with
  | ⟨0, _⟩ =>
    show ((((b.val * 2048 + p.val) * 4 + h.val) * 2 + c.val) * 64 + d.val) / 1048576 = b.val
    omega
  | ⟨1, _⟩ =>
    show ((((b.val * 2048 + p.val) * 4 + h.val) * 2 + c.val) * 64 + d.val) / 512 % 2048 = p.val
    omega
  | ⟨2, _⟩ =>
    show ((((b.val * 2048 + p.val) * 4 + h.val) * 2 + c.val) * 64 + d.val) % 512 = h.val * 128 + c.val * 64 + d.val
    omega

theorem v1_apply (x1 : Arr) (b : Fin 16) (p : Fin 2048) (h : Fin 4) (c : Fin 2) (d : Fin 64) :
    val_main_v1 (F := Ideal) x1 (ix5 b p h c d) = x1 (ix3 b p (chan h c d)) := v0_apply x1 b p h c d

theorem v2_apply (x2 : Arr) (b : Fin 16) (p : Fin 2048) (h : Fin 4) (e : Fin 128) :
    val_main_v2 (F := Ideal) x2 (ix4 b p h e) = x2 (ix3 b p (vchan h e)) := by
  rw [val_main_v2_apply]
  refine congrArg x2 (funext fun a => Fin.ext ?_)
  match a with
  | ⟨0, _⟩ =>
    show (((b.val * 2048 + p.val) * 4 + h.val) * 128 + e.val) / 1048576 = b.val
    omega
  | ⟨1, _⟩ =>
    show (((b.val * 2048 + p.val) * 4 + h.val) * 128 + e.val) / 512 % 2048 = p.val
    omega
  | ⟨2, _⟩ =>
    show (((b.val * 2048 + p.val) * 4 + h.val) * 128 + e.val) % 512 = h.val * 128 + e.val
    omega

/-- A row's maximum. -/
theorem rowmax_apply (y : FVec Ideal S16x4x2x2048x2048 .f32) (z : FVec Ideal S_ .f32) (b : Fin 16) (h : Fin 4) (c : Fin 2) (p : Fin 2048) :
    Host.reduce FloatOps.maximumf y z reducesTo_S16x4x2x2048x2048_S16x4x2x2048_d4 h_S_ (ix4 b h c p)
      = (Finset.univ : Finset (Fin 2048)).fold max (z (Shape.Idx.first h_S_)) fun j => y (ix5 b h c p j) := by
  have hr : S16x4x2x2048x2048.Reduces [4] S16x4x2x2048 := by decide
  rw [Host.reduce_eq_fold_single FloatOps.maximumf y z reducesTo_S16x4x2x2048x2048_S16x4x2x2048_d4 hr h_S_]
  refine congrArg (fun f => (Finset.univ : Finset (Fin 2048)).fold max (z (Shape.Idx.first h_S_)) f) (funext fun j => congrArg y ?_)
  funext a
  match a with
  | ⟨0, _⟩ => rfl
  | ⟨1, _⟩ => rfl
  | ⟨2, _⟩ => rfl
  | ⟨3, _⟩ => rfl
  | ⟨4, _⟩ => rfl

variable {x0 x1 x2 : Arr} {x3 : Tab} {x4 x5 x6 x7 : Row} (hR : Reals x0 x1 x2 x3 x4 x5 x6 x7)
include hR

theorem v52_apply (b : Fin 16) (h : Fin 4) (c : Fin 2) (p j : Fin 2048) :
    val_main_v52 (F := Ideal) x0 x1 (ix5 b h c p j)
      = ((∑ d : Fin 64, (x0 (ix3 b p (chan h c d))).toReal * (x1 (ix3 b j (chan h c d))).toReal : ℝ) : EReal) := by
  rw [val_main_v52_apply, ← coe_sum]
  refine Finset.sum_congr rfl fun d _ => ?_
  have el : lidx_main_v52 (ix5 b h c p j) d = ix5 b p h c d := by
    funext a
    match a with
    | ⟨0, _⟩ => rfl
    | ⟨1, _⟩ => rfl
    | ⟨2, _⟩ => rfl
    | ⟨3, _⟩ => rfl
    | ⟨4, _⟩ => rfl
  have er : ridx_main_v52 (ix5 b h c p j) d = ix5 b j h c d := by
    funext a
    match a with
    | ⟨0, _⟩ => rfl
    | ⟨1, _⟩ => rfl
    | ⟨2, _⟩ => rfl
    | ⟨3, _⟩ => rfl
    | ⟨4, _⟩ => rfl
  rw [el, er, v0_apply, v1_apply, EReal.coe_mul, hR.h0, hR.h1]

/-- The score before the mask. -/
theorem v57_apply (b : Fin 16) (h : Fin 4) (c : Fin 2) (p j : Fin 2048) :
    val_main_v57 (F := Ideal) x0 x1 x3 (ix5 b h c p j) = ((score x0 x1 x3 b h c p j : ℝ) : EReal) := by
  rw [val_main_v57_apply, val_main_v54_apply, val_main_v53_apply, val_main_cst_11_apply, v52_apply hR, v56_apply]
  show ((_ : ℝ) : EReal) * Ideal.ofBits .f32 0x3E000000#32 + x3 _ = _
  unfold score bias
  rw [ofBits_eighth, ← EReal.coe_mul, EReal.coe_add, hR.h3 ⟨bucket (p.val - j.val), bucket_lt _⟩ h]

/-- The masked score. -/
theorem v61_apply (b : Fin 16) (h : Fin 4) (c : Fin 2) (p j : Fin 2048) :
    val_main_v61 (F := Ideal) x0 x1 x3 (ix5 b h c p j) = if j.val ≤ p.val then ((score x0 x1 x3 b h c p j : ℝ) : EReal) else ⊥ := by
  have em : val_main_call1_v1 (F := Ideal) (ix5 b h c p j) = if j.val ≤ p.val then 1#1 else 0#1 := by
    rw [val_main_call1_v1_apply, val_main_v60_apply]
    refine Eq.trans (congrArg _ ?_) (v59_apply p j)
    funext a
    match a with
    | ⟨0, _⟩ => rfl
    | ⟨1, _⟩ => rfl
  have en : val_main_call1_v2 (F := Ideal) (ix5 b h c p j) = ⊥ := by
    rw [val_main_call1_v2_apply, val_main_call1_v0_apply, val_main_cst_13_apply]
    exact ofBits_neg_inf
  rw [val_main_v61_apply, v57_apply hR, em, en]
  unfold Scalar.select
  by_cases hj : j.val ≤ p.val
  · rw [if_pos hj, if_pos hj]; rfl
  · rw [if_neg hj, if_neg hj]; rfl

/-! ## The weights -/

/-- A row's maximum is real. -/
theorem v64_real (b : Fin 16) (h : Fin 4) (c : Fin 2) (p : Fin 2048) :
    ∃ μ : ℝ, val_main_v64 (F := Ideal) x0 x1 x3 (ix4 b h c p) = (μ : EReal) := by
  obtain ⟨μ, hμ⟩ := fold_max_real (fun j : Fin 2048 => val_main_v61 (F := Ideal) x0 x1 x3 (ix5 b h c p j))
    (fun j => by
      rw [v61_apply hR]
      split
      · exact EReal.coe_ne_top _
      · exact bot_ne_top)
    ⟨p, by
      rw [v61_apply hR, if_pos le_rfl]
      exact EReal.coe_ne_bot _⟩
  refine ⟨μ, ?_⟩
  have e62 : val_main_v62 (F := Ideal) x0 x1 x3 (ix4 b h c p) = (μ : EReal) := by
    rw [← hμ]
    unfold val_main_v62
    refine (rowmax_apply (val_main_v61 (F := Ideal) x0 x1 x3) (val_main_cst_14 (F := Ideal)) b h c p).trans ?_
    exact congrArg (fun z => (Finset.univ : Finset (Fin 2048)).fold max z _) ofBits_neg_inf
  rw [val_main_v64_apply, val_main_v63_apply, val_main_cst_15_apply, e62]
  show max (Ideal.ofBits .f32 0xFF800000#32) (μ : EReal) = _
  rw [ofBits_neg_inf, max_eq_right bot_le]

/-- The exponentials: the weights, up to the row's factor. -/
theorem v68_apply (b : Fin 16) (h : Fin 4) (c : Fin 2) (p : Fin 2048) :
    ∃ μ : ℝ, ∀ j : Fin 2048, val_main_v68 (F := Ideal) x0 x1 x3 (ix5 b h c p j) = ((Real.exp (-μ) * wt x0 x1 x3 b h c p j : ℝ) : EReal) := by
  obtain ⟨μ, hμ⟩ := v64_real hR b h c p
  refine ⟨μ, fun j => ?_⟩
  have e66 : val_main_v66 (F := Ideal) x0 x1 x3 (ix5 b h c p j) = (μ : EReal) := by
    rw [val_main_v66_apply, val_main_v65_apply, ← hμ]
    refine congrArg _ ?_
    funext a
    match a with
    | ⟨0, _⟩ => rfl
    | ⟨1, _⟩ => rfl
    | ⟨2, _⟩ => rfl
    | ⟨3, _⟩ => rfl
  rw [val_main_v68_apply, val_main_v67_apply, v61_apply hR, e66]
  unfold wt
  by_cases hj : j.val ≤ p.val
  · rw [if_pos hj, if_pos hj]
    show Ideal.exp (((score x0 x1 x3 b h c p j : ℝ) : EReal) - (μ : EReal)) = _
    rw [← EReal.coe_sub, exp_coe, ← Real.exp_add]
    exact congrArg (fun r : ℝ => ((Real.exp r : ℝ) : EReal)) (by ring)
  · rw [if_neg hj, if_neg hj, mul_zero]
    show Ideal.exp (⊥ - (μ : EReal)) = _
    rw [EReal.bot_sub, exp_bot]

/-- The normalized weights. -/
theorem v72_apply (b : Fin 16) (h : Fin 4) (c : Fin 2) (p j : Fin 2048) :
    val_main_v72 (F := Ideal) x0 x1 x3 (ix5 b h c p j) = ((wt x0 x1 x3 b h c p j / ∑ k, wt x0 x1 x3 b h c p k : ℝ) : EReal) := by
  obtain ⟨μ, hμ⟩ := v68_apply hR b h c p
  have e69 : val_main_v69 (F := Ideal) x0 x1 x3 (ix4 b h c p) = ((Real.exp (-μ) * ∑ k, wt x0 x1 x3 b h c p k : ℝ) : EReal) := by
    rw [val_main_v69_apply, val_main_cst_16_apply, Finset.mul_sum, ← coe_sum]
    refine (congrArg₂ (· + ·) Ideal.ofBits_zero_f32 (Finset.sum_congr rfl fun k _ => ?_)).trans (zero_add _)
    refine Eq.trans (congrArg _ ?_) (hμ k)
    funext a
    match a with
    | ⟨0, _⟩ => rfl
    | ⟨1, _⟩ => rfl
    | ⟨2, _⟩ => rfl
    | ⟨3, _⟩ => rfl
    | ⟨4, _⟩ => rfl
  have e71 : val_main_v71 (F := Ideal) x0 x1 x3 (ix5 b h c p j) = ((Real.exp (-μ) * ∑ k, wt x0 x1 x3 b h c p k : ℝ) : EReal) := by
    rw [val_main_v71_apply, val_main_v70_apply, ← e69]
    refine congrArg _ ?_
    funext a
    match a with
    | ⟨0, _⟩ => rfl
    | ⟨1, _⟩ => rfl
    | ⟨2, _⟩ => rfl
    | ⟨3, _⟩ => rfl
  rw [val_main_v72_apply, hμ, e71]
  have hE : 0 < Real.exp (-μ) := Real.exp_pos _
  have hS := wt_sum_pos x0 x1 x3 b h c p
  refine (div_coe (mul_pos hE hS).ne').trans ?_
  rw [mul_div_mul_left _ _ hE.ne']

end Cert.ReferenceIdeal.Attn

end
-- ==== Proof.Reference.lean ====
/-
  The reference's result: at every index the specification.
-/
module

public import proofs.«01_k».proof.Proof.RefScore
public import Idealize.ShloMosaic.Lib.ValueIdxRank1

@[expose] public section

set_option maxRecDepth 16384

noncomputable section

namespace Cert.ReferenceIdeal.Attn

open Cert.ReferenceIdeal Cert.ReferenceIdeal.Gen Cert.ReferenceIdeal.Read Cert.Attn
open Idealize.ShloMosaic Idealize.ShloMosaic.ValueIdx
open Idealize.ShloMosaic (Ideal)

/-! ## The factor of the second attention -/

theorem vec_apply (x : Row) (i : S64.Idx) : val_main_v4 (F := Ideal) x i = x (ix2 0 (i 0)) := by
  rw [val_main_v4_apply]
  refine congrArg x (funext fun a => Fin.ext ?_)
  match a with
  | ⟨0, _⟩ => rfl
  | ⟨1, _⟩ =>
    have hi : (i 0).val < 64 := (i 0).isLt
    show (i 0).val % 64 = (i 0).val
    omega

theorem prod_sum (x y : Row) : (∑ i : S64.Idx, val_main_v9 (F := Ideal) x y i) = ∑ l : Fin 64, x (ix2 0 l) * y (ix2 0 l) := by
  refine Fintype.sum_equiv idxEquiv1 _ _ fun i => ?_
  rw [val_main_v9_apply]
  exact congrArg₂ (· * ·) (vec_apply x i) (vec_apply y i)

theorem v16_apply (x4 x5 x6 x7 : Row) (i : S_.Idx) : val_main_v16 (F := Ideal) x4 x5 x6 x7 i
    = lam (∑ l : Fin 64, x4 (ix2 0 l) * x5 (ix2 0 l)) (∑ l : Fin 64, x6 (ix2 0 l) * x7 (ix2 0 l)) := by
  have e1 : val_main_v10 (F := Ideal) x4 x5 i = ∑ l : Fin 64, x4 (ix2 0 l) * x5 (ix2 0 l) := by
    rw [val_main_v10_apply, val_main_cst_apply, prod_sum]
    exact (congrArg (· + _) Ideal.ofBits_zero_f32).trans (zero_add _)
  have e2 : val_main_v13 (F := Ideal) x6 x7 i = ∑ l : Fin 64, x6 (ix2 0 l) * x7 (ix2 0 l) := by
    rw [val_main_v13_apply, val_main_cst_0_apply]
    refine (congrArg₂ (· + ·) Ideal.ofBits_zero_f32 (prod_sum x6 x7)).trans (zero_add _)
  rw [val_main_v16_apply, val_main_v15_apply, val_main_v11_apply, val_main_v14_apply, val_main_cst_1_apply, e1, e2]
  rfl

theorem ofBits_real_fifth : ∃ r : ℝ, Ideal.ofBits .f32 0x3E4CCCCD#32 = (r : EReal) := by
  simp [Ideal.ofBits, Ideal.ieee]
  exact ⟨_, (EReal.coe_mul _ _).symm⟩

variable {x0 x1 x2 : Arr} {x3 : Tab} {x4 x5 x6 x7 : Row} (hR : Reals x0 x1 x2 x3 x4 x5 x6 x7)
include hR

/-- The factor is real. -/
theorem lam_real : ∃ r : ℝ, lam (∑ l : Fin 64, x4 (ix2 0 l) * x5 (ix2 0 l)) (∑ l : Fin 64, x6 (ix2 0 l) * x7 (ix2 0 l)) = (r : EReal) := by
  obtain ⟨w, hw⟩ := ofBits_real_fifth
  have e1 : (∑ l : Fin 64, x4 (ix2 0 l) * x5 (ix2 0 l)) = ((∑ l : Fin 64, (x4 (ix2 0 l)).toReal * (x5 (ix2 0 l)).toReal : ℝ) : EReal) := by
    rw [← coe_sum]
    exact Finset.sum_congr rfl fun l _ => by rw [EReal.coe_mul, hR.h4, hR.h5]
  have e2 : (∑ l : Fin 64, x6 (ix2 0 l) * x7 (ix2 0 l)) = ((∑ l : Fin 64, (x6 (ix2 0 l)).toReal * (x7 (ix2 0 l)).toReal : ℝ) : EReal) := by
    rw [← coe_sum]
    exact Finset.sum_congr rfl fun l _ => by rw [EReal.coe_mul, hR.h6, hR.h7]
  unfold lam
  rw [e1, e2, hw, exp_coe, exp_coe, ← EReal.coe_sub, ← EReal.coe_add]
  exact ⟨_, rfl⟩

/-! ## The two attentions' difference -/

theorem v74_apply (b : Fin 16) (h : Fin 4) (p j : Fin 2048) :
    val_main_v74 (F := Ideal) x0 x1 x3 (ix4 b h p j) = ((wt x0 x1 x3 b h 0 p j / ∑ k, wt x0 x1 x3 b h 0 p k : ℝ) : EReal) := by
  rw [val_main_v74_apply, val_main_v73_apply, ← v72_apply hR]
  refine congrArg _ (funext fun a => Fin.ext ?_)
  match a with
  | ⟨0, _⟩ =>
    show (((b.val * 4 + h.val) * 2048 + p.val) * 2048 + j.val) / 16777216 = b.val
    omega
  | ⟨1, _⟩ =>
    show (((b.val * 4 + h.val) * 2048 + p.val) * 2048 + j.val) / 4194304 % 4 = h.val
    omega
  | ⟨2, _⟩ => rfl
  | ⟨3, _⟩ =>
    show (((b.val * 4 + h.val) * 2048 + p.val) * 2048 + j.val) / 2048 % 2048 = p.val
    omega
  | ⟨4, _⟩ =>
    show (((b.val * 4 + h.val) * 2048 + p.val) * 2048 + j.val) % 2048 = j.val
    omega

theorem v76_apply (b : Fin 16) (h : Fin 4) (p j : Fin 2048) :
    val_main_v76 (F := Ideal) x0 x1 x3 (ix4 b h p j) = ((wt x0 x1 x3 b h 1 p j / ∑ k, wt x0 x1 x3 b h 1 p k : ℝ) : EReal) := by
  rw [val_main_v76_apply, val_main_v75_apply, ← v72_apply hR]
  refine congrArg _ (funext fun a => Fin.ext ?_)
  match a with
  | ⟨0, _⟩ =>
    show (((b.val * 4 + h.val) * 2048 + p.val) * 2048 + j.val) / 16777216 = b.val
    omega
  | ⟨1, _⟩ =>
    show (((b.val * 4 + h.val) * 2048 + p.val) * 2048 + j.val) / 4194304 % 4 = h.val
    omega
  | ⟨2, _⟩ => rfl
  | ⟨3, _⟩ =>
    show (((b.val * 4 + h.val) * 2048 + p.val) * 2048 + j.val) / 2048 % 2048 = p.val
    omega
  | ⟨4, _⟩ =>
    show (((b.val * 4 + h.val) * 2048 + p.val) * 2048 + j.val) % 2048 = j.val
    omega

/-- The difference of the two attentions' means. -/
theorem v81_apply (b : Fin 16) (p : Fin 2048) (h : Fin 4) (e : Fin 128) :
    val_main_v81 (F := Ideal) x0 x1 x2 x3 x4 x5 x6 x7 (ix4 b p h e)
      = ((soft x0 x1 x2 x3 b h 0 p e : ℝ) : EReal)
        - lam (∑ l : Fin 64, x4 (ix2 0 l) * x5 (ix2 0 l)) (∑ l : Fin 64, x6 (ix2 0 l) * x7 (ix2 0 l)) * ((soft x0 x1 x2 x3 b h 1 p e : ℝ) : EReal) := by
  obtain ⟨r, hr⟩ := lam_real hR
  have e79 : ∀ j : Fin 2048, val_main_v79 (F := Ideal) x0 x1 x3 x4 x5 x6 x7 (ix4 b h p j)
      = ((wt x0 x1 x3 b h 0 p j / (∑ k, wt x0 x1 x3 b h 0 p k) - r * (wt x0 x1 x3 b h 1 p j / ∑ k, wt x0 x1 x3 b h 1 p k) : ℝ) : EReal) := fun j => by
    rw [val_main_v79_apply, val_main_v78_apply, v74_apply hR, v76_apply hR, val_main_v77_apply, v16_apply, hr, EReal.coe_sub, EReal.coe_mul r]
    rfl
  have e81 : val_main_v81 (F := Ideal) x0 x1 x2 x3 x4 x5 x6 x7 (ix4 b p h e) = val_main_v80 (F := Ideal) x0 x1 x2 x3 x4 x5 x6 x7 (ix4 b h e p) := by
    rw [val_main_v81_apply]
    refine congrArg _ ?_
    funext a
    match a with
    | ⟨0, _⟩ => rfl
    | ⟨1, _⟩ => rfl
    | ⟨2, _⟩ => rfl
    | ⟨3, _⟩ => rfl
  have e80 : val_main_v80 (F := Ideal) x0 x1 x2 x3 x4 x5 x6 x7 (ix4 b h e p)
      = ((∑ j : Fin 2048, (x2 (ix3 b j (vchan h e))).toReal
          * (wt x0 x1 x3 b h 0 p j / (∑ k, wt x0 x1 x3 b h 0 p k) - r * (wt x0 x1 x3 b h 1 p j / ∑ k, wt x0 x1 x3 b h 1 p k)) : ℝ) : EReal) := by
    rw [val_main_v80_apply, ← coe_sum]
    refine Finset.sum_congr rfl fun j _ => ?_
    have el : lidx_main_v80 (ix4 b h e p) j = ix4 b j h e := by
      funext a
      match a with
      | ⟨0, _⟩ => rfl
      | ⟨1, _⟩ => rfl
      | ⟨2, _⟩ => rfl
      | ⟨3, _⟩ => rfl
    have er : ridx_main_v80 (ix4 b h e p) j = ix4 b h p j := by
      funext a
      match a with
      | ⟨0, _⟩ => rfl
      | ⟨1, _⟩ => rfl
      | ⟨2, _⟩ => rfl
      | ⟨3, _⟩ => rfl
    rw [el, er, v2_apply, e79, EReal.coe_mul, hR.h2]
  rw [e81, e80, hr, ← EReal.coe_mul, ← EReal.coe_sub]
  refine congrArg (fun z : ℝ => (z : EReal)) ?_
  unfold soft
  rw [Finset.sum_div, Finset.sum_div, Finset.mul_sum, ← Finset.sum_sub_distrib]
  exact Finset.sum_congr rfl fun j _ => by ring

/-! ## The norm -/

/-- The result by head. -/
theorem v96_apply (x8 : FVec Ideal (⟨2, ![1, 128]⟩ : Shape) .f32) (b : Fin 16) (p : Fin 2048) (h : Fin 4) (e : Fin 128) :
    val_main_v96 (F := Ideal) x0 x1 x2 x3 x4 x5 x6 x7 x8 (ix4 b p h e) = spec x0 x1 x2 x3 x4 x5 x6 x7 x8 b p h e := by
  have e83 : val_main_v83 (F := Ideal) x0 x1 x2 x3 x4 x5 x6 x7 (ix3 b p h)
      = ∑ l : Fin 128, val_main_v81 (F := Ideal) x0 x1 x2 x3 x4 x5 x6 x7 (ix4 b p h l) * val_main_v81 (F := Ideal) x0 x1 x2 x3 x4 x5 x6 x7 (ix4 b p h l) := by
    rw [val_main_v83_apply, val_main_cst_17_apply]
    refine (congrArg₂ (· + ·) Ideal.ofBits_zero_f32 (Finset.sum_congr rfl fun l _ => ?_)).trans (zero_add _)
    have ei : idx_main_v83 (ix3 b p h) l = ix4 b p h l := by
      funext a
      match a with
      | ⟨0, _⟩ => rfl
      | ⟨1, _⟩ => rfl
      | ⟨2, _⟩ => rfl
      | ⟨3, _⟩ => rfl
    rw [ei, val_main_v82_apply]
    rfl
  have e86 : val_main_v90 (F := Ideal) x0 x1 x2 x3 x4 x5 x6 x7 (ix4 b p h e)
      = Ideal.rsqrt (Ideal.div (∑ l : Fin 128, val_main_v81 (F := Ideal) x0 x1 x2 x3 x4 x5 x6 x7 (ix4 b p h l) * val_main_v81 (F := Ideal) x0 x1 x2 x3 x4 x5 x6 x7 (ix4 b p h l))
          (Ideal.ofBits .f32 0x43000000#32) + Ideal.ofBits .f32 0x358637BD#32) := by
    rw [val_main_v90_apply, val_main_v89_apply, val_main_v88_apply, val_main_v87_apply, val_main_cst_19_apply, val_main_v86_apply, val_main_v85_apply,
      val_main_cst_18_apply, val_main_v84_apply, ← e83]
    have ei : idx_main_v84 (idx_main_v90 (ix4 b p h e)) = ix3 b p h := by
      funext a
      match a with
      | ⟨0, _⟩ => rfl
      | ⟨1, _⟩ => rfl
      | ⟨2, _⟩ => rfl
    rw [ei]
    rfl
  have e93 : val_main_v93 (F := Ideal) x8 (ix4 b p h e) = x8 (ix2 0 e) := by
    rw [val_main_v93_apply, val_main_v92_apply, val_main_v8_apply]
    refine congrArg x8 (funext fun a => Fin.ext ?_)
    match a with
    | ⟨0, _⟩ => rfl
    | ⟨1, _⟩ =>
      show e.val % 128 = e.val
      omega
  rw [val_main_v96_apply, val_main_v94_apply, val_main_v91_apply, e86, e93, val_main_v95_apply, val_main_cst_20_apply]
  unfold spec normed
  simp only [← v81_apply hR]
  rfl

/-- The result. -/
theorem v98_apply (x8 : FVec Ideal (⟨2, ![1, 128]⟩ : Shape) .f32) (i : S16x2048x512.Idx) :
    val_main_v98 (F := Ideal) x0 x1 x2 x3 x4 x5 x6 x7 x8 i
      = spec x0 x1 x2 x3 x4 x5 x6 x7 x8 (i 0) (i 1) ⟨(i 2).val / 128, by have : (i 2).val < 512 := (i 2).isLt; omega⟩
        ⟨(i 2).val % 128, Nat.mod_lt _ (by norm_num)⟩ := by
  refine Eq.trans ?_ (v96_apply hR x8 (i 0) (i 1) _ _)
  rw [val_main_v98_apply, val_main_v97_apply]
  show val_main_v96 (F := Ideal) x0 x1 x2 x3 x4 x5 x6 x7 x8 _ = _
  have h0 : (i 0).val < 16 := (i 0).isLt
  have h1 : (i 1).val < 2048 := (i 1).isLt
  have h2 : (i 2).val < 512 := (i 2).isLt
  refine congrArg _ (funext fun a => Fin.ext ?_)
  match a with
  | ⟨0, _⟩ =>
    show (((i 0).val * 2048 + (i 1).val) * 512 + (i 2).val) / 1048576 = (i 0).val
    omega
  | ⟨1, _⟩ =>
    show (((i 0).val * 2048 + (i 1).val) * 512 + (i 2).val) / 512 % 2048 = (i 1).val
    omega
  | ⟨2, _⟩ =>
    show (((i 0).val * 2048 + (i 1).val) * 512 + (i 2).val) / 128 % 4 = (i 2).val / 128
    omega
  | ⟨3, _⟩ =>
    show (((i 0).val * 2048 + (i 1).val) * 512 + (i 2).val) % 128 = (i 2).val % 128
    omega

end Cert.ReferenceIdeal.Attn

end
-- ==== Proof.Norm.lean ====
/-
  The norm of a row of 1024 values: each value times the reciprocal root of the mean square, times its weight.
-/
module

public import proofs.«01_k».proof.Proof.Block

@[expose] public section

set_option maxRecDepth 16384

noncomputable section

namespace Cert.Norm

open Cert.KernelIdeal.Attn (col_cast col_broadcast)
open Idealize.ShloMosaic Idealize.ShloMosaic.ValueIdx
open Idealize.ShloMosaic (Ideal)

/-- Value `k` of the norm of the row `y` with the weights `g`. -/
def rms (y g : Fin 1024 → EReal) (k : Fin 1024) : EReal :=
  y k * Ideal.rsqrt (Ideal.div (∑ l, y l * y l) (Ideal.ofBits .f32 0x44800000#32) + Ideal.ofBits .f32 0x358637BD#32) * g k

/-- The sum of a row. -/
theorem rows_sum {n w : ℕ} (x : FVec Ideal (⟨2, ![n, w]⟩ : Shape) .f32) (h : (⟨2, ![n, w]⟩ : Shape).Reduces [1] ⟨1, ![n]⟩)
    (hc : (⟨1, ![n]⟩ : Shape).ShapeCasts ⟨2, ![n, 1]⟩) (r : Fin n) :
    shapeCast ⟨2, ![n, 1]⟩ (multiReduction .add [1] (⟨1, ![n]⟩ : Shape) x 0x00000000#32 h (.inl rfl) rfl) hc (ix2 r 0)
      = ∑ c : Fin w, x (ix2 r c) := by
  refine (col_cast _ _ r).trans ?_
  refine (Ideal.multiReduction_add_single x _ h (.inl rfl) rfl (ix1 r)).trans ?_
  refine Finset.sum_congr rfl fun c _ => congrArg x ?_
  funext a
  match a with
  | ⟨0, _⟩ => rfl
  | ⟨1, _⟩ => rfl

/-- A row broadcast along the columns. -/
theorem row_broadcast {α : Type} {n w : ℕ} (hw : w ≠ 1) (x : (⟨2, ![1, w]⟩ : Shape).Idx → α)
    (h : (⟨2, ![1, w]⟩ : Shape).Broadcasts ⟨2, ![n, w]⟩) (r : Fin n) (c : Fin w) :
    broadcastTo ⟨2, ![n, w]⟩ x h (ix2 r c) = x (ix2 0 c) := by
  refine broadcastTo_apply _ _ _ _ fun a => ?_
  match a with
  | ⟨0, _⟩ => rfl
  | ⟨1, _⟩ => exact (if_neg hw).symm

/-- The norm of the rows of a block, as the kernels write it. -/
theorem rms_block {n : ℕ} (hn : n ≠ 1) (v : FVec Ideal (⟨2, ![n, 1024]⟩ : Shape) .f32) (g : FVec Ideal (⟨2, ![1, 1024]⟩ : Shape) .f32)
    (h : (⟨2, ![n, 1024]⟩ : Shape).Reduces [1] ⟨1, ![n]⟩) (hc : (⟨1, ![n]⟩ : Shape).ShapeCasts ⟨2, ![n, 1]⟩)
    (h1 : (⟨2, ![n, 1]⟩ : Shape).Broadcasts ⟨2, ![n, 1024]⟩) (h2 : (⟨2, ![1, 1024]⟩ : Shape).Broadcasts ⟨2, ![n, 1024]⟩)
    (r : Fin n) (k : Fin 1024) :
    mulf (mulf v (broadcastTo ⟨2, ![n, 1024]⟩ (rsqrt (addf (divf
        (shapeCast ⟨2, ![n, 1]⟩ (multiReduction .add [1] (⟨1, ![n]⟩ : Shape) (mulf v v) 0x00000000#32 h (.inl rfl) rfl) hc)
        (broadcast ⟨2, ![n, 1]⟩ (Scalar.ofBits (F := Ideal) .f32 0x44800000#32)))
        (broadcast ⟨2, ![n, 1]⟩ (Scalar.ofBits (F := Ideal) .f32 0x358637BD#32)))) h1))
      (broadcastTo ⟨2, ![n, 1024]⟩ g h2) (ix2 r k) = rms (fun l => v (ix2 r l)) (fun l => g (ix2 0 l)) k := by
  unfold rms
  refine congrArg₂ (· * ·) (congrArg (v (ix2 r k) * ·) ?_) (row_broadcast (by decide) g h2 r k)
  refine (col_broadcast hn _ h1 r k).trans ?_
  refine congrArg (fun a => Ideal.rsqrt (Ideal.div a (Ideal.ofBits .f32 0x44800000#32) + Ideal.ofBits .f32 0x358637BD#32)) ?_
  exact rows_sum (mulf v v) h hc r

/-- A sum of multiples by a real number that isn't negative. -/
theorem sum_mul_real {n : ℕ} (f : Fin n → EReal) {r : ℝ} (hr : 0 ≤ r) : ∑ k, f k * (r : EReal) = (∑ k, f k) * (r : EReal) := by
  have h : ∀ s : Finset (Fin n), ∑ k ∈ s, f k * (r : EReal) = (∑ k ∈ s, f k) * (r : EReal) := by
    intro s
    induction s using Finset.cons_induction with
    | empty => simp
    | cons a s ha ih =>
      rw [Finset.sum_cons, Finset.sum_cons, ih]
      exact (EReal.right_distrib_of_nonneg_of_ne_top (EReal.coe_nonneg.mpr hr) (EReal.coe_ne_top r) _ _).symm
  exact h _

end Cert.Norm

end
-- ==== Proof.InSpec.lean ====
/-
  The specification of the input projection: the norm of the rows of `x`, times the columns of the weights, laid out as
  the ten arrays the attentions read.
-/
module

public import proofs.«01_k».proof.Proof.Norm

@[expose] public section

set_option maxRecDepth 16384

noncomputable section

namespace Cert.Proj

open Cert.Norm
open Idealize.ShloMosaic Idealize.ShloMosaic.ValueIdx
open Idealize.ShloMosaic (Ideal)

/-- The hidden states. -/
abbrev Hid : Type := FVec Ideal (⟨3, ![16, 2048, 1024]⟩ : Shape) .f32
/-- The weights of the projection. -/
abbrev Wts : Type := FVec Ideal (⟨3, ![1, 1024, 2840]⟩ : Shape) .f32
/-- The weights of the norm. -/
abbrev Gain : Type := FVec Ideal (⟨2, ![1, 1024]⟩ : Shape) .f32

variable (x : Hid) (w : Wts) (g : Gain)

/-- The batch and the position of row `t` of the flattened hidden states. -/
def batch (t : Fin 32768) : Fin 16 := ⟨t.val / 2048, by omega⟩
def pos (t : Fin 32768) : Fin 2048 := ⟨t.val % 2048, by omega⟩

/-- Column `j` of the projection of row `t`. -/
def proj (t : Fin 32768) (j : Fin 2840) : EReal :=
  ∑ k : Fin 1024, rms (fun l => x (ix3 (batch t) (pos t) l)) (fun l => g (ix2 0 l)) k * w (ix3 0 k j)

/-- The factor of the queries: the head width's root and the logarithm's base. -/
def scale : EReal := Ideal.ofBits .f32 0x3E38AA3B#32

/-- The column, of two heads of 64, that column `e` of the two heads each repeated twice is. -/
def once (e : Fin 256) : Fin 128 := ⟨e.val / 128 * 64 + e.val % 64, by omega⟩

/-- `n` columns from column `o` on. -/
def part (n o : ℕ) (h : o + n ≤ 2840) : FVec Ideal (⟨2, ![32768, n]⟩ : Shape) .f32 :=
  fun i => proj x w g (i 0) ⟨o + (i 1).val, by have : (i 1).val < n := (i 1).isLt; omega⟩

/-- The same, scaled. -/
def scaledPart (n o : ℕ) (h : o + n ≤ 2840) : FVec Ideal (⟨2, ![32768, n]⟩ : Shape) .f32 :=
  fun i => part x w g n o h i * scale

/-- Two heads of 64 columns from column `o` on, each repeated. -/
def paired (o : ℕ) (h : o + 128 ≤ 2840) : FVec Ideal (⟨2, ![32768, 256]⟩ : Shape) .f32 :=
  fun i => proj x w g (i 0) ⟨o + (once (i 1)).val, by have := (once (i 1)).isLt; omega⟩

/-- The last 24 columns, with zeros after them. -/
def padded : FVec Ideal (⟨2, ![32768, 128]⟩ : Shape) .f32 :=
  fun i => if h : (i 1).val < 24 then proj x w g (i 0) ⟨2816 + (i 1).val, by omega⟩ else 0

/-- An array with its two axes exchanged. -/
def flip {n k : ℕ} (y : FVec Ideal (⟨2, ![n, k]⟩ : Shape) .f32) : FVec Ideal (⟨2, ![k, n]⟩ : Shape) .f32 := fun i => y (ix2 (i 1) (i 0))

theorem scale_real : ∃ r : ℝ, 0 ≤ r ∧ scale = (r : EReal) := by
  unfold scale
  simp [Ideal.ofBits, Ideal.ieee]
  exact ⟨_, by positivity, (EReal.coe_mul _ _).symm⟩

end Cert.Proj

end
-- ==== Proof.InBlock.lean ====
/-
  One grid point of the input projection: the norm of its 512 rows, times a slice of the columns of the weights.
-/
module

public import proofs.«01_k».proof.Proof.InSpec
public import proofs.«01_k».proof.Proof.Gen.InProjIdeal.Frame

@[expose] public section

set_option maxRecDepth 16384

noncomputable section

namespace Cert.InProjIdeal.Proj

open Cert.InProjIdeal Cert.InProjIdeal.Gen Cert.Norm
open Idealize.ShloMosaic Idealize.ShloMosaic.ValueIdx Idealize.SL.Sem
open Idealize.ShloMosaic (Ideal)

/-- The norm of row `r` of a block. -/
def hrow (v0 : Vec Ideal S512x1024 .f32) (v12 : Vec Ideal S1x1024 .f32) (r : Fin 512) (k : Fin 1024) : EReal :=
  rms (fun l => v0 (ix2 r l)) (fun l => v12 (ix2 0 l)) k

theorem pay2_apply (v0 : Vec Ideal S512x1024 .f32) (v12 : Vec Ideal S1x1024 .f32) (r : Fin 512) (k : Fin 1024) :
    k0_pay2 v0 v12 (ix2 r k) = hrow v0 v12 r k := by
  unfold k0_pay2 hrow
  rw [shapeCast_self, shapeCast_self]
  exact rms_block (by decide) v0 v12 _ _ _ _ r k

variable (v0 : Vec Ideal S512x1024 .f32) (v12 : Vec Ideal S1x1024 .f32)

/-- The product of the rows with a block of columns. -/
theorem prod_apply {n : ℕ} (u : FVec Ideal (⟨2, ![1024, n]⟩ : Shape) .bf16) (r : Fin 512) (c : Fin n) :
    FloatOps.matmul (DotDims.plain 512 1024 n) none (k0_pay2 v0 v12) u (constant ⟨2, ![512, n]⟩ .f32 0x00000000#32) (ix2 r c)
      = ∑ k : Fin 1024, hrow v0 v12 r k * u (ix2 k c) := by
  refine (Ideal.matmul_plain_apply none (k0_pay2 v0 v12) u _ r c).trans ?_
  rw [constant_apply, Ideal.ofBits_zero_f32, zero_add]
  exact Finset.sum_congr rfl fun k _ => congrArg (· * _) (pay2_apply v0 v12 r k)

/-- The product of a block of rows of the transposed weights with the rows. -/
theorem prodT_apply {n : ℕ} (u : FVec Ideal (⟨2, ![n, 1024]⟩ : Shape) .bf16) (c : Fin n) (r : Fin 512) :
    FloatOps.matmul (DotDims.transposedRhs n 1024 512) none u (k0_pay2 v0 v12) (constant ⟨2, ![n, 512]⟩ .f32 0x00000000#32) (ix2 c r)
      = ∑ k : Fin 1024, hrow v0 v12 r k * u (ix2 c k) := by
  refine (Ideal.matmul_transposedRhs_apply none u (k0_pay2 v0 v12) _ c r).trans ?_
  rw [constant_apply, Ideal.ofBits_zero_f32, zero_add]
  exact Finset.sum_congr rfl fun k _ => (mul_comm _ _).trans (congrArg (· * _) (pay2_apply v0 v12 r k))

theorem pay3_apply (u : Vec Ideal S1024x512 .bf16) (r c : Fin 512) : k0_pay3 v0 v12 u (ix2 r c) = ∑ k : Fin 1024, hrow v0 v12 r k * u (ix2 k c) := by
  unfold k0_pay3
  rw [shapeCast_self]
  exact prod_apply v0 v12 u r c

theorem pay4_apply (u : Vec Ideal S1024x512 .bf16) (r c : Fin 512) : k0_pay4 v0 v12 u (ix2 r c) = ∑ k : Fin 1024, hrow v0 v12 r k * u (ix2 k c) := by
  unfold k0_pay4
  rw [shapeCast_self]
  exact prod_apply v0 v12 u r c

theorem pay5_apply (u : Vec Ideal S1024x512 .bf16) (r c : Fin 512) : k0_pay5 v0 v12 u (ix2 r c) = ∑ k : Fin 1024, hrow v0 v12 r k * u (ix2 k c) := by
  unfold k0_pay5
  rw [shapeCast_self]
  exact prod_apply v0 v12 u r c

theorem pay6_apply (u : Vec Ideal S1024x256 .bf16) (r : Fin 512) (c : Fin 256) :
    k0_pay6 (k0_pay2 v0 v12) u (ix2 r c) = ∑ k : Fin 1024, hrow v0 v12 r k * u (ix2 k c) := by
  unfold k0_pay6
  rw [shapeCast_self]
  exact prod_apply v0 v12 u r c

theorem pay7_apply (u : Vec Ideal S1024x256 .bf16) (r : Fin 512) (c : Fin 256) :
    k0_pay7 (k0_pay2 v0 v12) u (ix2 r c) = ∑ k : Fin 1024, hrow v0 v12 r k * u (ix2 k c) := by
  unfold k0_pay7
  rw [shapeCast_self]
  exact prod_apply v0 v12 u r c

theorem pay8_apply (u : Vec Ideal S1024x256 .bf16) (r : Fin 512) (c : Fin 256) :
    k0_pay8 (k0_pay2 v0 v12) u (ix2 r c) = ∑ k : Fin 1024, hrow v0 v12 r k * u (ix2 k c) := by
  unfold k0_pay8
  rw [shapeCast_self]
  exact prod_apply v0 v12 u r c

theorem pay9_apply (u : Vec Ideal S1024x128 .bf16) (r : Fin 512) (c : Fin 128) :
    k0_pay9 (k0_pay2 v0 v12) u (ix2 r c) = ∑ k : Fin 1024, hrow v0 v12 r k * u (ix2 k c) := by
  unfold k0_pay9
  rw [shapeCast_self]
  exact prod_apply v0 v12 u r c

theorem pay10_apply (u : Vec Ideal S512x1024 .bf16) (c r : Fin 512) :
    k0_pay10 (k0_pay2 v0 v12) u (ix2 c r) = ∑ k : Fin 1024, hrow v0 v12 r k * u (ix2 c k) := by
  unfold k0_pay10
  rw [shapeCast_self]
  exact prodT_apply v0 v12 u c r

theorem pay11_apply (u : Vec Ideal S256x1024 .bf16) (c : Fin 256) (r : Fin 512) :
    k0_pay11 (k0_pay2 v0 v12) u (ix2 c r) = ∑ k : Fin 1024, hrow v0 v12 r k * u (ix2 c k) := by
  unfold k0_pay11
  rw [shapeCast_self]
  exact prodT_apply v0 v12 u c r

theorem pay1_apply (u : Vec Ideal S256x1024 .bf16) (c : Fin 256) (r : Fin 512) :
    k0_pay1 (k0_pay2 v0 v12) u (ix2 c r) = ∑ k : Fin 1024, hrow v0 v12 r k * u (ix2 c k) := by
  unfold k0_pay1
  rw [shapeCast_self]
  exact prodT_apply v0 v12 u c r

end Cert.InProjIdeal.Proj

end
-- ==== Proof.InArray.lean ====
/-
  The ten arrays the input projection leaves, in terms of the arrays it is given.
-/
module

public import proofs.«01_k».proof.Proof.InBlock
public import Idealize.ShloMosaic.Lib.Pipeline.ValueKit.Geometry
public import Idealize.ShloMosaic.Lib.Pipeline.ValueKit.Tiles

@[expose] public section

set_option maxRecDepth 16384

noncomputable section

namespace Cert.InProjIdeal.Proj

open Cert.InProjIdeal Cert.InProjIdeal.Gen Cert.Norm
open Idealize.ShloMosaic Idealize.ShloMosaic.TcCoe Idealize.ShloMosaic.ValueIdx Idealize.SL.Sem
open Idealize.ShloMosaic (Ideal)

/-! ## The body's results -/

section

variable (x0 : Vec Ideal S512x1024 .f32) (x1 : Vec Ideal S1x1024 .f32) (x2 : Vec Ideal S1024x2432 .bf16) (x3 : Vec Ideal S1024x1024 .bf16)

theorem ld0 : View.ld x0 r0_0 = x0 := View.ld_unit_zero (by funext a; fin_cases a <;> rfl) _ _
theorem ld1 : View.ld x1 r0_1 = x1 := View.ld_unit_zero (by funext a; fin_cases a <;> rfl) _ _
theorem pay12_eq : k0_pay12 x0 x1 x2 x3 = k0_pay2 x0 x1 := by unfold k0_pay12; rw [ld0, ld1]

/-- A slice of the columns. -/
theorem ld_cols {n N o : ℕ} (u : Vec Ideal (⟨2, ![1024, N]⟩ : Shape) .bf16) (inb) (h : o + n ≤ N) (k : Fin 1024) (c : Fin n) :
    View.ld u (Rect.unit (s := ⟨2, ![1024, N]⟩) ![0, o] (⟨2, ![1024, n]⟩ : Shape).size inb) (ix2 k c) = u (ix2 k ⟨o + c.val, by omega⟩) :=
  View.ld_unit_apply_of _ _ _ _ _ _ fun a => by
    match a with
    | ⟨0, _⟩ => exact (Nat.zero_add _).symm
    | ⟨1, _⟩ => rfl

/-- A slice of the rows. -/
theorem ld_rows {n N o : ℕ} (u : Vec Ideal (⟨2, ![N, 1024]⟩ : Shape) .bf16) (inb) (h : o + n ≤ N) (c : Fin n) (k : Fin 1024) :
    View.ld u (Rect.unit (s := ⟨2, ![N, 1024]⟩) ![o, 0] (⟨2, ![n, 1024]⟩ : Shape).size inb) (ix2 c k) = u (ix2 ⟨o + c.val, by omega⟩ k) :=
  View.ld_unit_apply_of _ _ _ _ _ _ fun a => by
    match a with
    | ⟨0, _⟩ => rfl
    | ⟨1, _⟩ => exact (Nat.zero_add _).symm

theorem out4_apply (r : Fin 512) (e : Fin 512) :
    out0_4 x0 x1 x2 x3 (ix2 r e) = ∑ k : Fin 1024, hrow x0 x1 r k * x2 (ix2 k ⟨0 + e.val, by omega⟩) := by
  unfold out0_4
  rw [View.canon_unit_zero (by funext a; fin_cases a <;> rfl), ld0, ld1, pay3_apply]
  exact Finset.sum_congr rfl fun k _ => congrArg (_ * ·) (ld_cols x2 _ (by decide) k e)

theorem out5_apply (r : Fin 512) (e : Fin 512) :
    out0_5 x0 x1 x2 x3 (ix2 r e) = ∑ k : Fin 1024, hrow x0 x1 r k * x2 (ix2 k ⟨512 + e.val, by omega⟩) := by
  unfold out0_5
  rw [View.canon_unit_zero (by funext a; fin_cases a <;> rfl), ld0, ld1, pay4_apply]
  exact Finset.sum_congr rfl fun k _ => congrArg (_ * ·) (ld_cols x2 _ (by decide) k e)

theorem out6_apply (r : Fin 512) (e : Fin 512) :
    out0_6 x0 x1 x2 x3 (ix2 r e) = ∑ k : Fin 1024, hrow x0 x1 r k * x2 (ix2 k ⟨1024 + e.val, by omega⟩) := by
  unfold out0_6
  rw [View.canon_unit_zero (by funext a; fin_cases a <;> rfl), ld0, ld1, pay5_apply]
  exact Finset.sum_congr rfl fun k _ => congrArg (_ * ·) (ld_cols x2 _ (by decide) k e)

theorem out7_apply (r : Fin 512) (e : Fin 256) :
    out0_7 x0 x1 x2 x3 (ix2 r e) = ∑ k : Fin 1024, hrow x0 x1 r k * x2 (ix2 k ⟨1536 + e.val, by omega⟩) := by
  unfold out0_7
  rw [View.canon_unit_zero (by funext a; fin_cases a <;> rfl), pay12_eq, pay6_apply]
  exact Finset.sum_congr rfl fun k _ => congrArg (_ * ·) (ld_cols x2 _ (by decide) k e)

theorem out8_apply (r : Fin 512) (e : Fin 256) :
    out0_8 x0 x1 x2 x3 (ix2 r e) = ∑ k : Fin 1024, hrow x0 x1 r k * x2 (ix2 k ⟨1792 + e.val, by omega⟩) := by
  unfold out0_8
  rw [View.canon_unit_zero (by funext a; fin_cases a <;> rfl), pay12_eq, pay7_apply]
  exact Finset.sum_congr rfl fun k _ => congrArg (_ * ·) (ld_cols x2 _ (by decide) k e)

theorem out9_apply (r : Fin 512) (e : Fin 256) :
    out0_9 x0 x1 x2 x3 (ix2 r e) = ∑ k : Fin 1024, hrow x0 x1 r k * x2 (ix2 k ⟨2048 + e.val, by omega⟩) := by
  unfold out0_9
  rw [View.canon_unit_zero (by funext a; fin_cases a <;> rfl), pay12_eq, pay8_apply]
  exact Finset.sum_congr rfl fun k _ => congrArg (_ * ·) (ld_cols x2 _ (by decide) k e)

theorem out10_apply (r : Fin 512) (e : Fin 128) :
    out0_10 x0 x1 x2 x3 (ix2 r e) = ∑ k : Fin 1024, hrow x0 x1 r k * x2 (ix2 k ⟨2304 + e.val, by omega⟩) := by
  unfold out0_10
  rw [View.canon_unit_zero (by funext a; fin_cases a <;> rfl), pay12_eq, pay9_apply]
  exact Finset.sum_congr rfl fun k _ => congrArg (_ * ·) (ld_cols x2 _ (by decide) k e)

theorem out11_apply (e : Fin 512) (r : Fin 512) :
    out0_11 x0 x1 x2 x3 (ix2 e r) = ∑ k : Fin 1024, hrow x0 x1 r k * x3 (ix2 ⟨0 + e.val, by omega⟩ k) := by
  unfold out0_11
  rw [View.canon_unit_zero (by funext a; fin_cases a <;> rfl), pay12_eq, pay10_apply]
  exact Finset.sum_congr rfl fun k _ => congrArg (_ * ·) (ld_rows x3 _ (by decide) e k)

theorem out12_apply (e : Fin 256) (r : Fin 512) :
    out0_12 x0 x1 x2 x3 (ix2 e r) = ∑ k : Fin 1024, hrow x0 x1 r k * x3 (ix2 ⟨512 + e.val, by omega⟩ k) := by
  unfold out0_12
  rw [View.canon_unit_zero (by funext a; fin_cases a <;> rfl), pay12_eq, pay11_apply]
  exact Finset.sum_congr rfl fun k _ => congrArg (_ * ·) (ld_rows x3 _ (by decide) e k)

theorem out13_apply (e : Fin 256) (r : Fin 512) :
    out0_13 x0 x1 x2 x3 (ix2 e r) = ∑ k : Fin 1024, hrow x0 x1 r k * x3 (ix2 ⟨768 + e.val, by omega⟩ k) := by
  unfold out0_13
  rw [View.canon_unit_zero (by funext a; fin_cases a <;> rfl), pay12_eq, pay1_apply]
  exact Finset.sum_congr rfl fun k _ => congrArg (_ * ·) (ld_rows x3 _ (by decide) e k)

end

/-! ## Which block each grid point reads and writes -/

theorem index0 : ∀ t : Fin cfg0.N, win0_0.index t = ![(grid0.coords t 0).val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![(grid0.coords t 0).val, 0] := (by decide +kernel : ∀ t : Fin grid0.N, _)
theorem index5 : ∀ t : Fin cfg0.N, win0_5.index t = ![(grid0.coords t 0).val, 0] := (by decide +kernel : ∀ t : Fin grid0.N, _)
theorem index6 : ∀ t : Fin cfg0.N, win0_6.index t = ![(grid0.coords t 0).val, 0] := (by decide +kernel : ∀ t : Fin grid0.N, _)
theorem index7 : ∀ t : Fin cfg0.N, win0_7.index t = ![(grid0.coords t 0).val, 0] := (by decide +kernel : ∀ t : Fin grid0.N, _)
theorem index8 : ∀ t : Fin cfg0.N, win0_8.index t = ![(grid0.coords t 0).val, 0] := (by decide +kernel : ∀ t : Fin grid0.N, _)
theorem index9 : ∀ t : Fin cfg0.N, win0_9.index t = ![(grid0.coords t 0).val, 0] := (by decide +kernel : ∀ t : Fin grid0.N, _)
theorem index10 : ∀ t : Fin cfg0.N, win0_10.index t = ![(grid0.coords t 0).val, 0] := (by decide +kernel : ∀ t : Fin grid0.N, _)
theorem index11 : ∀ t : Fin cfg0.N, win0_11.index t = ![0, (grid0.coords t 0).val] := (by decide +kernel : ∀ t : Fin grid0.N, _)
theorem index12 : ∀ t : Fin cfg0.N, win0_12.index t = ![0, (grid0.coords t 0).val] := (by decide +kernel : ∀ t : Fin grid0.N, _)
theorem index13 : ∀ t : Fin cfg0.N, win0_13.index t = ![0, (grid0.coords t 0).val] := (by decide +kernel : ∀ t : Fin grid0.N, _)

/-- Row `r` of the block of grid point `t`. -/
def at_ (t : Fin cfg0.N) (r : Fin 512) : Fin 32768 := ⟨(grid0.coords t 0).val * 512 + r.val, by
  have : (grid0.coords t 0).val < 64 := (grid0.coords t 0).isLt
  omega⟩

variable (m : (ℓ : Loc nD τ sig) → Buf (Elt Ideal) ℓ) (c : Dev nD)

theorem blk0 (t : Fin cfg0.N) (r : Fin 512) (k : Fin 1024) : iblk m c 0 t (ix2 r k) = V m c main_v0 (ix2 (at_ t r) k) := by
  show V m c main_v0 ((win0_0.blk t).view.emb (ix2 r k)) = _
  refine congrArg (V m c main_v0) (funext fun a => Fin.ext ?_)
  match a with
  | ⟨0, _⟩ => blk_simp [index0]; rfl
  | ⟨1, _⟩ => blk_simp [index0]

theorem blk1 (t : Fin cfg0.N) : iblk m c 1 t = V m c main_v44 := by
  funext y
  show V m c main_v44 ((win0_1.blk t).view.emb y) = _
  refine congrArg (V m c main_v44) (funext fun x => Fin.ext ?_)
  match x with
  | ⟨0, _⟩ => blk_simp [index1]
  | ⟨1, _⟩ => blk_simp [index1]

theorem blk2 (t : Fin cfg0.N) : iblk m c 2 t = V m c main_v40 := by
  funext y
  show V m c main_v40 ((win0_2.blk t).view.emb y) = _
  refine congrArg (V m c main_v40) (funext fun x => Fin.ext ?_)
  match x with
  | ⟨0, _⟩ => blk_simp [index2]
  | ⟨1, _⟩ => blk_simp [index2]

theorem blk3 (t : Fin cfg0.N) : iblk m c 3 t = V m c main_v43 := by
  funext y
  show V m c main_v43 ((win0_3.blk t).view.emb y) = _
  refine congrArg (V m c main_v43) (funext fun x => Fin.ext ?_)
  match x with
  | ⟨0, _⟩ => blk_simp [index3]
  | ⟨1, _⟩ => blk_simp [index3]

/-! ## The arrays -/

/-- The norm of row `t`. -/
def rowsOf (a0 : FVec Ideal S32768x1024 .f32) (a1 : FVec Ideal S1x1024 .f32) (t : Fin 32768) (k : Fin 1024) : EReal :=
  rms (fun l => a0 (ix2 t l)) (fun l => a1 (ix2 0 l)) k

/-- The rows times `n` columns of `u`, from column `o` on. -/
def colsOf (a0 : FVec Ideal S32768x1024 .f32) (a1 : FVec Ideal S1x1024 .f32) (u : FVec Ideal S1024x2432 .bf16) (n o : ℕ) (h : o + n ≤ 2432) :
    FVec Ideal (⟨2, ![32768, n]⟩ : Shape) .f32 :=
  fun i => ∑ k : Fin 1024, rowsOf a0 a1 (i 0) k * u (ix2 k ⟨o + (i 1).val, by have : (i 1).val < n := (i 1).isLt; omega⟩)

/-- `n` rows of `u`, from row `o` on, times the rows. -/
def colsT (a0 : FVec Ideal S32768x1024 .f32) (a1 : FVec Ideal S1x1024 .f32) (u : FVec Ideal S1024x1024 .bf16) (n o : ℕ) (h : o + n ≤ 1024) :
    FVec Ideal (⟨2, ![n, 32768]⟩ : Shape) .f32 :=
  fun i => ∑ k : Fin 1024, rowsOf a0 a1 (i 1) k * u (ix2 ⟨o + (i 0).val, by have : (i 0).val < n := (i 0).isLt; omega⟩ k)

theorem hrow_blk (t : Fin cfg0.N) (r : Fin 512) (k : Fin 1024) :
    hrow (iblk m c 0 t) (iblk m c 1 t) r k = rowsOf (V m c main_v0) (V m c main_v44) (at_ t r) k := by
  unfold hrow rowsOf
  rw [blk1]
  exact congrArg (fun y => rms y _ k) (funext fun l => blk0 m c t r l)

/-- A row's block of columns, once the place of the block is known. -/
theorem cols_place (t : Fin cfg0.N) {n o : ℕ} (h : o + n ≤ 2432) (r : Fin 512) (e : Fin n) (i : (⟨2, ![32768, n]⟩ : Shape).Idx)
    (h0 : (i 0).val = (grid0.coords t 0).val * 512 + r.val) (h1 : (i 1).val = e.val) :
    ∑ k : Fin 1024, hrow (iblk m c 0 t) (iblk m c 1 t) r k * iblk m c 2 t (ix2 k ⟨o + e.val, by omega⟩)
      = colsOf (V m c main_v0) (V m c main_v44) (V m c main_v40) n o h i := by
  have hi : i = ix2 (at_ t r) e := funext fun a => Fin.ext (by
    match a with
    | ⟨0, _⟩ => exact h0
    | ⟨1, _⟩ => exact h1)
  subst hi
  rw [blk2]
  exact Finset.sum_congr rfl fun k _ => congrArg (· * _) (hrow_blk m c t r k)

theorem colsT_place (t : Fin cfg0.N) {n o : ℕ} (h : o + n ≤ 1024) (e : Fin n) (r : Fin 512) (i : (⟨2, ![n, 32768]⟩ : Shape).Idx)
    (h0 : (i 0).val = e.val) (h1 : (i 1).val = (grid0.coords t 0).val * 512 + r.val) :
    ∑ k : Fin 1024, hrow (iblk m c 0 t) (iblk m c 1 t) r k * iblk m c 3 t (ix2 ⟨o + e.val, by omega⟩ k)
      = colsT (V m c main_v0) (V m c main_v44) (V m c main_v43) n o h i := by
  have hi : i = ix2 e (at_ t r) := funext fun a => Fin.ext (by
    match a with
    | ⟨0, _⟩ => exact h0
    | ⟨1, _⟩ => exact h1)
  subst hi
  rw [blk3]
  exact Finset.sum_congr rfl fun k _ => congrArg (· * _) (hrow_blk m c t r k)

theorem arr4 : (dats m 0 c).arrAt 4 cfg0.N = colsOf (V m c main_v0) (V m c main_v44) (V m c main_v40) 512 0 (by decide) := by
  refine (dats m 0 c).arrAt_eq_of_covers 4 _ (by decide +kernel) fun t hf y => ?_
  blk_simp
  rw [after0_4]
  obtain ⟨r, e, rfl⟩ : ∃ (r : Fin 512) (e : Fin 512), y = ix2 r e := ⟨y 0, y 1, eq_ix2 y⟩
  exact (out4_apply _ _ _ _ r e).trans (cols_place m c t (by decide) r e _ (by blk_simp [index4]) (by blk_simp [index4]))

theorem arr5 : (dats m 0 c).arrAt 5 cfg0.N = colsOf (V m c main_v0) (V m c main_v44) (V m c main_v40) 512 512 (by decide) := by
  refine (dats m 0 c).arrAt_eq_of_covers 5 _ (by decide +kernel) fun t hf y => ?_
  blk_simp
  rw [after0_5]
  obtain ⟨r, e, rfl⟩ : ∃ (r : Fin 512) (e : Fin 512), y = ix2 r e := ⟨y 0, y 1, eq_ix2 y⟩
  exact (out5_apply _ _ _ _ r e).trans (cols_place m c t (by decide) r e _ (by blk_simp [index5]) (by blk_simp [index5]))

theorem arr6 : (dats m 0 c).arrAt 6 cfg0.N = colsOf (V m c main_v0) (V m c main_v44) (V m c main_v40) 512 1024 (by decide) := by
  refine (dats m 0 c).arrAt_eq_of_covers 6 _ (by decide +kernel) fun t hf y => ?_
  blk_simp
  rw [after0_6]
  obtain ⟨r, e, rfl⟩ : ∃ (r : Fin 512) (e : Fin 512), y = ix2 r e := ⟨y 0, y 1, eq_ix2 y⟩
  exact (out6_apply _ _ _ _ r e).trans (cols_place m c t (by decide) r e _ (by blk_simp [index6]) (by blk_simp [index6]))

theorem arr7 : (dats m 0 c).arrAt 7 cfg0.N = colsOf (V m c main_v0) (V m c main_v44) (V m c main_v40) 256 1536 (by decide) := by
  refine (dats m 0 c).arrAt_eq_of_covers 7 _ (by decide +kernel) fun t hf y => ?_
  blk_simp
  rw [after0_7]
  obtain ⟨r, e, rfl⟩ : ∃ (r : Fin 512) (e : Fin 256), y = ix2 r e := ⟨y 0, y 1, eq_ix2 y⟩
  exact (out7_apply _ _ _ _ r e).trans (cols_place m c t (by decide) r e _ (by blk_simp [index7]) (by blk_simp [index7]))

theorem arr8 : (dats m 0 c).arrAt 8 cfg0.N = colsOf (V m c main_v0) (V m c main_v44) (V m c main_v40) 256 1792 (by decide) := by
  refine (dats m 0 c).arrAt_eq_of_covers 8 _ (by decide +kernel) fun t hf y => ?_
  blk_simp
  rw [after0_8]
  obtain ⟨r, e, rfl⟩ : ∃ (r : Fin 512) (e : Fin 256), y = ix2 r e := ⟨y 0, y 1, eq_ix2 y⟩
  exact (out8_apply _ _ _ _ r e).trans (cols_place m c t (by decide) r e _ (by blk_simp [index8]) (by blk_simp [index8]))

theorem arr9 : (dats m 0 c).arrAt 9 cfg0.N = colsOf (V m c main_v0) (V m c main_v44) (V m c main_v40) 256 2048 (by decide) := by
  refine (dats m 0 c).arrAt_eq_of_covers 9 _ (by decide +kernel) fun t hf y => ?_
  blk_simp
  rw [after0_9]
  obtain ⟨r, e, rfl⟩ : ∃ (r : Fin 512) (e : Fin 256), y = ix2 r e := ⟨y 0, y 1, eq_ix2 y⟩
  exact (out9_apply _ _ _ _ r e).trans (cols_place m c t (by decide) r e _ (by blk_simp [index9]) (by blk_simp [index9]))

theorem arr10 : (dats m 0 c).arrAt 10 cfg0.N = colsOf (V m c main_v0) (V m c main_v44) (V m c main_v40) 128 2304 (by decide) := by
  refine (dats m 0 c).arrAt_eq_of_covers 10 _ (by decide +kernel) fun t hf y => ?_
  blk_simp
  rw [after0_10]
  obtain ⟨r, e, rfl⟩ : ∃ (r : Fin 512) (e : Fin 128), y = ix2 r e := ⟨y 0, y 1, eq_ix2 y⟩
  exact (out10_apply _ _ _ _ r e).trans (cols_place m c t (by decide) r e _ (by blk_simp [index10]) (by blk_simp [index10]))

theorem arr11 : (dats m 0 c).arrAt 11 cfg0.N = colsT (V m c main_v0) (V m c main_v44) (V m c main_v43) 512 0 (by decide) := by
  refine (dats m 0 c).arrAt_eq_of_covers 11 _ (by decide +kernel) fun t hf y => ?_
  blk_simp
  rw [after0_11]
  obtain ⟨e, r, rfl⟩ : ∃ (e : Fin 512) (r : Fin 512), y = ix2 e r := ⟨y 0, y 1, eq_ix2 y⟩
  exact (out11_apply _ _ _ _ e r).trans (colsT_place m c t (by decide) e r _ (by blk_simp [index11]) (by blk_simp [index11]))

theorem arr12 : (dats m 0 c).arrAt 12 cfg0.N = colsT (V m c main_v0) (V m c main_v44) (V m c main_v43) 256 512 (by decide) := by
  refine (dats m 0 c).arrAt_eq_of_covers 12 _ (by decide +kernel) fun t hf y => ?_
  blk_simp
  rw [after0_12]
  obtain ⟨e, r, rfl⟩ : ∃ (e : Fin 256) (r : Fin 512), y = ix2 e r := ⟨y 0, y 1, eq_ix2 y⟩
  exact (out12_apply _ _ _ _ e r).trans (colsT_place m c t (by decide) e r _ (by blk_simp [index12]) (by blk_simp [index12]))

theorem arr13 : (dats m 0 c).arrAt 13 cfg0.N = colsT (V m c main_v0) (V m c main_v44) (V m c main_v43) 256 768 (by decide) := by
  refine (dats m 0 c).arrAt_eq_of_covers 13 _ (by decide +kernel) fun t hf y => ?_
  blk_simp
  rw [after0_13]
  obtain ⟨e, r, rfl⟩ : ∃ (e : Fin 256) (r : Fin 512), y = ix2 e r := ⟨y 0, y 1, eq_ix2 y⟩
  exact (out13_apply _ _ _ _ e r).trans (colsT_place m c t (by decide) e r _ (by blk_simp [index13]) (by blk_simp [index13]))

end Cert.InProjIdeal.Proj

end
-- ==== Proof.InTerms.lean ====
/-
  What the program prepares for the input projection: the rows, the weights of the norm, and the columns of the weights,
  scaled, repeated, padded and joined.
-/
module

public import proofs.«01_k».proof.Proof.InSpec
public import proofs.«01_k».proof.Proof.Gen.InProjIdeal.Frame
public import Idealize.ShloMosaic.Lib.KernelVsHost
public import Idealize.ShloMosaic.Lib.Claim

@[expose] public section

set_option maxRecDepth 16384

noncomputable section

namespace Cert.InProjIdeal.Proj

open Cert.InProjIdeal Cert.InProjIdeal.Gen Cert.Norm Cert.Proj
open Idealize.ShloMosaic Idealize.ShloMosaic.TcCoe Idealize.ShloMosaic.ValueIdx Idealize.SL.Sem
open Idealize.ShloMosaic (Ideal)

/-! ## The terms -/

/-- The weights without their leading axis. -/
def flat (w : FVec Ideal S1x1024x2840 .f32) : FVec Ideal S1024x2840 .f32 := shapeCast S1024x2840 w shapeCasts_S1x1024x2840_S1024x2840

/-- Two heads of 64 columns, each repeated. -/
def doubled (y : FVec Ideal S1024x128 .f32) : FVec Ideal S1024x256 .f32 :=
  concatenate S1024x256 1
    [⟨S1024x64, extractStridedSlice S1024x64 ![0, 0] y slices_S1024x128_S1024x64_0_0⟩,
      ⟨S1024x64, extractStridedSlice S1024x64 ![0, 0] y slices_S1024x128_S1024x64_0_0⟩,
      ⟨S1024x64, extractStridedSlice S1024x64 ![0, 64] y slices_S1024x128_S1024x64_0_64⟩,
      ⟨S1024x64, extractStridedSlice S1024x64 ![0, 64] y slices_S1024x128_S1024x64_0_64⟩]
    concatenates_S1024x64_S1024x64_S1024x64_S1024x64_S1024x256_d1

/-- Columns scaled. -/
def scaledCols (y : FVec Ideal S1024x512 .f32) : FVec Ideal S1024x512 .f32 :=
  mulf y (broadcastInDim S1024x512 ![] bcast_S_S1024x512 (constant S_ .f32 0x3E38AA3B#32))

/-- Zeros after the last 24 columns. -/
def paddedCols (y : FVec Ideal S1024x24 .f32) : FVec Ideal S1024x128 .f32 :=
  pad S1024x128 ![0, 0] ![0, 104] ![0, 0] y (sitofp .f32 (constantI S_ 32 0#32)) pads_S1024x24_S1024x128_000_01040 h_S_

/-- The columns whose products are stored by rows. -/
def columns (u : FVec Ideal S1024x2840 .f32) : FVec Ideal S1024x2432 .bf16 :=
  truncf .bf16 (concatenate S1024x2432 1
    [⟨S1024x512, scaledCols (extractStridedSlice S1024x512 ![0, 0] u slices_S1024x2840_S1024x512_0_0)⟩,
      ⟨S1024x512, extractStridedSlice S1024x512 ![0, 1024] u slices_S1024x2840_S1024x512_0_1024⟩,
      ⟨S1024x512, scaledCols (extractStridedSlice S1024x512 ![0, 1536] u slices_S1024x2840_S1024x512_0_1536)⟩,
      ⟨S1024x128, extractStridedSlice S1024x128 ![0, 2048] u slices_S1024x2840_S1024x128_0_2048⟩,
      ⟨S1024x128, extractStridedSlice S1024x128 ![0, 2176] u slices_S1024x2840_S1024x128_0_2176⟩,
      ⟨S1024x256, doubled (extractStridedSlice S1024x128 ![0, 2432] u slices_S1024x2840_S1024x128_0_2432)⟩,
      ⟨S1024x256, doubled (extractStridedSlice S1024x128 ![0, 2688] u slices_S1024x2840_S1024x128_0_2688)⟩,
      ⟨S1024x128, paddedCols (extractStridedSlice S1024x24 ![0, 2816] u slices_S1024x2840_S1024x24_0_2816)⟩]
    concatenates_S1024x512_S1024x512_S1024x512_S1024x128_S1024x128_S1024x256_S1024x256_S1024x128_S1024x2432_d1) bitsLt_bf16_f32

/-- The columns whose products are stored by columns, as rows. -/
def columnsT (u : FVec Ideal S1024x2840 .f32) : FVec Ideal S1024x1024 .bf16 :=
  truncf .bf16 (transpose S1024x1024 [1, 0] (concatenate S1024x1024 1
    [⟨S1024x512, extractStridedSlice S1024x512 ![0, 512] u slices_S1024x2840_S1024x512_0_512⟩,
      ⟨S1024x256, doubled (extractStridedSlice S1024x128 ![0, 2304] u slices_S1024x2840_S1024x128_0_2304)⟩,
      ⟨S1024x256, doubled (extractStridedSlice S1024x128 ![0, 2560] u slices_S1024x2840_S1024x128_0_2560)⟩]
    concatenates_S1024x512_S1024x256_S1024x256_S1024x1024_d1) transposes_S1024x1024_S1024x1024_1_0) bitsLt_bf16_f32

end Cert.InProjIdeal.Proj

end
-- ==== Proof.InHost.lean ====
/-
  The operands of the input projection: what the program prepares of its arguments.
-/
module

public import proofs.«01_k».proof.Proof.InArray
public import proofs.«01_k».proof.Proof.InTerms
public import Idealize.ShloMosaic.Lib.KernelVsHost
public import Idealize.ShloMosaic.Lib.Claim

@[expose] public section

set_option maxRecDepth 16384

noncomputable section

namespace Cert.InProjIdeal.Proj

open Cert.InProjIdeal Cert.InProjIdeal.Gen Cert.Norm Cert.Proj
open Idealize.ShloMosaic Idealize.ShloMosaic.TcCoe Idealize.ShloMosaic.ValueIdx Idealize.SL.Sem
open Idealize.ShloMosaic (Ideal)

/-! ## The contents of the operands -/

section

variable (m : (ℓ : Loc nD τ sig) → Buf (Elt Ideal) ℓ) (c : Dev nD)

set_option maxHeartbeats 8000000 in
theorem V_v0 : V m c main_v0 = shapeCast S32768x1024 (m ((c : Thread nD τ).loc main_arg0)) shapeCasts_S16x2048x1024_S32768x1024 := by
  show StableHlo.after (List.flatten [hostOps0, hostOps0_1, hostOps0_2]) (fun b => m (c, b)) (Proc.tc.devRef main_v0) = _
  simp only [hostOps0, hostOps0_1, hostOps0_2, List.flatten_cons, List.flatten_nil, List.append_nil, List.cons_append, List.nil_append]
  after_results_simp
  rfl

set_option maxHeartbeats 8000000 in
theorem V_v44 : V m c main_v44
    = shapeCast S1x1024 (shapeCast S1024 (m ((c : Thread nD τ).loc main_arg2)) shapeCasts_S1x1024_S1024) shapeCasts_S1024_S1x1024 := by
  show StableHlo.after (List.flatten [hostOps0, hostOps0_1, hostOps0_2]) (fun b => m (c, b)) (Proc.tc.devRef main_v44) = _
  simp only [hostOps0, hostOps0_1, hostOps0_2, List.flatten_cons, List.flatten_nil, List.append_nil, List.cons_append, List.nil_append]
  after_results_simp
  rfl

set_option maxHeartbeats 16000000 in
theorem V_v40 : V m c main_v40 = columns (flat (m ((c : Thread nD τ).loc main_arg1))) := by
  show StableHlo.after (List.flatten [hostOps0, hostOps0_1, hostOps0_2]) (fun b => m (c, b)) (Proc.tc.devRef main_v40) = _
  simp only [hostOps0, hostOps0_1, hostOps0_2, List.flatten_cons, List.flatten_nil, List.append_nil, List.cons_append, List.nil_append]
  simp only [StableHlo.after_cons, StableHlo.after_nil]
  after_results_steps
  after_results_loop
  rfl

set_option maxHeartbeats 16000000 in
theorem V_v43 : V m c main_v43 = columnsT (flat (m ((c : Thread nD τ).loc main_arg1))) := by
  show StableHlo.after (List.flatten [hostOps0, hostOps0_1, hostOps0_2]) (fun b => m (c, b)) (Proc.tc.devRef main_v43) = _
  simp only [hostOps0, hostOps0_1, hostOps0_2, List.flatten_cons, List.flatten_nil, List.append_nil, List.cons_append, List.nil_append]
  simp only [StableHlo.after_cons, StableHlo.after_nil]
  after_results_steps
  after_results_loop
  rfl

end

end Cert.InProjIdeal.Proj

end
-- ==== Proof.InCols.lean ====
/-
  The columns prepared for the input projection, at an index: columns of the weights.
-/
module

public import proofs.«01_k».proof.Proof.InTerms

@[expose] public section

set_option maxRecDepth 16384

noncomputable section

namespace Cert.InProjIdeal.Proj

open Cert.InProjIdeal Cert.InProjIdeal.Gen Cert.Norm Cert.Proj
open Idealize.ShloMosaic Idealize.ShloMosaic.ValueIdx
open Idealize.ShloMosaic (Ideal)

/-- A joined array at a column of its piece `k`. -/
theorem cols_piece {α : Type} {n N v : ℕ} (xs : List ((s : Shape) × (s.Idx → α)))
    (h : Shape.Concatenates (xs.map (·.1)) (⟨2, ![n, N]⟩ : Shape) 1) (k : ℕ) (hk : k < xs.length)
    (x₁ : (⟨2, ![n, v]⟩ : Shape).Idx → α) (hxk : xs[k] = ⟨⟨2, ![n, v]⟩, x₁⟩) (pre : ℕ)
    (hpre : (((xs.take k).map (·.1)).map fun s => if h : s.rank = (⟨2, ![n, N]⟩ : Shape).rank then s.size ((1 : Fin 2).cast h.symm) else 0).sum = pre)
    (r : Fin n) (c : Fin v) (c' : Fin N) (hc : pre + c.val = c'.val) :
    concatenate (⟨2, ![n, N]⟩ : Shape) 1 xs h (ix2 r c') = x₁ (ix2 r c) := by
  refine concatenate_apply_piece (t := ⟨2, ![n, N]⟩) 1 xs h (ix2 r c') k hk _ x₁ hxk rfl pre hpre (ix2 r c) (fun b hb => ?_) hc
  match b with
  | ⟨0, _⟩ => rfl
  | ⟨1, _⟩ => exact absurd rfl hb

theorem slice_cols {α : Type} {N v o : ℕ} (x : (⟨2, ![1024, N]⟩ : Shape).Idx → α)
    (h : (⟨2, ![1024, N]⟩ : Shape).Slices ![0, o] ⟨2, ![1024, v]⟩) (hN : o + v ≤ N) (k : Fin 1024) (c : Fin v) :
    extractStridedSlice ⟨2, ![1024, v]⟩ ![0, o] x h (ix2 k c) = x (ix2 k ⟨o + c.val, by omega⟩) := by
  refine extractStridedSlice_apply _ _ _ _ _ fun a => ?_
  match a with
  | ⟨0, _⟩ => exact (Nat.zero_add _).symm
  | ⟨1, _⟩ => rfl

theorem flat_apply (w : FVec Ideal S1x1024x2840 .f32) (k : Fin 1024) (j : Fin 2840) : flat w (ix2 k j) = w (ix3 0 k j) := by
  unfold flat
  refine shapeCast_apply _ _ _ _ ?_
  rw [Shape.rowMajor_val_three, Shape.rowMajor_val_two]
  show (0 * 1024 + k.val) * 2840 + j.val = k.val * 2840 + j.val
  omega

theorem scaledCols_apply (y : FVec Ideal S1024x512 .f32) (i : S1024x512.Idx) : scaledCols y i = y i * scale := by
  unfold scaledCols
  rw [mulf_apply, broadcastInDim_apply _ _ _ _ ix0 (fun a => a.elim0)]
  rfl

theorem doubled_apply (y : FVec Ideal S1024x128 .f32) (k : Fin 1024) (e : Fin 256) : doubled y (ix2 k e) = y (ix2 k (once e)) := by
  have hs0 : ∀ c : Fin 64, extractStridedSlice S1024x64 ![0, 0] y slices_S1024x128_S1024x64_0_0 (ix2 k c) = y (ix2 k ⟨0 + c.val, by omega⟩) :=
    slice_cols (N := 128) (v := 64) (o := 0) y _ (by decide) k
  have hs1 : ∀ c : Fin 64, extractStridedSlice S1024x64 ![0, 64] y slices_S1024x128_S1024x64_0_64 (ix2 k c) = y (ix2 k ⟨64 + c.val, by omega⟩) :=
    slice_cols (N := 128) (v := 64) (o := 64) y _ (by decide) k
  have key : ∀ (a : ℕ) (c : Fin 64) (h : a * 64 + c.val < 256) (h' : a / 2 * 64 + c.val < 128), e.val = a * 64 + c.val →
      y (ix2 k ⟨a / 2 * 64 + c.val, h'⟩) = y (ix2 k (once e)) := by
    intro a c h h' he
    refine congrArg (fun j => y (ix2 k j)) (Fin.ext ?_)
    show a / 2 * 64 + c.val = e.val / 128 * 64 + e.val % 64
    omega
  have hm : e.val % 64 < 64 := Nat.mod_lt _ (by decide)
  have hd : e.val / 64 < 4 := by omega
  have he : e.val = e.val / 64 * 64 + (⟨e.val % 64, hm⟩ : Fin 64).val := (Nat.div_add_mod' _ _).symm
  unfold doubled
  generalize hc : (⟨e.val % 64, hm⟩ : Fin 64) = c at he
  generalize hq : e.val / 64 = q at he hd
  match q, hd with
  | 0, _ =>
    refine (cols_piece (n := 1024) (N := 256) (v := 64) _ _ 0 (by simp) _ rfl 0 rfl k c e (by omega)).trans ((hs0 c).trans ?_)
    exact key 0 c (by omega) (by omega) he
  | 1, _ =>
    refine (cols_piece (n := 1024) (N := 256) (v := 64) _ _ 1 (by simp) _ rfl 64 rfl k c e (by omega)).trans ((hs0 c).trans ?_)
    exact key 1 c (by omega) (by omega) he
  | 2, _ =>
    refine (cols_piece (n := 1024) (N := 256) (v := 64) _ _ 2 (by simp) _ rfl 128 rfl k c e (by omega)).trans ((hs1 c).trans ?_)
    exact key 2 c (by omega) (by omega) he
  | 3, _ =>
    refine (cols_piece (n := 1024) (N := 256) (v := 64) _ _ 3 (by simp) _ rfl 192 rfl k c e (by omega)).trans ((hs1 c).trans ?_)
    exact key 3 c (by omega) (by omega) he

theorem paddedCols_apply (y : FVec Ideal S1024x24 .f32) (k : Fin 1024) (e : Fin 128) :
    paddedCols y (ix2 k e) = if h : e.val < 24 then y (ix2 k ⟨e.val, h⟩) else 0 := by
  unfold paddedCols
  split
  · rename_i h
    refine pad_apply_of_inside _ _ _ _ _ _ _ _ (ix2 k ⟨e.val, h⟩) fun a => ?_
    match a with
    | ⟨0, _⟩ => show k.val = 0 + k.val * 1; omega
    | ⟨1, _⟩ => show e.val = 0 + e.val * 1; omega
  · rename_i h
    refine (pad_apply_of_not_inside _ _ _ _ _ _ _ _ 1 fun hc => h ?_).trans ?_
    · have := hc.2.2
      have : (e.val - 0) / 1 < 24 := this
      omega
    · show (((0#32 : BitVec 32).toInt : ℝ) : EReal) = 0
      simp

/-! ## The columns by rows -/

variable (w : FVec Ideal S1x1024x2840 .f32) (k : Fin 1024)

theorem sliced {v o : ℕ} (h : (⟨2, ![1024, 2840]⟩ : Shape).Slices ![0, o] ⟨2, ![1024, v]⟩) (hN : o + v ≤ 2840) (c : Fin v) :
    extractStridedSlice ⟨2, ![1024, v]⟩ ![0, o] (flat w) h (ix2 k c) = w (ix3 0 k ⟨o + c.val, by omega⟩) :=
  (slice_cols (flat w) h hN k c).trans (flat_apply w k _)

theorem columns_apply (j : Fin 2432) : columns (flat w) (ix2 k j) = concatenate S1024x2432 1
    [⟨S1024x512, scaledCols (extractStridedSlice S1024x512 ![0, 0] (flat w) slices_S1024x2840_S1024x512_0_0)⟩,
      ⟨S1024x512, extractStridedSlice S1024x512 ![0, 1024] (flat w) slices_S1024x2840_S1024x512_0_1024⟩,
      ⟨S1024x512, scaledCols (extractStridedSlice S1024x512 ![0, 1536] (flat w) slices_S1024x2840_S1024x512_0_1536)⟩,
      ⟨S1024x128, extractStridedSlice S1024x128 ![0, 2048] (flat w) slices_S1024x2840_S1024x128_0_2048⟩,
      ⟨S1024x128, extractStridedSlice S1024x128 ![0, 2176] (flat w) slices_S1024x2840_S1024x128_0_2176⟩,
      ⟨S1024x256, doubled (extractStridedSlice S1024x128 ![0, 2432] (flat w) slices_S1024x2840_S1024x128_0_2432)⟩,
      ⟨S1024x256, doubled (extractStridedSlice S1024x128 ![0, 2688] (flat w) slices_S1024x2840_S1024x128_0_2688)⟩,
      ⟨S1024x128, paddedCols (extractStridedSlice S1024x24 ![0, 2816] (flat w) slices_S1024x2840_S1024x24_0_2816)⟩]
    concatenates_S1024x512_S1024x512_S1024x512_S1024x128_S1024x128_S1024x256_S1024x256_S1024x128_S1024x2432_d1 (ix2 k j) := rfl

theorem cols4 (e : Fin 512) : columns (flat w) (ix2 k ⟨0 + e.val, by omega⟩) = w (ix3 0 k ⟨0 + e.val, by omega⟩) * scale := by
  rw [columns_apply]
  refine (cols_piece (n := 1024) (N := 2432) (v := 512) _ _ 0 (by simp) _ rfl 0 rfl k e _ rfl).trans ?_
  exact (scaledCols_apply _ _).trans (congrArg (· * scale) (sliced w k (v := 512) (o := 0) _ (by decide) e))

theorem cols5 (e : Fin 512) : columns (flat w) (ix2 k ⟨512 + e.val, by omega⟩) = w (ix3 0 k ⟨1024 + e.val, by omega⟩) := by
  rw [columns_apply]
  refine (cols_piece (n := 1024) (N := 2432) (v := 512) _ _ 1 (by simp) _ rfl 512 rfl k e _ rfl).trans ?_
  exact sliced w k (v := 512) (o := 1024) _ (by decide) e

theorem cols6 (e : Fin 512) : columns (flat w) (ix2 k ⟨1024 + e.val, by omega⟩) = w (ix3 0 k ⟨1536 + e.val, by omega⟩) * scale := by
  rw [columns_apply]
  refine (cols_piece (n := 1024) (N := 2432) (v := 512) _ _ 2 (by simp) _ rfl 1024 rfl k e _ rfl).trans ?_
  exact (scaledCols_apply _ _).trans (congrArg (· * scale) (sliced w k (v := 512) (o := 1536) _ (by decide) e))

theorem cols7 (e : Fin 256) : columns (flat w) (ix2 k ⟨1536 + e.val, by omega⟩) = w (ix3 0 k ⟨2048 + e.val, by omega⟩) := by
  rw [columns_apply]
  by_cases he : e.val < 128
  · refine (cols_piece (n := 1024) (N := 2432) (v := 128) _ _ 3 (by simp) _ rfl 1536 rfl k ⟨e.val, he⟩ _ rfl).trans ?_
    exact sliced w k (v := 128) (o := 2048) _ (by decide) ⟨e.val, he⟩
  · refine (cols_piece (n := 1024) (N := 2432) (v := 128) _ _ 4 (by simp) _ rfl 1664 rfl k ⟨e.val - 128, by omega⟩ _
      (by show 1664 + (e.val - 128) = 1536 + e.val; omega)).trans ?_
    refine (sliced w k (v := 128) (o := 2176) _ (by decide) ⟨e.val - 128, by omega⟩).trans ?_
    refine congrArg (fun j => w (ix3 0 k j)) (Fin.ext ?_)
    show 2176 + (e.val - 128) = 2048 + e.val
    omega

theorem cols8 (e : Fin 256) : columns (flat w) (ix2 k ⟨1792 + e.val, by omega⟩) = w (ix3 0 k ⟨2432 + (once e).val, by omega⟩) := by
  rw [columns_apply]
  refine (cols_piece (n := 1024) (N := 2432) (v := 256) _ _ 5 (by simp) _ rfl 1792 rfl k e _ rfl).trans ?_
  exact (doubled_apply _ k e).trans (sliced w k (v := 128) (o := 2432) _ (by decide) (once e))

theorem cols9 (e : Fin 256) : columns (flat w) (ix2 k ⟨2048 + e.val, by omega⟩) = w (ix3 0 k ⟨2688 + (once e).val, by omega⟩) := by
  rw [columns_apply]
  refine (cols_piece (n := 1024) (N := 2432) (v := 256) _ _ 6 (by simp) _ rfl 2048 rfl k e _ rfl).trans ?_
  exact (doubled_apply _ k e).trans (sliced w k (v := 128) (o := 2688) _ (by decide) (once e))

theorem cols10 (e : Fin 128) : columns (flat w) (ix2 k ⟨2304 + e.val, by omega⟩)
    = if h : e.val < 24 then w (ix3 0 k ⟨2816 + e.val, by omega⟩) else 0 := by
  rw [columns_apply]
  refine (cols_piece (n := 1024) (N := 2432) (v := 128) _ _ 7 (by simp) _ rfl 2304 rfl k e _ rfl).trans ?_
  refine (paddedCols_apply _ k e).trans ?_
  split
  · rename_i h
    exact sliced w k (v := 24) (o := 2816) _ (by decide) ⟨e.val, h⟩
  · rfl

/-! ## The columns by columns -/

theorem columnsT_apply (j : Fin 1024) : columnsT (flat w) (ix2 j k) = concatenate S1024x1024 1
    [⟨S1024x512, extractStridedSlice S1024x512 ![0, 512] (flat w) slices_S1024x2840_S1024x512_0_512⟩,
      ⟨S1024x256, doubled (extractStridedSlice S1024x128 ![0, 2304] (flat w) slices_S1024x2840_S1024x128_0_2304)⟩,
      ⟨S1024x256, doubled (extractStridedSlice S1024x128 ![0, 2560] (flat w) slices_S1024x2840_S1024x128_0_2560)⟩]
    concatenates_S1024x512_S1024x256_S1024x256_S1024x1024_d1 (ix2 k j) := by
  unfold columnsT
  rw [truncf_apply]
  exact transpose_apply _ _ _ _ (ix2 k j) (fun a => by match a with | ⟨0, _⟩ => rfl | ⟨1, _⟩ => rfl)

theorem cols11 (e : Fin 512) : columnsT (flat w) (ix2 ⟨0 + e.val, by omega⟩ k) = w (ix3 0 k ⟨512 + e.val, by omega⟩) := by
  rw [columnsT_apply]
  refine (cols_piece (n := 1024) (N := 1024) (v := 512) _ _ 0 (by simp) _ rfl 0 rfl k e _ rfl).trans ?_
  exact sliced w k (v := 512) (o := 512) _ (by decide) e

theorem cols12 (e : Fin 256) : columnsT (flat w) (ix2 ⟨512 + e.val, by omega⟩ k) = w (ix3 0 k ⟨2304 + (once e).val, by omega⟩) := by
  rw [columnsT_apply]
  refine (cols_piece (n := 1024) (N := 1024) (v := 256) _ _ 1 (by simp) _ rfl 512 rfl k e _ rfl).trans ?_
  exact (doubled_apply _ k e).trans (sliced w k (v := 128) (o := 2304) _ (by decide) (once e))

theorem cols13 (e : Fin 256) : columnsT (flat w) (ix2 ⟨768 + e.val, by omega⟩ k) = w (ix3 0 k ⟨2560 + (once e).val, by omega⟩) := by
  rw [columnsT_apply]
  refine (cols_piece (n := 1024) (N := 1024) (v := 256) _ _ 2 (by simp) _ rfl 768 rfl k e _ rfl).trans ?_
  exact (doubled_apply _ k e).trans (sliced w k (v := 128) (o := 2560) _ (by decide) (once e))

end Cert.InProjIdeal.Proj

end
-- ==== Proof.InValue.lean ====
/-
  The arrays the input projection leaves are the specification's.
-/
module

public import proofs.«01_k».proof.Proof.InHost
public import proofs.«01_k».proof.Proof.InCols

@[expose] public section

set_option maxRecDepth 16384

noncomputable section

namespace Cert.InProjIdeal.Proj

open Cert.InProjIdeal Cert.InProjIdeal.Gen Cert.Norm Cert.Proj
open Idealize.ShloMosaic Idealize.ShloMosaic.TcCoe Idealize.ShloMosaic.ValueIdx Idealize.SL.Sem
open Idealize.ShloMosaic (Ideal)

section

variable (x : Hid) (w : Wts) (g : Gain)

/-- The hidden states, one row per batch and position. -/
abbrev hidRows : FVec Ideal S32768x1024 .f32 := shapeCast S32768x1024 x shapeCasts_S16x2048x1024_S32768x1024

/-- The weights of the norm, cast to a vector and back. -/
abbrev gainRow : FVec Ideal S1x1024 .f32 := shapeCast S1x1024 (shapeCast S1024 g shapeCasts_S1x1024_S1024) shapeCasts_S1024_S1x1024

theorem hidRows_apply (t : Fin 32768) (k : Fin 1024) : hidRows x (ix2 t k) = x (ix3 (batch t) (pos t) k) := by
  refine shapeCast_apply _ _ _ _ ?_
  rw [Shape.rowMajor_val_three, Shape.rowMajor_val_two]
  show (t.val / 2048 * 2048 + t.val % 2048) * 1024 + k.val = t.val * 1024 + k.val
  rw [Nat.div_add_mod']

theorem gainRow_apply (k : Fin 1024) : gainRow g (ix2 0 k) = g (ix2 0 k) := by
  unfold gainRow
  rw [shapeCast_apply _ _ (ix2 0 k) (ix1 k) (by
      rw [Shape.rowMajor_val_one, Shape.rowMajor_val_two]
      show k.val = 0 * 1024 + k.val
      omega),
    shapeCast_apply _ _ (ix1 k) (ix2 0 k) (by
      rw [Shape.rowMajor_val_one, Shape.rowMajor_val_two]
      show 0 * 1024 + k.val = k.val
      omega)]

theorem rowsOf_eq (t : Fin 32768) (k : Fin 1024) :
    rowsOf (hidRows x) (gainRow g) t k = rms (fun l => x (ix3 (batch t) (pos t) l)) (fun l => g (ix2 0 l)) k := by
  unfold rowsOf
  rw [show (fun l => hidRows x (ix2 t l)) = (fun l => x (ix3 (batch t) (pos t) l)) from funext (hidRows_apply x t),
    show (fun l => gainRow g (ix2 0 l)) = (fun l => g (ix2 0 l)) from funext (gainRow_apply g)]

/-- Products with columns that are columns of the weights. -/
theorem plain {n o : ℕ} (h : o + n ≤ 2432) (j : Fin n → Fin 2840)
    (hc : ∀ (k : Fin 1024) (e : Fin n), columns (flat w) (ix2 k ⟨o + e.val, by omega⟩) = w (ix3 0 k (j e)))
    (t : Fin 32768) (e : Fin n) :
    colsOf (hidRows x) (gainRow g) (columns (flat w)) n o h (ix2 t e) = proj x w g t (j e) :=
  Finset.sum_congr rfl fun k _ => congrArg₂ (· * ·) (rowsOf_eq x g t k) (hc k e)

/-- Products with columns that are scaled columns of the weights. -/
theorem scaled {n o : ℕ} (h : o + n ≤ 2432) (j : Fin n → Fin 2840)
    (hc : ∀ (k : Fin 1024) (e : Fin n), columns (flat w) (ix2 k ⟨o + e.val, by omega⟩) = w (ix3 0 k (j e)) * scale)
    (t : Fin 32768) (e : Fin n) :
    colsOf (hidRows x) (gainRow g) (columns (flat w)) n o h (ix2 t e) = proj x w g t (j e) * scale := by
  obtain ⟨r, hr, hs⟩ := scale_real
  have e1 : colsOf (hidRows x) (gainRow g) (columns (flat w)) n o h (ix2 t e)
      = ∑ k : Fin 1024, (rms (fun l => x (ix3 (batch t) (pos t) l)) (fun l => g (ix2 0 l)) k * w (ix3 0 k (j e))) * scale :=
    Finset.sum_congr rfl fun k _ =>
      (congrArg₂ (· * ·) (rowsOf_eq x g t k) (hc k e)).trans (mul_assoc _ _ _).symm
  rw [e1, hs, sum_mul_real _ hr]
  rfl

/-- Products with rows that are columns of the weights. -/
theorem turned {n o : ℕ} (h : o + n ≤ 1024) (j : Fin n → Fin 2840)
    (hc : ∀ (k : Fin 1024) (e : Fin n), columnsT (flat w) (ix2 ⟨o + e.val, by omega⟩ k) = w (ix3 0 k (j e)))
    (t : Fin 32768) (e : Fin n) :
    colsT (hidRows x) (gainRow g) (columnsT (flat w)) n o h (ix2 e t) = proj x w g t (j e) :=
  Finset.sum_congr rfl fun k _ => congrArg₂ (· * ·) (rowsOf_eq x g t k) (hc k e)

/-- The padding's products are zero. -/
theorem padded_eq : colsOf (hidRows x) (gainRow g) (columns (flat w)) 128 2304 (by decide) = padded x w g := by
  funext i
  obtain ⟨t, e, rfl⟩ : ∃ (t : Fin 32768) (e : Fin 128), i = ix2 t e := ⟨i 0, i 1, eq_ix2 i⟩
  show ∑ k : Fin 1024, rowsOf (hidRows x) (gainRow g) t k * columns (flat w) (ix2 k ⟨2304 + e.val, _⟩)
    = if h : e.val < 24 then proj x w g t ⟨2816 + e.val, by omega⟩ else 0
  simp only [cols10, rowsOf_eq]
  split
  · rfl
  · simp only [mul_zero, Finset.sum_const_zero]

end

section

variable (m : (ℓ : Loc nD τ sig) → Buf (Elt Ideal) ℓ) (c : Dev nD)

/-- The three arguments on a device. -/
abbrev argX : Hid := m ((c : Thread nD τ).loc main_arg0)
abbrev argW : Wts := m ((c : Thread nD τ).loc main_arg1)
abbrev argG : Gain := m ((c : Thread nD τ).loc main_arg2)

theorem value4 : (dats m 0 c).arrAt 4 cfg0.N = scaledPart (argX m c) (argW m c) (argG m c) 512 0 (by decide) := by
  rw [arr4, V_v0, V_v44, V_v40]
  refine funext fun (i : (⟨2, ![32768, 512]⟩ : Shape).Idx) => ?_
  rw [eq_ix2 i]
  exact scaled _ _ _ _ (fun e => ⟨0 + e.val, by omega⟩) (cols4 _) _ _

theorem value5 : (dats m 0 c).arrAt 5 cfg0.N = part (argX m c) (argW m c) (argG m c) 512 1024 (by decide) := by
  rw [arr5, V_v0, V_v44, V_v40]
  refine funext fun (i : (⟨2, ![32768, 512]⟩ : Shape).Idx) => ?_
  rw [eq_ix2 i]
  exact plain _ _ _ _ (fun e => ⟨1024 + e.val, by omega⟩) (cols5 _) _ _

theorem value6 : (dats m 0 c).arrAt 6 cfg0.N = scaledPart (argX m c) (argW m c) (argG m c) 512 1536 (by decide) := by
  rw [arr6, V_v0, V_v44, V_v40]
  refine funext fun (i : (⟨2, ![32768, 512]⟩ : Shape).Idx) => ?_
  rw [eq_ix2 i]
  exact scaled _ _ _ _ (fun e => ⟨1536 + e.val, by omega⟩) (cols6 _) _ _

theorem value7 : (dats m 0 c).arrAt 7 cfg0.N = part (argX m c) (argW m c) (argG m c) 256 2048 (by decide) := by
  rw [arr7, V_v0, V_v44, V_v40]
  refine funext fun (i : (⟨2, ![32768, 256]⟩ : Shape).Idx) => ?_
  rw [eq_ix2 i]
  exact plain _ _ _ _ (fun e => ⟨2048 + e.val, by omega⟩) (cols7 _) _ _

theorem value8 : (dats m 0 c).arrAt 8 cfg0.N = paired (argX m c) (argW m c) (argG m c) 2432 (by decide) := by
  rw [arr8, V_v0, V_v44, V_v40]
  refine funext fun (i : (⟨2, ![32768, 256]⟩ : Shape).Idx) => ?_
  rw [eq_ix2 i]
  exact plain _ _ _ _ (fun e => ⟨2432 + (once e).val, by omega⟩) (cols8 _) _ _

theorem value9 : (dats m 0 c).arrAt 9 cfg0.N = paired (argX m c) (argW m c) (argG m c) 2688 (by decide) := by
  rw [arr9, V_v0, V_v44, V_v40]
  refine funext fun (i : (⟨2, ![32768, 256]⟩ : Shape).Idx) => ?_
  rw [eq_ix2 i]
  exact plain _ _ _ _ (fun e => ⟨2688 + (once e).val, by omega⟩) (cols9 _) _ _

theorem value10 : (dats m 0 c).arrAt 10 cfg0.N = padded (argX m c) (argW m c) (argG m c) := by
  rw [arr10, V_v0, V_v44, V_v40]
  exact padded_eq _ _ _

theorem value11 : (dats m 0 c).arrAt 11 cfg0.N = flip (part (argX m c) (argW m c) (argG m c) 512 512 (by decide)) := by
  rw [arr11, V_v0, V_v44, V_v43]
  refine funext fun (i : (⟨2, ![512, 32768]⟩ : Shape).Idx) => ?_
  rw [eq_ix2 i]
  exact turned _ _ _ _ (fun e => ⟨512 + e.val, by omega⟩) (cols11 _) _ _

theorem value12 : (dats m 0 c).arrAt 12 cfg0.N = flip (paired (argX m c) (argW m c) (argG m c) 2304 (by decide)) := by
  rw [arr12, V_v0, V_v44, V_v43]
  refine funext fun (i : (⟨2, ![256, 32768]⟩ : Shape).Idx) => ?_
  rw [eq_ix2 i]
  exact turned _ _ _ _ (fun e => ⟨2304 + (once e).val, by omega⟩) (cols12 _) _ _

theorem value13 : (dats m 0 c).arrAt 13 cfg0.N = flip (paired (argX m c) (argW m c) (argG m c) 2560 (by decide)) := by
  rw [arr13, V_v0, V_v44, V_v43]
  refine funext fun (i : (⟨2, ![256, 32768]⟩ : Shape).Idx) => ?_
  rw [eq_ix2 i]
  exact turned _ _ _ _ (fun e => ⟨2560 + (once e).val, by omega⟩) (cols13 _) _ _

end

end Cert.InProjIdeal.Proj

end
-- ==== Proof.InReference.lean ====
/-
  The reference of the input projection computes the specification's arrays.
-/
module

public import proofs.«01_k».proof.Proof.InSpec
public import proofs.«01_k».proof.Proof.Gen.InReferenceIdeal.Read
public import Idealize.ShloMosaic.Lib.KernelVsHost

@[expose] public section

set_option maxRecDepth 16384

noncomputable section

namespace Cert.InReferenceIdeal.Proj

open Cert.InReferenceIdeal Cert.InReferenceIdeal.Gen Cert.InReferenceIdeal.Read Cert.Norm Cert.Proj
open Idealize.ShloMosaic Idealize.ShloMosaic.ValueIdx
open Idealize.ShloMosaic (Ideal)

variable (x : Hid) (w : Wts) (g : Gain)

/-- The norm of the hidden states. -/
theorem v13_apply (b : Fin 16) (p : Fin 2048) (k : Fin 1024) :
    val_main_v13 (F := Ideal) x g (ix3 b p k) = rms (fun l => x (ix3 b p l)) (fun l => g (ix2 0 l)) k := by
  have hs : val_main_v2 (F := Ideal) x (ix2 b p) = ∑ l : Fin 1024, x (ix3 b p l) * x (ix3 b p l) := by
    rw [val_main_v2_apply]
    have h0 : (val_main_cst (F := Ideal)) (Shape.Idx.first h_S_) = 0 := by
      show Ideal.ofBits .f32 0x00000000#32 = 0
      simp [Ideal.ofBits, Ideal.ieee]
    rw [h0, zero_add]
    refine Finset.sum_congr rfl fun l _ => ?_
    rw [val_main_v1_apply, show idx_main_v2 (ix2 b p) l = ix3 b p l from
      funext fun a => by match a with | ⟨0, _⟩ => rfl | ⟨1, _⟩ => rfl | ⟨2, _⟩ => rfl]
    rfl
  have hn : val_main_v9 (F := Ideal) x (ix3 b p k)
      = Ideal.rsqrt (Ideal.div (∑ l, x (ix3 b p l) * x (ix3 b p l)) (Ideal.ofBits .f32 0x44800000#32) + Ideal.ofBits .f32 0x358637BD#32) := by
    rw [val_main_v9_apply, val_main_v8_apply, val_main_v7_apply, val_main_v5_apply, val_main_v3_apply,
      show idx_main_v3 (idx_main_v9 (ix3 b p k)) = ix2 b p from funext fun a => by match a with | ⟨0, _⟩ => rfl | ⟨1, _⟩ => rfl, hs,
      val_main_v4_apply, val_main_v6_apply]
    rfl
  have hg : val_main_v12 (F := Ideal) g (ix3 b p k) = g (ix2 0 k) := by
    rw [val_main_v12_apply, val_main_v11_apply, val_main_v0_apply]
    refine congrArg g (funext fun a => ?_)
    match a with
    | ⟨0, _⟩ => rfl
    | ⟨1, _⟩ => exact Fin.ext (Nat.mod_eq_of_lt k.isLt)
  rw [val_main_v13_apply, val_main_v10_apply, hn, hg]
  rfl

/-- The projection of the flattened rows. -/
theorem v16_apply (t : Fin 32768) (j : Fin 2840) : val_main_v16 (F := Ideal) x w g (ix2 t j) = proj x w g t j := by
  have hj := j.isLt
  have hi : idx_main_v16 (ix2 t j) = ix3 (batch t) (pos t) j := by
    funext a
    match a with
    | ⟨0, _⟩ => exact Fin.ext (show (t.val * 2840 + j.val) / 5816320 = t.val / 2048 by omega)
    | ⟨1, _⟩ => exact Fin.ext (show (t.val * 2840 + j.val) / 2840 % 2048 = t.val % 2048 by omega)
    | ⟨2, _⟩ => exact Fin.ext (show (t.val * 2840 + j.val) % 2840 = j.val by omega)
  rw [val_main_v16_apply, hi, val_main_v15_apply]
  unfold proj
  refine Finset.sum_congr rfl fun k _ => congrArg₂ (· * ·) ?_ ?_
  · rw [← v13_apply]
    exact congrArg _ (funext fun a => by match a with | ⟨0, _⟩ => rfl | ⟨1, _⟩ => rfl | ⟨2, _⟩ => rfl)
  · rw [val_main_v14_apply]
    refine congrArg w (funext fun a => ?_)
    have hk := k.isLt
    match a with
    | ⟨0, _⟩ => rfl
    | ⟨1, _⟩ => exact Fin.ext (show (k.val * 2840 + j.val) / 2840 % 1024 = k.val by omega)
    | ⟨2, _⟩ => exact Fin.ext (show (k.val * 2840 + j.val) % 2840 = j.val by omega)

/-- The projection at an index given by its coordinates. -/
theorem v16_at (i : S32768x2840.Idx) (t : Fin 32768) (j : Fin 2840) (h0 : (i 0).val = t.val) (h1 : (i 1).val = j.val) :
    val_main_v16 (F := Ideal) x w g i = proj x w g t j := by
  rw [show i = ix2 t j from (eq_ix2 i).trans (congrArg₂ ix2 (Fin.ext h0) (Fin.ext h1))]
  exact v16_apply x w g t j

/-- Column `e` of the two heads each repeated, before the repetition. -/
theorem repeat_idx (t : Fin 32768) (e : Fin 256) :
    idx_main_v36 (idx_main_v37 (idx_main_v38 (idx_main_v39 (ix2 t e)))) = ix2 t (once e) := by
  have he := e.isLt
  have h39 : idx_main_v39 (ix2 t e) = ix3 t (⟨e.val / 64, by omega⟩ : Fin 4) (⟨e.val % 64, by omega⟩ : Fin 64) := by
    funext a
    match a with
    | ⟨0, _⟩ => exact Fin.ext (show (t.val * 256 + e.val) / 256 = t.val by omega)
    | ⟨1, _⟩ => exact Fin.ext (show (t.val * 256 + e.val) / 64 % 4 = e.val / 64 by omega)
    | ⟨2, _⟩ => exact Fin.ext (show (t.val * 256 + e.val) % 64 = e.val % 64 by omega)
  have h38 : idx_main_v37 (idx_main_v38 (ix3 t (⟨e.val / 64, by omega⟩ : Fin 4) (⟨e.val % 64, by omega⟩ : Fin 64)))
      = ix3 t (⟨e.val / 128, by omega⟩ : Fin 2) (⟨e.val % 64, by omega⟩ : Fin 64) := by
    funext a
    match a with
    | ⟨0, _⟩ => exact Fin.ext (show ((t.val * 4 + e.val / 64) * 64 + e.val % 64) / 256 = t.val by omega)
    | ⟨1, _⟩ => exact Fin.ext (show ((t.val * 4 + e.val / 64) * 64 + e.val % 64) / 128 % 2 = e.val / 128 by omega)
    | ⟨2, _⟩ => exact Fin.ext (show ((t.val * 4 + e.val / 64) * 64 + e.val % 64) % 64 = e.val % 64 by omega)
  rw [h39, h38]
  funext a
  match a with
  | ⟨0, _⟩ => exact Fin.ext (show ((t.val * 2 + e.val / 128) * 64 + e.val % 64) / 128 = t.val by omega)
  | ⟨1, _⟩ => exact Fin.ext (show ((t.val * 2 + e.val / 128) * 64 + e.val % 64) % 128 = e.val / 128 * 64 + e.val % 64 by omega)

theorem v30_eq : val_main_v30 (F := Ideal) x w g = scaledPart x w g 512 0 (by decide) := by
  refine funext fun (i : S32768x512.Idx) => ?_
  rw [val_main_v30_apply, val_main_v29_apply, val_main_v17_apply, val_main_v28_apply]
  exact congrArg (· * scale) (v16_at x w g _ (i 0) ⟨0 + (i 1).val, _⟩ rfl (Nat.zero_add _).symm)

theorem v31_eq : val_main_v31 (F := Ideal) x w g = part x w g 512 1024 (by decide) := by
  refine funext fun (i : S32768x512.Idx) => ?_
  rw [val_main_v31_apply, val_main_v19_apply]
  exact v16_at x w g _ (i 0) ⟨1024 + (i 1).val, _⟩ rfl rfl

theorem v34_eq : val_main_v34 (F := Ideal) x w g = scaledPart x w g 512 1536 (by decide) := by
  refine funext fun (i : S32768x512.Idx) => ?_
  rw [val_main_v34_apply, val_main_v33_apply, val_main_v20_apply, val_main_v32_apply]
  exact congrArg (· * scale) (v16_at x w g _ (i 0) ⟨1536 + (i 1).val, _⟩ rfl rfl)

theorem v35_eq : val_main_v35 (F := Ideal) x w g = part x w g 256 2048 (by decide) := by
  refine funext fun (i : S32768x256.Idx) => ?_
  obtain ⟨t, e, rfl⟩ : ∃ (t : Fin 32768) (e : Fin 256), i = ix2 t e := ⟨i 0, i 1, eq_ix2 i⟩
  unfold val_main_v35
  by_cases he : e.val < 128
  · refine (concatenate_pair_apply_left (t := S32768x256) (s₁ := S32768x128) (s₂ := S32768x128) 1 _ _
      concatenates_S32768x128_S32768x128_S32768x256_d1 (ix2 t e) rfl (ix2 (n0 := 32768) (n1 := 128) t ⟨e.val, he⟩) (fun b => ?_)).trans ?_
    · match b with | ⟨0, _⟩ => rfl | ⟨1, _⟩ => rfl
    · rw [val_main_v21_apply]
      exact v16_at x w g _ t ⟨2048 + e.val, _⟩ rfl rfl
  · refine (concatenate_pair_apply_right (t := S32768x256) (s₁ := S32768x128) (s₂ := S32768x128) 1 _ _
      concatenates_S32768x128_S32768x128_S32768x256_d1 (ix2 t e) rfl rfl (ix2 (n0 := 32768) (n1 := 128) t ⟨e.val - 128, by omega⟩) (fun b hb => ?_)
      (by show e.val - 128 + 128 = e.val; omega)).trans ?_
    · match b with | ⟨0, _⟩ => rfl | ⟨1, _⟩ => exact absurd rfl hb
    · rw [val_main_v22_apply]
      exact v16_at x w g _ t ⟨2048 + e.val, _⟩ rfl (by show 2176 + (e.val - 128) = 2048 + e.val; omega)

theorem v40_eq : val_main_v40 (F := Ideal) x w g = paired x w g 2432 (by decide) := by
  refine funext fun (i : S32768x256.Idx) => ?_
  obtain ⟨t, e, rfl⟩ : ∃ (t : Fin 32768) (e : Fin 256), i = ix2 t e := ⟨i 0, i 1, eq_ix2 i⟩
  rw [val_main_v40_apply, val_main_v39_apply, val_main_v38_apply, val_main_v37_apply, val_main_v36_apply, repeat_idx, val_main_v24_apply]
  exact v16_at x w g _ t ⟨2432 + (once e).val, _⟩ rfl rfl

theorem v45_eq : val_main_v45 (F := Ideal) x w g = paired x w g 2688 (by decide) := by
  refine funext fun (i : S32768x256.Idx) => ?_
  obtain ⟨t, e, rfl⟩ : ∃ (t : Fin 32768) (e : Fin 256), i = ix2 t e := ⟨i 0, i 1, eq_ix2 i⟩
  have h : idx_main_v41 (idx_main_v42 (idx_main_v43 (idx_main_v44 (ix2 t e)))) = ix2 t (once e) := repeat_idx t e
  rw [val_main_v45_apply, val_main_v44_apply, val_main_v43_apply, val_main_v42_apply, val_main_v41_apply, h, val_main_v26_apply]
  exact v16_at x w g _ t ⟨2688 + (once e).val, _⟩ rfl rfl

theorem v46_eq : val_main_v46 (F := Ideal) x w g = padded x w g := by
  refine funext fun (i : S32768x128.Idx) => ?_
  obtain ⟨t, e, rfl⟩ : ∃ (t : Fin 32768) (e : Fin 128), i = ix2 t e := ⟨i 0, i 1, eq_ix2 i⟩
  unfold val_main_v46 padded
  by_cases h : e.val < 24
  · refine (pad_apply_of_inside _ _ _ _ _ _ _ _ (ix2 (n0 := 32768) (n1 := 24) t ⟨e.val, h⟩) fun a => ?_).trans ?_
    · match a with
      | ⟨0, _⟩ => show t.val = 0 + t.val * 1; omega
      | ⟨1, _⟩ => show e.val = 0 + e.val * 1; omega
    · rw [val_main_v27_apply]
      refine (v16_at x w g _ t ⟨2816 + e.val, by omega⟩ rfl rfl).trans (Eq.symm ?_)
      exact dif_pos (c := (ix2 t e 1).val < 24) h
  · refine (pad_apply_of_not_inside _ _ _ _ _ _ _ _ 1 fun hc => h ?_).trans ?_
    · have := hc.2.2
      have : (e.val - 0) / 1 < 24 := this
      omega
    · refine Eq.trans ?_ (dif_neg (c := (ix2 t e 1).val < 24) h).symm
      show (((0#32 : BitVec 32).toInt : ℝ) : EReal) = 0
      simp

theorem v48_eq : val_main_v48 (F := Ideal) x w g = flip (part x w g 512 512 (by decide)) := by
  refine funext fun (i : S512x32768.Idx) => ?_
  rw [val_main_v48_apply, val_main_v47_apply, val_main_v18_apply]
  exact v16_at x w g _ (i 1) ⟨512 + (i 0).val, _⟩ rfl rfl

theorem v54_eq : val_main_v54 (F := Ideal) x w g = flip (paired x w g 2304 (by decide)) := by
  refine funext fun (i : S256x32768.Idx) => ?_
  obtain ⟨e, t, rfl⟩ : ∃ (e : Fin 256) (t : Fin 32768), i = ix2 e t := ⟨i 0, i 1, eq_ix2 i⟩
  have h : idx_main_v49 (idx_main_v50 (idx_main_v51 (idx_main_v52 (idx_main_v53 (ix2 e t))))) = ix2 t (once e) := repeat_idx t e
  rw [val_main_v54_apply, val_main_v53_apply, val_main_v52_apply, val_main_v51_apply, val_main_v50_apply, val_main_v49_apply, h, val_main_v23_apply]
  exact v16_at x w g _ t ⟨2304 + (once e).val, _⟩ rfl rfl

theorem v60_eq : val_main_v60 (F := Ideal) x w g = flip (paired x w g 2560 (by decide)) := by
  refine funext fun (i : S256x32768.Idx) => ?_
  obtain ⟨e, t, rfl⟩ : ∃ (e : Fin 256) (t : Fin 32768), i = ix2 e t := ⟨i 0, i 1, eq_ix2 i⟩
  have h : idx_main_v55 (idx_main_v56 (idx_main_v57 (idx_main_v58 (idx_main_v59 (ix2 e t))))) = ix2 t (once e) := repeat_idx t e
  rw [val_main_v60_apply, val_main_v59_apply, val_main_v58_apply, val_main_v57_apply, val_main_v56_apply, val_main_v55_apply, h, val_main_v25_apply]
  exact v16_at x w g _ t ⟨2560 + (once e).val, _⟩ rfl rfl

end Cert.InReferenceIdeal.Proj

end
-- ==== Proof.InClaim.lean ====
/-
  The claims of the input projection: the programs run and leave their arguments, and the kernel's ten arrays are the reference's.
-/
module

public import proofs.«01_k».proof.Defs
public import proofs.«01_k».proof.Proof.InValue
public import proofs.«01_k».proof.Proof.InReference
public import proofs.«01_k».proof.Proof.Gen.InProj.Frame
public import proofs.«01_k».proof.Proof.Gen.InProjIdeal.Value
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Cert.Proj Cert.InProjIdeal.Proj
open Idealize.ShloMosaic Idealize.ShloMosaic.TcCoe Idealize.SL.Sem
open Idealize.ShloMosaic (Ideal)

theorem frame_inProj : Cert.quiescent_InProj (hInProj := Cert.InProj.Gen.facts) := fun m ρ _ => Cert.InProj.Gen.frame m ρ

theorem frame_inProjIdeal : Cert.quiescent_InProjIdeal (hInProjIdeal := Cert.InProjIdeal.Gen.facts) :=
  fun m ρ _ => Cert.InProjIdeal.Gen.frame m ρ

theorem frame_inReference : Cert.quiescent_InReferenceIdeal (hInReferenceIdeal := Cert.InReferenceIdeal.Gen.facts) := fun m ρ _ =>
  (θ_run Cert.InReferenceIdeal.defs _ _).mono
    (fun r h => ⟨fun c => (h c).2.2.2.2.2.2.2.2.2.2, sem_eq_zero_of_no_sems (by decide) r.2⟩) (Cert.InReferenceIdeal.Value.run m ρ)

/-- A value of equal arguments is the same. -/
theorem agree {α : Type} (f : Hid → Wts → Gain → α) {x x' : Hid} {w w' : Wts} {g g' : Gain} (hx : x' = x) (hw : w' = w) (hg : g' = g) :
    f x' w' g' = f x w g := by
  subst hx hw hg
  rfl

/-- The kernel's ten arrays are the reference's. -/
theorem algebraic_inProj : Cert.algebraic_InProjIdeal_InReferenceIdeal (hInProjIdeal := Cert.InProjIdeal.Gen.facts)
    (hInReferenceIdeal := Cert.InReferenceIdeal.Gen.facts) := by
  intro m ρ m' ρ' _ hagree
  refine ⟨fun c => scaledPart (argX m c) (argW m c) (argG m c) 512 0 (by decide),
    fun c => part (argX m c) (argW m c) (argG m c) 512 1024 (by decide),
    fun c => scaledPart (argX m c) (argW m c) (argG m c) 512 1536 (by decide),
    fun c => part (argX m c) (argW m c) (argG m c) 256 2048 (by decide),
    fun c => paired (argX m c) (argW m c) (argG m c) 2432 (by decide),
    fun c => paired (argX m c) (argW m c) (argG m c) 2688 (by decide),
    fun c => padded (argX m c) (argW m c) (argG m c),
    fun c => flip (part (argX m c) (argW m c) (argG m c) 512 512 (by decide)),
    fun c => flip (paired (argX m c) (argW m c) (argG m c) 2304 (by decide)),
    fun c => flip (paired (argX m c) (argW m c) (argG m c) 2560 (by decide)), ?_, ?_⟩
  · refine (θ_run Cert.InProjIdeal.defs _ _).mono (fun r h c => ?_) (Cert.InProjIdeal.Value.run_blocks m ρ)
    obtain ⟨h0, h1, h2, h3, h4, h5, h6, h7, h8, h9, hargs⟩ := h c
    exact ⟨h0.trans (value4 m c), h1.trans (value5 m c), h2.trans (value6 m c), h3.trans (value7 m c), h4.trans (value8 m c), h5.trans (value9 m c), h6.trans (value10 m c), h7.trans (value11 m c), h8.trans (value12 m c), h9.trans (value13 m c), hargs⟩
  · refine (θ_run Cert.InReferenceIdeal.defs _ _).mono (fun r h c => ?_) (Cert.InReferenceIdeal.Value.run (F := Ideal) m' ρ')
    obtain ⟨h0, h1, h2, h3, h4, h5, h6, h7, h8, h9, hargs⟩ := h c
    obtain ⟨hx, hw, hg⟩ := hagree c
    exact ⟨h0.trans ((Cert.InReferenceIdeal.Read.val_main_v30_eq (F := Ideal) _ _ _).trans ((Cert.InReferenceIdeal.Proj.v30_eq _ _ _).trans
        (agree (fun x w g => scaledPart x w g 512 0 (by decide)) hx hw hg))),
      h1.trans ((Cert.InReferenceIdeal.Read.val_main_v31_eq (F := Ideal) _ _ _).trans ((Cert.InReferenceIdeal.Proj.v31_eq _ _ _).trans
        (agree (fun x w g => part x w g 512 1024 (by decide)) hx hw hg))),
      h2.trans ((Cert.InReferenceIdeal.Read.val_main_v34_eq (F := Ideal) _ _ _).trans ((Cert.InReferenceIdeal.Proj.v34_eq _ _ _).trans
        (agree (fun x w g => scaledPart x w g 512 1536 (by decide)) hx hw hg))),
      h3.trans ((Cert.InReferenceIdeal.Read.val_main_v35_eq (F := Ideal) _ _ _).trans ((Cert.InReferenceIdeal.Proj.v35_eq _ _ _).trans
        (agree (fun x w g => part x w g 256 2048 (by decide)) hx hw hg))),
      h4.trans ((Cert.InReferenceIdeal.Read.val_main_v40_eq (F := Ideal) _ _ _).trans ((Cert.InReferenceIdeal.Proj.v40_eq _ _ _).trans
        (agree (fun x w g => paired x w g 2432 (by decide)) hx hw hg))),
      h5.trans ((Cert.InReferenceIdeal.Read.val_main_v45_eq (F := Ideal) _ _ _).trans ((Cert.InReferenceIdeal.Proj.v45_eq _ _ _).trans
        (agree (fun x w g => paired x w g 2688 (by decide)) hx hw hg))),
      h6.trans ((Cert.InReferenceIdeal.Read.val_main_v46_eq (F := Ideal) _ _ _).trans ((Cert.InReferenceIdeal.Proj.v46_eq _ _ _).trans
        (agree (fun x w g => padded x w g) hx hw hg))),
      h7.trans ((Cert.InReferenceIdeal.Read.val_main_v48_eq (F := Ideal) _ _ _).trans ((Cert.InReferenceIdeal.Proj.v48_eq _ _ _).trans
        (agree (fun x w g => flip (part x w g 512 512 (by decide))) hx hw hg))),
      h8.trans ((Cert.InReferenceIdeal.Read.val_main_v54_eq (F := Ideal) _ _ _).trans ((Cert.InReferenceIdeal.Proj.v54_eq _ _ _).trans
        (agree (fun x w g => flip (paired x w g 2304 (by decide))) hx hw hg))),
      h9.trans ((Cert.InReferenceIdeal.Read.val_main_v60_eq (F := Ideal) _ _ _).trans ((Cert.InReferenceIdeal.Proj.v60_eq _ _ _).trans
        (agree (fun x w g => flip (paired x w g 2560 (by decide))) hx hw hg))), hargs⟩

end Cert.Proof

end
-- ==== Proof.MixSpec.lean ====
/-
  What the mixing of the branches computes: the gated sum of the three attentions, joined with the differential attention's
  result, through the output weights, added to the hidden states; the norm of the sum; and that norm's product with the
  weights of the next queries.
-/
module

public import proofs.«01_k».proof.Proof.InSpec

@[expose] public section

set_option maxRecDepth 16384

noncomputable section

namespace Cert.Mix

open Cert.Norm Cert.Proj
open Idealize.ShloMosaic Idealize.ShloMosaic.ValueIdx
open Idealize.ShloMosaic (Ideal)

/-- What one row of each operand holds: the hidden states, the four attentions and the logits of the gates. -/
structure Row where
  x : Fin 1024 → EReal
  d : Fin 512 → EReal
  c : Fin 512 → EReal
  s : Fin 512 → EReal
  w : Fin 512 → EReal
  g : Fin 24 → EReal

variable (R : Row) (wo : Fin 1024 → Fin 1024 → EReal) (g : Fin 1024 → EReal) (wq : Fin 1024 → Fin 2048 → EReal)

/-- The logit of branch `b` for the head of column `e`. -/
def logit (b : Fin 3) (e : Fin 512) : Fin 24 := ⟨3 * (e.val / 64) + b.val, by omega⟩

/-- The gate of branch `b` for the head of column `e`. -/
def Row.gate (b : Fin 3) (e : Fin 512) : EReal := Ideal.logistic (R.g (logit b e))

/-- The three branches under their gates. -/
def Row.gated (e : Fin 512) : EReal := R.gate 0 e * R.c e + R.gate 1 e * R.s e + R.gate 2 e * R.w e

/-- The hidden states after the layer. -/
def Row.out (k : Fin 1024) : EReal :=
  R.x k + ((∑ l : Fin 512, R.d l * wo ⟨l.val, by omega⟩ k) + ∑ l : Fin 512, R.gated l * wo ⟨512 + l.val, by omega⟩ k)

/-- Their norm. -/
def Row.norm (k : Fin 1024) : EReal := rms (R.out wo) g k

/-- The next queries. -/
def Row.query (j : Fin 2048) : EReal := ∑ k : Fin 1024, R.norm wo g k * wq k j

/-- An attention's result. -/
abbrev Att : Type := FVec Ideal (⟨3, ![16, 2048, 512]⟩ : Shape) .bf16
/-- The logits of the gates. -/
abbrev Logits : Type := FVec Ideal (⟨3, ![16, 2048, 24]⟩ : Shape) .f32
/-- The output weights. -/
abbrev OutWts : Type := FVec Ideal (⟨3, ![1, 1024, 1024]⟩ : Shape) .f32
/-- The weights of the next queries. -/
abbrev QueryWts : Type := FVec Ideal (⟨3, ![1, 1024, 2048]⟩ : Shape) .f32

section

variable (x : Hid) (d c s w : Att) (ng : Logits) (o : OutWts) (gn : Gain) (q : QueryWts)

/-- The row of batch `b` and position `p`. -/
def rowAt (b : Fin 16) (p : Fin 2048) : Row :=
  ⟨fun k => x (ix3 b p k), fun k => d (ix3 b p k), fun k => c (ix3 b p k), fun k => s (ix3 b p k), fun k => w (ix3 b p k),
    fun k => ng (ix3 b p k)⟩

abbrev outW : Fin 1024 → Fin 1024 → EReal := fun l k => o (ix3 0 l k)
abbrev gainOf : Fin 1024 → EReal := fun k => gn (ix2 0 k)
abbrev queryW : Fin 1024 → Fin 2048 → EReal := fun k j => q (ix3 0 k j)

/-- The three results, one row per batch and position. -/
def outs : FVec Ideal (⟨2, ![32768, 1024]⟩ : Shape) .f32 :=
  fun i => (rowAt x d c s w ng (batch (i 0)) (pos (i 0))).out (outW o) (i 1)
def norms : FVec Ideal (⟨2, ![32768, 1024]⟩ : Shape) .bf16 :=
  fun i => (rowAt x d c s w ng (batch (i 0)) (pos (i 0))).norm (outW o) (gainOf gn) (i 1)
def queries : FVec Ideal (⟨2, ![32768, 2048]⟩ : Shape) .bf16 :=
  fun i => (rowAt x d c s w ng (batch (i 0)) (pos (i 0))).query (outW o) (gainOf gn) (queryW q) (i 1)

end

/-- A gate is a real number. -/
theorem logistic_real (y : EReal) : ∃ r : ℝ, Ideal.logistic y = (r : EReal) := by
  induction y using EReal.rec with
  | bot => exact ⟨0, Ideal.logistic_bot⟩
  | coe r => exact ⟨_, Ideal.logistic_coe r⟩
  | top => exact ⟨1, Ideal.logistic_top⟩

/-- What a gate less itself leaves. -/
theorem logistic_sub_self (y : EReal) : Ideal.logistic y - Ideal.logistic y = 0 := by
  obtain ⟨r, hr⟩ := logistic_real y
  rw [hr, ← EReal.coe_sub, sub_self, EReal.coe_zero]

end Cert.Mix

end
-- ==== Proof.MixBlock.lean ====
/-
  One grid point of the mixing: its 512 rows, the table that spreads the gates over the columns, and the weights.
-/
module

public import proofs.«01_k».proof.Proof.MixSpec
public import proofs.«01_k».proof.Proof.Gen.MixOutIdeal.Frame

@[expose] public section

set_option maxRecDepth 16384

noncomputable section

namespace Cert.MixOutIdeal.Mix

open Cert.MixOutIdeal Cert.MixOutIdeal.Gen Cert.Norm Cert.Mix
open Idealize.ShloMosaic Idealize.ShloMosaic.ValueIdx Idealize.SL.Sem
open Idealize.ShloMosaic (Ideal)

/-- The table that spreads the gates: for each branch, a one where the lane is the column's logit. -/
def Spreads (u : FVec Ideal S3x128x512 .bf16) : Prop :=
  ∀ (b : Fin 3) (l : Fin 128) (e : Fin 512), u (ix3 b l e) = if l.val = (logit b e).val then 1 else 0

/-- Row `r` of the operands' rows. -/
def rowOf {n : ℕ} (x0 : FVec Ideal (⟨2, ![n, 1024]⟩ : Shape) .f32) (x1 x2 x3 x4 : FVec Ideal (⟨2, ![n, 512]⟩ : Shape) .bf16)
    (x5 : FVec Ideal (⟨2, ![n, 128]⟩ : Shape) .f32) (r : Fin n) : Row :=
  ⟨fun k => x0 (ix2 r k), fun k => x1 (ix2 r k), fun k => x2 (ix2 r k), fun k => x3 (ix2 r k), fun k => x4 (ix2 r k),
    fun k => x5 (ix2 r ⟨k.val, by omega⟩)⟩

/-! ## Parts of the body -/

/-- A product of a block of rows, into zeros. -/
theorem prod_apply {k n : ℕ} (a : FVec Ideal (⟨2, ![512, k]⟩ : Shape) .bf16) (u : FVec Ideal (⟨2, ![k, n]⟩ : Shape) .bf16)
    (r : Fin 512) (c : Fin n) :
    FloatOps.matmul (DotDims.plain 512 k n) none a u (constant ⟨2, ![512, n]⟩ .f32 0x00000000#32) (ix2 r c)
      = ∑ l : Fin k, a (ix2 r l) * u (ix2 l c) := by
  refine (Ideal.matmul_plain_apply none a u _ r c).trans ?_
  rw [constant_apply, Ideal.ofBits_zero_f32, zero_add]

theorem high_apply (v0 : Vec Ideal S512x128 .f32) (r : Fin 512) (l : Fin 128) :
    k0_pay4 v0 (ix2 r l) = Ideal.logistic (v0 (ix2 r l)) := by
  unfold k0_pay4 k0_pay3
  rw [shapeCast_self]
  rfl

theorem low_apply (v0 : Vec Ideal S512x128 .f32) (r : Fin 512) (l : Fin 128) : k0_pay5 v0 (ix2 r l) = 0 := by
  refine Eq.trans ?_ (logistic_sub_self (v0 (ix2 r l)))
  unfold k0_pay5 k0_pay4 k0_pay3
  rw [shapeCast_self]
  rfl

/-- One branch of the table, as the body reads it. -/
def Lane (b : Fin 3) (v : Vec Ideal S1x128x512 .bf16) : Prop :=
  ∀ (l : Fin 128) (e : Fin 512), v (ix3 0 l e) = if l.val = (logit b e).val then 1 else 0

theorem lane_cast {b : Fin 3} {v : Vec Ideal S1x128x512 .bf16} (hv : Lane b v) (l : Fin 128) (e : Fin 512) :
    (shapeCast S128x512 v shapeCasts_S1x128x512_S128x512 : FVec Ideal S128x512 .bf16) (ix2 l e) = if l.val = (logit b e).val then 1 else 0 := by
  refine (shapeCast_apply _ _ _ (ix3 0 l e) ?_).trans (hv l e)
  rw [Shape.rowMajor_val_three, Shape.rowMajor_val_two]
  show (0 * 128 + l.val) * 512 + e.val = l.val * 512 + e.val
  omega

/-- The gates spread over the columns, from their two parts. -/
theorem spread {b : Fin 3} {v v' : Vec Ideal S1x128x512 .bf16} (hv : Lane b v) (v0 : Vec Ideal S512x128 .f32) (r e : Fin 512) :
    addf (FloatOps.matmul (DotDims.plain 512 128 512) none (k0_pay4 v0) (shapeCast S128x512 v shapeCasts_S1x128x512_S128x512 : FVec Ideal S128x512 .bf16)
        (constant ⟨2, ![512, 512]⟩ .f32 0x00000000#32))
      (FloatOps.matmul (DotDims.plain 512 128 512) none (k0_pay5 v0) (shapeCast S128x512 v' shapeCasts_S1x128x512_S128x512 : FVec Ideal S128x512 .bf16)
        (constant ⟨2, ![512, 512]⟩ .f32 0x00000000#32)) (ix2 r e)
      = Ideal.logistic (v0 (ix2 r ⟨(logit b e).val, by omega⟩)) := by
  rw [addf_apply, prod_apply, prod_apply,
    show (∑ l : Fin 128, k0_pay5 v0 (ix2 r l) * (shapeCast S128x512 v' shapeCasts_S1x128x512_S128x512 : FVec Ideal S128x512 .bf16) (ix2 l e)) = 0 from
      Finset.sum_eq_zero fun l _ => by rw [low_apply, zero_mul], add_zero]
  refine (Finset.sum_eq_single (⟨(logit b e).val, by omega⟩ : Fin 128) (fun l _ hl => ?_) (fun h => absurd (Finset.mem_univ _) h)).trans ?_
  · rw [lane_cast hv, if_neg (fun h => hl (Fin.ext h)), mul_zero]
  · rw [lane_cast hv, if_pos rfl, mul_one, high_apply]

section

variable (x0 : Vec Ideal S512x1024 .f32) (x1 x2 x3 x4 : Vec Ideal S512x512 .bf16) (x5 : Vec Ideal S512x128 .f32)

/-- The first two branches under their gates. -/
theorem two_apply {v8 v11 v20 v23 : Vec Ideal S1x128x512 .bf16} (h0 : Lane 0 v8) (h1 : Lane 1 v20) (r e : Fin 512) :
    k0_pay6 x5 v8 v11 x2 v20 v23 x3 (ix2 r e)
      = (rowOf x0 x1 x2 x3 x4 x5 r).gate 0 e * x2 (ix2 r e) + (rowOf x0 x1 x2 x3 x4 x5 r).gate 1 e * x3 (ix2 r e) := by
  unfold k0_pay6
  rw [shapeCast_self, shapeCast_self]
  refine congrArg₂ (· + ·) ?_ ?_
  · refine Eq.trans ?_ (zero_add _)
    refine congrArg₂ (· + ·) Ideal.ofBits_zero_f32 ?_
    exact congrArg (· * _) (spread h0 x5 r e)
  · exact congrArg (· * _) (spread h1 x5 r e)

variable (v46 v50 : Vec Ideal S512x1024 .bf16)

/-- The rows after the output weights, given by their two halves. -/
theorem sum_apply {v8 v11 v20 v23 v32 v35 : Vec Ideal S1x128x512 .bf16} (h0 : Lane 0 v8) (h1 : Lane 1 v20) (h2 : Lane 2 v32)
    (wo : Fin 1024 → Fin 1024 → EReal) (hl : ∀ (l : Fin 512) (k : Fin 1024), v46 (ix2 l k) = wo ⟨l.val, by omega⟩ k)
    (hh : ∀ (l : Fin 512) (k : Fin 1024), v50 (ix2 l k) = wo ⟨512 + l.val, by omega⟩ k) (r : Fin 512) (k : Fin 1024) :
    k0_pay7 (k0_pay4 x5) (k0_pay5 x5) (k0_pay6 x5 v8 v11 x2 v20 v23 x3) v32 v35 x4 x1 v46 v50 x0 (ix2 r k)
      = (rowOf x0 x1 x2 x3 x4 x5 r).out wo k := by
  unfold k0_pay7
  rw [shapeCast_self, shapeCast_self, shapeCast_self, shapeCast_self, shapeCast_self]
  refine congrArg (x0 (ix2 r k) + ·) (congrArg₂ (· + ·) ?_ ?_)
  · refine (prod_apply x1 v46 r k).trans (Finset.sum_congr rfl fun l _ => ?_)
    exact congrArg (_ * ·) (hl l k)
  · refine (prod_apply _ v50 r k).trans (Finset.sum_congr rfl fun l _ => ?_)
    refine congrArg₂ (· * ·) ?_ (hh l k)
    exact congrArg₂ (· + ·) (two_apply x0 x1 x2 x3 x4 x5 h0 h1 r l) (congrArg (· * _) (spread h2 x5 r l))

end

end Cert.MixOutIdeal.Mix

end
-- ==== Proof.MixArray.lean ====
/-
  The three arrays the mixing leaves, in terms of the arrays it is given.
-/
module

public import proofs.«01_k».proof.Proof.MixBlock
public import Idealize.ShloMosaic.Lib.Pipeline.ValueKit.Geometry
public import Idealize.ShloMosaic.Lib.Pipeline.ValueKit.Tiles

@[expose] public section

set_option maxRecDepth 16384

noncomputable section

namespace Cert.MixOutIdeal.Mix

open Cert.MixOutIdeal Cert.MixOutIdeal.Gen Cert.Norm Cert.Mix
open Idealize.ShloMosaic Idealize.ShloMosaic.TcCoe Idealize.ShloMosaic.ValueIdx Idealize.SL.Sem
open Idealize.ShloMosaic (Ideal)

/-! ## The body's results -/

section

variable (x0 : Vec Ideal S512x1024 .f32) (x1 x2 x3 x4 : Vec Ideal S512x512 .bf16) (x5 : Vec Ideal S512x128 .f32)
  (x6 : Vec Ideal S3x128x512 .bf16) (x7 : Vec Ideal S1024x1024 .bf16) (x8 : Vec Ideal S1x1024 .f32) (x9 : Vec Ideal S1024x2048 .bf16)

/-- The matrices and the vector a body is given. -/
abbrev mat {n k : ℕ} (u : FVec Ideal (⟨2, ![n, k]⟩ : Shape) .bf16) : Fin n → Fin k → EReal := fun r c => u (ix2 r c)
abbrev vect (v : FVec Ideal (⟨2, ![1, 1024]⟩ : Shape) .f32) : Fin 1024 → EReal := fun k => v (ix2 0 k)

theorem ldRows (x : Vec Ideal S512x1024 .f32) : View.ld x r0_7 = x := View.ld_unit_zero (by funext a; fin_cases a <;> rfl) _ _
theorem ldAtt (x : Vec Ideal S512x512 .bf16) : View.ld x r0_2 = x := View.ld_unit_zero (by funext a; fin_cases a <;> rfl) _ _
theorem ldLogits (x : Vec Ideal S512x128 .f32) : View.ld x r0_0 = x := View.ld_unit_zero (by funext a; fin_cases a <;> rfl) _ _
theorem ldGain (x : Vec Ideal S1x1024 .f32) : View.ld x r0_8 = x := View.ld_unit_zero (by funext a; fin_cases a <;> rfl) _ _
theorem ldQuery (x : Vec Ideal S1024x2048 .bf16) : View.ld x r0_9 = x := View.ld_unit_zero (by funext a; fin_cases a <;> rfl) _ _

theorem lane0 (h : Spreads x6) : Lane 0 (View.ld x6 r0_1) := fun l e => by
  refine Eq.trans (View.ld_unit_apply_of _ _ _ _ _ _ fun a => ?_) (h 0 l e)
  match a with
  | ⟨0, _⟩ => rfl
  | ⟨1, _⟩ => exact (Nat.zero_add _).symm
  | ⟨2, _⟩ => exact (Nat.zero_add _).symm

theorem lane1 (h : Spreads x6) : Lane 1 (View.ld x6 r0_3) := fun l e => by
  refine Eq.trans (View.ld_unit_apply_of _ _ _ _ _ _ fun a => ?_) (h 1 l e)
  match a with
  | ⟨0, _⟩ => rfl
  | ⟨1, _⟩ => exact (Nat.zero_add _).symm
  | ⟨2, _⟩ => exact (Nat.zero_add _).symm

theorem lane2 (h : Spreads x6) : Lane 2 (View.ld x6 r0_4) := fun l e => by
  refine Eq.trans (View.ld_unit_apply_of _ _ _ _ _ _ fun a => ?_) (h 2 l e)
  match a with
  | ⟨0, _⟩ => rfl
  | ⟨1, _⟩ => exact (Nat.zero_add _).symm
  | ⟨2, _⟩ => exact (Nat.zero_add _).symm

theorem low_half (l : Fin 512) (k : Fin 1024) : View.ld x7 r0_5 (ix2 l k) = mat x7 ⟨l.val, by omega⟩ k :=
  View.ld_unit_apply_of _ _ _ _ _ _ fun a => by
    match a with
    | ⟨0, _⟩ => exact (Nat.zero_add _).symm
    | ⟨1, _⟩ => exact (Nat.zero_add _).symm

theorem high_half (l : Fin 512) (k : Fin 1024) : View.ld x7 r0_6 (ix2 l k) = mat x7 ⟨512 + l.val, by omega⟩ k :=
  View.ld_unit_apply_of _ _ _ _ _ _ fun a => by
    match a with
    | ⟨0, _⟩ => rfl
    | ⟨1, _⟩ => exact (Nat.zero_add _).symm

variable (h : Spreads x6) (r : Fin 512)

include h in
theorem out10_apply (k : Fin 1024) : out0_10 x0 x1 x2 x3 x4 x5 x6 x7 x8 x9 (ix2 r k) = (rowOf x0 x1 x2 x3 x4 x5 r).out (mat x7) k := by
  unfold out0_10 k0_pay9 k0_pay10 k0_pay11
  rw [View.canon_unit_zero (by funext a; fin_cases a <;> rfl), ldLogits, ldAtt, ldAtt, ldAtt, ldAtt, ldRows]
  exact sum_apply x0 x1 x2 x3 x4 x5 _ _ (lane0 x6 h) (lane1 x6 h) (lane2 x6 h) _ (low_half x7) (high_half x7) r k

include h in
theorem norm_apply (k : Fin 1024) :
    k0_pay1 (k0_pay12 x0 x1 x2 x3 x4 x5 x6 x7 x8 x9) x8 (ix2 r k) = (rowOf x0 x1 x2 x3 x4 x5 r).norm (mat x7) (vect x8) k := by
  unfold k0_pay1 k0_pay12 k0_pay8 k0_pay9 k0_pay10 k0_pay11
  rw [shapeCast_self, ldLogits, ldAtt, ldAtt, ldAtt, ldAtt, ldRows]
  refine (rms_block (by decide) _ x8 _ _ _ _ r k).trans ?_
  unfold Row.norm
  exact congrArg (fun y => rms y (vect x8) k) (funext fun l =>
    sum_apply x0 x1 x2 x3 x4 x5 _ _ (lane0 x6 h) (lane1 x6 h) (lane2 x6 h) _ (low_half x7) (high_half x7) r l)

include h in
theorem out11_apply (k : Fin 1024) :
    out0_11 x0 x1 x2 x3 x4 x5 x6 x7 x8 x9 (ix2 r k) = (rowOf x0 x1 x2 x3 x4 x5 r).norm (mat x7) (vect x8) k := by
  unfold out0_11
  rw [View.canon_unit_zero (by funext a; fin_cases a <;> rfl), ldGain]
  exact norm_apply x0 x1 x2 x3 x4 x5 x6 x7 x8 x9 h r k

include h in
theorem out12_apply (j : Fin 2048) :
    out0_12 x0 x1 x2 x3 x4 x5 x6 x7 x8 x9 (ix2 r j) = (rowOf x0 x1 x2 x3 x4 x5 r).query (mat x7) (vect x8) (mat x9) j := by
  unfold out0_12 k0_pay2
  rw [View.canon_unit_zero (by funext a; fin_cases a <;> rfl), ldGain, ldQuery, shapeCast_self]
  refine (prod_apply _ x9 r j).trans (Finset.sum_congr rfl fun k _ => ?_)
  exact congrArg (· * _) (norm_apply x0 x1 x2 x3 x4 x5 x6 x7 x8 x9 h r k)

end

/-! ## Which block each grid point reads and writes -/

theorem index0 : ∀ t : Fin cfg0.N, win0_0.index t = ![(grid0.coords t 0).val, 0] := (by decide +kernel : ∀ t : Fin grid0.N, _)
theorem index1 : ∀ t : Fin cfg0.N, win0_1.index t = ![(grid0.coords t 0).val, 0] := (by decide +kernel : ∀ t : Fin grid0.N, _)
theorem index2 : ∀ t : Fin cfg0.N, win0_2.index t = ![(grid0.coords t 0).val, 0] := (by decide +kernel : ∀ t : Fin grid0.N, _)
theorem index3 : ∀ t : Fin cfg0.N, win0_3.index t = ![(grid0.coords t 0).val, 0] := (by decide +kernel : ∀ t : Fin grid0.N, _)
theorem index4 : ∀ t : Fin cfg0.N, win0_4.index t = ![(grid0.coords t 0).val, 0] := (by decide +kernel : ∀ t : Fin grid0.N, _)
theorem index5 : ∀ t : Fin cfg0.N, win0_5.index t = ![(grid0.coords t 0).val, 0] := (by decide +kernel : ∀ t : Fin grid0.N, _)
theorem index10 : ∀ t : Fin cfg0.N, win0_10.index t = ![(grid0.coords t 0).val, 0] := (by decide +kernel : ∀ t : Fin grid0.N, _)
theorem index11 : ∀ t : Fin cfg0.N, win0_11.index t = ![(grid0.coords t 0).val, 0] := (by decide +kernel : ∀ t : Fin grid0.N, _)
theorem index12 : ∀ t : Fin cfg0.N, win0_12.index t = ![(grid0.coords t 0).val, 0] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)

/-- Row `r` of the block of grid point `t`. -/
def at_ (t : Fin cfg0.N) (r : Fin 512) : Fin 32768 := ⟨(grid0.coords t 0).val * 512 + r.val, by
  have : (grid0.coords t 0).val < 64 := (grid0.coords t 0).isLt
  omega⟩

variable (m : (ℓ : Loc nD τ sig) → Buf (Elt Ideal) ℓ) (c : Dev nD)

theorem blk0 (t : Fin cfg0.N) (r : Fin 512) (k : Fin 1024) : iblk m c 0 t (ix2 r k) = V m c main_v2 (ix2 (at_ t r) k) := by
  show V m c main_v2 ((win0_0.blk t).view.emb (ix2 r k)) = _
  refine congrArg (V m c main_v2) (funext fun a => Fin.ext ?_)
  match a with
  | ⟨0, _⟩ => blk_simp [index0]; rfl
  | ⟨1, _⟩ => blk_simp [index0]

theorem blk1 (t : Fin cfg0.N) (r : Fin 512) (k : Fin 512) : iblk m c 1 t (ix2 r k) = V m c main_v3 (ix2 (at_ t r) k) := by
  show V m c main_v3 ((win0_1.blk t).view.emb (ix2 r k)) = _
  refine congrArg (V m c main_v3) (funext fun a => Fin.ext ?_)
  match a with
  | ⟨0, _⟩ => blk_simp [index1]; rfl
  | ⟨1, _⟩ => blk_simp [index1]

theorem blk2 (t : Fin cfg0.N) (r : Fin 512) (k : Fin 512) : iblk m c 2 t (ix2 r k) = V m c main_v4 (ix2 (at_ t r) k) := by
  show V m c main_v4 ((win0_2.blk t).view.emb (ix2 r k)) = _
  refine congrArg (V m c main_v4) (funext fun a => Fin.ext ?_)
  match a with
  | ⟨0, _⟩ => blk_simp [index2]; rfl
  | ⟨1, _⟩ => blk_simp [index2]

theorem blk3 (t : Fin cfg0.N) (r : Fin 512) (k : Fin 512) : iblk m c 3 t (ix2 r k) = V m c main_v5 (ix2 (at_ t r) k) := by
  show V m c main_v5 ((win0_3.blk t).view.emb (ix2 r k)) = _
  refine congrArg (V m c main_v5) (funext fun a => Fin.ext ?_)
  match a with
  | ⟨0, _⟩ => blk_simp [index3]; rfl
  | ⟨1, _⟩ => blk_simp [index3]

theorem blk4 (t : Fin cfg0.N) (r : Fin 512) (k : Fin 512) : iblk m c 4 t (ix2 r k) = V m c main_v6 (ix2 (at_ t r) k) := by
  show V m c main_v6 ((win0_4.blk t).view.emb (ix2 r k)) = _
  refine congrArg (V m c main_v6) (funext fun a => Fin.ext ?_)
  match a with
  | ⟨0, _⟩ => blk_simp [index4]; rfl
  | ⟨1, _⟩ => blk_simp [index4]

theorem blk5 (t : Fin cfg0.N) (r : Fin 512) (k : Fin 128) : iblk m c 5 t (ix2 r k) = V m c main_v1 (ix2 (at_ t r) k) := by
  show V m c main_v1 ((win0_5.blk t).view.emb (ix2 r k)) = _
  refine congrArg (V m c main_v1) (funext fun a => Fin.ext ?_)
  match a with
  | ⟨0, _⟩ => blk_simp [index5]; rfl
  | ⟨1, _⟩ => blk_simp [index5]

theorem blk6 (t : Fin cfg0.N) : iblk m c 6 t = V m c main_v24 := by
  funext y
  show V m c main_v24 ((win0_6.blk t).view.emb y) = _
  refine congrArg (V m c main_v24) (funext fun x => Fin.ext ?_)
  match x with
  | ⟨0, _⟩ => blk_simp [index6]
  | ⟨1, _⟩ => blk_simp [index6]
  | ⟨2, _⟩ => blk_simp [index6]

theorem blk7 (t : Fin cfg0.N) : iblk m c 7 t = V m c main_v26 := by
  funext y
  show V m c main_v26 ((win0_7.blk t).view.emb y) = _
  refine congrArg (V m c main_v26) (funext fun x => Fin.ext ?_)
  match x with
  | ⟨0, _⟩ => blk_simp [index7]
  | ⟨1, _⟩ => blk_simp [index7]

theorem blk8 (t : Fin cfg0.N) : iblk m c 8 t = V m c main_v30 := by
  funext y
  show V m c main_v30 ((win0_8.blk t).view.emb y) = _
  refine congrArg (V m c main_v30) (funext fun x => Fin.ext ?_)
  match x with
  | ⟨0, _⟩ => blk_simp [index8]
  | ⟨1, _⟩ => blk_simp [index8]

theorem blk9 (t : Fin cfg0.N) : iblk m c 9 t = V m c main_v29 := by
  funext y
  show V m c main_v29 ((win0_9.blk t).view.emb y) = _
  refine congrArg (V m c main_v29) (funext fun x => Fin.ext ?_)
  match x with
  | ⟨0, _⟩ => blk_simp [index9]
  | ⟨1, _⟩ => blk_simp [index9]

/-! ## The arrays -/

/-- Row `t` of the operands. -/
def rowIn (t : Fin 32768) : Row := rowOf (V m c main_v2) (V m c main_v3) (V m c main_v4) (V m c main_v5) (V m c main_v6) (V m c main_v1) t

/-- Rows of equal entries are equal. -/
theorem rowOf_congr {n n' : ℕ} {y0 : FVec Ideal (⟨2, ![n, 1024]⟩ : Shape) .f32} {y1 y2 y3 y4 : FVec Ideal (⟨2, ![n, 512]⟩ : Shape) .bf16}
    {y5 : FVec Ideal (⟨2, ![n, 128]⟩ : Shape) .f32} {z0 : FVec Ideal (⟨2, ![n', 1024]⟩ : Shape) .f32}
    {z1 z2 z3 z4 : FVec Ideal (⟨2, ![n', 512]⟩ : Shape) .bf16} {z5 : FVec Ideal (⟨2, ![n', 128]⟩ : Shape) .f32} {r : Fin n} {r' : Fin n'}
    (h0 : ∀ k, y0 (ix2 r k) = z0 (ix2 r' k)) (h1 : ∀ k, y1 (ix2 r k) = z1 (ix2 r' k)) (h2 : ∀ k, y2 (ix2 r k) = z2 (ix2 r' k))
    (h3 : ∀ k, y3 (ix2 r k) = z3 (ix2 r' k)) (h4 : ∀ k, y4 (ix2 r k) = z4 (ix2 r' k)) (h5 : ∀ k, y5 (ix2 r k) = z5 (ix2 r' k)) :
    rowOf y0 y1 y2 y3 y4 y5 r = rowOf z0 z1 z2 z3 z4 z5 r' := by
  unfold rowOf
  simp only [h0, h1, h2, h3, h4, h5]

theorem row_blk (t : Fin cfg0.N) (r : Fin 512) :
    rowOf (iblk m c 0 t) (iblk m c 1 t) (iblk m c 2 t) (iblk m c 3 t) (iblk m c 4 t) (iblk m c 5 t) r = rowIn m c (at_ t r) :=
  rowOf_congr (fun k => blk0 m c t r k) (fun k => blk1 m c t r k) (fun k => blk2 m c t r k) (fun k => blk3 m c t r k)
    (fun k => blk4 m c t r k) (fun k => blk5 m c t r k)

/-- An array whose rows are a function of the rows of the operands. -/
def rowsBy {n : ℕ} {e : FTy} (f : Row → Fin n → EReal) : FVec Ideal (⟨2, ![32768, n]⟩ : Shape) e := fun i => f (rowIn m c (i 0)) (i 1)

/-- A row's value, once the place of the block is known. -/
theorem place (t : Fin cfg0.N) {n : ℕ} {e : FTy} (f : Row → Fin n → EReal) (r : Fin 512) (k : Fin n) (i : (⟨2, ![32768, n]⟩ : Shape).Idx)
    (h0 : (i 0).val = (grid0.coords t 0).val * 512 + r.val) (h1 : (i 1).val = k.val) :
    f (rowOf (iblk m c 0 t) (iblk m c 1 t) (iblk m c 2 t) (iblk m c 3 t) (iblk m c 4 t) (iblk m c 5 t) r) k = rowsBy (e := e) m c f i := by
  have hi : i = ix2 (at_ t r) k := funext fun a => Fin.ext (by
    match a with
    | ⟨0, _⟩ => exact h0
    | ⟨1, _⟩ => exact h1)
  subst hi
  rw [row_blk]
  rfl

variable (hs : Spreads (V m c main_v24))

include hs in
theorem arr10 : (dats m 0 c).arrAt 10 cfg0.N = rowsBy (e := .f32) m c (fun R => R.out (mat (V m c main_v26))) := by
  refine (dats m 0 c).arrAt_eq_of_covers 10 _ (by decide +kernel) fun t hf y => ?_
  blk_simp
  rw [after0_10]
  obtain ⟨r, e, rfl⟩ : ∃ (r : Fin 512) (e : Fin 1024), y = ix2 r e := ⟨y 0, y 1, eq_ix2 y⟩
  refine (out10_apply _ _ _ _ _ _ _ _ _ _ (by rw [blk6]; exact hs) r e).trans ?_
  rw [blk7]
  exact place m c t (e := .f32) (fun R => R.out (mat (V m c main_v26))) r e _ (by blk_simp [index10]) (by blk_simp [index10])

include hs in
theorem arr11 : (dats m 0 c).arrAt 11 cfg0.N = rowsBy (e := .bf16) m c (fun R => R.norm (mat (V m c main_v26)) (vect (V m c main_v30))) := by
  refine (dats m 0 c).arrAt_eq_of_covers 11 _ (by decide +kernel) fun t hf y => ?_
  blk_simp
  rw [after0_11]
  obtain ⟨r, e, rfl⟩ : ∃ (r : Fin 512) (e : Fin 1024), y = ix2 r e := ⟨y 0, y 1, eq_ix2 y⟩
  refine (out11_apply _ _ _ _ _ _ _ _ _ _ (by rw [blk6]; exact hs) r e).trans ?_
  rw [blk7, blk8]
  exact place m c t (e := .bf16) (fun R => R.norm (mat (V m c main_v26)) (vect (V m c main_v30))) r e _ (by blk_simp [index11]) (by blk_simp [index11])

include hs in
theorem arr12 : (dats m 0 c).arrAt 12 cfg0.N
    = rowsBy (e := .bf16) m c (fun R => R.query (mat (V m c main_v26)) (vect (V m c main_v30)) (mat (V m c main_v29))) := by
  refine (dats m 0 c).arrAt_eq_of_covers 12 _ (by decide +kernel) fun t hf y => ?_
  blk_simp
  rw [after0_12]
  obtain ⟨r, e, rfl⟩ : ∃ (r : Fin 512) (e : Fin 2048), y = ix2 r e := ⟨y 0, y 1, eq_ix2 y⟩
  refine (out12_apply _ _ _ _ _ _ _ _ _ _ (by rw [blk6]; exact hs) r e).trans ?_
  rw [blk7, blk8, blk9]
  exact place m c t (e := .bf16) (fun R => R.query (mat (V m c main_v26)) (vect (V m c main_v30)) (mat (V m c main_v29))) r e _
    (by blk_simp [index12]) (by blk_simp [index12])

end Cert.MixOutIdeal.Mix

end
-- ==== Proof.MixHost.lean ====
/-
  The operands of the mixing: what the program prepares of its arguments, among it the table that spreads the gates.
-/
module

public import proofs.«01_k».proof.Proof.MixBlock
public import Idealize.ShloMosaic.Lib.KernelVsHost
public import Idealize.ShloMosaic.Lib.IdealHost
public import Idealize.ShloMosaic.Lib.Claim

@[expose] public section

set_option maxRecDepth 16384

noncomputable section

namespace Cert.MixOutIdeal.Mix

open Cert.MixOutIdeal Cert.MixOutIdeal.Gen Cert.Norm Cert.Proj Cert.Mix
open Idealize.ShloMosaic Idealize.ShloMosaic.TcCoe Idealize.ShloMosaic.ValueIdx Idealize.SL.Sem
open Idealize.ShloMosaic (Ideal)

/-! ## The terms -/

/-- Three times the head, plus the branch. -/
def lanes : IVec S3x1x8x1 32 :=
  addi (broadcastInDim S3x1x8x1 ![0, 1, 2, 3] bcast_S1x1x8x1_S3x1x8x1_0_1_2_3
      (muli (broadcastInDim S1x1x8x1 ![] bcast_S_S1x1x8x1 (constantI S_ 32 3#32))
        (broadcastInDim S1x1x8x1 ![2] bcast_S8_S1x1x8x1_2 (iotaInDim S8 32 0))))
    (broadcastInDim S3x1x8x1 ![0, 1, 2, 3] bcast_S3x1x1x1_S3x1x8x1_0_1_2_3
      (broadcastInDim S3x1x1x1 ![0] bcast_S3_S3x1x1x1_0 (iotaInDim S3 32 0)))

/-- Whether the lane is the head's and the branch's. -/
def hits : IVec S3x128x8x1 1 :=
  cmpi .eq (broadcastInDim S3x128x8x1 ![0, 1, 2, 3] bcast_S1x128x1x1_S3x128x8x1_0_1_2_3
      (broadcastInDim S1x128x1x1 ![1] bcast_S128_S1x128x1x1_1 (iotaInDim S128 32 0)))
    (broadcastInDim S3x128x8x1 ![0, 1, 2, 3] bcast_S3x1x8x1_S3x128x8x1_0_1_2_3 lanes)

/-- The table. -/
def table : FVec Ideal S3x128x512 .bf16 :=
  truncf .bf16 (shapeCast S3x128x512 (broadcastInDim S3x128x8x64 ![0, 1, 2, 3] bcast_S3x128x8x1_S3x128x8x64_0_1_2_3
    (uitofp (F := Ideal) .f32 hits)) shapeCasts_S3x128x8x64_S3x128x512) bitsLt_bf16_f32

/-- The logits, padded with zeros to 128 lanes. -/
def padded (y : FVec Ideal S16x2048x24 .f32) : FVec Ideal S32768x128 .f32 :=
  pad S32768x128 ![0, 0] ![0, 104] ![0, 0] (shapeCast S32768x24 y shapeCasts_S16x2048x24_S32768x24)
    (sitofp .f32 (constantI S_ 32 0#32)) pads_S32768x24_S32768x128_000_01040 h_S_

/-! ## The contents of the operands -/

section

variable (m : (ℓ : Loc nD τ sig) → Buf (Elt Ideal) ℓ) (c : Dev nD)

set_option maxHeartbeats 8000000 in
theorem V_v2 : V m c main_v2 = shapeCast S32768x1024 (m ((c : Thread nD τ).loc main_arg0)) shapeCasts_S16x2048x1024_S32768x1024 := by
  show StableHlo.after (List.flatten [hostOps0, hostOps0_1, hostOps0_2]) (fun b => m (c, b)) (Proc.tc.devRef main_v2) = _
  simp only [hostOps0, hostOps0_1, hostOps0_2, List.flatten_cons, List.flatten_nil, List.append_nil, List.cons_append, List.nil_append]
  after_results_simp
  rfl

set_option maxHeartbeats 8000000 in
theorem V_v3 : V m c main_v3 = shapeCast S32768x512 (m ((c : Thread nD τ).loc main_arg1)) shapeCasts_S16x2048x512_S32768x512 := by
  show StableHlo.after (List.flatten [hostOps0, hostOps0_1, hostOps0_2]) (fun b => m (c, b)) (Proc.tc.devRef main_v3) = _
  simp only [hostOps0, hostOps0_1, hostOps0_2, List.flatten_cons, List.flatten_nil, List.append_nil, List.cons_append, List.nil_append]
  after_results_simp
  rfl

set_option maxHeartbeats 8000000 in
theorem V_v4 : V m c main_v4 = shapeCast S32768x512 (m ((c : Thread nD τ).loc main_arg2)) shapeCasts_S16x2048x512_S32768x512 := by
  show StableHlo.after (List.flatten [hostOps0, hostOps0_1, hostOps0_2]) (fun b => m (c, b)) (Proc.tc.devRef main_v4) = _
  simp only [hostOps0, hostOps0_1, hostOps0_2, List.flatten_cons, List.flatten_nil, List.append_nil, List.cons_append, List.nil_append]
  after_results_simp
  rfl

set_option maxHeartbeats 8000000 in
theorem V_v5 : V m c main_v5 = shapeCast S32768x512 (m ((c : Thread nD τ).loc main_arg3)) shapeCasts_S16x2048x512_S32768x512 := by
  show StableHlo.after (List.flatten [hostOps0, hostOps0_1, hostOps0_2]) (fun b => m (c, b)) (Proc.tc.devRef main_v5) = _
  simp only [hostOps0, hostOps0_1, hostOps0_2, List.flatten_cons, List.flatten_nil, List.append_nil, List.cons_append, List.nil_append]
  after_results_simp
  rfl

set_option maxHeartbeats 8000000 in
theorem V_v6 : V m c main_v6 = shapeCast S32768x512 (m ((c : Thread nD τ).loc main_arg4)) shapeCasts_S16x2048x512_S32768x512 := by
  show StableHlo.after (List.flatten [hostOps0, hostOps0_1, hostOps0_2]) (fun b => m (c, b)) (Proc.tc.devRef main_v6) = _
  simp only [hostOps0, hostOps0_1, hostOps0_2, List.flatten_cons, List.flatten_nil, List.append_nil, List.cons_append, List.nil_append]
  after_results_simp
  rfl

set_option maxHeartbeats 8000000 in
theorem V_v1 : V m c main_v1 = padded (m ((c : Thread nD τ).loc main_arg5)) := by
  show StableHlo.after (List.flatten [hostOps0, hostOps0_1, hostOps0_2]) (fun b => m (c, b)) (Proc.tc.devRef main_v1) = _
  simp only [hostOps0, hostOps0_1, hostOps0_2, List.flatten_cons, List.flatten_nil, List.append_nil, List.cons_append, List.nil_append]
  after_results_simp
  rfl

set_option maxHeartbeats 16000000 in
theorem V_v24 : V m c main_v24 = table := by
  show StableHlo.after (List.flatten [hostOps0, hostOps0_1, hostOps0_2]) (fun b => m (c, b)) (Proc.tc.devRef main_v24) = _
  simp only [hostOps0, hostOps0_1, hostOps0_2, List.flatten_cons, List.flatten_nil, List.append_nil, List.cons_append, List.nil_append]
  after_results_simp
  rfl

set_option maxHeartbeats 8000000 in
theorem V_v26 : V m c main_v26
    = truncf .bf16 (shapeCast S1024x1024 (m ((c : Thread nD τ).loc main_arg6)) shapeCasts_S1x1024x1024_S1024x1024 : FVec Ideal S1024x1024 .f32) bitsLt_bf16_f32 := by
  show StableHlo.after (List.flatten [hostOps0, hostOps0_1, hostOps0_2]) (fun b => m (c, b)) (Proc.tc.devRef main_v26) = _
  simp only [hostOps0, hostOps0_1, hostOps0_2, List.flatten_cons, List.flatten_nil, List.append_nil, List.cons_append, List.nil_append]
  after_results_simp
  rfl

set_option maxHeartbeats 8000000 in
theorem V_v30 : V m c main_v30
    = shapeCast S1x1024 (shapeCast S1024 (m ((c : Thread nD τ).loc main_arg7)) shapeCasts_S1x1024_S1024) shapeCasts_S1024_S1x1024 := by
  show StableHlo.after (List.flatten [hostOps0, hostOps0_1, hostOps0_2]) (fun b => m (c, b)) (Proc.tc.devRef main_v30) = _
  simp only [hostOps0, hostOps0_1, hostOps0_2, List.flatten_cons, List.flatten_nil, List.append_nil, List.cons_append, List.nil_append]
  after_results_simp
  rfl

set_option maxHeartbeats 8000000 in
theorem V_v29 : V m c main_v29
    = truncf .bf16 (shapeCast S1024x2048 (m ((c : Thread nD τ).loc main_arg8)) shapeCasts_S1x1024x2048_S1024x2048 : FVec Ideal S1024x2048 .f32) bitsLt_bf16_f32 := by
  show StableHlo.after (List.flatten [hostOps0, hostOps0_1, hostOps0_2]) (fun b => m (c, b)) (Proc.tc.devRef main_v29) = _
  simp only [hostOps0, hostOps0_1, hostOps0_2, List.flatten_cons, List.flatten_nil, List.append_nil, List.cons_append, List.nil_append]
  after_results_simp
  rfl

end

end Cert.MixOutIdeal.Mix

end
-- ==== Proof.MixOperands.lean ====
/-
  The operands of the mixing at an index: the arguments' elements, and the table's ones and zeros.
-/
module

public import proofs.«01_k».proof.Proof.MixHost

@[expose] public section

set_option maxRecDepth 16384

noncomputable section

namespace Cert.MixOutIdeal.Mix

open Cert.MixOutIdeal Cert.MixOutIdeal.Gen Cert.Norm Cert.Proj Cert.Mix
open Idealize.ShloMosaic Idealize.ShloMosaic.ValueIdx
open Idealize.ShloMosaic (Ideal)

theorem lanes_apply (b : Fin 3) (h : Fin 8) : lanes (ix4 b 0 h 0) = 3#32 * BitVec.ofNat 32 h.val + BitVec.ofNat 32 b.val := by
  unfold lanes
  refine congrArg₂ (· + ·) ?_ ?_
  · refine (broadcastInDim_apply _ _ _ _ (ix4 0 0 h 0) fun a => ?_).trans (congrArg₂ (· * ·) ?_ ?_)
    · match a with | ⟨0, _⟩ => rfl | ⟨1, _⟩ => rfl | ⟨2, _⟩ => rfl | ⟨3, _⟩ => rfl
    · exact broadcastInDim_apply _ _ _ _ ix0 (fun a => a.elim0)
    · exact broadcastInDim_apply _ _ _ _ (ix1 h) (fun a => by match a with | ⟨0, _⟩ => rfl)
  · refine (broadcastInDim_apply _ _ _ _ (ix4 b 0 0 0) fun a => ?_).trans ?_
    · match a with | ⟨0, _⟩ => rfl | ⟨1, _⟩ => rfl | ⟨2, _⟩ => rfl | ⟨3, _⟩ => rfl
    · exact broadcastInDim_apply _ _ _ _ (ix1 b) (fun a => by match a with | ⟨0, _⟩ => rfl)

/-- The comparison of a lane with the lane of a head and a branch. -/
theorem lane_eq : ∀ (b : Fin 3) (l : Fin 128) (h : Fin 8),
    IntOp.cmpi .eq (BitVec.ofNat 32 l.val) (3#32 * BitVec.ofNat 32 h.val + BitVec.ofNat 32 b.val)
      = if l.val = 3 * h.val + b.val then 1#1 else 0#1 := by decide +kernel

theorem hits_apply (b : Fin 3) (l : Fin 128) (h : Fin 8) :
    hits (ix4 b l h 0) = if l.val = 3 * h.val + b.val then 1#1 else 0#1 := by
  refine Eq.trans ?_ (lane_eq b l h)
  unfold hits
  refine congrArg₂ (IntOp.cmpi .eq) ?_ ?_
  · refine (broadcastInDim_apply _ _ _ _ (ix4 0 l 0 0) fun a => ?_).trans ?_
    · match a with | ⟨0, _⟩ => rfl | ⟨1, _⟩ => rfl | ⟨2, _⟩ => rfl | ⟨3, _⟩ => rfl
    · exact broadcastInDim_apply _ _ _ _ (ix1 l) (fun a => by match a with | ⟨0, _⟩ => rfl)
  · refine (broadcastInDim_apply _ _ _ _ (ix4 b 0 h 0) fun a => ?_).trans (lanes_apply b h)
    match a with | ⟨0, _⟩ => rfl | ⟨1, _⟩ => rfl | ⟨2, _⟩ => rfl | ⟨3, _⟩ => rfl

theorem table_spreads : Spreads table := by
  intro b l e
  have he : e.val / 64 < 8 := by omega
  have hm : e.val % 64 < 64 := Nat.mod_lt _ (by decide)
  unfold table
  rw [truncf_apply]
  refine (shapeCast_apply _ _ _ (ix4 b l (⟨e.val / 64, he⟩ : Fin 8) (⟨e.val % 64, hm⟩ : Fin 64)) ?_).trans ?_
  · rw [Shape.rowMajor_val_three, Shape.rowMajor_val_four]
    show ((b.val * 128 + l.val) * 8 + e.val / 64) * 64 + e.val % 64 = (b.val * 128 + l.val) * 512 + e.val
    omega
  · refine (broadcastInDim_apply _ _ _ _ (ix4 b l (⟨e.val / 64, he⟩ : Fin 8) 0) fun a => ?_).trans ?_
    · match a with | ⟨0, _⟩ => rfl | ⟨1, _⟩ => rfl | ⟨2, _⟩ => rfl | ⟨3, _⟩ => rfl
    · show (((hits (ix4 b l (⟨e.val / 64, he⟩ : Fin 8) 0)).toNat : ℝ) : EReal) = _
      rw [hits_apply]
      show (((if l.val = 3 * (e.val / 64) + b.val then 1#1 else 0#1).toNat : ℝ) : EReal) = if l.val = 3 * (e.val / 64) + b.val then 1 else 0
      split <;> simp

/-- An array cast to one row per batch and position. -/
theorem rows_cast {α : Type} {n : ℕ} (x : (⟨3, ![16, 2048, n]⟩ : Shape).Idx → α)
    (h : (⟨3, ![16, 2048, n]⟩ : Shape).ShapeCasts ⟨2, ![32768, n]⟩) (t : Fin 32768) (k : Fin n) :
    shapeCast ⟨2, ![32768, n]⟩ x h (ix2 t k) = x (ix3 (batch t) (pos t) k) := by
  refine shapeCast_apply _ _ _ _ ?_
  rw [Shape.rowMajor_val_three, Shape.rowMajor_val_two]
  show (t.val / 2048 * 2048 + t.val % 2048) * n + k.val = t.val * n + k.val
  rw [Nat.div_add_mod']

theorem padded_apply (y : FVec Ideal S16x2048x24 .f32) (t : Fin 32768) (k : Fin 24) :
    padded y (ix2 t ⟨k.val, by omega⟩) = y (ix3 (batch t) (pos t) k) := by
  unfold padded
  refine (pad_apply_of_inside _ _ _ _ _ _ _ _ (ix2 (n0 := 32768) (n1 := 24) t k) fun a => ?_).trans (rows_cast y _ t k)
  match a with
  | ⟨0, _⟩ => show t.val = 0 + t.val * 1; omega
  | ⟨1, _⟩ => show k.val = 0 + k.val * 1; omega

/-- A matrix without its leading axis of one. -/
theorem flat_cast {α : Type} {n k : ℕ} (x : (⟨3, ![1, n, k]⟩ : Shape).Idx → α)
    (h : (⟨3, ![1, n, k]⟩ : Shape).ShapeCasts ⟨2, ![n, k]⟩) (r : Fin n) (c : Fin k) :
    shapeCast ⟨2, ![n, k]⟩ x h (ix2 r c) = x (ix3 0 r c) := by
  refine shapeCast_apply _ _ _ _ ?_
  rw [Shape.rowMajor_val_three, Shape.rowMajor_val_two]
  show (0 * n + r.val) * k + c.val = r.val * k + c.val
  rw [Nat.zero_mul, Nat.zero_add]

theorem gain_cast (g : FVec Ideal S1x1024 .f32) (k : Fin 1024) :
    shapeCast S1x1024 (shapeCast S1024 g shapeCasts_S1x1024_S1024) shapeCasts_S1024_S1x1024 (ix2 0 k) = g (ix2 0 k) := by
  rw [shapeCast_apply _ _ (ix2 0 k) (ix1 k) (by
      rw [Shape.rowMajor_val_one, Shape.rowMajor_val_two]
      show k.val = 0 * 1024 + k.val
      omega),
    shapeCast_apply _ _ (ix1 k) (ix2 0 k) (by
      rw [Shape.rowMajor_val_one, Shape.rowMajor_val_two]
      show 0 * 1024 + k.val = k.val
      omega)]

end Cert.MixOutIdeal.Mix

end
-- ==== Proof.MixValue.lean ====
/-
  The arrays the mixing leaves are the specification's.
-/
module

public import proofs.«01_k».proof.Proof.MixArray
public import proofs.«01_k».proof.Proof.MixOperands

@[expose] public section

set_option maxRecDepth 16384

noncomputable section

namespace Cert.MixOutIdeal.Mix

open Cert.MixOutIdeal Cert.MixOutIdeal.Gen Cert.Norm Cert.Proj Cert.Mix
open Idealize.ShloMosaic Idealize.ShloMosaic.TcCoe Idealize.ShloMosaic.ValueIdx Idealize.SL.Sem
open Idealize.ShloMosaic (Ideal)

variable (m : (ℓ : Loc nD τ sig) → Buf (Elt Ideal) ℓ) (c : Dev nD)

/-- The nine arguments on a device. -/
abbrev arg0 : Hid := m ((c : Thread nD τ).loc main_arg0)
abbrev arg1 : Att := m ((c : Thread nD τ).loc main_arg1)
abbrev arg2 : Att := m ((c : Thread nD τ).loc main_arg2)
abbrev arg3 : Att := m ((c : Thread nD τ).loc main_arg3)
abbrev arg4 : Att := m ((c : Thread nD τ).loc main_arg4)
abbrev arg5 : Logits := m ((c : Thread nD τ).loc main_arg5)
abbrev arg6 : OutWts := m ((c : Thread nD τ).loc main_arg6)
abbrev arg7 : Gain := m ((c : Thread nD τ).loc main_arg7)
abbrev arg8 : QueryWts := m ((c : Thread nD τ).loc main_arg8)

theorem spreads : Spreads (V m c main_v24) := by
  rw [V_v24]
  exact table_spreads

theorem rowIn_eq (t : Fin 32768) :
    rowIn m c t = rowAt (arg0 m c) (arg1 m c) (arg2 m c) (arg3 m c) (arg4 m c) (arg5 m c) (batch t) (pos t) := by
  unfold rowIn rowOf rowAt
  rw [V_v2, V_v3, V_v4, V_v5, V_v6, V_v1]
  simp only [rows_cast, padded_apply]

theorem weights_eq : mat (V m c main_v26) = outW (arg6 m c) := by
  rw [V_v26]
  exact funext fun l => funext fun k => flat_cast (arg6 m c) _ l k

theorem gain_eq : vect (V m c main_v30) = gainOf (arg7 m c) := by
  rw [V_v30]
  exact funext fun k => gain_cast (arg7 m c) k

theorem queryWeights_eq : mat (V m c main_v29) = queryW (arg8 m c) := by
  rw [V_v29]
  exact funext fun k => funext fun j => flat_cast (arg8 m c) _ k j

theorem value10 : (dats m 0 c).arrAt 10 cfg0.N
    = outs (arg0 m c) (arg1 m c) (arg2 m c) (arg3 m c) (arg4 m c) (arg5 m c) (arg6 m c) := by
  rw [arr10 m c (spreads m c), weights_eq]
  exact funext fun i => congrArg (fun R : Row => R.out (outW (arg6 m c)) (i 1)) (rowIn_eq m c (i 0))

theorem value11 : (dats m 0 c).arrAt 11 cfg0.N
    = norms (arg0 m c) (arg1 m c) (arg2 m c) (arg3 m c) (arg4 m c) (arg5 m c) (arg6 m c) (arg7 m c) := by
  rw [arr11 m c (spreads m c), weights_eq, gain_eq]
  exact funext fun i => congrArg (fun R : Row => R.norm (outW (arg6 m c)) (gainOf (arg7 m c)) (i 1)) (rowIn_eq m c (i 0))

theorem value12 : (dats m 0 c).arrAt 12 cfg0.N
    = queries (arg0 m c) (arg1 m c) (arg2 m c) (arg3 m c) (arg4 m c) (arg5 m c) (arg6 m c) (arg7 m c) (arg8 m c) := by
  rw [arr12 m c (spreads m c), weights_eq, gain_eq, queryWeights_eq]
  exact funext fun i =>
    congrArg (fun R : Row => R.query (outW (arg6 m c)) (gainOf (arg7 m c)) (queryW (arg8 m c)) (i 1)) (rowIn_eq m c (i 0))

end Cert.MixOutIdeal.Mix

end
-- ==== Proof.OutReference.lean ====
/-
  The reference of the mixing computes the specification's arrays.
-/
module

public import proofs.«01_k».proof.Proof.MixSpec
public import proofs.«01_k».proof.Proof.Gen.OutReferenceIdeal.Read
public import Idealize.ShloMosaic.Lib.KernelVsHost

@[expose] public section

set_option maxRecDepth 16384

noncomputable section

namespace Cert.OutReferenceIdeal.Mix

open Cert.OutReferenceIdeal Cert.OutReferenceIdeal.Gen Cert.OutReferenceIdeal.Read Cert.Norm Cert.Proj Cert.Mix
open Idealize.ShloMosaic Idealize.ShloMosaic.ValueIdx
open Idealize.ShloMosaic (Ideal)

variable (x : Hid) (d c s w : Att) (ng : Logits) (o : OutWts) (gn : Gain) (q : QueryWts)

/-! ## The gates -/

theorem one_eq : Ideal.ofBits .f32 0x3F800000#32 = 1 := by
  simp [Ideal.ofBits, Ideal.ieee]
  rw [← EReal.coe_one, ← EReal.coe_mul]
  norm_num

theorem v5_apply (i : S16x2048x24.Idx) : val_main_v5 (F := Ideal) ng i = Ideal.logistic (ng i) := by
  rw [val_main_v5_apply, val_main_v4_apply, val_main_v3_apply, val_main_v2_apply, val_main_v1_apply, val_main_v0_apply]
  show Ideal.div (Ideal.ofBits .f32 0x3F800000#32) (Ideal.ofBits .f32 0x3F800000#32 + Ideal.exp (-(ng i))) = _
  rw [one_eq]
  rfl

/-- The index of column `e` in the layout of two groups of four heads of 64. -/
def split (b : Fin 16) (p : Fin 2048) (e : Fin 512) : S16x2048x2x4x64.Idx :=
  ix5 b p (⟨e.val / 256, by omega⟩ : Fin 2) (⟨e.val / 64 % 4, by omega⟩ : Fin 4) (⟨e.val % 64, by omega⟩ : Fin 64)

theorem split_eq (b : Fin 16) (p : Fin 2048) (e : Fin 512) : idx_main_v24 (ix3 b p e) = split b p e := by
  have hb := b.isLt
  have hp := p.isLt
  have he := e.isLt
  funext a
  match a with
  | ⟨0, _⟩ => exact Fin.ext (show ((b.val * 2048 + p.val) * 512 + e.val) / 1048576 = b.val by omega)
  | ⟨1, _⟩ => exact Fin.ext (show ((b.val * 2048 + p.val) * 512 + e.val) / 512 % 2048 = p.val by omega)
  | ⟨2, _⟩ => exact Fin.ext (show ((b.val * 2048 + p.val) * 512 + e.val) / 256 % 2 = e.val / 256 by omega)
  | ⟨3, _⟩ => exact Fin.ext (show ((b.val * 2048 + p.val) * 512 + e.val) / 64 % 4 = e.val / 64 % 4 by omega)
  | ⟨4, _⟩ => exact Fin.ext (show ((b.val * 2048 + p.val) * 512 + e.val) % 64 = e.val % 64 by omega)

theorem join_eq (b : Fin 16) (p : Fin 2048) (e : Fin 512) : idx_main_v9 (split b p e) = ix3 b p e := by
  have hb := b.isLt
  have hp := p.isLt
  have he := e.isLt
  funext a
  match a with
  | ⟨0, _⟩ => exact Fin.ext (show ((((b.val * 2048 + p.val) * 2 + e.val / 256) * 4 + e.val / 64 % 4) * 64 + e.val % 64) / 1048576 = b.val by omega)
  | ⟨1, _⟩ => exact Fin.ext (show ((((b.val * 2048 + p.val) * 2 + e.val / 256) * 4 + e.val / 64 % 4) * 64 + e.val % 64) / 512 % 2048 = p.val by omega)
  | ⟨2, _⟩ => exact Fin.ext (show ((((b.val * 2048 + p.val) * 2 + e.val / 256) * 4 + e.val / 64 % 4) * 64 + e.val % 64) % 512 = e.val by omega)

/-- The logit a gate reads, in the layout of two groups of four heads of three branches. -/
theorem logit_eq (b : Fin 16) (p : Fin 2048) (e : Fin 512) (n : Fin 3) :
    idx_main_v6 (ix5 b p (⟨e.val / 256, by omega⟩ : Fin 2) (⟨e.val / 64 % 4, by omega⟩ : Fin 4) n) = ix3 b p (logit n e) := by
  have hb := b.isLt
  have hp := p.isLt
  have he := e.isLt
  have hn := n.isLt
  funext a
  match a with
  | ⟨0, _⟩ => exact Fin.ext (show ((((b.val * 2048 + p.val) * 2 + e.val / 256) * 4 + e.val / 64 % 4) * 3 + n.val) / 49152 = b.val by omega)
  | ⟨1, _⟩ => exact Fin.ext (show ((((b.val * 2048 + p.val) * 2 + e.val / 256) * 4 + e.val / 64 % 4) * 3 + n.val) / 24 % 2048 = p.val by omega)
  | ⟨2, _⟩ => exact Fin.ext (show ((((b.val * 2048 + p.val) * 2 + e.val / 256) * 4 + e.val / 64 % 4) * 3 + n.val) % 24 = 3 * (e.val / 64) + n.val by omega)

variable (b : Fin 16) (p : Fin 2048)

theorem v10_apply (e : Fin 512) : val_main_v10 (F := Ideal) ng (split b p e) = Ideal.logistic (ng (ix3 b p (logit 0 e))) := by
  rw [val_main_v10_apply, val_main_v7_apply, val_main_v6_apply, ← logit_eq]
  exact (v5_apply ng _).trans (congrArg (fun j => Ideal.logistic (ng (idx_main_v6 j)))
    (funext fun a => by match a with | ⟨0, _⟩ => rfl | ⟨1, _⟩ => rfl | ⟨2, _⟩ => rfl | ⟨3, _⟩ => rfl | ⟨4, _⟩ => rfl))

theorem v15_apply (e : Fin 512) : val_main_v15 (F := Ideal) ng (split b p e) = Ideal.logistic (ng (ix3 b p (logit 1 e))) := by
  rw [val_main_v15_apply, val_main_v12_apply, val_main_v6_apply, ← logit_eq]
  exact (v5_apply ng _).trans (congrArg (fun j => Ideal.logistic (ng (idx_main_v6 j)))
    (funext fun a => by match a with | ⟨0, _⟩ => rfl | ⟨1, _⟩ => rfl | ⟨2, _⟩ => rfl | ⟨3, _⟩ => rfl | ⟨4, _⟩ => rfl))

theorem v21_apply (e : Fin 512) : val_main_v21 (F := Ideal) ng (split b p e) = Ideal.logistic (ng (ix3 b p (logit 2 e))) := by
  rw [val_main_v21_apply, val_main_v18_apply, val_main_v6_apply, ← logit_eq]
  exact (v5_apply ng _).trans (congrArg (fun j => Ideal.logistic (ng (idx_main_v6 j)))
    (funext fun a => by match a with | ⟨0, _⟩ => rfl | ⟨1, _⟩ => rfl | ⟨2, _⟩ => rfl | ⟨3, _⟩ => rfl | ⟨4, _⟩ => rfl))

theorem v24_apply (e : Fin 512) : val_main_v24 (F := Ideal) c s w ng (ix3 b p e) = (rowAt x d c s w ng b p).gated e := by
  have h9 : val_main_v9 (F := Ideal) c (split b p e) = c (ix3 b p e) := by
    rw [val_main_v9_apply, join_eq]
    rfl
  have h14 : val_main_v14 (F := Ideal) s (split b p e) = s (ix3 b p e) := by
    rw [val_main_v14_apply, show idx_main_v14 (split b p e) = ix3 b p e from join_eq b p e]
    rfl
  have h20 : val_main_v20 (F := Ideal) w (split b p e) = w (ix3 b p e) := by
    rw [val_main_v20_apply, show idx_main_v20 (split b p e) = ix3 b p e from join_eq b p e]
    rfl
  rw [val_main_v24_apply, split_eq, val_main_v23_apply, val_main_v17_apply, val_main_v22_apply, val_main_v16_apply, val_main_v11_apply,
    v10_apply, v15_apply, v21_apply, h9, h14, h20]
  rfl

/-! ## The output weights -/

theorem v26_left (l : Fin 512) : val_main_v26 (F := Ideal) d c s w ng (ix3 b p (Fin.castAdd 512 l)) = d (ix3 b p l) := by
  unfold val_main_v26
  refine (concatenate_pair_apply_left (t := S16x2048x1024) (s₁ := S16x2048x512) (s₂ := S16x2048x512) 2 _ _
    concatenates_S16x2048x512_S16x2048x512_S16x2048x1024_d2 (ix3 b p (Fin.castAdd 512 l)) rfl (ix3 (n0 := 16) (n1 := 2048) (n2 := 512) b p l)
    (fun a => ?_)).trans rfl
  match a with | ⟨0, _⟩ => rfl | ⟨1, _⟩ => rfl | ⟨2, _⟩ => rfl

theorem v26_right (l : Fin 512) :
    val_main_v26 (F := Ideal) d c s w ng (ix3 b p (Fin.natAdd 512 l)) = (rowAt x d c s w ng b p).gated l := by
  unfold val_main_v26
  refine (concatenate_pair_apply_right (t := S16x2048x1024) (s₁ := S16x2048x512) (s₂ := S16x2048x512) 2 _ _
    concatenates_S16x2048x512_S16x2048x512_S16x2048x1024_d2 (ix3 b p (Fin.natAdd 512 l)) rfl rfl (ix3 (n0 := 16) (n1 := 2048) (n2 := 512) b p l)
    (fun a ha => ?_) (Nat.add_comm l.val 512)).trans (v24_apply x d c s w ng b p l)
  match a with | ⟨0, _⟩ => rfl | ⟨1, _⟩ => rfl | ⟨2, _⟩ => exact absurd rfl ha

theorem v27_apply (l k : Fin 1024) : val_main_v27 (F := Ideal) o (ix2 l k) = o (ix3 0 l k) := by
  have hl := l.isLt
  have hk := k.isLt
  rw [val_main_v27_apply]
  refine congrArg o (funext fun a => ?_)
  match a with
  | ⟨0, _⟩ => rfl
  | ⟨1, _⟩ => exact Fin.ext (show (l.val * 1024 + k.val) / 1024 % 1024 = l.val by omega)
  | ⟨2, _⟩ => exact Fin.ext (show (l.val * 1024 + k.val) % 1024 = k.val by omega)

/-- The hidden states after the layer. -/
theorem v29_apply (k : Fin 1024) :
    val_main_v29 (F := Ideal) x d c s w ng o (ix3 b p k) = (rowAt x d c s w ng b p).out (outW o) k := by
  have hl : ∀ j : Fin 1024, lidx_main_v28 (ix3 b p k) j = ix3 b p j := fun j => funext fun a => by
    match a with | ⟨0, _⟩ => rfl | ⟨1, _⟩ => rfl | ⟨2, _⟩ => rfl
  have hr : ∀ j : Fin 1024, ridx_main_v28 (ix3 b p k) j = ix2 j k := fun j => funext fun a => by
    match a with | ⟨0, _⟩ => rfl | ⟨1, _⟩ => rfl
  rw [val_main_v29_apply, val_main_v28_apply]
  refine congrArg (x (ix3 b p k) + ·) ?_
  refine (Fin.sum_univ_add (a := 512) (b := 512) _).trans (congrArg₂ (· + ·) ?_ ?_)
  · refine Finset.sum_congr rfl fun l _ => ?_
    rw [hl, hr, v26_left, v27_apply]
    rfl
  · refine Finset.sum_congr rfl fun l _ => ?_
    rw [hl, hr, v26_right x, v27_apply]
    rfl

/-! ## The norm and the next queries -/

theorem v43_apply (k : Fin 1024) :
    val_main_v43 (F := Ideal) x d c s w ng o gn (ix3 b p k) = (rowAt x d c s w ng b p).norm (outW o) (gainOf gn) k := by
  have hs : val_main_v32 (F := Ideal) x d c s w ng o (ix2 b p)
      = ∑ l : Fin 1024, (rowAt x d c s w ng b p).out (outW o) l * (rowAt x d c s w ng b p).out (outW o) l := by
    rw [val_main_v32_apply]
    have h0 : (val_main_cst_1 (F := Ideal)) (Shape.Idx.first h_S_) = 0 := by
      show Ideal.ofBits .f32 0x00000000#32 = 0
      simp [Ideal.ofBits, Ideal.ieee]
    rw [h0, zero_add]
    refine Finset.sum_congr rfl fun l _ => ?_
    rw [val_main_v31_apply, show idx_main_v32 (ix2 b p) l = ix3 b p l from
      funext fun a => by match a with | ⟨0, _⟩ => rfl | ⟨1, _⟩ => rfl | ⟨2, _⟩ => rfl, v29_apply]
    rfl
  have hn : val_main_v39 (F := Ideal) x d c s w ng o (ix3 b p k)
      = Ideal.rsqrt (Ideal.div (∑ l : Fin 1024, (rowAt x d c s w ng b p).out (outW o) l * (rowAt x d c s w ng b p).out (outW o) l)
          (Ideal.ofBits .f32 0x44800000#32) + Ideal.ofBits .f32 0x358637BD#32) := by
    rw [val_main_v39_apply, val_main_v38_apply, val_main_v37_apply, val_main_v35_apply, val_main_v33_apply,
      show idx_main_v33 (idx_main_v39 (ix3 b p k)) = ix2 b p from funext fun a => by match a with | ⟨0, _⟩ => rfl | ⟨1, _⟩ => rfl, hs,
      val_main_v34_apply, val_main_v36_apply]
    rfl
  have hg : val_main_v42 (F := Ideal) gn (ix3 b p k) = gn (ix2 0 k) := by
    rw [val_main_v42_apply, val_main_v41_apply, val_main_v30_apply]
    refine congrArg gn (funext fun a => ?_)
    match a with
    | ⟨0, _⟩ => rfl
    | ⟨1, _⟩ => exact Fin.ext (Nat.mod_eq_of_lt k.isLt)
  rw [val_main_v43_apply, val_main_v40_apply, v29_apply, hn, hg]
  rfl

theorem v45_apply (j : Fin 2048) :
    val_main_v45 (F := Ideal) x d c s w ng o gn q (ix3 b p j) = (rowAt x d c s w ng b p).query (outW o) (gainOf gn) (queryW q) j := by
  have hj := j.isLt
  rw [val_main_v45_apply]
  unfold Row.query
  refine Finset.sum_congr rfl fun k _ => congrArg₂ (· * ·) ?_ ?_
  · rw [← v43_apply]
    exact congrArg _ (funext fun a => by match a with | ⟨0, _⟩ => rfl | ⟨1, _⟩ => rfl | ⟨2, _⟩ => rfl)
  · have hk := k.isLt
    rw [val_main_v44_apply]
    refine congrArg q (funext fun a => ?_)
    match a with
    | ⟨0, _⟩ => rfl
    | ⟨1, _⟩ => exact Fin.ext (show (k.val * 2048 + j.val) / 2048 % 1024 = k.val by omega)
    | ⟨2, _⟩ => exact Fin.ext (show (k.val * 2048 + j.val) % 2048 = j.val by omega)

/-! ## The results -/

theorem flat_idx (t : Fin 32768) (k : Fin 1024) : idx_main_v46 (ix2 t k) = ix3 (batch t) (pos t) k := by
  have ht := t.isLt
  have hk := k.isLt
  funext a
  match a with
  | ⟨0, _⟩ => exact Fin.ext (show (t.val * 1024 + k.val) / 2097152 = t.val / 2048 by omega)
  | ⟨1, _⟩ => exact Fin.ext (show (t.val * 1024 + k.val) / 1024 % 2048 = t.val % 2048 by omega)
  | ⟨2, _⟩ => exact Fin.ext (show (t.val * 1024 + k.val) % 1024 = k.val by omega)

theorem flat_idx2 (t : Fin 32768) (j : Fin 2048) : idx_main_v49 (ix2 t j) = ix3 (batch t) (pos t) j := by
  have ht := t.isLt
  have hj := j.isLt
  funext a
  match a with
  | ⟨0, _⟩ => exact Fin.ext (show (t.val * 2048 + j.val) / 4194304 = t.val / 2048 by omega)
  | ⟨1, _⟩ => exact Fin.ext (show (t.val * 2048 + j.val) / 2048 % 2048 = t.val % 2048 by omega)
  | ⟨2, _⟩ => exact Fin.ext (show (t.val * 2048 + j.val) % 2048 = j.val by omega)

theorem v46_eq : val_main_v46 (F := Ideal) x d c s w ng o = outs x d c s w ng o := by
  refine funext fun (i : S32768x1024.Idx) => ?_
  obtain ⟨t, k, rfl⟩ : ∃ (t : Fin 32768) (k : Fin 1024), i = ix2 t k := ⟨i 0, i 1, eq_ix2 i⟩
  rw [val_main_v46_apply, flat_idx, v29_apply]
  rfl

theorem v48_eq : val_main_v48 (F := Ideal) x d c s w ng o gn = norms x d c s w ng o gn := by
  refine funext fun (i : S32768x1024.Idx) => ?_
  obtain ⟨t, k, rfl⟩ : ∃ (t : Fin 32768) (k : Fin 1024), i = ix2 t k := ⟨i 0, i 1, eq_ix2 i⟩
  rw [val_main_v48_apply, val_main_v47_apply, show idx_main_v47 (ix2 t k) = ix3 (batch t) (pos t) k from flat_idx t k, v43_apply]
  rfl

theorem v50_eq : val_main_v50 (F := Ideal) x d c s w ng o gn q = queries x d c s w ng o gn q := by
  refine funext fun (i : S32768x2048.Idx) => ?_
  obtain ⟨t, j, rfl⟩ : ∃ (t : Fin 32768) (j : Fin 2048), i = ix2 t j := ⟨i 0, i 1, eq_ix2 i⟩
  rw [val_main_v50_apply, val_main_v49_apply, flat_idx2, v45_apply]
  rfl

end Cert.OutReferenceIdeal.Mix

end
-- ==== Proof.MixClaim.lean ====
/-
  The claims of the mixing: the programs run and leave their arguments, and the kernel's three arrays are the reference's.
-/
module

public import proofs.«01_k».proof.Defs
public import proofs.«01_k».proof.Proof.MixValue
public import proofs.«01_k».proof.Proof.OutReference
public import proofs.«01_k».proof.Proof.Gen.MixOut.Frame
public import proofs.«01_k».proof.Proof.Gen.MixOutIdeal.Value
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Cert.Proj Cert.Mix Cert.MixOutIdeal.Mix
open Idealize.ShloMosaic Idealize.ShloMosaic.TcCoe Idealize.SL.Sem
open Idealize.ShloMosaic (Ideal)

theorem frame_mixOut : Cert.quiescent_MixOut (hMixOut := Cert.MixOut.Gen.facts) := fun m ρ _ => Cert.MixOut.Gen.frame m ρ

theorem frame_mixOutIdeal : Cert.quiescent_MixOutIdeal (hMixOutIdeal := Cert.MixOutIdeal.Gen.facts) :=
  fun m ρ _ => Cert.MixOutIdeal.Gen.frame m ρ

theorem frame_outReference : Cert.quiescent_OutReferenceIdeal (hOutReferenceIdeal := Cert.OutReferenceIdeal.Gen.facts) := fun m ρ _ =>
  (θ_run Cert.OutReferenceIdeal.defs _ _).mono
    (fun r h => ⟨fun c => (h c).2.2.2, sem_eq_zero_of_no_sems (by decide) r.2⟩) (Cert.OutReferenceIdeal.Value.run m ρ)

/-- A value of nine equal arguments is the same. -/
theorem agree_nine {α : Type} (f : Hid → Att → Att → Att → Att → Logits → OutWts → Gain → QueryWts → α)
    {x x' : Hid} {d d' k k' s s' w w' : Att} {ng ng' : Logits} {o o' : OutWts} {gn gn' : Gain} {q q' : QueryWts}
    (h0 : x' = x) (h1 : d' = d) (h2 : k' = k) (h3 : s' = s) (h4 : w' = w) (h5 : ng' = ng) (h6 : o' = o) (h7 : gn' = gn) (h8 : q' = q) :
    f x' d' k' s' w' ng' o' gn' q' = f x d k s w ng o gn q := by
  subst h0 h1 h2 h3 h4 h5 h6 h7 h8
  rfl

/-- The kernel's three arrays are the reference's. -/
theorem algebraic_mixOut : Cert.algebraic_MixOutIdeal_OutReferenceIdeal (hMixOutIdeal := Cert.MixOutIdeal.Gen.facts)
    (hOutReferenceIdeal := Cert.OutReferenceIdeal.Gen.facts) := by
  intro m ρ m' ρ' _ hagree
  refine ⟨fun c => outs (arg0 m c) (arg1 m c) (arg2 m c) (arg3 m c) (arg4 m c) (arg5 m c) (arg6 m c),
    fun c => norms (arg0 m c) (arg1 m c) (arg2 m c) (arg3 m c) (arg4 m c) (arg5 m c) (arg6 m c) (arg7 m c),
    fun c => queries (arg0 m c) (arg1 m c) (arg2 m c) (arg3 m c) (arg4 m c) (arg5 m c) (arg6 m c) (arg7 m c) (arg8 m c), ?_, ?_⟩
  · refine (θ_run Cert.MixOutIdeal.defs _ _).mono (fun r h c => ?_) (Cert.MixOutIdeal.Value.run_blocks m ρ)
    obtain ⟨h0, h1, h2, hargs⟩ := h c
    exact ⟨h0.trans (value10 m c), h1.trans (value11 m c), h2.trans (value12 m c), hargs⟩
  · refine (θ_run Cert.OutReferenceIdeal.defs _ _).mono (fun r h c => ?_) (Cert.OutReferenceIdeal.Value.run (F := Ideal) m' ρ')
    obtain ⟨h0, h1, h2, hargs⟩ := h c
    obtain ⟨e0, e1, e2, e3, e4, e5, e6, e7, e8⟩ := hagree c
    exact ⟨h0.trans ((Cert.OutReferenceIdeal.Read.val_main_v46_eq (F := Ideal) _ _ _ _ _ _ _).trans
        ((Cert.OutReferenceIdeal.Mix.v46_eq _ _ _ _ _ _ _).trans
          (agree_nine (fun x d k s w ng o _ _ => outs x d k s w ng o) e0 e1 e2 e3 e4 e5 e6 e7 e8))),
      h1.trans ((Cert.OutReferenceIdeal.Read.val_main_v48_eq (F := Ideal) _ _).trans
        ((Cert.OutReferenceIdeal.Mix.v48_eq _ _ _ _ _ _ _ _).trans
          (agree_nine (fun x d k s w ng o gn _ => norms x d k s w ng o gn) e0 e1 e2 e3 e4 e5 e6 e7 e8))),
      h2.trans ((Cert.OutReferenceIdeal.Read.val_main_v50_eq (F := Ideal) _ _).trans
        ((Cert.OutReferenceIdeal.Mix.v50_eq _ _ _ _ _ _ _ _ _).trans
          (agree_nine (fun x d k s w ng o gn q => queries x d k s w ng o gn q) e0 e1 e2 e3 e4 e5 e6 e7 e8))), hargs⟩

end Cert.Proof

end
-- ==== Proof.LastNorm.lean ====
/-
  The last norm: the layer's result from the hidden states and the experts' output, in the kernel and in the reference.
-/
module

public import proofs.«01_k».proof.Defs
public import proofs.«01_k».proof.Proof.InSpec
public import proofs.«01_k».proof.Proof.Gen.FinalNorm.Frame
public import proofs.«01_k».proof.Proof.Gen.FinalNormIdeal.Value
public import proofs.«01_k».proof.Proof.Gen.FinalReferenceIdeal.Read
public import Idealize.ShloMosaic.Lib.Pipeline.ValueKit.Geometry
public import Idealize.ShloMosaic.Lib.Pipeline.ValueKit.Tiles
public import Idealize.ShloMosaic.Lib.KernelVsHost
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Last

open Cert.Norm Cert.Proj
open Idealize.ShloMosaic Idealize.ShloMosaic.ValueIdx
open Idealize.ShloMosaic (Ideal)

/-- The weights of the last norm. -/
abbrev Weights : Type := FVec Ideal (⟨1, ![1024]⟩ : Shape) .f32

/-- The norm of the sum, one row per batch and position. -/
def last (x y : Hid) (g : Weights) : FVec Ideal (⟨2, ![32768, 1024]⟩ : Shape) .f32 :=
  fun i => rms (fun l => x (ix3 (batch (i 0)) (pos (i 0)) l) + y (ix3 (batch (i 0)) (pos (i 0)) l)) (fun l => g (ix1 l)) (i 1)

end Cert.Last

/-! ## The kernel -/

namespace Cert.FinalNormIdeal.Last

open Cert.FinalNormIdeal Cert.FinalNormIdeal.Gen Cert.Norm Cert.Proj Cert.Last
open Idealize.ShloMosaic Idealize.ShloMosaic.TcCoe Idealize.ShloMosaic.ValueIdx Idealize.SL.Sem
open Idealize.ShloMosaic (Ideal)

theorem out_apply (x0 x1 : Vec Ideal S512x1024 .f32) (x2 : Vec Ideal S1x1024 .f32) (r : Fin 512) (k : Fin 1024) :
    out0_3 x0 x1 x2 (ix2 r k) = rms (fun l => x0 (ix2 r l) + x1 (ix2 r l)) (fun l => x2 (ix2 0 l)) k := by
  have h0 : ∀ x : Vec Ideal S512x1024 .f32, View.ld x r0_0 = x := fun x => View.ld_unit_zero (by funext a; fin_cases a <;> rfl) _ _
  have h2 : View.ld x2 r0_1 = x2 := View.ld_unit_zero (by funext a; fin_cases a <;> rfl) _ _
  unfold out0_3 k0_pay1
  rw [View.canon_unit_zero (by funext a; fin_cases a <;> rfl), h0, h0, h2, shapeCast_self, shapeCast_self, shapeCast_self]
  exact rms_block (by decide) (addf x0 x1) x2 _ _ _ _ r k

theorem index0 : ∀ t : Fin cfg0.N, win0_0.index t = ![(grid0.coords t 0).val, 0] := (by decide +kernel : ∀ t : Fin grid0.N, _)
theorem index1 : ∀ t : Fin cfg0.N, win0_1.index t = ![(grid0.coords t 0).val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![(grid0.coords t 0).val, 0] := (by decide +kernel : ∀ t : Fin grid0.N, _)

variable (m : (ℓ : Loc nD τ sig) → Buf (Elt Ideal) ℓ) (c : Dev nD)

theorem V_v0 : V m c main_v0 = shapeCast S32768x1024 (m ((c : Thread nD τ).loc main_arg0)) shapeCasts_S16x2048x1024_S32768x1024 := by
  show StableHlo.after hostOps0 (fun b => m (c, b)) (Proc.tc.devRef main_v0) = _
  simp only [hostOps0]
  after_results_simp
  rfl

theorem V_v1 : V m c main_v1 = shapeCast S32768x1024 (m ((c : Thread nD τ).loc main_arg1)) shapeCasts_S16x2048x1024_S32768x1024 := by
  show StableHlo.after hostOps0 (fun b => m (c, b)) (Proc.tc.devRef main_v1) = _
  simp only [hostOps0]
  after_results_simp
  rfl

theorem V_v2 : V m c main_v2 = shapeCast S1x1024 (m ((c : Thread nD τ).loc main_arg2)) shapeCasts_S1024_S1x1024 := by
  show StableHlo.after hostOps0 (fun b => m (c, b)) (Proc.tc.devRef main_v2) = _
  simp only [hostOps0]
  after_results_simp
  rfl

/-- Row `r` of the block of grid point `t`. -/
def at_ (t : Fin cfg0.N) (r : Fin 512) : Fin 32768 := ⟨(grid0.coords t 0).val * 512 + r.val, by
  have : (grid0.coords t 0).val < 64 := (grid0.coords t 0).isLt
  omega⟩

theorem rows_cast (x : FVec Ideal S16x2048x1024 .f32) (t : Fin 32768) (k : Fin 1024) :
    shapeCast S32768x1024 x shapeCasts_S16x2048x1024_S32768x1024 (ix2 t k) = x (ix3 (batch t) (pos t) k) := by
  refine shapeCast_apply _ _ _ _ ?_
  rw [Shape.rowMajor_val_three, Shape.rowMajor_val_two]
  show (t.val / 2048 * 2048 + t.val % 2048) * 1024 + k.val = t.val * 1024 + k.val
  rw [Nat.div_add_mod']

/-- The three arguments on a device. -/
abbrev arg0 : Hid := m ((c : Thread nD τ).loc main_arg0)
abbrev arg1 : Hid := m ((c : Thread nD τ).loc main_arg1)
abbrev arg2 : Weights := m ((c : Thread nD τ).loc main_arg2)

theorem blk0 (t : Fin cfg0.N) (r : Fin 512) (k : Fin 1024) :
    iblk m c 0 t (ix2 r k) = arg0 m c (ix3 (batch (at_ t r)) (pos (at_ t r)) k) := by
  show V m c main_v0 ((win0_0.blk t).view.emb (ix2 r k)) = _
  rw [V_v0]
  refine Eq.trans ?_ (rows_cast (arg0 m c) (at_ t r) k)
  refine congrArg _ (funext fun a => Fin.ext ?_)
  match a with
  | ⟨0, _⟩ => blk_simp [index0]; rfl
  | ⟨1, _⟩ => blk_simp [index0]

theorem blk1 (t : Fin cfg0.N) (r : Fin 512) (k : Fin 1024) :
    iblk m c 1 t (ix2 r k) = arg1 m c (ix3 (batch (at_ t r)) (pos (at_ t r)) k) := by
  show V m c main_v1 ((win0_1.blk t).view.emb (ix2 r k)) = _
  rw [V_v1]
  refine Eq.trans ?_ (rows_cast (arg1 m c) (at_ t r) k)
  refine congrArg _ (funext fun a => Fin.ext ?_)
  match a with
  | ⟨0, _⟩ => blk_simp [index1]; rfl
  | ⟨1, _⟩ => blk_simp [index1]

theorem blk2 (t : Fin cfg0.N) (k : Fin 1024) : iblk m c 2 t (ix2 0 k) = arg2 m c (ix1 k) := by
  show V m c main_v2 ((win0_2.blk t).view.emb (ix2 0 k)) = _
  rw [V_v2]
  refine Eq.trans ?_ (shapeCast_apply (arg2 m c) shapeCasts_S1024_S1x1024 (ix2 0 k) (ix1 k) ?_)
  · refine congrArg _ (funext fun a => Fin.ext ?_)
    match a with
    | ⟨0, _⟩ => blk_simp [index2]
    | ⟨1, _⟩ => blk_simp [index2]
  · rw [Shape.rowMajor_val_one, Shape.rowMajor_val_two]
    show k.val = 0 * 1024 + k.val
    omega

theorem arr3 : (dats m 0 c).arrAt 3 cfg0.N = last (arg0 m c) (arg1 m c) (arg2 m c) := by
  refine (dats m 0 c).arrAt_eq_of_covers 3 _ (by decide +kernel) fun t hf y => ?_
  blk_simp
  rw [after0_3]
  obtain ⟨r, k, rfl⟩ : ∃ (r : Fin 512) (k : Fin 1024), y = ix2 r k := ⟨y 0, y 1, eq_ix2 y⟩
  refine (out_apply _ _ _ r k).trans ?_
  simp only [blk0, blk1, blk2]
  refine congrArg (last (arg0 m c) (arg1 m c) (arg2 m c)) (a₁ := ix2 (at_ t r) k) (funext fun a => Fin.ext ?_)
  match a with
  | ⟨0, _⟩ => blk_simp [index3]; rfl
  | ⟨1, _⟩ => blk_simp [index3]

end Cert.FinalNormIdeal.Last

/-! ## The reference -/

namespace Cert.FinalReferenceIdeal.Last

open Cert.FinalReferenceIdeal Cert.FinalReferenceIdeal.Gen Cert.FinalReferenceIdeal.Read Cert.Norm Cert.Proj Cert.Last
open Idealize.ShloMosaic Idealize.ShloMosaic.ValueIdx
open Idealize.ShloMosaic (Ideal)

variable (x y : Hid) (g : Weights)

theorem v13_apply (b : Fin 16) (p : Fin 2048) (k : Fin 1024) :
    val_main_v13 (F := Ideal) x y g (ix3 b p k) = rms (fun l => x (ix3 b p l) + y (ix3 b p l)) (fun l => g (ix1 l)) k := by
  have hs : val_main_v2 (F := Ideal) x y (ix2 b p) = ∑ l : Fin 1024, (x (ix3 b p l) + y (ix3 b p l)) * (x (ix3 b p l) + y (ix3 b p l)) := by
    rw [val_main_v2_apply]
    have h0 : (val_main_cst (F := Ideal)) (Shape.Idx.first h_S_) = 0 := by
      show Ideal.ofBits .f32 0x00000000#32 = 0
      simp [Ideal.ofBits, Ideal.ieee]
    rw [h0, zero_add]
    refine Finset.sum_congr rfl fun l _ => ?_
    rw [val_main_v1_apply, val_main_v0_apply, show idx_main_v2 (ix2 b p) l = ix3 b p l from
      funext fun a => by match a with | ⟨0, _⟩ => rfl | ⟨1, _⟩ => rfl | ⟨2, _⟩ => rfl]
    rfl
  have hn : val_main_v9 (F := Ideal) x y (ix3 b p k)
      = Ideal.rsqrt (Ideal.div (∑ l : Fin 1024, (x (ix3 b p l) + y (ix3 b p l)) * (x (ix3 b p l) + y (ix3 b p l)))
          (Ideal.ofBits .f32 0x44800000#32) + Ideal.ofBits .f32 0x358637BD#32) := by
    rw [val_main_v9_apply, val_main_v8_apply, val_main_v7_apply, val_main_v5_apply, val_main_v3_apply,
      show idx_main_v3 (idx_main_v9 (ix3 b p k)) = ix2 b p from funext fun a => by match a with | ⟨0, _⟩ => rfl | ⟨1, _⟩ => rfl, hs,
      val_main_v4_apply, val_main_v6_apply]
    rfl
  have hg : val_main_v12 (F := Ideal) g (ix3 b p k) = g (ix1 k) := by
    rw [val_main_v12_apply, val_main_v11_apply]
    exact congrArg g (funext fun a => by match a with | ⟨0, _⟩ => rfl)
  rw [val_main_v13_apply, val_main_v10_apply, val_main_v0_apply, hn, hg]
  rfl

theorem v14_eq : val_main_v14 (F := Ideal) x y g = last x y g := by
  refine funext fun (i : S32768x1024.Idx) => ?_
  obtain ⟨t, k, rfl⟩ : ∃ (t : Fin 32768) (k : Fin 1024), i = ix2 t k := ⟨i 0, i 1, eq_ix2 i⟩
  have ht := t.isLt
  have hk := k.isLt
  rw [val_main_v14_apply, show idx_main_v14 (ix2 t k) = ix3 (batch t) (pos t) k from funext fun a => by
      match a with
      | ⟨0, _⟩ => exact Fin.ext (show (t.val * 1024 + k.val) / 2097152 = t.val / 2048 by omega)
      | ⟨1, _⟩ => exact Fin.ext (show (t.val * 1024 + k.val) / 1024 % 2048 = t.val % 2048 by omega)
      | ⟨2, _⟩ => exact Fin.ext (show (t.val * 1024 + k.val) % 1024 = k.val by omega), v13_apply]
  rfl

end Cert.FinalReferenceIdeal.Last

/-! ## The claims -/

namespace Cert.Proof

open Cert.Proj Cert.Last Cert.FinalNormIdeal.Last
open Idealize.ShloMosaic Idealize.ShloMosaic.TcCoe Idealize.SL.Sem
open Idealize.ShloMosaic (Ideal)

theorem frame_finalNorm : Cert.quiescent_FinalNorm (hFinalNorm := Cert.FinalNorm.Gen.facts) := fun m ρ _ => Cert.FinalNorm.Gen.frame m ρ

theorem frame_finalNormIdeal : Cert.quiescent_FinalNormIdeal (hFinalNormIdeal := Cert.FinalNormIdeal.Gen.facts) :=
  fun m ρ _ => Cert.FinalNormIdeal.Gen.frame m ρ

theorem frame_finalReference : Cert.quiescent_FinalReferenceIdeal (hFinalReferenceIdeal := Cert.FinalReferenceIdeal.Gen.facts) := fun m ρ _ =>
  (θ_run Cert.FinalReferenceIdeal.defs _ _).mono
    (fun r h => ⟨fun c => (h c).2, sem_eq_zero_of_no_sems (by decide) r.2⟩) (Cert.FinalReferenceIdeal.Value.run m ρ)

/-- A value of three equal arguments is the same. -/
theorem agree_last {α : Type} (f : Hid → Hid → Weights → α) {x x' y y' : Hid} {g g' : Weights} (hx : x' = x) (hy : y' = y) (hg : g' = g) :
    f x' y' g' = f x y g := by
  subst hx hy hg
  rfl

/-- The kernel's array is the reference's. -/
theorem algebraic_finalNorm : Cert.algebraic_FinalNormIdeal_FinalReferenceIdeal (hFinalNormIdeal := Cert.FinalNormIdeal.Gen.facts)
    (hFinalReferenceIdeal := Cert.FinalReferenceIdeal.Gen.facts) := by
  intro m ρ m' ρ' _ hagree
  refine ⟨fun c => last (arg0 m c) (arg1 m c) (arg2 m c), ?_, ?_⟩
  · refine (θ_run Cert.FinalNormIdeal.defs _ _).mono (fun r h c => ?_) (Cert.FinalNormIdeal.Value.run_blocks m ρ)
    obtain ⟨h0, hargs⟩ := h c
    exact ⟨h0.trans (arr3 m c), hargs⟩
  · refine (θ_run Cert.FinalReferenceIdeal.defs _ _).mono (fun r h c => ?_) (Cert.FinalReferenceIdeal.Value.run (F := Ideal) m' ρ')
    obtain ⟨h0, hargs⟩ := h c
    obtain ⟨e0, e1, e2⟩ := hagree c
    exact ⟨h0.trans ((Cert.FinalReferenceIdeal.Read.val_main_v14_eq (F := Ideal) _ _ _).trans
      ((Cert.FinalReferenceIdeal.Last.v14_eq _ _ _).trans (agree_last last e0 e1 e2))), hargs⟩

end Cert.Proof

end
-- ==== Proof.WinBlock.lean ====
/-
  One grid point of the windowed attention, at the ideal values: four heads' rows against three blocks of 256 keys.
-/
module

public import proofs.«01_k».proof.Proof.Gen.WinAttnIdeal.Skeleton
public import proofs.«01_k».proof.Proof.Block
public import Idealize.ShloMosaic.Lib.KernelVsHost
public import Idealize.ShloMosaic.Lib.MatmulPlain
public import Idealize.ShloMosaic.Lib.Pipeline.Value

@[expose] public section

set_option maxRecDepth 16384

noncomputable section

namespace Cert.WinAttnIdeal.Win

open Cert.WinAttnIdeal Cert.WinAttnIdeal.Gen Cert.Attn
open Cert.KernelIdeal.Attn (rows_concat col_cast drop_lead col_broadcast lane_lt weigh)
open Idealize.ShloMosaic Idealize.ShloMosaic.ValueIdx
open Idealize.ShloMosaic (Ideal)

/-! ## Blocks laid one after another -/

theorem rows3 {α : Type} (x y z : S256x128.Idx → α)
    (h : Shape.Concatenates [S256x128, S256x128, S256x128] S768x128 0) (f : ℕ → Fin 128 → α)
    (hx : ∀ (r : Fin 256) c, x (ix2 r c) = f r.val c) (hy : ∀ (r : Fin 256) c, y (ix2 r c) = f (256 + r.val) c)
    (hz : ∀ (r : Fin 256) c, z (ix2 r c) = f (512 + r.val) c) (r : Fin 768) (c : Fin 128) :
    concatenate S768x128 0 [⟨S256x128, x⟩, ⟨S256x128, y⟩, ⟨S256x128, z⟩] h (ix2 r c) = f r.val c := by
  have hr := r.isLt
  rcases (by omega : r.val < 256 ∨ (256 ≤ r.val ∧ r.val < 512) ∨ 512 ≤ r.val) with h0 | h0 | h0
  · refine (concatenate_apply_piece (t := S768x128) 0 [⟨S256x128, x⟩, ⟨S256x128, y⟩, ⟨S256x128, z⟩] h (ix2 r c) 0 (by simp) _ x rfl rfl 0
      (by simp) (ix2 ⟨r.val, h0⟩ c) (fun b hb => ?_) ?_).trans (hx ⟨r.val, h0⟩ c)
    · match b with
      | ⟨0, _⟩ => exact absurd rfl hb
      | ⟨1, _⟩ => rfl
    · show 0 + r.val = r.val
      omega
  · refine (concatenate_apply_piece (t := S768x128) 0 [⟨S256x128, x⟩, ⟨S256x128, y⟩, ⟨S256x128, z⟩] h (ix2 r c) 1 (by simp) _ y rfl rfl 256
      (by simp) (ix2 ⟨r.val - 256, by omega⟩ c) (fun b hb => ?_) ?_).trans ((hy ⟨r.val - 256, by omega⟩ c).trans ?_)
    · match b with
      | ⟨0, _⟩ => exact absurd rfl hb
      | ⟨1, _⟩ => rfl
    · show 256 + (r.val - 256) = r.val
      omega
    · exact congrArg (fun n => f n c) (by show 256 + (r.val - 256) = r.val; omega)
  · refine (concatenate_apply_piece (t := S768x128) 0 [⟨S256x128, x⟩, ⟨S256x128, y⟩, ⟨S256x128, z⟩] h (ix2 r c) 2 (by simp) _ z rfl rfl 512
      (by simp) (ix2 ⟨r.val - 512, by omega⟩ c) (fun b hb => ?_) ?_).trans ((hz ⟨r.val - 512, by omega⟩ c).trans ?_)
    · match b with
      | ⟨0, _⟩ => exact absurd rfl hb
      | ⟨1, _⟩ => rfl
    · show 512 + (r.val - 512) = r.val
      omega
    · exact congrArg (fun n => f n c) (by show 512 + (r.val - 512) = r.val; omega)

theorem cols3 {α : Type} (x y z : S1024x256.Idx → α)
    (h : Shape.Concatenates [S1024x256, S1024x256, S1024x256] S1024x768 1) (f : Fin 1024 → ℕ → α)
    (hx : ∀ r (c : Fin 256), x (ix2 r c) = f r c.val) (hy : ∀ r (c : Fin 256), y (ix2 r c) = f r (256 + c.val))
    (hz : ∀ r (c : Fin 256), z (ix2 r c) = f r (512 + c.val)) (r : Fin 1024) (c : Fin 768) :
    concatenate S1024x768 1 [⟨S1024x256, x⟩, ⟨S1024x256, y⟩, ⟨S1024x256, z⟩] h (ix2 r c) = f r c.val := by
  have hr := c.isLt
  rcases (by omega : c.val < 256 ∨ (256 ≤ c.val ∧ c.val < 512) ∨ 512 ≤ c.val) with h0 | h0 | h0
  · refine (concatenate_apply_piece (t := S1024x768) 1 [⟨S1024x256, x⟩, ⟨S1024x256, y⟩, ⟨S1024x256, z⟩] h (ix2 r c) 0 (by simp) _ x rfl rfl 0
      (by simp) (ix2 r ⟨c.val, h0⟩) (fun b hb => ?_) ?_).trans (hx r ⟨c.val, h0⟩)
    · match b with
      | ⟨0, _⟩ => rfl
      | ⟨1, _⟩ => exact absurd rfl hb
    · show 0 + c.val = c.val
      omega
  · refine (concatenate_apply_piece (t := S1024x768) 1 [⟨S1024x256, x⟩, ⟨S1024x256, y⟩, ⟨S1024x256, z⟩] h (ix2 r c) 1 (by simp) _ y rfl rfl 256
      (by simp) (ix2 r ⟨c.val - 256, by omega⟩) (fun b hb => ?_) ?_).trans ((hy r ⟨c.val - 256, by omega⟩).trans ?_)
    · match b with
      | ⟨0, _⟩ => rfl
      | ⟨1, _⟩ => exact absurd rfl hb
    · show 256 + (c.val - 256) = c.val
      omega
    · exact congrArg (f r) (by show 256 + (c.val - 256) = c.val; omega)
  · refine (concatenate_apply_piece (t := S1024x768) 1 [⟨S1024x256, x⟩, ⟨S1024x256, y⟩, ⟨S1024x256, z⟩] h (ix2 r c) 2 (by simp) _ z rfl rfl 512
      (by simp) (ix2 r ⟨c.val - 512, by omega⟩) (fun b hb => ?_) ?_).trans ((hz r ⟨c.val - 512, by omega⟩).trans ?_)
    · match b with
      | ⟨0, _⟩ => rfl
      | ⟨1, _⟩ => exact absurd rfl hb
    · show 512 + (c.val - 512) = c.val
      omega
    · exact congrArg (f r) (by show 512 + (c.val - 512) = c.val; omega)

theorem rows4 {α : Type} (x : Fin 4 → S256x128.Idx → α)
    (h : Shape.Concatenates [S256x128, S256x128, S256x128, S256x128] S1024x128 0) (r : Fin 1024) (c : Fin 128) :
    concatenate S1024x128 0 [⟨S256x128, x 0⟩, ⟨S256x128, x 1⟩, ⟨S256x128, x 2⟩, ⟨S256x128, x 3⟩] h (ix2 r c)
      = x ⟨r.val / 256, by omega⟩ (ix2 ⟨r.val % 256, Nat.mod_lt _ (by decide)⟩ c) := by
  have hr := r.isLt
  rcases (by omega : r.val / 256 = 0 ∨ r.val / 256 = 1 ∨ r.val / 256 = 2 ∨ r.val / 256 = 3) with h0 | h0 | h0 | h0
  · rw [show (⟨r.val / 256, by omega⟩ : Fin 4) = 0 from Fin.ext h0]
    refine concatenate_apply_piece (t := S1024x128) 0 [⟨S256x128, x 0⟩, ⟨S256x128, x 1⟩, ⟨S256x128, x 2⟩, ⟨S256x128, x 3⟩] h (ix2 r c) 0 (by simp) _
      (x 0) rfl rfl 0 (by simp) (ix2 ⟨r.val % 256, Nat.mod_lt _ (by decide)⟩ c) (fun b hb => ?_) ?_
    · match b with
      | ⟨0, _⟩ => exact absurd rfl hb
      | ⟨1, _⟩ => rfl
    · show 0 + r.val % 256 = r.val
      omega
  · rw [show (⟨r.val / 256, by omega⟩ : Fin 4) = 1 from Fin.ext h0]
    refine concatenate_apply_piece (t := S1024x128) 0 [⟨S256x128, x 0⟩, ⟨S256x128, x 1⟩, ⟨S256x128, x 2⟩, ⟨S256x128, x 3⟩] h (ix2 r c) 1 (by simp) _
      (x 1) rfl rfl 256 (by simp) (ix2 ⟨r.val % 256, Nat.mod_lt _ (by decide)⟩ c) (fun b hb => ?_) ?_
    · match b with
      | ⟨0, _⟩ => exact absurd rfl hb
      | ⟨1, _⟩ => rfl
    · show 256 + r.val % 256 = r.val
      omega
  · rw [show (⟨r.val / 256, by omega⟩ : Fin 4) = 2 from Fin.ext h0]
    refine concatenate_apply_piece (t := S1024x128) 0 [⟨S256x128, x 0⟩, ⟨S256x128, x 1⟩, ⟨S256x128, x 2⟩, ⟨S256x128, x 3⟩] h (ix2 r c) 2 (by simp) _
      (x 2) rfl rfl 512 (by simp) (ix2 ⟨r.val % 256, Nat.mod_lt _ (by decide)⟩ c) (fun b hb => ?_) ?_
    · match b with
      | ⟨0, _⟩ => exact absurd rfl hb
      | ⟨1, _⟩ => rfl
    · show 512 + r.val % 256 = r.val
      omega
  · rw [show (⟨r.val / 256, by omega⟩ : Fin 4) = 3 from Fin.ext h0]
    refine concatenate_apply_piece (t := S1024x128) 0 [⟨S256x128, x 0⟩, ⟨S256x128, x 1⟩, ⟨S256x128, x 2⟩, ⟨S256x128, x 3⟩] h (ix2 r c) 3 (by simp) _
      (x 3) rfl rfl 768 (by simp) (ix2 ⟨r.val % 256, Nat.mod_lt _ (by decide)⟩ c) (fun b hb => ?_) ?_
    · match b with
      | ⟨0, _⟩ => exact absurd rfl hb
      | ⟨1, _⟩ => rfl
    · show 768 + r.val % 256 = r.val
      omega

theorem slice_apply {α : Type} {n w m v a b : ℕ} (x : (⟨2, ![n, w]⟩ : Shape).Idx → α)
    (h : (⟨2, ![n, w]⟩ : Shape).Slices ![a, b] ⟨2, ![m, v]⟩) (r : Fin m) (c : Fin v) (r' : Fin n) (c' : Fin w)
    (hr : r'.val = a + r.val) (hc : c'.val = b + c.val) :
    extractStridedSlice ⟨2, ![m, v]⟩ ![a, b] x h (ix2 r c) = x (ix2 r' c') := by
  refine extractStridedSlice_apply _ _ _ _ _ fun k => ?_
  match k with
  | ⟨0, _⟩ => exact hr
  | ⟨1, _⟩ => exact hc

/-! ## The four heads' queries -/

/-- Whether a lane is in the lower half. -/
theorem low_apply (t : Fin 256) (d : Fin 128) :
    (cmpi .slt (iota .tc S256x128 32 [1] iota_S256x128_d1_w32) (broadcast S256x128 64#32) : IVec S256x128 1) (ix2 t d)
      = if d.val < 64 then 1#1 else 0#1 := by
  refine Eq.trans ?_ (lane_lt d)
  exact congrArg (IntOp.cmpi .slt · 64#32) (iota_single_apply .tc S256x128 32 1 _ (ix2 t d))

/-- Row `r` of the four heads' queries: the first two heads keep the lower lanes, the last two the upper. -/
def four (Q : Fin 256 → Fin 256 → ℝ) (r : Fin 1024) (d : Fin 128) : ℝ :=
  if r.val < 512 ↔ d.val < 64 then Q ⟨r.val % 256, Nat.mod_lt _ (by decide)⟩ ⟨r.val / 256 % 2 * 128 + d.val, by omega⟩ else 0

theorem pay2_apply (v0 : Vec Ideal S1x256x256 .bf16) (Q : Fin 256 → Fin 256 → ℝ) (hq : ∀ t c, v0 (ix3 0 t c) = ((Q t c : ℝ) : EReal))
    (r : Fin 1024) (d : Fin 128) : k0_pay2 v0 (ix2 r d) = ((four Q r d : ℝ) : EReal) := by
  have h0 : (Scalar.ofBits .bf16 0x0000#16 : Ideal .bf16) = ((0 : ℝ) : EReal) := Ideal.ofBits_zero_bf16
  have hs : ∀ (o : ℕ) (ho : o + 128 ≤ 256) (h : S256x256.Slices ![0, o] S256x128) (t : Fin 256),
      extractStridedSlice S256x128 ![0, o] (shapeCast S256x256 v0 shapeCasts_S1x256x256_S256x256) h (ix2 t d)
        = ((Q t ⟨o + d.val, by omega⟩ : ℝ) : EReal) := fun o ho h t =>
    (slice_apply _ h t d t ⟨o + d.val, by omega⟩ (Nat.zero_add _).symm rfl).trans ((drop_lead _ _ _ _).trans (hq _ _))
  have hlo : ∀ (u : FVec Ideal S256x128 .bf16) (a : ℝ) (t : Fin 256), u (ix2 t d) = (a : EReal) →
      select (cmpi .slt (iota .tc S256x128 32 [1] iota_S256x128_d1_w32) (broadcast S256x128 64#32)) u
        (broadcast S256x128 (Scalar.ofBits .bf16 0x0000#16 : Ideal .bf16)) (ix2 t d) = (((if d.val < 64 then a else 0 : ℝ)) : EReal) := by
    intro u a t hu
    rw [select_apply, low_apply, broadcast_apply, h0, hu]
    by_cases h : d.val < 64
    · rw [if_pos h, if_pos h]; rfl
    · rw [if_neg h, if_neg h]; rfl
  have hhi : ∀ (u : FVec Ideal S256x128 .bf16) (a : ℝ) (t : Fin 256), u (ix2 t d) = (a : EReal) →
      select (xori (cmpi .slt (iota .tc S256x128 32 [1] iota_S256x128_d1_w32) (broadcast S256x128 64#32)) (constantI S256x128 1 1#1)) u
        (broadcast S256x128 (Scalar.ofBits .bf16 0x0000#16 : Ideal .bf16)) (ix2 t d) = (((if d.val < 64 then 0 else a : ℝ)) : EReal) := by
    intro u a t hu
    have e : xori (cmpi .slt (iota .tc S256x128 32 [1] iota_S256x128_d1_w32) (broadcast S256x128 64#32)) (constantI S256x128 1 1#1) (ix2 t d)
        = IntOp.xori (if d.val < 64 then 1#1 else 0#1) 1#1 := congrArg (IntOp.xori · 1#1) (low_apply t d)
    rw [select_apply, e, broadcast_apply, h0, hu]
    by_cases h : d.val < 64
    · rw [if_pos h, if_pos h]; rfl
    · rw [if_neg h, if_neg h]; rfl
  have hr := r.isLt
  unfold k0_pay2
  refine (rows4 ![_, _, _, _] _ r d).trans ?_
  unfold four
  have ht : r.val % 256 < 256 := Nat.mod_lt _ (by decide)
  rcases (by omega : r.val / 256 = 0 ∨ r.val / 256 = 1 ∨ r.val / 256 = 2 ∨ r.val / 256 = 3) with e | e | e | e
  · rw [show (⟨r.val / 256, by omega⟩ : Fin 4) = 0 from Fin.ext e]
    refine (hlo _ _ ⟨_, ht⟩ (hs 0 (by decide) _ _)).trans (congrArg (fun a : ℝ => (a : EReal)) ?_)
    have h1 : r.val < 512 := by omega
    by_cases h : d.val < 64
    · rw [if_pos h, if_pos (by simp [h1, h])]
      exact congrArg (Q _) (Fin.ext (by show 0 + d.val = r.val / 256 % 2 * 128 + d.val; omega))
    · rw [if_neg h, if_neg (by simp [h1, h])]
  · rw [show (⟨r.val / 256, by omega⟩ : Fin 4) = 1 from Fin.ext e]
    refine (hlo _ _ ⟨_, ht⟩ (hs 128 (by decide) _ _)).trans (congrArg (fun a : ℝ => (a : EReal)) ?_)
    have h1 : r.val < 512 := by omega
    by_cases h : d.val < 64
    · rw [if_pos h, if_pos (by simp [h1, h])]
      exact congrArg (Q _) (Fin.ext (by show 128 + d.val = r.val / 256 % 2 * 128 + d.val; omega))
    · rw [if_neg h, if_neg (by simp [h1, h])]
  · rw [show (⟨r.val / 256, by omega⟩ : Fin 4) = 2 from Fin.ext e]
    refine (hhi _ _ ⟨_, ht⟩ (hs 0 (by decide) _ _)).trans (congrArg (fun a : ℝ => (a : EReal)) ?_)
    have h1 : ¬ r.val < 512 := by omega
    by_cases h : d.val < 64
    · rw [if_pos h, if_neg (by simp [h1, h])]
    · rw [if_neg h, if_pos (by simp [h1, h])]
      exact congrArg (Q _) (Fin.ext (by show 0 + d.val = r.val / 256 % 2 * 128 + d.val; omega))
  · rw [show (⟨r.val / 256, by omega⟩ : Fin 4) = 3 from Fin.ext e]
    refine (hhi _ _ ⟨_, ht⟩ (hs 128 (by decide) _ _)).trans (congrArg (fun a : ℝ => (a : EReal)) ?_)
    have h1 : ¬ r.val < 512 := by omega
    by_cases h : d.val < 64
    · rw [if_pos h, if_neg (by simp [h1, h])]
    · rw [if_neg h, if_pos (by simp [h1, h])]
      exact congrArg (Q _) (Fin.ext (by show 128 + d.val = r.val / 256 % 2 * 128 + d.val; omega))

/-! ## The products with a block of keys -/

theorem score_apply (q : FVec Ideal S1024x128 .bf16) (k : FVec Ideal S128x256 .bf16) (Q : Fin 1024 → Fin 128 → ℝ) (K : Fin 128 → ℕ → ℝ) (a : ℕ)
    (hq : ∀ r d, q (ix2 r d) = ((Q r d : ℝ) : EReal)) (hk : ∀ d (c : Fin 256), k (ix2 d c) = ((K d (a + c.val) : ℝ) : EReal))
    (r : Fin 1024) (c : Fin 256) :
    matmul dot_S1024x128_S128x256_S1024x256_1_0_0_1_n_n none q (shapeCast S128x256 k shapeCasts_S128x256_S128x256)
      (constant S1024x256 .f32 0x00000000#32) (ix2 r c) = ((∑ d, Q r d * K d (a + c.val) : ℝ) : EReal) := by
  rw [shapeCast_self]
  refine (Ideal.matmul_plain_apply none q k _ r c).trans ?_
  rw [constant_apply, Ideal.ofBits_zero_f32, zero_add, ← coe_sum]
  refine Finset.sum_congr rfl fun d _ => ?_
  rw [hq, hk, EReal.coe_mul]

/-- The values of a block in the lower lanes, ones in the upper. -/
theorem lower_apply (v : Vec Ideal S1x256x128 .bf16) (V : ℕ → Fin 128 → ℝ) (a : ℕ)
    (hv : ∀ (c : Fin 256) e, v (ix3 0 c e) = ((V (a + c.val) e : ℝ) : EReal)) (c : Fin 256) (e : Fin 128) :
    select (cmpi .slt (iota .tc S256x128 32 [1] iota_S256x128_d1_w32) (broadcast S256x128 64#32))
      (shapeCast S256x128 v shapeCasts_S1x256x128_S256x128) (broadcast S256x128 (Scalar.ofBits .bf16 0x3F80#16 : Ideal .bf16)) (ix2 c e)
      = ((if e.val < 64 then V (a + c.val) e else 1 : ℝ) : EReal) := by
  have h1 : (Scalar.ofBits .bf16 0x3F80#16 : Ideal .bf16) = ((1 : ℝ) : EReal) := Ideal.ofBits_one_bf16
  rw [select_apply, low_apply, broadcast_apply, h1, drop_lead, hv]
  by_cases h : e.val < 64
  · rw [if_pos h, if_pos h]; rfl
  · rw [if_neg h, if_neg h]; rfl

/-- Ones in the lower lanes, the values in the upper. -/
theorem upper_apply (v : Vec Ideal S1x256x128 .bf16) (V : ℕ → Fin 128 → ℝ) (a : ℕ)
    (hv : ∀ (c : Fin 256) e, v (ix3 0 c e) = ((V (a + c.val) e : ℝ) : EReal)) (c : Fin 256) (e : Fin 128) :
    select (cmpi .slt (iota .tc S256x128 32 [1] iota_S256x128_d1_w32) (broadcast S256x128 64#32))
      (broadcast S256x128 (Scalar.ofBits .bf16 0x3F80#16 : Ideal .bf16)) (shapeCast S256x128 v shapeCasts_S1x256x128_S256x128) (ix2 c e)
      = ((if e.val < 64 then 1 else V (a + c.val) e : ℝ) : EReal) := by
  have h1 : (Scalar.ofBits .bf16 0x3F80#16 : Ideal .bf16) = ((1 : ℝ) : EReal) := Ideal.ofBits_one_bf16
  rw [select_apply, low_apply, broadcast_apply, h1, drop_lead, hv]
  by_cases h : e.val < 64
  · rw [if_pos h, if_pos h]; rfl
  · rw [if_neg h, if_neg h]; rfl

/-- Whether the block `d` places back exists. -/
theorem back_apply (n : Fin 8) (d : Fin 3) :
    (Scalar.select (Scalar.cmpi .sge (BitVec.ofNat 32 n.val) (BitVec.ofNat 32 d.val)) (Scalar.ofBits .f32 0x00000000#32 : Ideal .f32)
      (Scalar.ofBits .f32 0xFF800000#32)) = if d.val ≤ n.val then ((0 : ℝ) : EReal) else ⊥ := by
  have h : ∀ (n : Fin 8) (d : Fin 3), Scalar.cmpi .sge (BitVec.ofNat 32 n.val) (BitVec.ofNat 32 d.val) = if d.val ≤ n.val then 1#1 else 0#1 := by
    decide +kernel
  rw [h]
  by_cases hd : d.val ≤ n.val
  · rw [if_pos hd, if_pos hd]
    exact Ideal.ofBits_zero_f32
  · rw [if_neg hd, if_neg hd]
    exact ofBits_neg_inf

end Cert.WinAttnIdeal.Win

end
-- ==== Proof.WinOut.lean ====
/-
  One block of the windowed attention, at the ideal values: the softmax-weighted means of its four heads.
-/
module

public import proofs.«01_k».proof.Proof.WinBlock
public import Idealize.ShloMosaic.Lib.KernelVsHost

@[expose] public section

set_option maxRecDepth 16384

noncomputable section

namespace Cert.WinAttnIdeal.Win

open Cert.WinAttnIdeal Cert.WinAttnIdeal.Gen
open Cert.Attn (coe_sum exp2_bot div_coe fold_max_real ofBits_neg_inf)
open Cert.KernelIdeal.Attn (rows_concat cols_concat col_cast drop_lead col_broadcast weigh)
open Idealize.ShloMosaic Idealize.ShloMosaic.TcCoe Idealize.ShloMosaic.ValueIdx
open Idealize.ShloMosaic (Ideal)

/-! ## The three stages after the scores -/

/-- The exponentials of the scores less their row's maximum. -/
def expos (p : FVec Ideal S1024x768 .f32) : FVec Ideal S1024x768 .bf16 :=
  truncf .bf16 (exp2 (subf p (broadcastTo S1024x768 (shapeCast S1024x1
    (multiReduction .maximumf [1] S1024 p 0xFF800000#32 reduces_S1024x768_S1024 (.inl rfl) rfl) shapeCasts_S1024_S1024x1)
    broadcasts_S1024x1_S1024x768))) bitsLt_bf16_f32

/-- Their products with the values and the ones: the first two heads' and the last two's. -/
def sums (x : FVec Ideal S1024x768 .bf16) (u w : FVec Ideal S768x128 .bf16) : FVec Ideal S1024x128 .f32 :=
  concatenate S1024x128 0
    [⟨S512x128, (matmul dot_S512x768_S768x128_S512x128_1_0_0_1_n_n none (extractStridedSlice S512x768 ![0, 0] x slices_S1024x768_o0_0_S512x768) u
        (constant S512x128 .f32 0x00000000#32) : FVec Ideal S512x128 .f32)⟩,
      ⟨S512x128, (matmul dot_S512x768_S768x128_S512x128_1_0_0_1_n_n none (extractStridedSlice S512x768 ![512, 0] x slices_S1024x768_o512_0_S512x768) w
        (constant S512x128 .f32 0x00000000#32) : FVec Ideal S512x128 .f32)⟩]
    concatenates_S512x128_S512x128_S1024x128_d0

/-- The quotients of the lanes and the lanes half a row away. -/
def quots (y : FVec Ideal S1024x128 .f32) : FVec Ideal S1024x128 .f32 := divf y (dynamicRotate 1 64#32 none y rotates_S1024x128_d1)

/-- The four heads side by side. -/
def laid (z : FVec Ideal S1024x128 .f32) : FVec Ideal S256x256 .bf16 :=
  truncf .bf16 (concatenate S256x256 1
    [⟨S256x128, select (cmpi .slt (iota .tc S256x128 32 [1] iota_S256x128_d1_w32) (broadcast S256x128 64#32))
        (extractStridedSlice S256x128 ![0, 0] z slices_S1024x128_o0_0_S256x128) (extractStridedSlice S256x128 ![512, 0] z slices_S1024x128_o512_0_S256x128)⟩,
      ⟨S256x128, select (cmpi .slt (iota .tc S256x128 32 [1] iota_S256x128_d1_w32) (broadcast S256x128 64#32))
        (extractStridedSlice S256x128 ![256, 0] z slices_S1024x128_o256_0_S256x128) (extractStridedSlice S256x128 ![768, 0] z slices_S1024x128_o768_0_S256x128)⟩]
    concatenates_S256x128_S256x128_S256x256_d1) bitsLt_bf16_f32

/-- The row of the four heads' table that an output column reads. -/
def slot (t f : Fin 256) : Fin 1024 := ⟨(f.val / 128 + 2 * (f.val % 128 / 64)) * 256 + t.val, by omega⟩
def lane (f : Fin 256) : Fin 128 := ⟨f.val % 128, Nat.mod_lt _ (by decide)⟩

theorem laid_apply (z : FVec Ideal S1024x128 .f32) (t f : Fin 256) : laid z (ix2 t f) = z (ix2 (slot t f) (lane f)) := by
  have hpick : ∀ (a b : Fin 1024) (e : Fin 128) (u v : FVec Ideal S256x128 .f32), u (ix2 t e) = z (ix2 a e) → v (ix2 t e) = z (ix2 b e) →
      select (cmpi .slt (iota .tc S256x128 32 [1] iota_S256x128_d1_w32) (broadcast S256x128 64#32)) u v (ix2 t e)
        = z (ix2 (if e.val < 64 then a else b) e) := by
    intro a b e u v hu hv
    rw [select_apply, low_apply, hu, hv]
    by_cases h : e.val < 64
    · rw [if_pos h, if_pos h]; rfl
    · rw [if_neg h, if_neg h]; rfl
  unfold laid
  refine (cols_concat _ _ concatenates_S256x128_S256x128_S256x256_d1 t f).trans ?_
  by_cases hf : f.val < 128
  · rw [if_pos hf]
    refine (hpick ⟨t.val, by omega⟩ ⟨512 + t.val, by omega⟩ (lane f) _ _
      (slice_apply z _ t (lane f) _ (lane f) (by show t.val = 0 + t.val; omega) (by omega))
      (slice_apply z _ t (lane f) _ (lane f) rfl (by omega))).trans ?_
    refine congrArg (fun a => z (ix2 a (lane f))) (Fin.ext ?_)
    show (if f.val % 128 < 64 then (⟨t.val, _⟩ : Fin 1024) else ⟨512 + t.val, _⟩).val = (f.val / 128 + 2 * (f.val % 128 / 64)) * 256 + t.val
    by_cases h : f.val % 128 < 64
    · rw [if_pos h]; show t.val = _; omega
    · rw [if_neg h]; show 512 + t.val = _; omega
  · rw [if_neg hf]
    refine (hpick ⟨256 + t.val, by omega⟩ ⟨768 + t.val, by omega⟩ (lane f) _ _
      (slice_apply z _ t (lane f) _ (lane f) rfl (by omega))
      (slice_apply z _ t (lane f) _ (lane f) rfl (by omega))).trans ?_
    refine congrArg (fun a => z (ix2 a (lane f))) (Fin.ext ?_)
    show (if f.val % 128 < 64 then (⟨256 + t.val, _⟩ : Fin 1024) else ⟨768 + t.val, _⟩).val = (f.val / 128 + 2 * (f.val % 128 / 64)) * 256 + t.val
    by_cases h : f.val % 128 < 64
    · rw [if_pos h]; show 256 + t.val = _; omega
    · rw [if_neg h]; show 768 + t.val = _; omega

theorem quots_apply (y : FVec Ideal S1024x128 .f32) (r : Fin 1024) (e : Fin 128) :
    quots y (ix2 r e) = Ideal.div (y (ix2 r e)) (y (ix2 r ⟨(e.val + 64) % 128, Nat.mod_lt _ (by decide)⟩)) := by
  unfold quots
  refine congrArg (Ideal.div (y (ix2 r e))) (dynamicRotate_apply 1 64#32 y rotates_S1024x128_d1 (ix2 r e) _ fun b => ?_)
  match b with
  | ⟨0, _⟩ => rfl
  | ⟨1, _⟩ =>
    show (e.val + 64) % 128 = (e.val + 128 - 64 % 128) % 128
    omega

/-- A row of products, given its scores and its maximum. -/
theorem sums_apply (p : FVec Ideal S1024x768 .f32) (u w : FVec Ideal S768x128 .bf16) (ok : Fin 1024 → Fin 768 → Prop)
    [∀ r, DecidablePred (ok r)] (s : Fin 1024 → Fin 768 → ℝ) (U : Fin 768 → Fin 128 → ℝ)
    (hp : ∀ r c, p (ix2 r c) = if ok r c then ((s r c : ℝ) : EReal) else ⊥)
    (hu : ∀ c e, u (ix2 c e) = ((if e.val < 64 then U c e else 1 : ℝ) : EReal))
    (hw : ∀ c e, w (ix2 c e) = ((if e.val < 64 then 1 else U c e : ℝ) : EReal)) (hd : ∀ r, ∃ c, ok r c) (r : Fin 1024) :
    ∃ m : ℝ, ∀ e, sums (expos p) u w (ix2 r e)
      = (((2 : ℝ) ^ (-m) * ∑ c, (if ok r c then (2 : ℝ) ^ s r c else 0) * (if r.val < 512 ↔ e.val < 64 then U c e else 1) : ℝ) : EReal) := by
  obtain ⟨m, hm⟩ := fold_max_real (fun c : Fin 768 => p (ix2 r c))
    (fun c => by
      rw [hp]
      split
      · exact EReal.coe_ne_top _
      · exact bot_ne_top)
    (by
      obtain ⟨c, hc⟩ := hd r
      exact ⟨c, by rw [hp, if_pos hc]; exact EReal.coe_ne_bot _⟩)
  refine ⟨m, fun e => ?_⟩
  have hx : ∀ c, expos p (ix2 r c) = Ideal.exp2 (p (ix2 r c) - (m : EReal)) := by
    intro c
    unfold expos
    refine congrArg Ideal.exp2 (congrArg (p (ix2 r c) - ·) ?_)
    refine (col_broadcast (by decide) _ _ r c).trans ((col_cast _ _ r).trans ?_)
    refine (Ideal.multiReduction_maximumf_single p _ reduces_S1024x768_S1024 (.inl rfl) rfl (ix1 r)).trans ?_
    refine (congrArg (fun b => (Finset.univ : Finset (Fin 768)).fold max b (p ∘ reduces_S1024x768_S1024.lift (ix1 r))) ofBits_neg_inf).trans ?_
    refine Eq.trans ?_ hm
    refine congrArg (fun f => (Finset.univ : Finset (Fin 768)).fold max ⊥ f) (funext fun c => congrArg p ?_)
    funext a
    match a with
    | ⟨0, _⟩ => rfl
    | ⟨1, _⟩ => rfl
  have hr := r.isLt
  unfold sums
  refine (rows_concat (by decide) _ _ _ r e (by decide)).trans ?_
  have key : ∀ (x : FVec Ideal S512x768 .bf16) (v : FVec Ideal S768x128 .bf16) (r' : Fin 512) (C : Fin 768 → ℝ),
      (∀ c, x (ix2 r' c) = expos p (ix2 r c)) → (∀ c, v (ix2 c e) = ((C c : ℝ) : EReal)) →
      matmul dot_S512x768_S768x128_S512x128_1_0_0_1_n_n none x v (constant S512x128 .f32 0x00000000#32) (ix2 r' e)
        = (((2 : ℝ) ^ (-m) * ∑ c, (if ok r c then (2 : ℝ) ^ s r c else 0) * C c : ℝ) : EReal) := by
    intro x v r' C h1 h2
    rw [← weigh m (fun c => p (ix2 r c)) (ok r) (s r) (fun c => v (ix2 c e)) C (hp r) h2]
    refine (Ideal.matmul_plain_apply (M := 512) (K := 768) (N := 128) none _ _ _ r' e).trans ?_
    rw [constant_apply, Ideal.ofBits_zero_f32, zero_add]
    exact Finset.sum_congr rfl fun c _ => congrArg (· * _) ((h1 c).trans (hx c))
  by_cases h : r.val < 512
  · rw [if_pos h]
    refine key _ _ _ _ (fun c => slice_apply (expos p) _ _ c r c ?_ (by omega)) fun c => (hu c e).trans ?_
    · show r.val = 0 + r.val % 512
      omega
    · by_cases he : e.val < 64
      · rw [if_pos he, if_pos (by simp [h, he])]
      · rw [if_neg he, if_neg (by simp [h, he])]
  · rw [if_neg h]
    refine key _ _ _ _ (fun c => slice_apply (expos p) _ _ c r c ?_ (by omega)) fun c => (hw c e).trans ?_
    · show r.val = 512 + r.val % 512
      omega
    · by_cases he : e.val < 64
      · rw [if_pos he, if_neg (by simp [h, he])]
      · rw [if_neg he, if_pos (by simp [h, he])]

/-- The block's result: at an output column the weighted mean of its head's row. -/
theorem mean_apply (p : FVec Ideal S1024x768 .f32) (u w : FVec Ideal S768x128 .bf16) (ok : Fin 1024 → Fin 768 → Prop)
    [∀ r, DecidablePred (ok r)] (s : Fin 1024 → Fin 768 → ℝ) (U : Fin 768 → Fin 128 → ℝ)
    (hp : ∀ r c, p (ix2 r c) = if ok r c then ((s r c : ℝ) : EReal) else ⊥)
    (hu : ∀ c e, u (ix2 c e) = ((if e.val < 64 then U c e else 1 : ℝ) : EReal))
    (hw : ∀ c e, w (ix2 c e) = ((if e.val < 64 then 1 else U c e : ℝ) : EReal)) (hd : ∀ r, ∃ c, ok r c) (t f : Fin 256) :
    laid (quots (sums (expos p) u w)) (ix2 t f)
      = (((∑ c, (if ok (slot t f) c then (2 : ℝ) ^ s (slot t f) c else 0) * U c (lane f))
          / ∑ c, (if ok (slot t f) c then (2 : ℝ) ^ s (slot t f) c else 0) : ℝ) : EReal) := by
  obtain ⟨m, hm⟩ := sums_apply p u w ok s U hp hu hw hd (slot t f)
  have hf := f.isLt
  have ht := t.isLt
  have h1 : ((slot t f).val < 512 ↔ (lane f).val < 64) := by
    show (f.val / 128 + 2 * (f.val % 128 / 64)) * 256 + t.val < 512 ↔ f.val % 128 < 64
    omega
  have h2 : ¬ ((slot t f).val < 512 ↔ ((lane f).val + 64) % 128 < 64) := by
    show ¬ ((f.val / 128 + 2 * (f.val % 128 / 64)) * 256 + t.val < 512 ↔ (f.val % 128 + 64) % 128 < 64)
    omega
  have hS : 0 < ∑ c, (if ok (slot t f) c then (2 : ℝ) ^ s (slot t f) c else 0) := by
    obtain ⟨c, hc⟩ := hd (slot t f)
    refine Finset.sum_pos' (fun c _ => ?_) ⟨c, Finset.mem_univ c, ?_⟩
    · split
      · exact (Real.rpow_pos_of_pos two_pos _).le
      · exact le_rfl
    · rw [if_pos hc]
      exact Real.rpow_pos_of_pos two_pos _
  have h2m : 0 < (2 : ℝ) ^ (-m) := Real.rpow_pos_of_pos two_pos _
  rw [laid_apply, quots_apply, hm, hm]
  simp only [if_pos h1, if_neg h2, mul_one]
  rw [div_coe (mul_pos h2m hS).ne', mul_div_mul_left _ _ h2m.ne']

/-! ## The payload -/

/-- The three blocks' scores, beside each other. -/
theorem scores_apply (n : Fin 8) (x y z : FVec Ideal S1024x256 .f32) (b : Vec Ideal S1x1024x768 .f32) (S B : Fin 1024 → ℕ → ℝ)
    (okb : Fin 1024 → ℕ → Prop) [∀ r, DecidablePred (okb r)]
    (hx : ∀ r (c : Fin 256), x (ix2 r c) = ((S r c.val : ℝ) : EReal))
    (hy : ∀ r (c : Fin 256), y (ix2 r c) = if 1 ≤ n.val then ((S r (256 + c.val) : ℝ) : EReal) else ⊥)
    (hz : ∀ r (c : Fin 256), z (ix2 r c) = if 2 ≤ n.val then ((S r (512 + c.val) : ℝ) : EReal) else ⊥)
    (hb : ∀ r (c : Fin 768), b (ix3 0 r c) = if okb r c.val then ((B r c.val : ℝ) : EReal) else ⊥) (r : Fin 1024) (c : Fin 768) :
    addf (concatenate S1024x768 1 [⟨S1024x256, x⟩, ⟨S1024x256, y⟩, ⟨S1024x256, z⟩] concatenates_S1024x256_S1024x256_S1024x256_S1024x768_d1)
      (shapeCast S1024x768 b shapeCasts_S1x1024x768_S1024x768) (ix2 r c)
      = if c.val / 256 ≤ n.val ∧ okb r c.val then ((S r c.val + B r c.val : ℝ) : EReal) else ⊥ := by
  have h1 : concatenate S1024x768 1 [⟨S1024x256, x⟩, ⟨S1024x256, y⟩, ⟨S1024x256, z⟩] concatenates_S1024x256_S1024x256_S1024x256_S1024x768_d1 (ix2 r c)
      = if c.val / 256 ≤ n.val then ((S r c.val : ℝ) : EReal) else ⊥ := by
    refine cols3 x y z _ (fun r k => if k / 256 ≤ n.val then ((S r k : ℝ) : EReal) else ⊥) (fun r c => ?_) (fun r c => ?_) (fun r c => ?_) r c
    · rw [hx, if_pos (by omega)]
    · rw [hy, show (256 + c.val) / 256 = 1 by omega]
    · rw [hz, show (512 + c.val) / 256 = 2 by omega]
  refine (congrArg₂ (· + ·) h1 ((drop_lead b _ r c).trans (hb r c))).trans ?_
  by_cases ha : c.val / 256 ≤ n.val
  · by_cases hk : okb r c.val
    · rw [if_pos ha, if_pos hk, if_pos ⟨ha, hk⟩, EReal.coe_add]
    · rw [if_pos ha, if_neg hk, if_neg (fun h => hk h.2)]
      exact EReal.add_bot _
  · have hn : ¬ (c.val / 256 ≤ n.val ∧ okb r c.val) := fun h => ha h.1
    rw [if_neg ha, if_neg hn]
    exact EReal.bot_add _

/-- What the body stores, of its loads: the scores of the three blocks of keys against the four heads' queries, and the
    values of the three blocks. -/
theorem stored_apply (n : Fin 8) (v0 : Vec Ideal S1x256x256 .bf16) (k0 k1 k2 : Vec Ideal S128x256 .bf16) (v0' v1' v2' : Vec Ideal S1x256x128 .bf16)
    (b : Vec Ideal S1x1024x768 .f32) (Q : Fin 256 → Fin 256 → ℝ) (K : Fin 128 → ℕ → ℝ) (W : ℕ → Fin 128 → ℝ) (pos : ℕ → ℕ)
    (B : Fin 1024 → ℕ → ℝ) (okb : Fin 1024 → ℕ → Prop) [∀ r, DecidablePred (okb r)]
    (hq : ∀ t c, v0 (ix3 0 t c) = ((Q t c : ℝ) : EReal))
    (hk0 : ∀ d (c : Fin 256), k0 (ix2 d c) = ((K d (pos 0 + c.val) : ℝ) : EReal))
    (hk1 : ∀ d (c : Fin 256), k1 (ix2 d c) = ((K d (pos 1 + c.val) : ℝ) : EReal))
    (hk2 : ∀ d (c : Fin 256), k2 (ix2 d c) = ((K d (pos 2 + c.val) : ℝ) : EReal))
    (hv0 : ∀ (c : Fin 256) e, v0' (ix3 0 c e) = ((W (pos 0 + c.val) e : ℝ) : EReal))
    (hv1 : ∀ (c : Fin 256) e, v1' (ix3 0 c e) = ((W (pos 1 + c.val) e : ℝ) : EReal))
    (hv2 : ∀ (c : Fin 256) e, v2' (ix3 0 c e) = ((W (pos 2 + c.val) e : ℝ) : EReal))
    (hb : ∀ r (c : Fin 768), b (ix3 0 r c) = if okb r c.val then ((B r c.val : ℝ) : EReal) else ⊥)
    (hd : ∀ r, ∃ c : Fin 768, c.val / 256 ≤ n.val ∧ okb r c.val) (t f : Fin 256) :
    k0_pay16 (k0_pay3 v0 k0) (k0_pay7 v0') (k0_pay8 v0') (k0_pay9 (BitVec.ofNat 32 n.val) (k0_pay2 v0) k1) (k0_pay13 v1') (k0_pay14 v1')
      (k0_pay15 (k0_pay2 v0) k2) (Scalar.cmpi .sge (BitVec.ofNat 32 n.val) 2#32) (Scalar.ofBits .f32 0x00000000#32) v2' b (ix2 t f)
      = (((∑ c : Fin 768, (if c.val / 256 ≤ n.val ∧ okb (slot t f) c.val then
              (2 : ℝ) ^ ((∑ d, four Q (slot t f) d * K d (pos (c.val / 256) + c.val % 256)) + B (slot t f) c.val) else 0)
            * W (pos (c.val / 256) + c.val % 256) (lane f))
          / ∑ c : Fin 768, (if c.val / 256 ≤ n.val ∧ okb (slot t f) c.val then
              (2 : ℝ) ^ ((∑ d, four Q (slot t f) d * K d (pos (c.val / 256) + c.val % 256)) + B (slot t f) c.val) else 0) : ℝ) : EReal) := by
  have hq2 := pay2_apply v0 Q hq
  have p0 : ∀ c : Fin 256, pos (c.val / 256) + c.val % 256 = pos 0 + c.val := fun c => by
    rw [show c.val / 256 = 0 by omega, show c.val % 256 = c.val by omega]
  have p1 : ∀ c : Fin 256, pos ((256 + c.val) / 256) + (256 + c.val) % 256 = pos 1 + c.val := fun c => by
    rw [show (256 + c.val) / 256 = 1 by omega, show (256 + c.val) % 256 = c.val by omega]
  have p2 : ∀ c : Fin 256, pos ((512 + c.val) / 256) + (512 + c.val) % 256 = pos 2 + c.val := fun c => by
    rw [show (512 + c.val) / 256 = 2 by omega, show (512 + c.val) % 256 = c.val by omega]
  have hback : ∀ (x : FVec Ideal S1024x256 .f32) (z : Ideal .f32) (a : ℝ) (P : Prop) [Decidable P] (r : Fin 1024) (c : Fin 256),
      x (ix2 r c) = (a : EReal) → z = (if P then ((0 : ℝ) : EReal) else ⊥) →
      addf x (broadcast S1024x256 z) (ix2 r c) = if P then (a : EReal) else ⊥ := by
    intro x z a P _ r c h1 h2
    refine (congrArg₂ (· + ·) h1 h2).trans ?_
    by_cases h : P
    · rw [if_pos h, if_pos h, ← EReal.coe_add, add_zero]
    · rw [if_neg h, if_neg h]
      exact EReal.add_bot _
  refine mean_apply _ _ _ (fun r c => c.val / 256 ≤ n.val ∧ okb r c.val)
    (fun r c => (∑ d, four Q r d * K d (pos (c.val / 256) + c.val % 256)) + B r c.val)
    (fun c e => W (pos (c.val / 256) + c.val % 256) e) ?_ ?_ ?_ hd t f
  · refine scores_apply n _ _ _ b (fun r c => ∑ d, four Q r d * K d (pos (c / 256) + c % 256)) B okb (fun r c => ?_) (fun r c => ?_) (fun r c => ?_) hb
    · simp only [p0 c]
      exact score_apply _ k0 _ K (pos 0) hq2 hk0 r c
    · simp only [p1 c]
      exact hback _ _ _ _ r c (score_apply _ k1 _ K (pos 1) hq2 hk1 r c) (back_apply n 1)
    · simp only [p2 c]
      exact hback _ _ _ _ r c (score_apply _ k2 _ K (pos 2) hq2 hk2 r c) (back_apply n 2)
  · refine rows3 _ _ _ _ (fun c e => ((if e.val < 64 then W (pos (c / 256) + c % 256) e else 1 : ℝ) : EReal)) (fun c e => ?_) (fun c e => ?_) (fun c e => ?_)
    · simp only [p0 c]
      exact lower_apply v0' W (pos 0) hv0 c e
    · simp only [p1 c]
      exact lower_apply v1' W (pos 1) hv1 c e
    · simp only [p2 c]
      exact lower_apply v2' W (pos 2) hv2 c e
  · refine rows3 _ _ _ _ (fun c e => ((if e.val < 64 then 1 else W (pos (c / 256) + c % 256) e : ℝ) : EReal)) (fun c e => ?_) (fun c e => ?_) (fun c e => ?_)
    · simp only [p0 c]
      exact upper_apply v0' W (pos 0) hv0 c e
    · simp only [p1 c]
      exact upper_apply v1' W (pos 1) hv1 c e
    · simp only [p2 c]
      exact upper_apply v2' W (pos 2) hv2 c e

end Cert.WinAttnIdeal.Win

end
-- ==== Proof.WinBody.lean ====
/-
  What the windowed attention's body leaves in its result's block, at an index, where its operands' blocks are real.
-/
module

public import proofs.«01_k».proof.Proof.WinOut
public import proofs.«01_k».proof.Proof.Final
public import proofs.«01_k».proof.Proof.Output
public import proofs.«01_k».proof.Proof.Gen.WinAttnIdeal.Frame

@[expose] public section

set_option maxRecDepth 16384

noncomputable section

namespace Cert.WinAttnIdeal.Win

open Cert.WinAttnIdeal Cert.WinAttnIdeal.Gen
open Cert.KernelIdeal.Attn (add_lead ld_keys ld_values)
open Idealize.ShloMosaic Idealize.ShloMosaic.TcCoe Idealize.ShloMosaic.ValueIdx Idealize.SL.Sem
open Idealize.ShloMosaic (Ideal)

/-- The stored block. -/
def outBlk (i : grid0.Coords) (x0 : Vec Ideal S1x256x256 .bf16) (x1 : Vec Ideal S128x2048 .bf16) (x2 : Vec Ideal S1x2048x128 .bf16)
    (x3 : Vec Ideal S1x1024x768 .f32) : FVec Ideal S1x256x256 .bf16 :=
  k0_pay1 (k0_pay16 (k0_pay3 x0 (View.ld x1 (Rect.unit (s := S128x2048) (k0_off1 i 0#32) S128x256.size (k0_off1_inb i 0))))
    (k0_pay7 (View.ld x2 (Rect.unit (s := S1x2048x128) (k0_off2 i 0#32) S1x256x128.size (k0_off2_inb i 0))))
    (k0_pay8 (View.ld x2 (Rect.unit (s := S1x2048x128) (k0_off2 i 0#32) S1x256x128.size (k0_off2_inb i 0))))
    (k0_pay9 (BitVec.ofNat 32 (i 2).val) (k0_pay2 x0) (View.ld x1 (Rect.unit (s := S128x2048) (k0_off1 i 1#32) S128x256.size (k0_off1_inb i 1))))
    (k0_pay13 (View.ld x2 (Rect.unit (s := S1x2048x128) (k0_off2 i 1#32) S1x256x128.size (k0_off2_inb i 1))))
    (k0_pay14 (View.ld x2 (Rect.unit (s := S1x2048x128) (k0_off2 i 1#32) S1x256x128.size (k0_off2_inb i 1))))
    (k0_pay15 (k0_pay2 x0) (View.ld x1 (Rect.unit (s := S128x2048) (k0_off1 i 2#32) S128x256.size (k0_off1_inb i 2))))
    (Scalar.cmpi .sge (BitVec.ofNat 32 (i 2).val) 2#32) (Scalar.ofBits .f32 0x00000000#32)
    (View.ld x2 (Rect.unit (s := S1x2048x128) (k0_off2 i 2#32) S1x256x128.size (k0_off2_inb i 2))) x3)

theorem readAt_unread {s : Shape} {e : EltTy} (a : Memref sig .tc .vmem s e) (h : a.IsWhole) (x : s.Idx → Elt Ideal e) (r : Rect s) :
    View.readAt (Elt Ideal) a.view r.toLoadRect (h.unread x) = View.ld x r :=
  (show _ = View.ld (View.read (Elt Ideal) a.view (h.unread x)) r from rfl).trans (congrArg (fun z => View.ld z r) (h.read_unread x))

/-- The run leaves the stored block. -/
theorem out_eq (c : Dev nD) (i : grid0.Coords) (arg3 : Memref sig .tc .vmem S1x256x256 .bf16) (harg3 : arg3.IsWhole)
    (arg4 : Memref sig .tc .vmem S128x2048 .bf16) (harg4 : arg4.IsWhole) (arg5 : Memref sig .tc .vmem S1x2048x128 .bf16) (harg5 : arg5.IsWhole)
    (arg6 : Memref sig .tc .vmem S1x1024x768 .f32) (harg6 : arg6.IsWhole) (arg7 : Memref sig .tc .vmem S1x256x256 .bf16) (harg7 : arg7.IsWhole)
    (x0 : Vec Ideal S1x256x256 .bf16) (x1 : Vec Ideal S128x2048 .bf16) (x2 : Vec Ideal S1x2048x128 .bf16) (x3 : Vec Ideal S1x1024x768 .f32) :
    out0_A_4 c i arg3 harg3 arg4 harg4 arg5 harg5 arg6 harg6 arg7 harg7 x0 x1 x2 x3 = outBlk i x0 x1 x2 x3 := by
  unfold out0_A_4
  refine (View.read_writes_eq_canon _ _ _ (cover0_A_4 c i arg3 harg3 arg4 harg4 arg5 harg5 arg6 harg6 arg7 harg7 x0 x1 x2 x3)).trans ?_
  unfold kernelRun0_A
  dsimp only
  sl_unfold_run_names
  simp only [readAt_unread]
  have h3 : (![0, 0, 0] : Fin 3 → ℕ) = fun _ => 0 := by decide
  rw [View.ld_unit_zero (S := S1x256x256) h3 _ x0, View.ld_unit_zero (S := S1x1024x768) h3 _ x3]
  exact View.canon_unit_zero (S := S1x256x256) h3 _ _

/-- A grid point of query block `n`. -/
def pt (n : Fin 8) : grid0.Coords := fun a => match a with
  | ⟨0, _⟩ => (0 : Fin 16)
  | ⟨1, _⟩ => (0 : Fin 2)
  | ⟨2, _⟩ => n

/-- Offset `d` of a grid point's loads: block `d` of keys before the queries' own, as far as there is one. -/
theorem off1_eq (i : grid0.Coords) (n : Fin 8) (hn : (i 2).val = n.val) (d : Fin 3) : k0_off1 i (BitVec.ofNat 32 d.val) = ![0, 256 * (n.val - d.val)] := by
  have h : ∀ (n : Fin 8) (d : Fin 3), k0_off1 (pt n) (BitVec.ofNat 32 d.val) = ![0, 256 * (n.val - d.val)] := by decide +kernel
  rw [← hn]
  exact h (i 2) d

theorem off2_eq (i : grid0.Coords) (n : Fin 8) (hn : (i 2).val = n.val) (d : Fin 3) : k0_off2 i (BitVec.ofNat 32 d.val) = ![0, 256 * (n.val - d.val), 0] := by
  have h : ∀ (n : Fin 8) (d : Fin 3), k0_off2 (pt n) (BitVec.ofNat 32 d.val) = ![0, 256 * (n.val - d.val), 0] := by decide +kernel
  rw [← hn]
  exact h (i 2) d

/-- The stored block at an index. -/
theorem outBlk_apply (i : grid0.Coords) (n : Fin 8) (hn : (i 2).val = n.val) (x0 : Vec Ideal S1x256x256 .bf16) (x1 : Vec Ideal S128x2048 .bf16)
    (x2 : Vec Ideal S1x2048x128 .bf16) (x3 : Vec Ideal S1x1024x768 .f32) (Q : Fin 256 → Fin 256 → ℝ) (K : Fin 128 → ℕ → ℝ) (W : ℕ → Fin 128 → ℝ)
    (B : Fin 1024 → ℕ → ℝ) (okb : Fin 1024 → ℕ → Prop) [∀ r, DecidablePred (okb r)]
    (hq : ∀ t c, x0 (ix3 0 t c) = ((Q t c : ℝ) : EReal))
    (hk : ∀ d (j : Fin 2048), x1 (ix2 d j) = ((K d j.val : ℝ) : EReal))
    (hv : ∀ (j : Fin 2048) e, x2 (ix3 0 j e) = ((W j.val e : ℝ) : EReal))
    (hb : ∀ r (c : Fin 768), x3 (ix3 0 r c) = if okb r c.val then ((B r c.val : ℝ) : EReal) else ⊥)
    (hd : ∀ r, ∃ c : Fin 768, c.val / 256 ≤ n.val ∧ okb r c.val) (t f : Fin 256) :
    outBlk i x0 x1 x2 x3 (ix3 0 t f)
      = (((∑ c : Fin 768, (if c.val / 256 ≤ n.val ∧ okb (slot t f) c.val then
              (2 : ℝ) ^ ((∑ d, four Q (slot t f) d * K d (256 * (n.val - c.val / 256) + c.val % 256)) + B (slot t f) c.val) else 0)
            * W (256 * (n.val - c.val / 256) + c.val % 256) (lane f))
          / ∑ c : Fin 768, (if c.val / 256 ≤ n.val ∧ okb (slot t f) c.val then
              (2 : ℝ) ^ ((∑ d, four Q (slot t f) d * K d (256 * (n.val - c.val / 256) + c.val % 256)) + B (slot t f) c.val) else 0) : ℝ) : EReal) := by
  unfold outBlk k0_pay1
  rw [add_lead, hn]
  exact stored_apply n x0 _ _ _ _ _ _ x3 Q K W (fun d => 256 * (n.val - d)) B okb hq
    (ld_keys x1 K hk _ (off1_eq i n hn 0) _) (ld_keys x1 K hk _ (off1_eq i n hn 1) _) (ld_keys x1 K hk _ (off1_eq i n hn 2) _)
    (ld_values x2 W hv _ (off2_eq i n hn 0) _) (ld_values x2 W hv _ (off2_eq i n hn 1) _) (ld_values x2 W hv _ (off2_eq i n hn 2) _) hb hd t f

end Cert.WinAttnIdeal.Win

end
-- ==== Proof.WinTerms.lean ====
/-
  What the windowed attention's program prepares for the kernel, as functions of its arguments: the bias tiles, the scaled
  queries, and the doubled keys and values.
-/
module

public import proofs.«01_k».proof.Proof.HostTerms
public import proofs.«01_k».proof.Proof.Gen.WinAttnIdeal.Frame
public import Idealize.ShloMosaic.Lib.Claim

@[expose] public section

set_option maxRecDepth 16384

noncomputable section

namespace Cert.WinAttnIdeal.Win

open Cert.WinAttnIdeal Cert.WinAttnIdeal.Gen
open Cert.KernelIdeal.Attn (invLog2)
open Idealize.ShloMosaic Idealize.ShloMosaic.TcCoe Idealize.SL.Sem
open Idealize.ShloMosaic (Ideal)

/-! ## The bias tiles -/

/-- The eight heads' biases less the last bucket's, scaled. -/
def scaled (x : FVec Ideal S32x12 .f32) : FVec Ideal S32x8 .f32 :=
  mulf (subf (extractStridedSlice S32x8 ![0, 4] x slices_S32x12_S32x8_0_4)
      (broadcastInDim S32x8 ![0, 1] bcast_S1x8_S32x8_0_1 (broadcastInDim S1x8 ![1] bcast_S8_S1x8_1
        (shapeCast S8 (extractStridedSlice S1x8 ![31, 0] (extractStridedSlice S32x8 ![0, 4] x slices_S32x12_S32x8_0_4) slices_S32x8_S1x8_31_0)
          shapeCasts_S1x8_S8))))
    (broadcastInDim S32x8 ![] bcast_S_S32x8 invLog2)

/-- The bucket numbers along the three first rows of tiles. -/
def bucketRow : IVec S3x512x1 32 :=
  broadcastInDim S3x512x1 ![0, 1] bcast_S3x512_S3x512x1_0_1 (select (constantI S3x512 1 0#1)
    (addi (fun i => lit0 (S3x512.rowMajor i)) (broadcastInDim S3x512 ![] bcast_S_S3x512 (constantI S_ 32 32#32)))
    (fun i => lit0 (S3x512.rowMajor i)))

/-- The biases along the three first rows, head by head. -/
def biasRow (x : FVec Ideal S32x12 .f32) : FVec Ideal S8x3x512 .f32 :=
  transpose S8x3x512 [2, 0, 1] (Host.gather gather_S32x8_S3x512x1_S3x512x8_2_0_n_n_0_2_18 (scaled x) bucketRow)
    transposes_S3x512x8_S8x3x512_2_0_1

/-- The rows laid out one after the other, each a step further right. -/
def shifted (y : FVec Ideal S8x3x512 .f32) : FVec Ideal S8x3x256x256 .f32 :=
  extractStridedSlice S8x3x256x256 ![0, 0, 0, 0]
    (shapeCast S8x3x256x511
      (extractStridedSlice S8x3x130816 ![0, 0, 0]
        (shapeCast S8x3x131072
          (broadcastInDim S1x8x1x3x256x512 ![0, 1, 2, 3, 4, 5] bcast_S1x8x1x3x1x512_S1x8x1x3x256x512_0_1_2_3_4_5
            (shapeCast S1x8x1x3x1x512 y shapeCasts_S8x3x512_S1x8x1x3x1x512))
          shapeCasts_S1x8x1x3x256x512_S8x3x131072)
        slices_S8x3x131072_S8x3x130816_0_0_0)
      shapeCasts_S8x3x130816_S8x3x256x511)
    slices_S8x3x256x511_S8x3x256x256_0_0_0_0

/-- How far a key of a tile is behind the query. -/
def behind : IVec S3x256x256 32 :=
  subi
    (broadcastInDim S3x256x256 ![0, 1, 2] bcast_S3x256x1_S3x256x256_0_1_2
      (addi
        (broadcastInDim S3x256x1 ![0, 1, 2] bcast_S3x1x1_S3x256x1_0_1_2
          (muli (broadcastInDim S3x1x1 ![0] bcast_S3_S3x1x1_0 (iotaInDim S3 32 0))
            (broadcastInDim S3x1x1 ![] bcast_S_S3x1x1 (constantI S_ 32 256#32))))
        (broadcastInDim S3x256x1 ![0, 1, 2] bcast_S1x256x1_S3x256x1_0_1_2
          (broadcastInDim S1x256x1 ![1] bcast_S256_S1x256x1_1 (iotaInDim S256 32 0)))))
    (broadcastInDim S3x256x256 ![0, 1, 2] bcast_S1x1x256_S3x256x256_0_1_2
      (broadcastInDim S1x1x256 ![2] bcast_S256_S1x1x256_2 (iotaInDim S256 32 0)))

/-- Which keys of the three tiles are in the query's window. -/
def seen : IVec S3x256x256 1 :=
  andi (cmpi .sge behind (broadcastInDim S3x256x256 ![] bcast_S_S3x256x256 (constantI S_ 32 0#32)))
    (cmpi .slt behind (broadcastInDim S3x256x256 ![] bcast_S_S3x256x256 (constantI S_ 32 512#32)))

/-- The three tiles, with the keys outside the window masked. -/
def masked (y : FVec Ideal S8x3x512 .f32) : FVec Ideal S8x3x256x256 .f32 :=
  select (broadcastInDim S8x3x256x256 ![0, 1, 2, 3] bcast_S1x3x256x256_S8x3x256x256_0_1_2_3
      (broadcastInDim S1x3x256x256 ![1, 2, 3] bcast_S3x256x256_S1x3x256x256_1_2_3 seen))
    (shifted y) (broadcastInDim S8x3x256x256 ![] bcast_S_S8x3x256x256 (constant S_ .f32 0xFF800000#32))

/-- The order in which the kernel takes a group's heads. -/
def order : IVec S4x1 32 :=
  broadcastInDim S4x1 ![0] bcast_S4_S4x1_0 (select (constantI S4 1 0#1)
    (addi (fun i => lit1 (S4.rowMajor i)) (broadcastInDim S4 ![] bcast_S_S4 (constantI S_ 32 4#32)))
    (fun i => lit1 (S4.rowMajor i)))

/-- A group's tiles: its heads one below the other, the three blocks of keys side by side. -/
def stacked (z : FVec Ideal S8x3x256x256 .f32) : FVec Ideal S2x1024x768 .f32 :=
  shapeCast S2x1024x768
    (transpose S2x1024x3x256 [0, 2, 1, 3]
      (shapeCast S2x3x1024x256
        (transpose S2x3x4x256x256 [0, 2, 1, 3, 4]
          (Host.gather gather_S2x4x3x256x256_S4x1_S2x4x3x256x256_0234_1_n_n_1_1_213256256
            (shapeCast S2x4x3x256x256 z shapeCasts_S8x3x256x256_S2x4x3x256x256) order)
          transposes_S2x4x3x256x256_S2x3x4x256x256_0_2_1_3_4)
        shapeCasts_S2x3x4x256x256_S2x3x1024x256)
      transposes_S2x3x1024x256_S2x1024x3x256_0_2_1_3)
    shapeCasts_S2x1024x3x256_S2x1024x768

/-! ## Queries, keys, values -/

def queries (x : FVec Ideal S16x2048x512 .f32) : FVec Ideal S16x2048x512 .bf16 :=
  truncf .bf16 (mulf x (broadcastInDim S16x2048x512 ![] bcast_S_S16x2048x512 (mulf (constant S_ .f32 0x3E000000#32) invLog2))) bitsLt_bf16_f32

/-- Each group's lanes twice. -/
def doubled (x : FVec Ideal S16x2048x128 .f32) : FVec Ideal S16x2048x256 .f32 :=
  concatenate S16x2048x256 2
    [⟨S16x2048x64, extractStridedSlice S16x2048x64 ![0, 0, 0] x slices_S16x2048x128_S16x2048x64_0_0_0⟩,
      ⟨S16x2048x64, extractStridedSlice S16x2048x64 ![0, 0, 0] x slices_S16x2048x128_S16x2048x64_0_0_0⟩,
      ⟨S16x2048x64, extractStridedSlice S16x2048x64 ![0, 0, 64] x slices_S16x2048x128_S16x2048x64_0_0_64⟩,
      ⟨S16x2048x64, extractStridedSlice S16x2048x64 ![0, 0, 64] x slices_S16x2048x128_S16x2048x64_0_0_64⟩]
    concatenates_S16x2048x64_S16x2048x64_S16x2048x64_S16x2048x64_S16x2048x256_d2

def keysT (x : FVec Ideal S16x2048x128 .f32) : FVec Ideal S256x32768 .bf16 :=
  truncf .bf16 (transpose S256x32768 [1, 0] (shapeCast S32768x256 (doubled x) shapeCasts_S16x2048x256_S32768x256) transposes_S32768x256_S256x32768_1_0)
    bitsLt_bf16_f32

def values (x : FVec Ideal S16x2048x128 .f32) : FVec Ideal S16x2048x256 .bf16 := truncf .bf16 (doubled x) bitsLt_bf16_f32

/-! ## The contents of the kernel's operands -/

variable (m : (ℓ : Loc nD τ sig) → Buf (Elt Ideal) ℓ) (c : Dev nD)

set_option maxHeartbeats 8000000 in
theorem V_v58 : V m c main_v58 = queries (m ((c : Thread nD τ).loc main_arg0)) := by
  show StableHlo.after (List.flatten [hostOps0, hostOps0_1, hostOps0_2]) (fun b => m (c, b)) (Proc.tc.devRef main_v58) = _
  simp only [hostOps0, hostOps0_1, hostOps0_2, List.flatten_cons, List.flatten_nil, List.append_nil, List.cons_append, List.nil_append]
  after_results_simp
  rfl

set_option maxHeartbeats 8000000 in
theorem V_v66 : V m c main_v66 = keysT (m ((c : Thread nD τ).loc main_arg1)) := by
  show StableHlo.after (List.flatten [hostOps0, hostOps0_1, hostOps0_2]) (fun b => m (c, b)) (Proc.tc.devRef main_v66) = _
  simp only [hostOps0, hostOps0_1, hostOps0_2, List.flatten_cons, List.flatten_nil, List.append_nil, List.cons_append, List.nil_append]
  after_results_simp
  rfl

set_option maxHeartbeats 8000000 in
theorem V_v72 : V m c main_v72 = values (m ((c : Thread nD τ).loc main_arg2)) := by
  show StableHlo.after (List.flatten [hostOps0, hostOps0_1, hostOps0_2]) (fun b => m (c, b)) (Proc.tc.devRef main_v72) = _
  simp only [hostOps0, hostOps0_1, hostOps0_2, List.flatten_cons, List.flatten_nil, List.append_nil, List.cons_append, List.nil_append]
  after_results_simp
  rfl

set_option maxHeartbeats 16000000 in
theorem V_v52 : V m c main_v52 = stacked (masked (biasRow (m ((c : Thread nD τ).loc main_arg3)))) := by
  show StableHlo.after (List.flatten [hostOps0, hostOps0_1, hostOps0_2]) (fun b => m (c, b)) (Proc.tc.devRef main_v52) = _
  simp only [hostOps0, hostOps0_1, hostOps0_2, List.flatten_cons, List.flatten_nil, List.append_nil, List.cons_append, List.nil_append]
  after_results_simp
  after_results_loop
  rfl

end Cert.WinAttnIdeal.Win

end
-- ==== Proof.WinSpec.lean ====
/-
  The windowed attention, as real numbers: eight query heads in two groups, each group's four heads sharing its keys and
  values. A query sees the 512 keys that end at its own position.
-/
module

public import proofs.«01_k».proof.Proof.Spec

@[expose] public section

noncomputable section

namespace Cert.Win

open Cert.Attn
open Idealize.ShloMosaic Idealize.ShloMosaic.ValueIdx
open Idealize.ShloMosaic (Ideal)

/-- The queries, and the keys or the values. -/
abbrev Qs : Type := FVec Ideal (⟨3, ![16, 2048, 512]⟩ : Shape) .f32
abbrev Ks : Type := FVec Ideal (⟨3, ![16, 2048, 128]⟩ : Shape) .f32

/-- Lane `d` of head `j` of group `g`, in the queries and in the keys. -/
def qchan (g : Fin 2) (j : Fin 4) (d : Fin 64) : Fin 512 := ⟨g.val * 256 + j.val * 64 + d.val, by omega⟩
def kchan (g : Fin 2) (d : Fin 64) : Fin 128 := ⟨g.val * 64 + d.val, by omega⟩

/-- The head's column of the bias table: the first four are other heads'. -/
def head (g : Fin 2) (j : Fin 4) : Fin 12 := ⟨4 + (g.val * 4 + j.val), by omega⟩

/-- The query at `p` sees the key at `k`. -/
def inside (p k : ℕ) : Prop := k ≤ p ∧ p < k + 512

instance (p k : ℕ) : Decidable (inside p k) := by unfold inside; infer_instance

def bias (x3 : Tab) (g : Fin 2) (j : Fin 4) (b : Fin 32) : ℝ := (x3 (ix2 b (head g j))).toReal

/-- The score: the scaled inner product and the bias of the distance. -/
def score (x0 : Qs) (x1 : Ks) (x3 : Tab) (b : Fin 16) (g : Fin 2) (j : Fin 4) (p k : Fin 2048) : ℝ :=
  (∑ d : Fin 64, (x0 (ix3 b p (qchan g j d))).toReal * (x1 (ix3 b k (kchan g d))).toReal) * (1 / 8)
    + bias x3 g j ⟨bucket (p.val - k.val), bucket_lt _⟩

/-- Whether a difference is below the window's length. -/
theorem sub_slt (p k : ℕ) (hp : p < 2048) (hk : k < 2048) :
    IntOp.cmpi .slt (BitVec.ofNat 32 p - BitVec.ofNat 32 k) 512#32 = if p < k + 512 then 1#1 else 0#1 := by
  have e : (BitVec.ofNat 32 p - BitVec.ofNat 32 k).toInt = (p : ℤ) - k := by
    rw [BitVec.toInt_eq_toNat_cond, BitVec.toNat_sub, BitVec.toNat_ofNat, BitVec.toNat_ofNat]
    omega
  have e2 : BitVec.slt (BitVec.ofNat 32 p - BitVec.ofNat 32 k) 512#32 = decide (p < k + 512) := by
    rw [BitVec.slt, e]
    refine decide_eq_decide.mpr ?_
    show (p : ℤ) - k < 512 ↔ p < k + 512
    omega
  show BitVec.ofBool (BitVec.slt (BitVec.ofNat 32 p - BitVec.ofNat 32 k) 512#32) = _
  rw [e2]
  by_cases h : p < k + 512
  · rw [if_pos h, decide_eq_true h]; rfl
  · rw [if_neg h, decide_eq_false h]; rfl

/-- The weight, before its division by the row's sum. -/
def wt (x0 : Qs) (x1 : Ks) (x3 : Tab) (b : Fin 16) (g : Fin 2) (j : Fin 4) (p k : Fin 2048) : ℝ :=
  if inside p.val k.val then Real.exp (score x0 x1 x3 b g j p k) else 0

theorem wt_sum_pos (x0 : Qs) (x1 : Ks) (x3 : Tab) (b : Fin 16) (g : Fin 2) (j : Fin 4) (p : Fin 2048) :
    0 < ∑ k, wt x0 x1 x3 b g j p k := by
  refine Finset.sum_pos' (fun k _ => ?_) ⟨p, Finset.mem_univ p, ?_⟩
  · unfold wt
    split
    · exact (Real.exp_pos _).le
    · exact le_rfl
  · rw [wt, if_pos ⟨le_rfl, by omega⟩]
    exact Real.exp_pos _

/-- The weighted mean of the values. -/
def soft (x0 : Qs) (x1 x2 : Ks) (x3 : Tab) (b : Fin 16) (g : Fin 2) (j : Fin 4) (p : Fin 2048) (e : Fin 64) : ℝ :=
  (∑ k, wt x0 x1 x3 b g j p k * (x2 (ix3 b k (kchan g e))).toReal) / ∑ k, wt x0 x1 x3 b g j p k

/-- The result. -/
def result (x0 : Qs) (x1 x2 : Ks) (x3 : Tab) : FVec Ideal (⟨3, ![16, 2048, 512]⟩ : Shape) .f32 := fun i =>
  ((soft x0 x1 x2 x3 (i 0) ⟨(i 2).val / 256, by have : (i 2).val < 512 := (i 2).isLt; omega⟩
    ⟨(i 2).val % 256 / 64, by omega⟩ (i 1) ⟨(i 2).val % 64, by omega⟩ : ℝ) : EReal)

/-- The arguments are arrays of real numbers, as far as they are used. -/
structure Reals (x0 : Qs) (x1 x2 : Ks) (x3 : Tab) : Prop where
  h0 : ∀ i, (((x0 i).toReal : ℝ) : EReal) = x0 i
  h1 : ∀ i, (((x1 i).toReal : ℝ) : EReal) = x1 i
  h2 : ∀ i, (((x2 i).toReal : ℝ) : EReal) = x2 i
  h3 : ∀ b g j, (((x3 (ix2 b (head g j))).toReal : ℝ) : EReal) = x3 (ix2 b (head g j))

end Cert.Win

end
-- ==== Proof.WinTiles.lean ====
/-
  The windowed attention's operands, read at an index, where the arguments are real.
-/
module

public import proofs.«01_k».proof.Proof.WinTerms
public import proofs.«01_k».proof.Proof.WinSpec
public import proofs.«01_k».proof.Proof.HostArgs

@[expose] public section

set_option maxRecDepth 16384

noncomputable section

namespace Cert.WinAttnIdeal.Win

open Cert.WinAttnIdeal Cert.WinAttnIdeal.Gen Cert.Win
open Cert.Attn (bucket bucket_lt sub_sge_zero Tab ofBits_neg_inf take_rows_apply)
open Cert.KernelIdeal.Attn (invLog2 invLog2_apply ofBits_eighth clamp_bucket)
open Idealize.ShloMosaic Idealize.ShloMosaic.ValueIdx
open Idealize.ShloMosaic (Ideal)

/-! ## The bias tiles -/

/-- The table's rows hold the buckets of the distances in the diagonal tile, in the one before it, and in the one before that. -/
theorem table0 (p : Fin 512) (h : (512 - p.val) % 512 < 256) : lit0 ⟨p.val, by omega⟩ = BitVec.ofNat 32 (bucket ((512 - p.val) % 512)) := by
  revert p
  decide +kernel

theorem table1 (p : Fin 512) (h : p.val ≠ 256) : lit0 ⟨512 + p.val, by omega⟩ = BitVec.ofNat 32 (bucket ((768 - p.val) % 512)) := by
  revert p
  decide +kernel

theorem table2 (p : Fin 512) (h : 1 ≤ p.val ∧ p.val < 256) : lit0 ⟨1024 + p.val, by omega⟩ = BitVec.ofNat 32 (bucket (512 - p.val)) := by
  revert p
  decide +kernel

/-- The bucket numbers at an index. -/
theorem bucketRow_apply (a : Fin 3) (p : Fin 512) : bucketRow (ix3 a p 0) = lit0 ⟨a.val * 512 + p.val, by omega⟩ := by
  have e : bucketRow (ix3 a p 0) = lit0 (S3x512.rowMajor (ix2 a p)) := by
    unfold bucketRow
    rw [broadcastInDim_apply _ _ _ _ (ix2 a p) (fun b => by match b with | ⟨0, _⟩ => rfl | ⟨1, _⟩ => rfl)]
    rfl
  rw [e]
  exact congrArg lit0 (Fin.ext (Shape.rowMajor_val_two _))

/-- The bias along the three rows at an index. -/
theorem biasRow_apply (x : FVec Ideal S32x12 .f32) (h : Fin 8) (a : Fin 3) (p : Fin 512) :
    biasRow x (ix3 h a p) = scaled x (ix2 ⟨min (bucketRow (ix3 a p 0)).toInt.toNat 31, by omega⟩ h) := by
  unfold biasRow
  rw [transpose_apply _ _ _ _ (ix3 a p h) (fun b => by match b with | ⟨0, _⟩ => rfl | ⟨1, _⟩ => rfl | ⟨2, _⟩ => rfl)]
  exact take_rows_apply (N := 32) (M := 8) (R := 3) (C := 512) (by decide) gather_S32x8_S3x512x1_S3x512x8_2_0_n_n_0_2_18.wf _ _ a p h

/-- The rows laid out at an index: row `t` begins `t` to the left. -/
theorem shifted_apply (y : FVec Ideal S8x3x512 .f32) (h : Fin 8) (a : Fin 3) (t c : Fin 256) :
    shifted y (ix4 h a t c) = y (ix3 h a ⟨(t.val * 511 + c.val) % 512, by omega⟩) := by
  unfold shifted
  rw [extractStridedSlice_apply _ _ _ _ (ix4 h a t ⟨c.val, by omega⟩) (fun b => by
      match b with
      | ⟨0, _⟩ => exact (Nat.zero_add _).symm
      | ⟨1, _⟩ => exact (Nat.zero_add _).symm
      | ⟨2, _⟩ => exact (Nat.zero_add _).symm
      | ⟨3, _⟩ => exact (Nat.zero_add _).symm),
    shapeCast_apply _ _ _ (ix3 h a ⟨t.val * 511 + c.val, by omega⟩) (by
      rw [Shape.rowMajor_val_three, Shape.rowMajor_val_four]
      show (h.val * 3 + a.val) * 130816 + (t.val * 511 + c.val) = ((h.val * 3 + a.val) * 256 + t.val) * 511 + c.val
      omega),
    extractStridedSlice_apply _ _ _ _ (ix3 h a ⟨t.val * 511 + c.val, by omega⟩) (fun b => by
      match b with
      | ⟨0, _⟩ => exact (Nat.zero_add _).symm
      | ⟨1, _⟩ => exact (Nat.zero_add _).symm
      | ⟨2, _⟩ => exact (Nat.zero_add _).symm),
    shapeCast_apply _ _ _ (ix6 0 h 0 a ⟨(t.val * 511 + c.val) / 512, by omega⟩ ⟨(t.val * 511 + c.val) % 512, by omega⟩) (by
      rw [Shape.rowMajor_val_three, Shape.rowMajor_val_six]
      show ((((0 * 8 + h.val) * 1 + 0) * 3 + a.val) * 256 + (t.val * 511 + c.val) / 512) * 512 + (t.val * 511 + c.val) % 512
        = (h.val * 3 + a.val) * 131072 + (t.val * 511 + c.val)
      omega),
    broadcastInDim_apply _ _ _ _ (ix6 0 h 0 a 0 ⟨(t.val * 511 + c.val) % 512, by omega⟩) (fun b => by
      match b with
      | ⟨0, _⟩ => rfl
      | ⟨1, _⟩ => rfl
      | ⟨2, _⟩ => rfl
      | ⟨3, _⟩ => rfl
      | ⟨4, _⟩ => rfl
      | ⟨5, _⟩ => rfl),
    shapeCast_apply _ _ _ (ix3 h a ⟨(t.val * 511 + c.val) % 512, by omega⟩) (by
      rw [Shape.rowMajor_val_three, Shape.rowMajor_val_six]
      show (h.val * 3 + a.val) * 512 + (t.val * 511 + c.val) % 512
        = ((((0 * 8 + h.val) * 1 + 0) * 3 + a.val) * 1 + 0) * 512 + (t.val * 511 + c.val) % 512
      omega)]

/-- Whether key `c` of tile `a` is in the window of query `t`. -/
def near (a t c : ℕ) : Prop := c ≤ a * 256 + t ∧ a * 256 + t < c + 512

instance (a t c : ℕ) : Decidable (near a t c) := by unfold near; infer_instance

/-- Which keys are in the window, at an index. -/
theorem seen_apply (a : Fin 3) (t c : Fin 256) : seen (ix3 a t c) = if near a.val t.val c.val then 1#1 else 0#1 := by
  have e : seen (ix3 a t c)
      = IntOp.andi (IntOp.cmpi .sge (BitVec.ofNat 32 a.val * 256#32 + BitVec.ofNat 32 t.val - BitVec.ofNat 32 c.val) 0#32)
        (IntOp.cmpi .slt (BitVec.ofNat 32 a.val * 256#32 + BitVec.ofNat 32 t.val - BitVec.ofNat 32 c.val) 512#32) := rfl
  rw [e, ← BitVec.ofNat_mul, ← BitVec.ofNat_add, sub_sge_zero _ _ (by omega) (by omega), sub_slt _ _ (by omega) (by omega)]
  unfold near
  by_cases h1 : c.val ≤ a.val * 256 + t.val <;> by_cases h2 : a.val * 256 + t.val < c.val + 512 <;> simp [h1, h2] <;> rfl

/-- A tile at an index. -/
theorem masked_apply (x : FVec Ideal S32x12 .f32) (h : Fin 8) (a : Fin 3) (t c : Fin 256) :
    masked (biasRow x) (ix4 h a t c) = if near a.val t.val c.val
      then scaled x (ix2 ⟨bucket (a.val * 256 + t.val - c.val), bucket_lt _⟩ h) else ⊥ := by
  have e : masked (biasRow x) (ix4 h a t c) = if seen (ix3 a t c) = 1#1 then shifted (biasRow x) (ix4 h a t c) else Ideal.ofBits .f32 0xFF800000#32 := by
    unfold masked
    rw [select_apply, broadcastInDim_apply _ _ _ _ (ix4 0 a t c) (fun b => by
        match b with | ⟨0, _⟩ => rfl | ⟨1, _⟩ => rfl | ⟨2, _⟩ => rfl | ⟨3, _⟩ => rfl),
      broadcastInDim_apply _ _ _ _ (ix3 a t c) (fun b => by match b with | ⟨0, _⟩ => rfl | ⟨1, _⟩ => rfl | ⟨2, _⟩ => rfl)]
    rfl
  rw [e, seen_apply, shifted_apply, biasRow_apply, ofBits_neg_inf]
  by_cases hc : near a.val t.val c.val
  · rw [if_pos hc, if_pos rfl, if_pos hc]
    refine congrArg (fun b => scaled x (ix2 b h)) (Fin.ext ?_)
    show min (bucketRow (ix3 a ⟨(t.val * 511 + c.val) % 512, by omega⟩ 0)).toInt.toNat 31 = _
    rw [bucketRow_apply]
    have ht := t.isLt
    have hc' := c.isLt
    obtain ⟨hn1, hn2⟩ := hc
    have key : lit0 ⟨a.val * 512 + (t.val * 511 + c.val) % 512, by omega⟩ = BitVec.ofNat 32 (bucket (a.val * 256 + t.val - c.val)) := by
      have ha := a.isLt
      rcases (by omega : a.val = 0 ∨ a.val = 1 ∨ a.val = 2) with h0 | h0 | h0
      · have h1 : (512 - (t.val * 511 + c.val) % 512) % 512 = a.val * 256 + t.val - c.val := by omega
        have := table0 ⟨(t.val * 511 + c.val) % 512, by omega⟩ (by show (512 - (t.val * 511 + c.val) % 512) % 512 < 256; omega)
        refine (congrArg lit0 (Fin.ext ?_)).trans (this.trans (congrArg (fun n => BitVec.ofNat 32 (bucket n)) h1))
        show a.val * 512 + (t.val * 511 + c.val) % 512 = (t.val * 511 + c.val) % 512
        omega
      · have h1 : (768 - (t.val * 511 + c.val) % 512) % 512 = a.val * 256 + t.val - c.val := by omega
        have := table1 ⟨(t.val * 511 + c.val) % 512, by omega⟩ (by show (t.val * 511 + c.val) % 512 ≠ 256; omega)
        refine (congrArg lit0 (Fin.ext ?_)).trans (this.trans (congrArg (fun n => BitVec.ofNat 32 (bucket n)) h1))
        show a.val * 512 + (t.val * 511 + c.val) % 512 = 512 + (t.val * 511 + c.val) % 512
        omega
      · have h1 : 512 - (t.val * 511 + c.val) % 512 = a.val * 256 + t.val - c.val := by omega
        have := table2 ⟨(t.val * 511 + c.val) % 512, by omega⟩ (by
          show 1 ≤ (t.val * 511 + c.val) % 512 ∧ (t.val * 511 + c.val) % 512 < 256
          omega)
        refine (congrArg lit0 (Fin.ext ?_)).trans (this.trans (congrArg (fun n => BitVec.ofNat 32 (bucket n)) h1))
        show a.val * 512 + (t.val * 511 + c.val) % 512 = 1024 + (t.val * 511 + c.val) % 512
        omega
    refine Eq.trans ?_ (clamp_bucket (a.val * 256 + t.val - c.val))
    exact congrArg (fun b : BitVec 32 => min b.toInt.toNat 31) key
  · rw [if_neg hc, if_neg (by decide), if_neg hc]

/-- Rows of a five-dimensional array taken along its second axis, at an index. -/
theorem take_heads_apply (y : FVec Ideal S2x4x3x256x256 .f32) (i : IVec S4x1 32) (g : Fin 2) (s : Fin 4) (a : Fin 3) (t c : Fin 256) :
    Host.gather gather_S2x4x3x256x256_S4x1_S2x4x3x256x256_0234_1_n_n_1_1_213256256 y i (ix5 g s a t c)
      = y (ix5 g ⟨min (i (ix2 s 0)).toInt.toNat 3, by omega⟩ a t c) := by
  unfold Host.gather
  refine congrArg y (funext fun b => Fin.ext ?_)
  generalize hd : gather_S2x4x3x256x256_S4x1_S2x4x3x256x256_0234_1_n_n_1_1_213256256 = D
  show D.start (ix5 g s a t c) i b + D.batchCoord (ix5 g s a t c) b + D.offCoord (ix5 g s a t c) b = _
  subst hd
  rw [GatherDims.batchCoord_eq_zero _ _ _ List.not_mem_nil, Nat.add_zero]
  have off : ∀ b : Fin 5, b.val ≠ 1 →
      gather_S2x4x3x256x256_S4x1_S2x4x3x256x256_0234_1_n_n_1_1_213256256.start (ix5 g s a t c) i b = 0 := fun b hb => by
    have hm : b ∉ gather_S2x4x3x256x256_S4x1_S2x4x3x256x256_0234_1_n_n_1_1_213256256.startIndexMap := fun h =>
      hb (congrArg Fin.val (List.mem_singleton.mp h))
    unfold GatherDims.start
    rw [dif_neg hm]
  match b with
  | ⟨0, _⟩ =>
    refine (congrArg (· + _) (off 0 (by decide))).trans ((Nat.zero_add _).trans ?_)
    rfl
  | ⟨1, _⟩ =>
    have hm : (1 : Fin 5) ∈ gather_S2x4x3x256x256_S4x1_S2x4x3x256x256_0234_1_n_n_1_1_213256256.startIndexMap := List.mem_singleton.mpr rfl
    have e0 : gather_S2x4x3x256x256_S4x1_S2x4x3x256x256_0234_1_n_n_1_1_213256256.offCoord (ix5 g s a t c) (1 : Fin 5) = 0 :=
      GatherDims.offCoord_eq_zero _ _ _ (fun h => ((GatherDims.mem_sKept _ _).mp h).1 (List.mem_singleton.mpr rfl))
    show gather_S2x4x3x256x256_S4x1_S2x4x3x256x256_0234_1_n_n_1_1_213256256.start (ix5 g s a t c) i (1 : Fin 5)
      + gather_S2x4x3x256x256_S4x1_S2x4x3x256x256_0234_1_n_n_1_1_213256256.offCoord (ix5 g s a t c) (1 : Fin 5) = _
    rw [e0, Nat.add_zero]
    unfold GatherDims.start
    rw [dif_pos hm]
    have hsi : gather_S2x4x3x256x256_S4x1_S2x4x3x256x256_0234_1_n_n_1_1_213256256.siIdx (ix5 g s a t c)
        ⟨List.idxOf (1 : Fin 5) gather_S2x4x3x256x256_S4x1_S2x4x3x256x256_0234_1_n_n_1_1_213256256.startIndexMap, List.idxOf_lt_length_iff.2 hm⟩ = ix2 s 0 := by
      funext b; refine Fin.ext ?_
      match b with
      | ⟨0, _⟩ => rfl
      | ⟨1, _⟩ => rfl
    rw [hsi]
    rfl
  | ⟨2, _⟩ =>
    refine (congrArg (· + _) (off 2 (by decide))).trans ((Nat.zero_add _).trans ?_)
    rfl
  | ⟨3, _⟩ =>
    refine (congrArg (· + _) (off 3 (by decide))).trans ((Nat.zero_add _).trans ?_)
    rfl
  | ⟨4, _⟩ =>
    refine (congrArg (· + _) (off 4 (by decide))).trans ((Nat.zero_add _).trans ?_)
    rfl

/-- The head that the kernel takes in place `s`. -/
theorem order_apply (s : Fin 4) : min (order (ix2 s 0)).toInt.toNat 3 = 2 * (s.val % 2) + s.val / 2 := by
  have e : order (ix2 s 0) = lit1 s := by
    unfold order
    rw [broadcastInDim_apply _ _ _ _ (ix1 s) (fun b => by match b with | ⟨0, _⟩ => rfl)]
    refine Eq.trans rfl (congrArg lit1 (Fin.ext ?_))
    exact Shape.rowMajor_val_one _
  rw [e]
  have h : ∀ s : Fin 4, min (lit1 s).toInt.toNat 3 = 2 * (s.val % 2) + s.val / 2 := by decide +kernel
  exact h s

/-- The head of a row of a group's tiles. -/
def headOf (r : Fin 1024) : Fin 4 := ⟨2 * (r.val / 256 % 2) + r.val / 512, by omega⟩

theorem stacked_apply (z : FVec Ideal S8x3x256x256 .f32) (g : Fin 2) (r : Fin 1024) (c : Fin 768) :
    stacked z (ix3 g r c) = z (ix4 ⟨g.val * 4 + (headOf r).val, by omega⟩ ⟨c.val / 256, by omega⟩ ⟨r.val % 256, Nat.mod_lt _ (by decide)⟩
      ⟨c.val % 256, Nat.mod_lt _ (by decide)⟩) := by
  have hr := r.isLt
  have hc := c.isLt
  unfold stacked
  rw [shapeCast_apply _ _ _ (ix4 g r ⟨c.val / 256, by omega⟩ ⟨c.val % 256, Nat.mod_lt _ (by decide)⟩) (by
      rw [Shape.rowMajor_val_three, Shape.rowMajor_val_four]
      show ((g.val * 1024 + r.val) * 3 + c.val / 256) * 256 + c.val % 256 = (g.val * 1024 + r.val) * 768 + c.val
      omega),
    transpose_apply _ _ _ _ (ix4 g ⟨c.val / 256, by omega⟩ r ⟨c.val % 256, Nat.mod_lt _ (by decide)⟩) (fun b => by
      match b with | ⟨0, _⟩ => rfl | ⟨1, _⟩ => rfl | ⟨2, _⟩ => rfl | ⟨3, _⟩ => rfl),
    shapeCast_apply _ _ _ (ix5 g ⟨c.val / 256, by omega⟩ ⟨r.val / 256, by omega⟩ ⟨r.val % 256, Nat.mod_lt _ (by decide)⟩ ⟨c.val % 256, Nat.mod_lt _ (by decide)⟩) (by
      rw [Shape.rowMajor_val_four, Shape.rowMajor_val_five]
      show (((g.val * 3 + c.val / 256) * 4 + r.val / 256) * 256 + r.val % 256) * 256 + c.val % 256
        = ((g.val * 3 + c.val / 256) * 1024 + r.val) * 256 + c.val % 256
      omega),
    transpose_apply _ _ _ _ (ix5 g ⟨r.val / 256, by omega⟩ ⟨c.val / 256, by omega⟩ ⟨r.val % 256, Nat.mod_lt _ (by decide)⟩ ⟨c.val % 256, Nat.mod_lt _ (by decide)⟩) (fun b => by
      match b with | ⟨0, _⟩ => rfl | ⟨1, _⟩ => rfl | ⟨2, _⟩ => rfl | ⟨3, _⟩ => rfl | ⟨4, _⟩ => rfl),
    take_heads_apply]
  refine shapeCast_apply _ _ _ _ ?_
  rw [Shape.rowMajor_val_four, Shape.rowMajor_val_five]
  have ho := order_apply ⟨r.val / 256, by omega⟩
  show (((g.val * 4 + (2 * (r.val / 256 % 2) + r.val / 512)) * 3 + c.val / 256) * 256 + r.val % 256) * 256 + c.val % 256
    = (((g.val * 4 + min (order (ix2 ⟨r.val / 256, _⟩ 0)).toInt.toNat 3) * 3 + c.val / 256) * 256 + r.val % 256) * 256 + c.val % 256
  rw [ho]
  show _ = (((g.val * 4 + (2 * (r.val / 256 % 2) + r.val / 256 / 2)) * 3 + c.val / 256) * 256 + r.val % 256) * 256 + c.val % 256
  omega

theorem scaled_apply (x : Tab) (hx : ∀ b g j, (((x (ix2 b (head g j))).toReal : ℝ) : EReal) = x (ix2 b (head g j)))
    (b : Fin 32) (g : Fin 2) (j : Fin 4) :
    scaled x (ix2 b ⟨g.val * 4 + j.val, by omega⟩) = (((bias x g j b - bias x g j 31) * (1 / Real.log 2) : ℝ) : EReal) := by
  have e1 : ∀ (b : Fin 32), extractStridedSlice S32x8 ![0, 4] x slices_S32x12_S32x8_0_4 (ix2 b ⟨g.val * 4 + j.val, by omega⟩)
      = ((bias x g j b : ℝ) : EReal) := fun b => by
    rw [extractStridedSlice_apply _ _ _ _ (ix2 b (head g j)) (fun a => by
      match a with
      | ⟨0, _⟩ => exact (Nat.zero_add _).symm
      | ⟨1, _⟩ => rfl)]
    exact (hx b g j).symm
  have e2 : broadcastInDim S32x8 ![0, 1] bcast_S1x8_S32x8_0_1 (broadcastInDim S1x8 ![1] bcast_S8_S1x8_1
        (shapeCast S8 (extractStridedSlice S1x8 ![31, 0] (extractStridedSlice S32x8 ![0, 4] x slices_S32x12_S32x8_0_4) slices_S32x8_S1x8_31_0)
          shapeCasts_S1x8_S8)) (ix2 b ⟨g.val * 4 + j.val, by omega⟩) = ((bias x g j 31 : ℝ) : EReal) := by
    rw [broadcastInDim_apply _ _ _ _ (ix2 0 ⟨g.val * 4 + j.val, by omega⟩) (fun a => by match a with | ⟨0, _⟩ => rfl | ⟨1, _⟩ => rfl),
      broadcastInDim_apply _ _ _ _ (ix1 ⟨g.val * 4 + j.val, by omega⟩) (fun a => by match a with | ⟨0, _⟩ => rfl),
      shapeCast_apply _ _ _ (ix2 0 ⟨g.val * 4 + j.val, by omega⟩) (by
        rw [Shape.rowMajor_val_two, Shape.rowMajor_val_one]
        show 0 * 8 + (g.val * 4 + j.val) = g.val * 4 + j.val
        omega),
      extractStridedSlice_apply _ _ _ _ (ix2 31 ⟨g.val * 4 + j.val, by omega⟩) (fun a => by
        match a with
        | ⟨0, _⟩ => rfl
        | ⟨1, _⟩ => exact (Nat.zero_add _).symm)]
    exact e1 31
  have e3 : scaled x (ix2 b ⟨g.val * 4 + j.val, by omega⟩)
      = (extractStridedSlice S32x8 ![0, 4] x slices_S32x12_S32x8_0_4 (ix2 b ⟨g.val * 4 + j.val, by omega⟩)
      - broadcastInDim S32x8 ![0, 1] bcast_S1x8_S32x8_0_1 (broadcastInDim S1x8 ![1] bcast_S8_S1x8_1
        (shapeCast S8 (extractStridedSlice S1x8 ![31, 0] (extractStridedSlice S32x8 ![0, 4] x slices_S32x12_S32x8_0_4) slices_S32x8_S1x8_31_0)
          shapeCasts_S1x8_S8)) (ix2 b ⟨g.val * 4 + j.val, by omega⟩)) * invLog2 ix0 := by
    unfold scaled
    rfl
  rw [e3, e1, e2, invLog2_apply, ← EReal.coe_sub, ← EReal.coe_mul]

/-- The scaled bias of a row of a group's tiles and a key. -/
def biasAt (x : Tab) (g : Fin 2) (r : Fin 1024) (c : ℕ) : ℝ :=
  (bias x g (headOf r) ⟨bucket (c / 256 * 256 + r.val % 256 - c % 256), bucket_lt _⟩ - bias x g (headOf r) 31) * (1 / Real.log 2)

/-- The bias tiles at an index. -/
theorem tiles_real (x : Tab) (hx : ∀ b g j, (((x (ix2 b (head g j))).toReal : ℝ) : EReal) = x (ix2 b (head g j)))
    (g : Fin 2) (r : Fin 1024) (c : Fin 768) :
    stacked (masked (biasRow x)) (ix3 g r c)
      = if near (c.val / 256) (r.val % 256) (c.val % 256) then ((biasAt x g r c.val : ℝ) : EReal) else ⊥ := by
  rw [stacked_apply, masked_apply]
  by_cases h : near (c.val / 256) (r.val % 256) (c.val % 256)
  · rw [if_pos h, if_pos h]
    exact scaled_apply x hx _ g (headOf r)
  · rw [if_neg h, if_neg h]

/-! ## Queries, keys, values -/

/-- The scaled queries at an index. -/
theorem queries_apply (x : Qs) (hx : ∀ i, (((x i).toReal : ℝ) : EReal) = x i) (i : S16x2048x512.Idx) :
    queries x i = (((x i).toReal * (1 / 8 * (1 / Real.log 2)) : ℝ) : EReal) := by
  have e : queries x i = x i * (Ideal.ofBits .f32 0x3E000000#32 * invLog2 ix0) := by
    unfold queries
    rw [truncf_apply, mulf_apply, broadcastInDim_apply _ _ _ _ ix0 (fun a => a.elim0)]
    rfl
  rw [e, invLog2_apply, ofBits_eighth, ← EReal.coe_mul, EReal.coe_mul (x i).toReal, hx]

/-- The doubled lanes at an index. -/
theorem doubled_apply (x : Ks) (b : Fin 16) (p : Fin 2048) (g : Fin 2) (d : Fin 128) :
    doubled x (ix3 b p ⟨g.val * 128 + d.val, by omega⟩) = x (ix3 b p (kchan g ⟨d.val % 64, Nat.mod_lt _ (by decide)⟩)) := by
  have hs : ∀ (o : ℕ) (h : S16x2048x128.Slices ![0, 0, o] S16x2048x64) (l : Fin 64) (k : Fin 128), k.val = o + l.val →
      extractStridedSlice S16x2048x64 ![0, 0, o] x h (ix3 b p l) = x (ix3 b p k) := fun o h l k hk =>
    extractStridedSlice_apply _ _ _ _ (ix3 b p k) (fun a => by
      match a with
      | ⟨0, _⟩ => exact (Nat.zero_add _).symm
      | ⟨1, _⟩ => exact (Nat.zero_add _).symm
      | ⟨2, _⟩ => exact hk)
  have hg := g.isLt
  have hd := d.isLt
  unfold doubled
  have key : ∀ (q : Fin 4) (o : ℕ) (h : S16x2048x128.Slices ![0, 0, o] S16x2048x64), g.val * 2 + d.val / 64 = q.val → o = g.val * 64 →
      extractStridedSlice S16x2048x64 ![0, 0, o] x h (ix3 b p ⟨d.val % 64, Nat.mod_lt _ (by decide)⟩)
        = x (ix3 b p (kchan g ⟨d.val % 64, Nat.mod_lt _ (by decide)⟩)) := fun q o h _ ho =>
    hs o h _ _ (by show g.val * 64 + d.val % 64 = o + d.val % 64; omega)
  rcases (by omega : g.val * 2 + d.val / 64 = 0 ∨ g.val * 2 + d.val / 64 = 1 ∨ g.val * 2 + d.val / 64 = 2 ∨ g.val * 2 + d.val / 64 = 3) with e | e | e | e
  · refine (concatenate_apply_piece (t := S16x2048x256) 2 [⟨S16x2048x64, _⟩, ⟨S16x2048x64, _⟩, ⟨S16x2048x64, _⟩, ⟨S16x2048x64, _⟩] _ _ 0 (by simp) _ _ rfl rfl 0
      (by simp) (ix3 b p ⟨d.val % 64, Nat.mod_lt _ (by decide)⟩) (fun a ha => ?_) ?_).trans (key 0 0 slices_S16x2048x128_S16x2048x64_0_0_0 e (by omega))
    · match a with
      | ⟨0, _⟩ => rfl
      | ⟨1, _⟩ => rfl
      | ⟨2, _⟩ => exact absurd rfl ha
    · show 0 + d.val % 64 = g.val * 128 + d.val
      omega
  · refine (concatenate_apply_piece (t := S16x2048x256) 2 [⟨S16x2048x64, _⟩, ⟨S16x2048x64, _⟩, ⟨S16x2048x64, _⟩, ⟨S16x2048x64, _⟩] _ _ 1 (by simp) _ _ rfl rfl 64
      (by simp) (ix3 b p ⟨d.val % 64, Nat.mod_lt _ (by decide)⟩) (fun a ha => ?_) ?_).trans (key 1 0 slices_S16x2048x128_S16x2048x64_0_0_0 e (by omega))
    · match a with
      | ⟨0, _⟩ => rfl
      | ⟨1, _⟩ => rfl
      | ⟨2, _⟩ => exact absurd rfl ha
    · show 64 + d.val % 64 = g.val * 128 + d.val
      omega
  · refine (concatenate_apply_piece (t := S16x2048x256) 2 [⟨S16x2048x64, _⟩, ⟨S16x2048x64, _⟩, ⟨S16x2048x64, _⟩, ⟨S16x2048x64, _⟩] _ _ 2 (by simp) _ _ rfl rfl 128
      (by simp) (ix3 b p ⟨d.val % 64, Nat.mod_lt _ (by decide)⟩) (fun a ha => ?_) ?_).trans (key 2 64 slices_S16x2048x128_S16x2048x64_0_0_64 e (by omega))
    · match a with
      | ⟨0, _⟩ => rfl
      | ⟨1, _⟩ => rfl
      | ⟨2, _⟩ => exact absurd rfl ha
    · show 128 + d.val % 64 = g.val * 128 + d.val
      omega
  · refine (concatenate_apply_piece (t := S16x2048x256) 2 [⟨S16x2048x64, _⟩, ⟨S16x2048x64, _⟩, ⟨S16x2048x64, _⟩, ⟨S16x2048x64, _⟩] _ _ 3 (by simp) _ _ rfl rfl 192
      (by simp) (ix3 b p ⟨d.val % 64, Nat.mod_lt _ (by decide)⟩) (fun a ha => ?_) ?_).trans (key 3 64 slices_S16x2048x128_S16x2048x64_0_0_64 e (by omega))
    · match a with
      | ⟨0, _⟩ => rfl
      | ⟨1, _⟩ => rfl
      | ⟨2, _⟩ => exact absurd rfl ha
    · show 192 + d.val % 64 = g.val * 128 + d.val
      omega

/-- The transposed keys at an index. -/
theorem keysT_apply (x : Ks) (b : Fin 16) (p : Fin 2048) (g : Fin 2) (d : Fin 128) :
    keysT x (ix2 ⟨g.val * 128 + d.val, by omega⟩ ⟨b.val * 2048 + p.val, by omega⟩) = x (ix3 b p (kchan g ⟨d.val % 64, Nat.mod_lt _ (by decide)⟩)) := by
  unfold keysT
  rw [truncf_apply, transpose_apply _ _ _ _ (ix2 ⟨b.val * 2048 + p.val, by omega⟩ ⟨g.val * 128 + d.val, by omega⟩)
      (fun a => by match a with | ⟨0, _⟩ => rfl | ⟨1, _⟩ => rfl),
    shapeCast_apply _ _ _ (ix3 b p ⟨g.val * 128 + d.val, by omega⟩) (by
      rw [Shape.rowMajor_val_three, Shape.rowMajor_val_two]
      rfl)]
  exact doubled_apply x b p g d

/-- The values at an index. -/
theorem values_apply (x : Ks) (b : Fin 16) (p : Fin 2048) (g : Fin 2) (e : Fin 128) :
    values x (ix3 b p ⟨g.val * 128 + e.val, by omega⟩) = x (ix3 b p (kchan g ⟨e.val % 64, Nat.mod_lt _ (by decide)⟩)) :=
  doubled_apply x b p g e

end Cert.WinAttnIdeal.Win

end
-- ==== Proof.WinSame.lean ====
/-
  The windowed attention's weights, with powers of two, scaled scores and biases less the last bucket's, over the three blocks of
  keys that a block of queries reads, are the specification's: each differs by one factor, the same for all the keys of a head.
-/
module

public import proofs.«01_k».proof.Proof.WinTiles
public import proofs.«01_k».proof.Proof.WinOut
public import proofs.«01_k».proof.Proof.Same

@[expose] public section

set_option maxRecDepth 16384

noncomputable section

namespace Cert.WinAttnIdeal.Win

open Cert.WinAttnIdeal Cert.WinAttnIdeal.Gen Cert.Win
open Cert.Attn (bucket bucket_lt Tab)
open Cert.KernelIdeal.Attn (at_ half_sum)
open Idealize.ShloMosaic Idealize.ShloMosaic.ValueIdx
open Idealize.ShloMosaic (Ideal)

/-- The scaled queries of a block, -/
def qOf (x0 : Qs) (b : Fin 16) (g : Fin 2) (n : Fin 8) (t c : Fin 256) : ℝ :=
  (x0 (ix3 b (at_ n t) ⟨g.val * 256 + c.val, by omega⟩)).toReal * (1 / 8 * (1 / Real.log 2))
/-- the keys -/
def kOf (x1 : Ks) (b : Fin 16) (g : Fin 2) (d : Fin 128) (k : ℕ) : ℝ :=
  if hk : k < 2048 then (x1 (ix3 b ⟨k, hk⟩ (kchan g ⟨d.val % 64, Nat.mod_lt _ (by decide)⟩))).toReal else 0
/-- and the values, both twice over. -/
def vOf (x2 : Ks) (b : Fin 16) (g : Fin 2) (k : ℕ) (e : Fin 128) : ℝ :=
  if hk : k < 2048 then (x2 (ix3 b ⟨k, hk⟩ (kchan g ⟨e.val % 64, Nat.mod_lt _ (by decide)⟩))).toReal else 0

/-- The keys in the window, block by block and in one row. -/
theorem key_sum (n : Fin 8) (t : Fin 256) (F : ℕ → ℝ) :
    (∑ c : Fin 768, if c.val / 256 ≤ n.val ∧ near (c.val / 256) t.val (c.val % 256) then F (256 * (n.val - c.val / 256) + c.val % 256) else 0)
      = ∑ k : Fin 2048, if inside (256 * n.val + t.val) k.val then F k.val else 0 := by
  have hn := n.isLt
  have ht := t.isLt
  rw [← Finset.sum_filter, ← Finset.sum_filter]
  refine Finset.sum_bij' (fun c _ => ⟨256 * (n.val - c.val / 256) + c.val % 256, by omega⟩)
    (fun k hk => ⟨256 * (n.val - k.val / 256) + k.val % 256, by
      obtain ⟨-, h1, h2⟩ := Finset.mem_filter.mp hk
      omega⟩) (fun c hc => ?_) (fun k hk => ?_) (fun c hc => ?_) (fun k hk => ?_) (fun c hc => ?_)
  · obtain ⟨-, h0, h1, h2⟩ := Finset.mem_filter.mp hc
    refine Finset.mem_filter.mpr ⟨Finset.mem_univ _, ?_, ?_⟩
    · show 256 * (n.val - c.val / 256) + c.val % 256 ≤ 256 * n.val + t.val
      omega
    · show 256 * n.val + t.val < 256 * (n.val - c.val / 256) + c.val % 256 + 512
      omega
  · obtain ⟨-, h1, h2⟩ := Finset.mem_filter.mp hk
    have e1 : (256 * (n.val - k.val / 256) + k.val % 256) / 256 = n.val - k.val / 256 := by omega
    have e2 : (256 * (n.val - k.val / 256) + k.val % 256) % 256 = k.val % 256 := by omega
    refine Finset.mem_filter.mpr ⟨Finset.mem_univ _, ?_, ?_, ?_⟩
    · show (256 * (n.val - k.val / 256) + k.val % 256) / 256 ≤ n.val
      omega
    · show (256 * (n.val - k.val / 256) + k.val % 256) % 256 ≤ (256 * (n.val - k.val / 256) + k.val % 256) / 256 * 256 + t.val
      rw [e1, e2]
      omega
    · show (256 * (n.val - k.val / 256) + k.val % 256) / 256 * 256 + t.val < (256 * (n.val - k.val / 256) + k.val % 256) % 256 + 512
      rw [e1, e2]
      omega
  · obtain ⟨-, h0, h1, h2⟩ := Finset.mem_filter.mp hc
    refine Fin.ext ?_
    show 256 * (n.val - (256 * (n.val - c.val / 256) + c.val % 256) / 256) + (256 * (n.val - c.val / 256) + c.val % 256) % 256 = c.val
    omega
  · obtain ⟨-, h1, h2⟩ := Finset.mem_filter.mp hk
    refine Fin.ext ?_
    show 256 * (n.val - (256 * (n.val - k.val / 256) + k.val % 256) / 256) + (256 * (n.val - k.val / 256) + k.val % 256) % 256 = k.val
    omega
  · rfl

/-- The inner product over the lanes that a row keeps. -/
theorem lane_sum (x0 : Qs) (x1 : Ks) (b : Fin 16) (g : Fin 2) (n : Fin 8) (r : Fin 1024) (k : Fin 2048) :
    (∑ d, four (qOf x0 b g n) r d * kOf x1 b g d k.val)
      = (∑ d : Fin 64, (x0 (ix3 b (at_ n ⟨r.val % 256, Nat.mod_lt _ (by decide)⟩) (qchan g (headOf r) d))).toReal
          * (x1 (ix3 b k (kchan g d))).toReal) * (1 / 8 * (1 / Real.log 2)) := by
  have hr := r.isLt
  rw [Finset.sum_mul]
  refine half_sum _ _ ⟨r.val / 512, by omega⟩ (fun d => ?_) fun d hd => ?_
  · have hk : r.val < 512 ↔ r.val / 512 * 64 + d.val < 64 := by omega
    show (if r.val < 512 ↔ r.val / 512 * 64 + d.val < 64 then _ else _) * kOf x1 b g ⟨r.val / 512 * 64 + d.val, _⟩ k.val = _
    rw [if_pos hk]
    unfold qOf kOf
    rw [dif_pos k.isLt]
    have e1 : (⟨g.val * 256 + (r.val / 256 % 2 * 128 + (r.val / 512 * 64 + d.val)), by omega⟩ : Fin 512) = qchan g (headOf r) d := Fin.ext (by
      show g.val * 256 + (r.val / 256 % 2 * 128 + (r.val / 512 * 64 + d.val)) = g.val * 256 + (2 * (r.val / 256 % 2) + r.val / 512) * 64 + d.val
      omega)
    have e2 : (⟨(r.val / 512 * 64 + d.val) % 64, Nat.mod_lt _ (by decide)⟩ : Fin 64) = d := Fin.ext (by
      show (r.val / 512 * 64 + d.val) % 64 = d.val
      omega)
    refine (congrArg₂ (fun a c => (x0 (ix3 b (at_ n ⟨r.val % 256, Nat.mod_lt _ (by decide)⟩) a)).toReal * (1 / 8 * (1 / Real.log 2))
      * (x1 (ix3 b k (kchan g c))).toReal) e1 e2).trans ?_
    ring
  · have hd' := d.isLt
    have hd2 : d.val / 64 ≠ r.val / 512 := hd
    have hk : ¬ (r.val < 512 ↔ d.val < 64) := by omega
    unfold four
    rw [if_neg hk, zero_mul]

/-- The specification's weight of the key at `k`, less the last bucket's bias. -/
def lessLast (x0 : Qs) (x1 : Ks) (x3 : Tab) (b : Fin 16) (g : Fin 2) (j : Fin 4) (p : Fin 2048) (k : ℕ) : ℝ :=
  if hk : k < 2048 then Real.exp (score x0 x1 x3 b g j p ⟨k, hk⟩) * Real.exp (-bias x3 g j 31) else 0

/-- A weight of the kernel is the specification's, up to the head's factor. -/
theorem weight_eq (x0 : Qs) (x1 : Ks) (x3 : Tab) (b : Fin 16) (g : Fin 2) (n : Fin 8) (r : Fin 1024) (c : Fin 768)
    (h0 : c.val / 256 ≤ n.val) (h1 : near (c.val / 256) (r.val % 256) (c.val % 256)) :
    (2 : ℝ) ^ ((∑ d, four (qOf x0 b g n) r d * kOf x1 b g d (256 * (n.val - c.val / 256) + c.val % 256)) + biasAt x3 g r c.val)
      = lessLast x0 x1 x3 b g (headOf r) (at_ n ⟨r.val % 256, Nat.mod_lt _ (by decide)⟩) (256 * (n.val - c.val / 256) + c.val % 256) := by
  have hn := n.isLt
  have hk : 256 * (n.val - c.val / 256) + c.val % 256 < 2048 := by omega
  obtain ⟨h2, h3⟩ := h1
  unfold lessLast
  rw [dif_pos hk, ← Real.exp_add, Real.rpow_def_of_pos two_pos]
  refine congrArg Real.exp ?_
  have hl : Real.log 2 ≠ 0 := (Real.log_pos one_lt_two).ne'
  have hs := lane_sum x0 x1 b g n r ⟨_, hk⟩
  rw [hs]
  have ed : (at_ n ⟨r.val % 256, Nat.mod_lt _ (by decide)⟩).val - (256 * (n.val - c.val / 256) + c.val % 256)
      = c.val / 256 * 256 + r.val % 256 - c.val % 256 := by
    show 256 * n.val + r.val % 256 - (256 * (n.val - c.val / 256) + c.val % 256) = c.val / 256 * 256 + r.val % 256 - c.val % 256
    omega
  have eb : (⟨bucket ((at_ n ⟨r.val % 256, Nat.mod_lt _ (by decide)⟩).val - (256 * (n.val - c.val / 256) + c.val % 256)), bucket_lt _⟩ : Fin 32)
      = ⟨bucket (c.val / 256 * 256 + r.val % 256 - c.val % 256), bucket_lt _⟩ := Fin.ext (congrArg bucket ed)
  unfold score biasAt
  rw [eb]
  field_simp
  ring

/-- The kernel's mean is the specification's. -/
theorem mean_eq (x0 : Qs) (x1 x2 : Ks) (x3 : Tab) (b : Fin 16) (g : Fin 2) (n : Fin 8) (r : Fin 1024) (e : Fin 128) :
    (∑ c : Fin 768, (if c.val / 256 ≤ n.val ∧ near (c.val / 256) (r.val % 256) (c.val % 256) then
            (2 : ℝ) ^ ((∑ d, four (qOf x0 b g n) r d * kOf x1 b g d (256 * (n.val - c.val / 256) + c.val % 256)) + biasAt x3 g r c.val) else 0)
          * vOf x2 b g (256 * (n.val - c.val / 256) + c.val % 256) e)
        / (∑ c : Fin 768, if c.val / 256 ≤ n.val ∧ near (c.val / 256) (r.val % 256) (c.val % 256) then
            (2 : ℝ) ^ ((∑ d, four (qOf x0 b g n) r d * kOf x1 b g d (256 * (n.val - c.val / 256) + c.val % 256)) + biasAt x3 g r c.val) else 0)
      = soft x0 x1 x2 x3 b g (headOf r) (at_ n ⟨r.val % 256, Nat.mod_lt _ (by decide)⟩) ⟨e.val % 64, Nat.mod_lt _ (by decide)⟩ := by
  have hE : Real.exp (-bias x3 g (headOf r) 31) ≠ 0 := (Real.exp_pos _).ne'
  have e1 : (∑ c : Fin 768, if c.val / 256 ≤ n.val ∧ near (c.val / 256) (r.val % 256) (c.val % 256) then
        (2 : ℝ) ^ ((∑ d, four (qOf x0 b g n) r d * kOf x1 b g d (256 * (n.val - c.val / 256) + c.val % 256)) + biasAt x3 g r c.val) else 0)
      = (∑ k, wt x0 x1 x3 b g (headOf r) (at_ n ⟨r.val % 256, Nat.mod_lt _ (by decide)⟩) k) * Real.exp (-bias x3 g (headOf r) 31) := by
    refine (Finset.sum_congr rfl fun c _ => ?_).trans ((key_sum n ⟨r.val % 256, Nat.mod_lt _ (by decide)⟩
      (lessLast x0 x1 x3 b g (headOf r) (at_ n ⟨r.val % 256, Nat.mod_lt _ (by decide)⟩))).trans ?_)
    · by_cases h : c.val / 256 ≤ n.val ∧ near (c.val / 256) (r.val % 256) (c.val % 256)
      · rw [if_pos h, if_pos h, weight_eq x0 x1 x3 b g n r c h.1 h.2]
      · rw [if_neg h, if_neg h]
    · rw [Finset.sum_mul]
      refine Finset.sum_congr rfl fun k _ => ?_
      unfold wt lessLast
      rw [dif_pos k.isLt, ite_mul, zero_mul]
      rfl
  have e2 : (∑ c : Fin 768, (if c.val / 256 ≤ n.val ∧ near (c.val / 256) (r.val % 256) (c.val % 256) then
        (2 : ℝ) ^ ((∑ d, four (qOf x0 b g n) r d * kOf x1 b g d (256 * (n.val - c.val / 256) + c.val % 256)) + biasAt x3 g r c.val) else 0)
          * vOf x2 b g (256 * (n.val - c.val / 256) + c.val % 256) e)
      = (∑ k, wt x0 x1 x3 b g (headOf r) (at_ n ⟨r.val % 256, Nat.mod_lt _ (by decide)⟩) k
          * (x2 (ix3 b k (kchan g ⟨e.val % 64, Nat.mod_lt _ (by decide)⟩))).toReal) * Real.exp (-bias x3 g (headOf r) 31) := by
    refine (Finset.sum_congr rfl fun c _ => ?_).trans ((key_sum n ⟨r.val % 256, Nat.mod_lt _ (by decide)⟩
      (fun k => lessLast x0 x1 x3 b g (headOf r) (at_ n ⟨r.val % 256, Nat.mod_lt _ (by decide)⟩) k * vOf x2 b g k e)).trans ?_)
    · by_cases h : c.val / 256 ≤ n.val ∧ near (c.val / 256) (r.val % 256) (c.val % 256)
      · rw [if_pos h, if_pos h, weight_eq x0 x1 x3 b g n r c h.1 h.2]
      · rw [if_neg h, if_neg h, zero_mul]
    · rw [Finset.sum_mul]
      refine Finset.sum_congr rfl fun k _ => ?_
      unfold wt lessLast vOf
      rw [dif_pos k.isLt, dif_pos k.isLt, ite_mul, ite_mul, zero_mul, zero_mul, mul_right_comm]
      rfl
  rw [e1, e2, mul_div_mul_right _ _ hE]
  rfl

end Cert.WinAttnIdeal.Win

end
-- ==== Proof.WinArray.lean ====
/-
  The array the windowed attention leaves: at every index the specification.
-/
module

public import proofs.«01_k».proof.Proof.WinBody
public import proofs.«01_k».proof.Proof.WinSame
public import Idealize.ShloMosaic.Lib.Pipeline.ValueKit.Geometry

@[expose] public section

set_option maxRecDepth 16384

noncomputable section

namespace Cert.WinAttnIdeal.Win

open Cert.WinAttnIdeal Cert.WinAttnIdeal.Gen Cert.Win
open Cert.Attn (bucket bucket_lt Tab)
open Cert.KernelIdeal.Attn (at_)
open Idealize.ShloMosaic Idealize.ShloMosaic.TcCoe Idealize.ShloMosaic.ValueIdx Idealize.SL.Sem
open Idealize.ShloMosaic (Ideal)

/-! ## Which block each grid point reads and writes -/

theorem index0 : ∀ t : Fin cfg0.N, win0_0.index t = ![(grid0.coords t 0).val, (grid0.coords t 2).val, (grid0.coords t 1).val] :=
  (by decide +kernel : ∀ t : Fin grid0.N, _)
theorem index1 : ∀ t : Fin cfg0.N, win0_1.index t = ![(grid0.coords t 1).val, (grid0.coords t 0).val] :=
  (by decide +kernel : ∀ t : Fin grid0.N, _)
theorem index2 : ∀ t : Fin cfg0.N, win0_2.index t = ![(grid0.coords t 0).val, 0, (grid0.coords t 1).val] :=
  (by decide +kernel : ∀ t : Fin grid0.N, _)
theorem index3 : ∀ t : Fin cfg0.N, win0_3.index t = ![(grid0.coords t 1).val, 0, 0] :=
  (by decide +kernel : ∀ t : Fin grid0.N, _)
theorem index4 : ∀ t : Fin cfg0.N, win0_4.index t = ![(grid0.coords t 0).val, (grid0.coords t 2).val, (grid0.coords t 1).val] :=
  (by decide +kernel : ∀ t : Fin grid0.N, _)

variable (m : (ℓ : Loc nD τ sig) → Buf (Elt Ideal) ℓ) (c : Dev nD)

/-! ## The operands' blocks at an index -/

theorem blk0 (t : Fin cfg0.N) (b : Fin 16) (g : Fin 2) (n : Fin 8) (hb : (grid0.coords t 0).val = b.val) (hg : (grid0.coords t 1).val = g.val)
    (hn : (grid0.coords t 2).val = n.val) (r d : Fin 256) :
    iblk m c 0 t (ix3 0 r d) = V m c main_v58 (ix3 b (at_ n r) ⟨g.val * 256 + d.val, by omega⟩) := by
  show V m c main_v58 ((win0_0.blk t).view.emb (ix3 0 r d)) = _
  refine congrArg (V m c main_v58) (funext fun a => Fin.ext ?_)
  match a with
  | ⟨0, _⟩ => blk_simp [index0]; rw [hb]
  | ⟨1, _⟩ => blk_simp [index0]; rw [hn]; show n.val * 256 + r.val = 256 * n.val + r.val; omega
  | ⟨2, _⟩ => blk_simp [index0]; rw [hg]

theorem blk1 (t : Fin cfg0.N) (b : Fin 16) (g : Fin 2) (hb : (grid0.coords t 0).val = b.val) (hg : (grid0.coords t 1).val = g.val)
    (d : Fin 128) (j : Fin 2048) :
    iblk m c 1 t (ix2 d j) = V m c main_v66 (ix2 ⟨g.val * 128 + d.val, by omega⟩ ⟨b.val * 2048 + j.val, by omega⟩) := by
  show V m c main_v66 ((win0_1.blk t).view.emb (ix2 d j)) = _
  refine congrArg (V m c main_v66) (funext fun a => Fin.ext ?_)
  match a with
  | ⟨0, _⟩ => blk_simp [index1]; rw [hg]
  | ⟨1, _⟩ => blk_simp [index1]; rw [hb]

theorem blk2 (t : Fin cfg0.N) (b : Fin 16) (g : Fin 2) (hb : (grid0.coords t 0).val = b.val) (hg : (grid0.coords t 1).val = g.val)
    (j : Fin 2048) (e : Fin 128) :
    iblk m c 2 t (ix3 0 j e) = V m c main_v72 (ix3 b j ⟨g.val * 128 + e.val, by omega⟩) := by
  show V m c main_v72 ((win0_2.blk t).view.emb (ix3 0 j e)) = _
  refine congrArg (V m c main_v72) (funext fun a => Fin.ext ?_)
  match a with
  | ⟨0, _⟩ => blk_simp [index2]; rw [hb]
  | ⟨1, _⟩ => blk_simp [index2]
  | ⟨2, _⟩ => blk_simp [index2]; rw [hg]

theorem blk3 (t : Fin cfg0.N) (g : Fin 2) (hg : (grid0.coords t 1).val = g.val) (r : Fin 1024) (j : Fin 768) :
    iblk m c 3 t (ix3 0 r j) = V m c main_v52 (ix3 g r j) := by
  show V m c main_v52 ((win0_3.blk t).view.emb (ix3 0 r j)) = _
  refine congrArg (V m c main_v52) (funext fun x => Fin.ext ?_)
  match x with
  | ⟨0, _⟩ => blk_simp [index3]; rw [hg]
  | ⟨1, _⟩ => blk_simp [index3]
  | ⟨2, _⟩ => blk_simp [index3]

/-! ## The result -/

variable (x0 : Qs) (x1 x2 : Ks) (x3 : Tab)

/-- A row of a grid point's result block at an index. -/
theorem out_apply (hR : Reals x0 x1 x2 x3) (h0 : V m c main_v58 = queries x0) (h1 : V m c main_v66 = keysT x1)
    (h2 : V m c main_v72 = values x2) (h3 : V m c main_v52 = stacked (masked (biasRow x3)))
    (t : Fin cfg0.N) (b : Fin 16) (g : Fin 2) (n : Fin 8) (hb : (grid0.coords t 0).val = b.val) (hg : (grid0.coords t 1).val = g.val)
    (hn : (grid0.coords t 2).val = n.val) (r f : Fin 256) :
    outBlk (grid0.coords t) (iblk m c 0 t) (iblk m c 1 t) (iblk m c 2 t) (iblk m c 3 t) (ix3 0 r f)
      = ((soft x0 x1 x2 x3 b g (headOf (slot r f)) (at_ n ⟨(slot r f).val % 256, Nat.mod_lt _ (by decide)⟩)
          ⟨(lane f).val % 64, Nat.mod_lt _ (by decide)⟩ : ℝ) : EReal) := by
  refine (outBlk_apply (grid0.coords t) n hn (iblk m c 0 t) (iblk m c 1 t) (iblk m c 2 t) (iblk m c 3 t) (qOf x0 b g n) (kOf x1 b g) (vOf x2 b g)
    (biasAt x3 g) (fun r c => near (c / 256) (r.val % 256) (c % 256)) (fun p d => ?_) (fun d j => ?_) (fun j e => ?_) (fun p j => ?_) (fun p => ?_)
    r f).trans ?_
  · rw [blk0 m c t b g n hb hg hn, h0, queries_apply x0 hR.h0]
    rfl
  · rw [blk1 m c t b g hb hg, h1, keysT_apply, ← hR.h1]
    unfold kOf
    rw [dif_pos j.isLt]
  · rw [blk2 m c t b g hb hg, h2, values_apply, ← hR.h2]
    unfold vOf
    rw [dif_pos j.isLt]
  · rw [blk3 m c t g hg, h3, tiles_real x3 hR.h3]
  · refine ⟨⟨p.val % 256, by omega⟩, ?_, ?_, ?_⟩
    · show p.val % 256 / 256 ≤ n.val
      omega
    · show p.val % 256 % 256 ≤ p.val % 256 / 256 * 256 + p.val % 256
      omega
    · show p.val % 256 / 256 * 256 + p.val % 256 < p.val % 256 % 256 + 512
      omega
  · exact congrArg (fun a : ℝ => (a : EReal)) (mean_eq x0 x1 x2 x3 b g n (slot r f) (lane f))

/-- The kernel's result. -/
theorem result_eq (hR : Reals x0 x1 x2 x3) (h0 : V m c main_v58 = queries x0) (h1 : V m c main_v66 = keysT x1)
    (h2 : V m c main_v72 = values x2) (h3 : V m c main_v52 = stacked (masked (biasRow x3))) :
    (dats m 0 c).arrAt 4 cfg0.N = Cert.Win.result x0 x1 x2 x3 := by
  refine (dats m 0 c).arrAt_eq_of_covers 4 _ (by decide +kernel) fun t hf y => ?_
  blk_simp
  rw [after0_4]
  unfold outsAt0
  rw [out_eq]
  obtain ⟨u, r, f, rfl⟩ : ∃ (u : Fin 1) (r f : Fin 256), y = ix3 u r f := ⟨y 0, y 1, y 2, eq_ix3 y⟩
  obtain rfl : u = 0 := Subsingleton.elim _ _
  have hb : (grid0.coords t 0).val < 16 := (grid0.coords t 0).isLt
  have hg : (grid0.coords t 1).val < 2 := (grid0.coords t 1).isLt
  have hn : (grid0.coords t 2).val < 8 := (grid0.coords t 2).isLt
  have hr := r.isLt
  have hf' := f.isLt
  rw [out_apply m c x0 x1 x2 x3 hR h0 h1 h2 h3 t ⟨_, hb⟩ ⟨_, hg⟩ ⟨_, hn⟩ rfl rfl rfl]
  have e4 : (win0_4.blk t).view.emb (ix3 0 r f) = ix3 ⟨_, hb⟩ (at_ ⟨_, hn⟩ r) ⟨(grid0.coords t 1).val * 256 + f.val, by omega⟩ := by
    funext a
    refine Fin.ext ?_
    match a with
    | ⟨0, _⟩ => blk_simp [index4]
    | ⟨1, _⟩ => blk_simp [index4]; show (grid0.coords t 2).val * 256 + r.val = 256 * (grid0.coords t 2).val + r.val; omega
    | ⟨2, _⟩ => blk_simp [index4]
  rw [e4]
  have eg : (⟨(grid0.coords t 1).val, hg⟩ : Fin 2) = ⟨((grid0.coords t 1).val * 256 + f.val) / 256, by omega⟩ := Fin.ext (by
    show (grid0.coords t 1).val = ((grid0.coords t 1).val * 256 + f.val) / 256
    omega)
  have ej : headOf (slot r f) = ⟨((grid0.coords t 1).val * 256 + f.val) % 256 / 64, by omega⟩ := Fin.ext (by
    show 2 * (((f.val / 128 + 2 * (f.val % 128 / 64)) * 256 + r.val) / 256 % 2) + ((f.val / 128 + 2 * (f.val % 128 / 64)) * 256 + r.val) / 512
      = ((grid0.coords t 1).val * 256 + f.val) % 256 / 64
    have s1 : ((f.val / 128 + 2 * (f.val % 128 / 64)) * 256 + r.val) / 256 = f.val / 128 + 2 * (f.val % 128 / 64) := by omega
    have s2 : ((f.val / 128 + 2 * (f.val % 128 / 64)) * 256 + r.val) / 512 = f.val % 128 / 64 := by omega
    have s3 : ((grid0.coords t 1).val * 256 + f.val) % 256 = f.val := by omega
    rw [s1, s2, s3]
    omega)
  have ep : (⟨(slot r f).val % 256, Nat.mod_lt _ (by decide)⟩ : Fin 256) = r := Fin.ext (by
    show ((f.val / 128 + 2 * (f.val % 128 / 64)) * 256 + r.val) % 256 = r.val
    omega)
  have ee : (⟨(lane f).val % 64, Nat.mod_lt _ (by decide)⟩ : Fin 64) = ⟨((grid0.coords t 1).val * 256 + f.val) % 64, by omega⟩ := Fin.ext (by
    show f.val % 128 % 64 = ((grid0.coords t 1).val * 256 + f.val) % 64
    omega)
  rw [ej, ep, ee]
  unfold Cert.Win.result
  exact congrArg (fun q => ((soft x0 x1 x2 x3 ⟨_, hb⟩ q _ (at_ ⟨_, hn⟩ r) _ : ℝ) : EReal)) eg

end Cert.WinAttnIdeal.Win

end
-- ==== Proof.WinReference.lean ====
/-
  The windowed attention's reference, at the ideal values: the specification.
-/
module

public import proofs.«01_k».proof.Proof.WinSpec
public import proofs.«01_k».proof.Proof.RefBucket
public import proofs.«01_k».proof.Proof.HostArgs
public import proofs.«01_k».proof.Proof.Gen.WinReferenceIdeal.Read

@[expose] public section

set_option maxRecDepth 16384

noncomputable section

namespace Cert.WinReferenceIdeal.Win

open Cert.WinReferenceIdeal Cert.WinReferenceIdeal.Gen Cert.WinReferenceIdeal.Read Cert.Win
open Cert.Attn (bucket bucket_lt sub_sge_zero Tab coe_sum exp_coe exp_bot div_coe fold_max_real ofBits_neg_inf)
open Cert.KernelIdeal.Attn (ofBits_eighth)
open Cert.ReferenceIdeal.Attn (toInt_small slt_small dist_small bucket_word)
open Idealize.ShloMosaic Idealize.ShloMosaic.ValueIdx
open Idealize.ShloMosaic (Ideal)

/-! ## The buckets and the mask -/

theorem v8_apply (p k : Fin 2048) : val_main_v8 (F := Ideal) (ix2 p k) = BitVec.ofNat 32 p.val - BitVec.ofNat 32 k.val := by
  rw [val_main_v8_apply, val_main_v6_apply, val_main_v4_apply, val_main_v7_apply, val_main_v5_apply, val_main_v3_apply, val_main_v3_apply]
  rfl

/-- The bucket of a query and a key. -/
theorem v36_apply (p k : Fin 2048) : val_main_v36 (F := Ideal) (ix2 p k) = BitVec.ofNat 32 (bucket (p.val - k.val)) := by
  have h12 : val_main_v12 (F := Ideal) (ix2 p k) = BitVec.ofNat 32 (p.val - k.val) := by
    rw [val_main_v12_apply, v8_apply, val_main_v11_apply, val_main_c_apply]
    exact dist_small p.val k.val (by omega) (by omega)
  have h31 : val_main_v31 (F := Ideal) (ix2 p k) = BitVec.ofNat 32 (bucket (p.val - k.val)) := by
    rw [val_main_v31_apply, val_main_v30_apply, val_main_v29_apply, val_main_c_5_apply, val_main_v28_apply, val_main_v27_apply,
      val_main_c_4_apply, val_main_v26_apply, val_main_v25_apply, val_main_c_3_apply, val_main_v24_apply, val_main_v23_apply,
      val_main_v22_apply, val_main_cst_2_apply, val_main_v21_apply, val_main_v20_apply, val_main_v19_apply, val_main_cst_1_apply,
      val_main_v18_apply, val_main_v17_apply, val_main_v16_apply, val_main_cst_apply, val_main_v15_apply, val_main_v14_apply,
      val_main_v13_apply, val_main_c_0_apply, h12]
    exact bucket_word _ (by omega)
  have hb := bucket_lt (p.val - k.val)
  rw [val_main_v36_apply, val_main_v33_apply, val_main_v32_apply, val_main_c_6_apply, h31]
  have ec : IntOp.cmpi .slt (BitVec.ofNat 32 (bucket (p.val - k.val))) 0#32 = BitVec.ofBool (decide (bucket (p.val - k.val) < 0)) :=
    congrArg BitVec.ofBool (slt_small _ 0 (by omega) (by norm_num))
  rw [ec, decide_eq_false (by omega)]
  exact if_neg (by decide)

/-- Whether a query sees a key. -/
theorem v51_apply (p k : Fin 2048) : val_main_v51 (F := Ideal) (ix2 p k) = if inside p.val k.val then 1#1 else 0#1 := by
  have h1 : val_main_v48 (F := Ideal) (ix2 p k) = if k.val ≤ p.val then 1#1 else 0#1 := by
    rw [val_main_v48_apply, v8_apply, val_main_v47_apply, val_main_c_9_apply]
    exact sub_sge_zero p.val k.val (by omega) (by omega)
  have h2 : val_main_v50 (F := Ideal) (ix2 p k) = if p.val < k.val + 512 then 1#1 else 0#1 := by
    rw [val_main_v50_apply, v8_apply, val_main_v49_apply, val_main_c_10_apply]
    exact sub_slt p.val k.val p.isLt k.isLt
  rw [val_main_v51_apply, h1, h2]
  unfold inside
  by_cases a : k.val ≤ p.val <;> by_cases b : p.val < k.val + 512 <;> simp [a, b] <;> rfl

/-! ## The bias -/

theorem v38_apply (x3 : Tab) (p k : Fin 2048) (g : Fin 2) (j : Fin 4) :
    val_main_v38 (F := Ideal) x3 (ix4 p k g j) = x3 (ix2 ⟨bucket (p.val - k.val), bucket_lt _⟩ (head g j)) := by
  have e : val_main_v37 (F := Ideal) (ix3 p k 0) = BitVec.ofNat 32 (bucket (p.val - k.val)) := by
    rw [val_main_v37_apply]
    refine Eq.trans (congrArg _ ?_) (v36_apply p k)
    funext a
    match a with
    | ⟨0, _⟩ => rfl
    | ⟨1, _⟩ => rfl
  have hb := bucket_lt (p.val - k.val)
  have h10 : ∀ b : Fin 32, val_main_v10 (F := Ideal) x3 (ix3 b g j) = x3 (ix2 b (head g j)) := fun b => by
    rw [val_main_v10_apply, val_main_v9_apply]
    refine congrArg x3 (funext fun a => Fin.ext ?_)
    match a with
    | ⟨0, _⟩ =>
      show ((b.val * 2 + g.val) * 4 + j.val) / 8 = b.val
      omega
    | ⟨1, _⟩ =>
      show 4 + ((b.val * 2 + g.val) * 4 + j.val) % 8 = 4 + (g.val * 4 + j.val)
      omega
  refine Eq.trans ?_ (h10 ⟨bucket (p.val - k.val), hb⟩)
  unfold val_main_v38 Host.gather
  refine congrArg (val_main_v10 (F := Ideal) x3) (funext fun a => Fin.ext ?_)
  generalize hd : gather_S32x2x4_S2048x2048x1_S2048x2048x2x4_23_0_n_n_0_2_124 = D
  show D.start (ix4 p k g j) (val_main_v37 (F := Ideal)) a + D.batchCoord (ix4 p k g j) a + D.offCoord (ix4 p k g j) a = _
  subst hd
  rw [GatherDims.batchCoord_eq_zero _ _ _ List.not_mem_nil, Nat.add_zero]
  match a with
  | ⟨0, _⟩ =>
    have hm : (0 : Fin 3) ∈ gather_S32x2x4_S2048x2048x1_S2048x2048x2x4_23_0_n_n_0_2_124.startIndexMap := List.mem_singleton.mpr rfl
    have e0 : gather_S32x2x4_S2048x2048x1_S2048x2048x2x4_23_0_n_n_0_2_124.offCoord (ix4 p k g j) (0 : Fin 3) = 0 :=
      GatherDims.offCoord_eq_zero _ _ _ (fun h => ((GatherDims.mem_sKept _ _).mp h).1 (List.mem_singleton.mpr rfl))
    show gather_S32x2x4_S2048x2048x1_S2048x2048x2x4_23_0_n_n_0_2_124.start (ix4 p k g j) (val_main_v37 (F := Ideal)) (0 : Fin 3)
      + gather_S32x2x4_S2048x2048x1_S2048x2048x2x4_23_0_n_n_0_2_124.offCoord (ix4 p k g j) (0 : Fin 3) = _
    rw [e0, Nat.add_zero]
    unfold GatherDims.start
    rw [dif_pos hm]
    have hsi : gather_S32x2x4_S2048x2048x1_S2048x2048x2x4_23_0_n_n_0_2_124.siIdx (ix4 p k g j)
        ⟨List.idxOf (0 : Fin 3) gather_S32x2x4_S2048x2048x1_S2048x2048x2x4_23_0_n_n_0_2_124.startIndexMap, List.idxOf_lt_length_iff.2 hm⟩ = ix3 p k 0 := by
      funext b; refine Fin.ext ?_
      match b with
      | ⟨0, _⟩ => rfl
      | ⟨1, _⟩ => rfl
      | ⟨2, _⟩ => rfl
    rw [hsi]
    show min (val_main_v37 (F := Ideal) (ix3 p k 0)).toInt.toNat (32 - 1) = bucket (p.val - k.val)
    rw [e, toInt_small _ (by omega), Int.toNat_natCast]
    omega
  | ⟨1, _⟩ =>
    have hm : (1 : Fin 3) ∉ gather_S32x2x4_S2048x2048x1_S2048x2048x2x4_23_0_n_n_0_2_124.startIndexMap := fun h =>
      absurd (congrArg Fin.val (List.mem_singleton.mp h)) Nat.one_ne_zero
    show gather_S32x2x4_S2048x2048x1_S2048x2048x2x4_23_0_n_n_0_2_124.start (ix4 p k g j) (val_main_v37 (F := Ideal)) (1 : Fin 3)
      + gather_S32x2x4_S2048x2048x1_S2048x2048x2x4_23_0_n_n_0_2_124.offCoord (ix4 p k g j) (1 : Fin 3) = _
    unfold GatherDims.start
    rw [dif_neg hm, Nat.zero_add]
    rfl
  | ⟨2, _⟩ =>
    have hm : (2 : Fin 3) ∉ gather_S32x2x4_S2048x2048x1_S2048x2048x2x4_23_0_n_n_0_2_124.startIndexMap := fun h =>
      absurd (congrArg Fin.val (List.mem_singleton.mp h)) (by decide)
    show gather_S32x2x4_S2048x2048x1_S2048x2048x2x4_23_0_n_n_0_2_124.start (ix4 p k g j) (val_main_v37 (F := Ideal)) (2 : Fin 3)
      + gather_S32x2x4_S2048x2048x1_S2048x2048x2x4_23_0_n_n_0_2_124.offCoord (ix4 p k g j) (2 : Fin 3) = _
    unfold GatherDims.start
    rw [dif_neg hm, Nat.zero_add]
    rfl

theorem v45_apply (x3 : Tab) (b : Fin 16) (g : Fin 2) (j : Fin 4) (p k : Fin 2048) :
    val_main_v45 (F := Ideal) x3 (ix5 b g j p k) = x3 (ix2 ⟨bucket (p.val - k.val), bucket_lt _⟩ (head g j)) := by
  rw [val_main_v45_apply, val_main_v44_apply, val_main_v39_apply]
  refine Eq.trans (congrArg _ ?_) (v38_apply x3 p k g j)
  funext a
  match a with
  | ⟨0, _⟩ => rfl
  | ⟨1, _⟩ => rfl
  | ⟨2, _⟩ => rfl
  | ⟨3, _⟩ => rfl

/-! ## The products -/

theorem v0_apply (x0 : Qs) (b : Fin 16) (p : Fin 2048) (g : Fin 2) (j : Fin 4) (d : Fin 64) :
    val_main_v0 (F := Ideal) x0 (ix5 b p g j d) = x0 (ix3 b p (qchan g j d)) := by
  rw [val_main_v0_apply]
  refine congrArg x0 (funext fun a => Fin.ext ?_)
  match a with
  | ⟨0, _⟩ =>
    show ((((b.val * 2048 + p.val) * 2 + g.val) * 4 + j.val) * 64 + d.val) / 1048576 = b.val
    omega
  | ⟨1, _⟩ =>
    show ((((b.val * 2048 + p.val) * 2 + g.val) * 4 + j.val) * 64 + d.val) / 512 % 2048 = p.val
    omega
  | ⟨2, _⟩ =>
    show ((((b.val * 2048 + p.val) * 2 + g.val) * 4 + j.val) * 64 + d.val) % 512 = g.val * 256 + j.val * 64 + d.val
    omega

theorem v1_apply (x1 : Ks) (b : Fin 16) (p : Fin 2048) (g : Fin 2) (d : Fin 64) :
    val_main_v1 (F := Ideal) x1 (ix4 b p g d) = x1 (ix3 b p (kchan g d)) := by
  rw [val_main_v1_apply]
  refine congrArg x1 (funext fun a => Fin.ext ?_)
  match a with
  | ⟨0, _⟩ =>
    show (((b.val * 2048 + p.val) * 2 + g.val) * 64 + d.val) / 262144 = b.val
    omega
  | ⟨1, _⟩ =>
    show (((b.val * 2048 + p.val) * 2 + g.val) * 64 + d.val) / 128 % 2048 = p.val
    omega
  | ⟨2, _⟩ =>
    show (((b.val * 2048 + p.val) * 2 + g.val) * 64 + d.val) % 128 = g.val * 64 + d.val
    omega

theorem v2_apply (x2 : Ks) (b : Fin 16) (p : Fin 2048) (g : Fin 2) (d : Fin 64) :
    val_main_v2 (F := Ideal) x2 (ix4 b p g d) = x2 (ix3 b p (kchan g d)) := v1_apply x2 b p g d

/-- A row's maximum. -/
theorem rowmax_apply (y : FVec Ideal S16x2x4x2048x2048 .f32) (z : FVec Ideal S_ .f32) (b : Fin 16) (g : Fin 2) (j : Fin 4) (p : Fin 2048) :
    Host.reduce FloatOps.maximumf y z reducesTo_S16x2x4x2048x2048_S16x2x4x2048_d4 h_S_ (ix4 b g j p)
      = (Finset.univ : Finset (Fin 2048)).fold max (z (Shape.Idx.first h_S_)) fun k => y (ix5 b g j p k) := by
  have hr : S16x2x4x2048x2048.Reduces [4] S16x2x4x2048 := by decide
  rw [Host.reduce_eq_fold_single FloatOps.maximumf y z reducesTo_S16x2x4x2048x2048_S16x2x4x2048_d4 hr h_S_]
  refine congrArg (fun f => (Finset.univ : Finset (Fin 2048)).fold max (z (Shape.Idx.first h_S_)) f) (funext fun j => congrArg y ?_)
  funext a
  match a with
  | ⟨0, _⟩ => rfl
  | ⟨1, _⟩ => rfl
  | ⟨2, _⟩ => rfl
  | ⟨3, _⟩ => rfl
  | ⟨4, _⟩ => rfl

variable {x0 : Qs} {x1 x2 : Ks} {x3 : Tab} (hR : Reals x0 x1 x2 x3)
include hR

theorem v41_apply (b : Fin 16) (g : Fin 2) (j : Fin 4) (p k : Fin 2048) :
    val_main_v41 (F := Ideal) x0 x1 (ix5 b g j p k)
      = ((∑ d : Fin 64, (x0 (ix3 b p (qchan g j d))).toReal * (x1 (ix3 b k (kchan g d))).toReal : ℝ) : EReal) := by
  have e : val_main_v41 (F := Ideal) x0 x1 (ix5 b g j p k) = val_main_v40 (F := Ideal) x0 x1 (ix5 b g k p j) := by
    rw [val_main_v41_apply]
    refine congrArg _ ?_
    funext a
    match a with
    | ⟨0, _⟩ => rfl
    | ⟨1, _⟩ => rfl
    | ⟨2, _⟩ => rfl
    | ⟨3, _⟩ => rfl
    | ⟨4, _⟩ => rfl
  rw [e, val_main_v40_apply, ← coe_sum]
  refine Finset.sum_congr rfl fun d _ => ?_
  have el : lidx_main_v40 (ix5 b g k p j) d = ix4 b k g d := by
    funext a
    match a with
    | ⟨0, _⟩ => rfl
    | ⟨1, _⟩ => rfl
    | ⟨2, _⟩ => rfl
    | ⟨3, _⟩ => rfl
  have er : ridx_main_v40 (ix5 b g k p j) d = ix5 b p g j d := by
    funext a
    match a with
    | ⟨0, _⟩ => rfl
    | ⟨1, _⟩ => rfl
    | ⟨2, _⟩ => rfl
    | ⟨3, _⟩ => rfl
    | ⟨4, _⟩ => rfl
  rw [el, er, v0_apply, v1_apply, EReal.coe_mul, hR.h0, hR.h1, mul_comm]

/-- The masked score. -/
theorem v53_apply (b : Fin 16) (g : Fin 2) (j : Fin 4) (p k : Fin 2048) :
    val_main_v53 (F := Ideal) x0 x1 x3 (ix5 b g j p k) = if inside p.val k.val then ((score x0 x1 x3 b g j p k : ℝ) : EReal) else ⊥ := by
  have es : val_main_v46 (F := Ideal) x0 x1 x3 (ix5 b g j p k) = ((score x0 x1 x3 b g j p k : ℝ) : EReal) := by
    rw [val_main_v46_apply, val_main_v43_apply, val_main_v42_apply, val_main_cst_8_apply, v41_apply hR, v45_apply]
    show ((_ : ℝ) : EReal) * Ideal.ofBits .f32 0x3E000000#32 + x3 _ = _
    unfold score bias
    rw [ofBits_eighth, ← EReal.coe_mul, EReal.coe_add, hR.h3 ⟨bucket (p.val - k.val), bucket_lt _⟩ g j]
  have em : val_main_call1_v1 (F := Ideal) (ix5 b g j p k) = if inside p.val k.val then 1#1 else 0#1 := by
    rw [val_main_call1_v1_apply, val_main_v52_apply]
    refine Eq.trans (congrArg _ ?_) (v51_apply p k)
    funext a
    match a with
    | ⟨0, _⟩ => rfl
    | ⟨1, _⟩ => rfl
  have en : val_main_call1_v2 (F := Ideal) (ix5 b g j p k) = ⊥ := by
    rw [val_main_call1_v2_apply, val_main_call1_v0_apply, val_main_cst_11_apply]
    exact ofBits_neg_inf
  rw [val_main_v53_apply, es, em, en]
  unfold Scalar.select
  by_cases hj : inside p.val k.val
  · rw [if_pos hj, if_pos hj]; rfl
  · rw [if_neg hj, if_neg hj]; rfl

/-! ## The weights -/

/-- A row's maximum is real. -/
theorem v56_real (b : Fin 16) (g : Fin 2) (j : Fin 4) (p : Fin 2048) :
    ∃ μ : ℝ, val_main_v56 (F := Ideal) x0 x1 x3 (ix4 b g j p) = (μ : EReal) := by
  obtain ⟨μ, hμ⟩ := fold_max_real (fun k : Fin 2048 => val_main_v53 (F := Ideal) x0 x1 x3 (ix5 b g j p k))
    (fun k => by
      rw [v53_apply hR]
      split
      · exact EReal.coe_ne_top _
      · exact bot_ne_top)
    ⟨p, by
      rw [v53_apply hR, if_pos ⟨le_rfl, by omega⟩]
      exact EReal.coe_ne_bot _⟩
  refine ⟨μ, ?_⟩
  have e54 : val_main_v54 (F := Ideal) x0 x1 x3 (ix4 b g j p) = (μ : EReal) := by
    rw [← hμ]
    unfold val_main_v54
    refine (rowmax_apply (val_main_v53 (F := Ideal) x0 x1 x3) (val_main_cst_12 (F := Ideal)) b g j p).trans ?_
    exact congrArg (fun z => (Finset.univ : Finset (Fin 2048)).fold max z _) ofBits_neg_inf
  rw [val_main_v56_apply, val_main_v55_apply, val_main_cst_13_apply, e54]
  show max (Ideal.ofBits .f32 0xFF800000#32) (μ : EReal) = _
  rw [ofBits_neg_inf, max_eq_right bot_le]

/-- The exponentials: the weights, up to the row's factor. -/
theorem v60_apply (b : Fin 16) (g : Fin 2) (j : Fin 4) (p : Fin 2048) :
    ∃ μ : ℝ, ∀ k : Fin 2048, val_main_v60 (F := Ideal) x0 x1 x3 (ix5 b g j p k) = ((Real.exp (-μ) * wt x0 x1 x3 b g j p k : ℝ) : EReal) := by
  obtain ⟨μ, hμ⟩ := v56_real hR b g j p
  refine ⟨μ, fun k => ?_⟩
  have e58 : val_main_v58 (F := Ideal) x0 x1 x3 (ix5 b g j p k) = (μ : EReal) := by
    rw [val_main_v58_apply, val_main_v57_apply, ← hμ]
    refine congrArg _ ?_
    funext a
    match a with
    | ⟨0, _⟩ => rfl
    | ⟨1, _⟩ => rfl
    | ⟨2, _⟩ => rfl
    | ⟨3, _⟩ => rfl
  rw [val_main_v60_apply, val_main_v59_apply, v53_apply hR, e58]
  unfold wt
  by_cases hj : inside p.val k.val
  · rw [if_pos hj, if_pos hj]
    show Ideal.exp (((score x0 x1 x3 b g j p k : ℝ) : EReal) - (μ : EReal)) = _
    rw [← EReal.coe_sub, exp_coe, ← Real.exp_add]
    exact congrArg (fun r : ℝ => ((Real.exp r : ℝ) : EReal)) (by ring)
  · rw [if_neg hj, if_neg hj, mul_zero]
    show Ideal.exp (⊥ - (μ : EReal)) = _
    rw [EReal.bot_sub, exp_bot]

/-- The normalized weights. -/
theorem v64_apply (b : Fin 16) (g : Fin 2) (j : Fin 4) (p k : Fin 2048) :
    val_main_v64 (F := Ideal) x0 x1 x3 (ix5 b g j p k) = ((wt x0 x1 x3 b g j p k / ∑ l, wt x0 x1 x3 b g j p l : ℝ) : EReal) := by
  obtain ⟨μ, hμ⟩ := v60_apply hR b g j p
  have e61 : val_main_v61 (F := Ideal) x0 x1 x3 (ix4 b g j p) = ((Real.exp (-μ) * ∑ l, wt x0 x1 x3 b g j p l : ℝ) : EReal) := by
    rw [val_main_v61_apply, val_main_cst_14_apply, Finset.mul_sum, ← coe_sum]
    refine (congrArg₂ (· + ·) Ideal.ofBits_zero_f32 (Finset.sum_congr rfl fun l _ => ?_)).trans (zero_add _)
    refine Eq.trans (congrArg _ ?_) (hμ l)
    funext a
    match a with
    | ⟨0, _⟩ => rfl
    | ⟨1, _⟩ => rfl
    | ⟨2, _⟩ => rfl
    | ⟨3, _⟩ => rfl
    | ⟨4, _⟩ => rfl
  have e63 : val_main_v63 (F := Ideal) x0 x1 x3 (ix5 b g j p k) = ((Real.exp (-μ) * ∑ l, wt x0 x1 x3 b g j p l : ℝ) : EReal) := by
    rw [val_main_v63_apply, val_main_v62_apply, ← e61]
    refine congrArg _ ?_
    funext a
    match a with
    | ⟨0, _⟩ => rfl
    | ⟨1, _⟩ => rfl
    | ⟨2, _⟩ => rfl
    | ⟨3, _⟩ => rfl
  rw [val_main_v64_apply, hμ, e63]
  have hE : 0 < Real.exp (-μ) := Real.exp_pos _
  have hS := wt_sum_pos x0 x1 x3 b g j p
  refine (div_coe (mul_pos hE hS).ne').trans ?_
  rw [mul_div_mul_left _ _ hE.ne']

/-- The weighted mean. -/
theorem v65_apply (b : Fin 16) (g : Fin 2) (j : Fin 4) (p : Fin 2048) (e : Fin 64) :
    val_main_v65 (F := Ideal) x0 x1 x2 x3 (ix5 b g e j p) = ((soft x0 x1 x2 x3 b g j p e : ℝ) : EReal) := by
  unfold soft
  rw [val_main_v65_apply, Finset.sum_div, ← coe_sum]
  refine Finset.sum_congr rfl fun k _ => ?_
  have el : lidx_main_v65 (ix5 b g e j p) k = ix4 b k g e := by
    funext a
    match a with
    | ⟨0, _⟩ => rfl
    | ⟨1, _⟩ => rfl
    | ⟨2, _⟩ => rfl
    | ⟨3, _⟩ => rfl
  have er : ridx_main_v65 (ix5 b g e j p) k = ix5 b g j p k := by
    funext a
    match a with
    | ⟨0, _⟩ => rfl
    | ⟨1, _⟩ => rfl
    | ⟨2, _⟩ => rfl
    | ⟨3, _⟩ => rfl
    | ⟨4, _⟩ => rfl
  rw [el, er, v2_apply, v64_apply hR, ← hR.h2, ← EReal.coe_mul]
  refine congrArg (fun z : ℝ => (z : EReal)) ?_
  rw [EReal.toReal_coe]
  ring

/-- The reference's result. -/
theorem value_eq : val_main_v68 (F := Ideal) x0 x1 x2 x3 = Cert.Win.result x0 x1 x2 x3 := by
  funext i
  have h0 : (i 0).val < 16 := (i 0).isLt
  have h1 : (i 1).val < 2048 := (i 1).isLt
  have h2 : (i 2).val < 512 := (i 2).isLt
  rw [val_main_v68_apply, val_main_v67_apply, val_main_v66_apply]
  refine Eq.trans (congrArg (val_main_v65 (F := Ideal) x0 x1 x2 x3) ?_) (v65_apply hR (i 0) ⟨(i 2).val / 256, by omega⟩ ⟨(i 2).val % 256 / 64, by omega⟩ (i 1) ⟨(i 2).val % 64, by omega⟩)
  funext a
  refine Fin.ext ?_
  match a with
  | ⟨0, _⟩ =>
    show (((i 0).val * 2048 + (i 1).val) * 512 + (i 2).val) / 1048576 = (i 0).val
    omega
  | ⟨1, _⟩ =>
    show (((i 0).val * 2048 + (i 1).val) * 512 + (i 2).val) / 256 % 2 = (i 2).val / 256
    omega
  | ⟨2, _⟩ =>
    show (((i 0).val * 2048 + (i 1).val) * 512 + (i 2).val) % 64 = (i 2).val % 64
    omega
  | ⟨3, _⟩ =>
    show (((i 0).val * 2048 + (i 1).val) * 512 + (i 2).val) / 64 % 4 = (i 2).val % 256 / 64
    omega
  | ⟨4, _⟩ =>
    show (((i 0).val * 2048 + (i 1).val) * 512 + (i 2).val) / 512 % 2048 = (i 1).val
    omega

end Cert.WinReferenceIdeal.Win

end
-- ==== Proof.WinClaim.lean ====
/-
  The windowed attention's claims: the programs run, leave their arguments as they found them and end with every semaphore at
  zero; of finite arguments the kernel's result is the reference's.
-/
module

public import proofs.«01_k».proof.Defs
public import proofs.«01_k».proof.Proof.WinArray
public import proofs.«01_k».proof.Proof.WinReference
public import proofs.«01_k».proof.Proof.Pre
public import proofs.«01_k».proof.Proof.Gen.WinAttn
public import proofs.«01_k».proof.Proof.Gen.WinAttn.Frame
public import proofs.«01_k».proof.Proof.Gen.WinAttnIdeal
public import proofs.«01_k».proof.Proof.Gen.WinAttnIdeal.Value
public import proofs.«01_k».proof.Proof.Gen.WinReferenceIdeal
public import proofs.«01_k».proof.Proof.Gen.WinReferenceIdeal.Run
public import proofs.«01_k».proof.Proof.Gen.WinReferenceIdeal.Read
public import proofs.«01_k».proof.Proof.Gen.Pre_win_finite
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Win

open Cert.Attn (and_one reduce_ones real_of_abs_lt)
open Idealize.ShloMosaic Idealize.ShloMosaic.ValueIdx
open Idealize.ShloMosaic (Ideal)

open Cert.Pre_win_finite in
/-- The precondition gives real arrays. -/
theorem reals_of_pre [Cert.Pre_win_finite.Facts] (x0 : FVec Ideal S16x2048x512 .f32) (x1 x2 : FVec Ideal S16x2048x128 .f32)
    (x3 : FVec Ideal S32x12 .f32) (h : Cert.Pre_win_finite.fn (F := Ideal) x0 x1 x2 x3 = fun _ => 1#1) : Reals x0 x1 x2 x3 := by
  have e := congrFun h ix0
  unfold fn fn_part1 at e
  dsimp only at e
  obtain ⟨e, e3⟩ := and_one _ _ e
  obtain ⟨e, e2⟩ := and_one _ _ e
  obtain ⟨e0, e1⟩ := and_one _ _ e
  refine ⟨fun i => ?_, fun i => ?_, fun i => ?_, fun b g j => ?_⟩
  · exact real_of_abs_lt _ (reduce_ones _ _ _ _ rfl _ e0 i)
  · exact real_of_abs_lt _ (reduce_ones _ _ _ _ rfl _ e1 i)
  · exact real_of_abs_lt _ (reduce_ones _ _ _ _ rfl _ e2 i)
  · have e := real_of_abs_lt _ (reduce_ones _ _ _ _ rfl _ e3 (ix2 b ⟨g.val * 4 + j.val, by omega⟩))
    rwa [extractStridedSlice_apply _ _ _ _ (ix2 b (head g j)) (fun a => by
      match a with
      | ⟨0, _⟩ => exact (Nat.zero_add _).symm
      | ⟨1, _⟩ => rfl)] at e

end Cert.Win

namespace Cert.Proof

open Idealize.ShloMosaic Idealize.ShloMosaic.TcCoe Idealize.SL.Sem
open Idealize.ShloMosaic (Ideal)

theorem frame_winAttn : Cert.quiescent_WinAttn (hWinAttn := Cert.WinAttn.Gen.facts) := fun m ρ _ => Cert.WinAttn.Gen.frame m ρ

theorem frame_winAttnIdeal : Cert.quiescent_WinAttnIdeal (hWinAttnIdeal := Cert.WinAttnIdeal.Gen.facts) :=
  fun m ρ _ => Cert.WinAttnIdeal.Gen.frame m ρ

theorem frame_winReference : Cert.quiescent_WinReferenceIdeal (hWinReferenceIdeal := Cert.WinReferenceIdeal.Gen.facts) := fun m ρ _ =>
  (θ_run Cert.WinReferenceIdeal.defs _ _).mono
    (fun r h => ⟨fun c => (h c).2, sem_eq_zero_of_no_sems (by decide) r.2⟩) (Cert.WinReferenceIdeal.Value.run m ρ)

section

variable (m : (ℓ : Loc Cert.WinAttnIdeal.nD Cert.WinAttnIdeal.τ Cert.WinAttnIdeal.sig) → Buf (Elt Ideal) ℓ) (c : Dev Cert.WinAttnIdeal.nD)

/-- The specification of the arguments a device holds. -/
def winValue : Buf (Elt Ideal) ((c.tc : Thread Cert.WinAttnIdeal.nD Cert.WinAttnIdeal.τ).loc Cert.WinAttnIdeal.main_v73) :=
  Cert.Win.result
    (m ((c.tc : Thread Cert.WinAttnIdeal.nD Cert.WinAttnIdeal.τ).loc Cert.WinAttnIdeal.main_arg0))
    (m ((c.tc : Thread Cert.WinAttnIdeal.nD Cert.WinAttnIdeal.τ).loc Cert.WinAttnIdeal.main_arg1))
    (m ((c.tc : Thread Cert.WinAttnIdeal.nD Cert.WinAttnIdeal.τ).loc Cert.WinAttnIdeal.main_arg2))
    (m ((c.tc : Thread Cert.WinAttnIdeal.nD Cert.WinAttnIdeal.τ).loc Cert.WinAttnIdeal.main_arg3))

variable (hpre : Cert.Pre_WinAttnIdeal_win_finite (hPre_win_finite := Cert.Pre_win_finite.Gen.facts) m)
include hpre

/-- The kernel's array is the specification. -/
theorem winKernel_value : (Cert.WinAttnIdeal.Gen.dats m 0 c).arrAt 4 Cert.WinAttnIdeal.cfg0.N = winValue m c :=
  letI := Cert.Pre_win_finite.Gen.facts
  Cert.WinAttnIdeal.Win.result_eq m c _ _ _ _ (Cert.Win.reals_of_pre _ _ _ _ (hpre c)) (Cert.WinAttnIdeal.Win.V_v58 m c)
    (Cert.WinAttnIdeal.Win.V_v66 m c) (Cert.WinAttnIdeal.Win.V_v72 m c) (Cert.WinAttnIdeal.Win.V_v52 m c)

/-- The reference's array of the same arguments is the specification. -/
theorem winReference_value (y0 : FVec Ideal Cert.WinReferenceIdeal.S16x2048x512 .f32) (y1 y2 : FVec Ideal Cert.WinReferenceIdeal.S16x2048x128 .f32)
    (y3 : FVec Ideal Cert.WinReferenceIdeal.S32x12 .f32)
    (e0 : y0 = m ((c.tc : Thread Cert.WinAttnIdeal.nD Cert.WinAttnIdeal.τ).loc Cert.WinAttnIdeal.main_arg0))
    (e1 : y1 = m ((c.tc : Thread Cert.WinAttnIdeal.nD Cert.WinAttnIdeal.τ).loc Cert.WinAttnIdeal.main_arg1))
    (e2 : y2 = m ((c.tc : Thread Cert.WinAttnIdeal.nD Cert.WinAttnIdeal.τ).loc Cert.WinAttnIdeal.main_arg2))
    (e3 : y3 = m ((c.tc : Thread Cert.WinAttnIdeal.nD Cert.WinAttnIdeal.τ).loc Cert.WinAttnIdeal.main_arg3)) :
    Cert.WinReferenceIdeal.Read.val_main_v68 (F := Ideal) y0 y1 y2 y3 = winValue m c := by
  letI := Cert.Pre_win_finite.Gen.facts
  subst e0 e1 e2 e3
  exact Cert.WinReferenceIdeal.Win.value_eq (Cert.Win.reals_of_pre _ _ _ _ (hpre c))

end

/-- Of finite arguments the kernel's result is the reference's. -/
theorem algebraic_winAttn : Cert.algebraic_WinAttnIdeal_WinReferenceIdeal_pre_win_finite (hWinAttnIdeal := Cert.WinAttnIdeal.Gen.facts)
    (hWinReferenceIdeal := Cert.WinReferenceIdeal.Gen.facts) (hPre_win_finite := Cert.Pre_win_finite.Gen.facts) := by
  intro m ρ m' ρ' hpre hagree
  refine ⟨fun c => winValue m c, ?_, ?_⟩
  · refine (θ_run Cert.WinAttnIdeal.defs _ _).mono (fun r h c => ?_) (Cert.WinAttnIdeal.Value.run_blocks m ρ)
    obtain ⟨h0, hargs⟩ := h c
    exact ⟨h0.trans (winKernel_value m c hpre), hargs⟩
  · refine (θ_run Cert.WinReferenceIdeal.defs _ _).mono (fun r h c => ?_) (Cert.WinReferenceIdeal.Value.run (F := Ideal) m' ρ')
    obtain ⟨h0, hargs⟩ := h c
    obtain ⟨e0, e1, e2, e3⟩ := hagree c
    exact ⟨h0.trans ((Cert.WinReferenceIdeal.Read.val_main_v68_eq (F := Ideal) m' c).trans
      (winReference_value m c hpre _ _ _ _ e0 e1 e2 e3)), hargs⟩

end Cert.Proof

end
-- ==== Proof.lean ====
/-
  Five kernels of a layer: the differential attention, the input projection before it, the mixing of the branches after it,
  the norm at the end and the windowed attention. The programs run, leave their arguments as they found them and end with
  every semaphore at zero; and the kernels' results are the references', for the two attentions of finite arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.Gen.ReferenceIdeal.Read
public import proofs.«01_k».proof.Proof.Run
public import proofs.«01_k».proof.Proof.RunBits
public import proofs.«01_k».proof.Proof.HostTerms
public import proofs.«01_k».proof.Proof.HostLam
public import proofs.«01_k».proof.Proof.Array
public import proofs.«01_k».proof.Proof.Reference
public import proofs.«01_k».proof.Proof.Pre
public import proofs.«01_k».proof.Proof.InClaim
public import proofs.«01_k».proof.Proof.MixClaim
public import proofs.«01_k».proof.Proof.LastNorm
public import proofs.«01_k».proof.Proof.WinClaim
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Idealize.ShloMosaic (Ideal)

/-! ## The frames -/

theorem frame_kernel : Cert.quiescent_Kernel (hKernel := Cert.Kernel.Gen.facts) :=
  fun m ρ _ => Cert.Kernel.Attn.frame_main m ρ

theorem frame_kernelIdeal : Cert.quiescent_KernelIdeal (hKernelIdeal := Cert.KernelIdeal.Gen.facts) :=
  fun m ρ _ => Cert.KernelIdeal.Attn.frame_main m ρ

theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run m ρ)

/-! ## The equation -/

section

variable (m : (ℓ : Loc Cert.KernelIdeal.nD Cert.KernelIdeal.τ Cert.KernelIdeal.sig) → Buf (Elt Ideal) ℓ)
  (c : Dev Cert.KernelIdeal.nD)

/-- The specification of the arguments a device holds. -/
def value : Buf (Elt Ideal) ((c.tc : Thread Cert.KernelIdeal.nD Cert.KernelIdeal.τ).loc Cert.KernelIdeal.main_v80) :=
  Cert.KernelIdeal.Attn.specAt
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))

variable (hpre : Cert.Pre_KernelIdeal_finite (hPre_finite := Cert.Pre_finite.Gen.facts) m)
include hpre

/-- The kernel's array is the specification. -/
theorem kernel_value : (Cert.KernelIdeal.Attn.dats m 0 c).arrAt 6 Cert.KernelIdeal.cfg0.N = value m c :=
  letI := Cert.Pre_finite.Gen.facts
  Cert.KernelIdeal.Attn.result_eq m c _ _ _ _ _ _ _ _ _ (Cert.Attn.reals_of_pre _ _ _ _ _ _ _ _ _ (hpre c))
    (Cert.KernelIdeal.Attn.V_v73 m c) (Cert.KernelIdeal.Attn.V_v76 m c) (Cert.KernelIdeal.Attn.V_v77 m c)
    (Cert.KernelIdeal.Attn.V_v67 m c) (Cert.KernelIdeal.Attn.V_v13 m c) (Cert.KernelIdeal.Attn.V_v79 m c)

/-- The reference's array of the same arguments is the specification. -/
theorem reference_value (y0 y1 y2 : FVec Ideal Cert.ReferenceIdeal.S16x2048x512 .f32) (y3 : FVec Ideal Cert.ReferenceIdeal.S32x12 .f32)
    (y4 y5 y6 y7 : FVec Ideal Cert.ReferenceIdeal.S1x64 .f32) (y8 : FVec Ideal Cert.ReferenceIdeal.S1x128 .f32)
    (e0 : y0 = m ((c.tc : Thread Cert.KernelIdeal.nD Cert.KernelIdeal.τ).loc Cert.KernelIdeal.main_arg0))
    (e1 : y1 = m ((c.tc : Thread Cert.KernelIdeal.nD Cert.KernelIdeal.τ).loc Cert.KernelIdeal.main_arg1))
    (e2 : y2 = m ((c.tc : Thread Cert.KernelIdeal.nD Cert.KernelIdeal.τ).loc Cert.KernelIdeal.main_arg2))
    (e3 : y3 = m ((c.tc : Thread Cert.KernelIdeal.nD Cert.KernelIdeal.τ).loc Cert.KernelIdeal.main_arg3))
    (e4 : y4 = m ((c.tc : Thread Cert.KernelIdeal.nD Cert.KernelIdeal.τ).loc Cert.KernelIdeal.main_arg4))
    (e5 : y5 = m ((c.tc : Thread Cert.KernelIdeal.nD Cert.KernelIdeal.τ).loc Cert.KernelIdeal.main_arg5))
    (e6 : y6 = m ((c.tc : Thread Cert.KernelIdeal.nD Cert.KernelIdeal.τ).loc Cert.KernelIdeal.main_arg6))
    (e7 : y7 = m ((c.tc : Thread Cert.KernelIdeal.nD Cert.KernelIdeal.τ).loc Cert.KernelIdeal.main_arg7))
    (e8 : y8 = m ((c.tc : Thread Cert.KernelIdeal.nD Cert.KernelIdeal.τ).loc Cert.KernelIdeal.main_arg8)) :
    Cert.ReferenceIdeal.Read.val_main_v98 (F := Ideal) y0 y1 y2 y3 y4 y5 y6 y7 y8 = value m c := by
  letI := Cert.Pre_finite.Gen.facts
  subst e0 e1 e2 e3 e4 e5 e6 e7 e8
  exact funext fun i => Cert.ReferenceIdeal.Attn.v98_apply (Cert.Attn.reals_of_pre _ _ _ _ _ _ _ _ _ (hpre c)) _ i

end

/-- Of finite arguments the kernel's result is the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  refine ⟨fun c => value m c, ?_, ?_⟩
  · exact (θ_run Cert.KernelIdeal.defs _ _).mono
      (fun r h c => ⟨((h.1 c).1 6).trans (kernel_value m c hpre), h.2.1 c⟩)
      (θ_run_and (Cert.KernelIdeal.Attn.run_main m ρ) (Cert.KernelIdeal.Attn.frame_main m ρ))
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v98_eq (F := Ideal) (StableHlo.launchContents m' c)).trans ?_
    obtain ⟨e0, e1, e2, e3, e4, e5, e6, e7, e8⟩ := hagree c
    exact reference_value m c hpre _ _ _ _ _ _ _ _ _ e0 e1 e2 e3 e4 e5 e6 e7 e8

theorem claim : Cert.Claim :=
  ⟨Cert.Kernel.Gen.facts, Cert.KernelIdeal.Gen.facts, Cert.ReferenceIdeal.Gen.facts, Cert.InProj.Gen.facts,
    Cert.InProjIdeal.Gen.facts, Cert.InReferenceIdeal.Gen.facts, Cert.MixOut.Gen.facts, Cert.MixOutIdeal.Gen.facts,
    Cert.OutReferenceIdeal.Gen.facts, Cert.FinalNorm.Gen.facts, Cert.FinalNormIdeal.Gen.facts,
    Cert.FinalReferenceIdeal.Gen.facts, Cert.WinAttn.Gen.facts, Cert.WinAttnIdeal.Gen.facts,
    Cert.WinReferenceIdeal.Gen.facts, Cert.Pre_finite.Gen.facts, Cert.Pre_win_finite.Gen.facts,
    frame_kernel, frame_kernelIdeal, fun m ρ _ => frame_kernelIdeal m ρ trivial, frame_reference,
    fun m ρ _ => frame_reference m ρ trivial, frame_inProj, frame_inProjIdeal, frame_inReference,
    frame_mixOut, frame_mixOutIdeal, frame_outReference, frame_finalNorm, frame_finalNormIdeal, frame_finalReference,
    frame_winAttn, frame_winAttnIdeal, fun m ρ _ => frame_winAttnIdeal m ρ trivial, frame_winReference,
    fun m ρ _ => frame_winReference m ρ trivial,
    trivial, algebraic, trivial, algebraic_inProj, trivial, algebraic_mixOut, trivial, algebraic_finalNorm,
    trivial, algebraic_winAttn⟩

end Cert.Proof

end
